-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_d" .f32 0x394CCCCD#32 ((1 / 5120 : ℝ) : EReal)
  ∧ IdealRules.named_const.Statement Cert.KernelIdeal.κ "inv_hd" .f32 0x3BCCCCCD#32 ((1 / 160 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_v118) = v2 c
          ∧ r.2.mem ((c.tc : Thread Cert.ReferenceIdeal.nD Cert.ReferenceIdeal.τ).loc Cert.ReferenceIdeal.main_v119) = v3 c
          ∧ r.2.mem ((c.tc : Thread Cert.ReferenceIdeal.nD Cert.ReferenceIdeal.τ).loc Cert.ReferenceIdeal.main_v32) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x5120 : Shape := ⟨3, ![2, 128, 5120]⟩
abbrev S5120 : Shape := ⟨1, ![5120]⟩
abbrev S5120x8960 : Shape := ⟨2, ![5120, 8960]⟩
abbrev S8960 : Shape := ⟨1, ![8960]⟩
abbrev S160 : Shape := ⟨1, ![160]⟩
abbrev S2x128 : Shape := ⟨2, ![2, 128]⟩
abbrev S80x128 : Shape := ⟨2, ![80, 128]⟩
abbrev S256x5120 : Shape := ⟨2, ![256, 5120]⟩
abbrev S1x5120 : Shape := ⟨2, ![1, 5120]⟩
abbrev S1x160 : Shape := ⟨2, ![1, 160]⟩
abbrev S2x40x160x128 : Shape := ⟨4, ![2, 40, 160, 128]⟩
abbrev S2x8x160x128 : Shape := ⟨4, ![2, 8, 160, 128]⟩
abbrev S7x5120x1280 : Shape := ⟨3, ![7, 5120, 1280]⟩
abbrev S256x128 : Shape := ⟨2, ![256, 128]⟩
abbrev S2x2x4x80x128 : Shape := ⟨5, ![2, 2, 4, 80, 128]⟩
abbrev S2x2x1280x128 : Shape := ⟨4, ![2, 2, 1280, 128]⟩
abbrev S8 : Shape := ⟨1, ![8]⟩
abbrev S6 : Shape := ⟨1, ![6]⟩
abbrev S7x3 : Shape := ⟨2, ![7, 3]⟩
abbrev S9 : Shape := ⟨1, ![9]⟩
abbrev S_ : Shape := ⟨0, ![]⟩
abbrev S1 : Shape := ⟨1, ![1]⟩
abbrev S32x5120 : Shape := ⟨2, ![32, 5120]⟩
abbrev S1x1 : Shape := ⟨2, ![1, 1]⟩
abbrev S1x5120x512 : Shape := ⟨3, ![1, 5120, 512]⟩
abbrev S5120x512 : Shape := ⟨2, ![5120, 512]⟩
abbrev S1x5120x256 : Shape := ⟨3, ![1, 5120, 256]⟩
abbrev S5120x256 : Shape := ⟨2, ![5120, 256]⟩
abbrev S128x160 : Shape := ⟨2, ![128, 160]⟩
abbrev S160x128 : Shape := ⟨2, ![160, 128]⟩
abbrev S1x128 : Shape := ⟨2, ![1, 128]⟩
abbrev S1x1x1x80x128 : Shape := ⟨5, ![1, 1, 1, 80, 128]⟩
abbrev S32 : Shape := ⟨1, ![32]⟩
abbrev S32x1 : Shape := ⟨2, ![32, 1]⟩
abbrev S32x128 : Shape := ⟨2, ![32, 128]⟩
abbrev S128x128 : Shape := ⟨2, ![128, 128]⟩
abbrev S256x512 : Shape := ⟨2, ![256, 512]⟩
abbrev S512 : Shape := ⟨1, ![512]⟩
abbrev S256x1 : Shape := ⟨2, ![256, 1]⟩
abbrev S1x512 : Shape := ⟨2, ![1, 512]⟩
abbrev S128x512 : Shape := ⟨2, ![128, 512]⟩
abbrev S512x128 : Shape := ⟨2, ![512, 128]⟩
abbrev S1x1x512x128 : Shape := ⟨4, ![1, 1, 512, 128]⟩
abbrev S256x256 : Shape := ⟨2, ![256, 256]⟩
abbrev S256 : Shape := ⟨1, ![256]⟩
abbrev S1x256 : Shape := ⟨2, ![1, 256]⟩
abbrev S128x256 : Shape := ⟨2, ![128, 256]⟩
abbrev S1x1x256x128 : Shape := ⟨4, ![1, 1, 256, 128]⟩
abbrev S1x1x160x128 : Shape := ⟨4, ![1, 1, 160, 128]⟩
abbrev S128 : Shape := ⟨1, ![128]⟩
abbrev S1x1x80x128 : Shape := ⟨4, ![1, 1, 80, 128]⟩
abbrev S2x128x40x160 : Shape := ⟨4, ![2, 128, 40, 160]⟩
abbrev S2x128x8x160 : Shape := ⟨4, ![2, 128, 8, 160]⟩

abbrev nBuf : Space → Nat
  | .hbm => 21
  | .vmem => 16
  | .smem => 0
  | _ => 0

abbrev bufTy : (tb : Table) → Fin (tcTables nBuf tb) → BufTy
  | .hbm, ⟨0, _⟩ => ⟨S2x128x5120, .bf16⟩
  | .hbm, ⟨1, _⟩ => ⟨S5120, .f32⟩
  | .hbm, ⟨2, _⟩ => ⟨S5120x8960, .fp8e4m3⟩
  | .hbm, ⟨3, _⟩ => ⟨S8960, .f32⟩
  | .hbm, ⟨4, _⟩ => ⟨S160, .f32⟩
  | .hbm, ⟨5, _⟩ => ⟨S160, .f32⟩
  | .hbm, ⟨6, _⟩ => ⟨S2x128, .i32⟩
  | .hbm, ⟨7, _⟩ => ⟨S80x128, .f32⟩
  | .hbm, ⟨8, _⟩ => ⟨S256x5120, .bf16⟩
  | .hbm, ⟨9, _⟩ => ⟨S1x5120, .f32⟩
  | .hbm, ⟨10, _⟩ => ⟨S1x160, .f32⟩
  | .hbm, ⟨11, _⟩ => ⟨S1x160, .f32⟩
  | .hbm, ⟨12, _⟩ => ⟨S2x40x160x128, .bf16⟩
  | .hbm, ⟨13, _⟩ => ⟨S2x8x160x128, .bf16⟩
  | .hbm, ⟨14, _⟩ => ⟨S2x8x160x128, .bf16⟩
  | .hbm, ⟨15, _⟩ => ⟨S256x5120, .fp8e4m3⟩
  | .hbm, ⟨16, _⟩ => ⟨S2x128, .f32⟩
  | .hbm, ⟨17, _⟩ => ⟨S2x128x40x160, .bf16⟩
  | .hbm, ⟨18, _⟩ => ⟨S2x128x8x160, .bf16⟩
  | .hbm, ⟨19, _⟩ => ⟨S2x128x8x160, .bf16⟩
  | .hbm, ⟨20, _⟩ => ⟨S2x128x5120, .fp8e4m3⟩
  | .local _ .vmem, ⟨0, _⟩ => ⟨S256x5120, .bf16⟩
  | .local _ .vmem, ⟨1, _⟩ => ⟨S1x5120, .f32⟩
  | .local _ .vmem, ⟨2, _⟩ => ⟨S7x5120x1280, .fp8e4m3⟩
  | .local _ .vmem, ⟨3, _⟩ => ⟨S8960, .f32⟩
  | .local _ .vmem, ⟨4, _⟩ => ⟨S1x160, .f32⟩
  | .local _ .vmem, ⟨5, _⟩ => ⟨S1x160, .f32⟩
  | .local _ .vmem, ⟨6, _⟩ => ⟨S2x128, .i32⟩
  | .local _ .vmem, ⟨7, _⟩ => ⟨S80x128, .f32⟩
  | .local _ .vmem, ⟨8, _⟩ => ⟨S256x5120, .fp8e4m3⟩
  | .local _ .vmem, ⟨9, _⟩ => ⟨S256x128, .f32⟩
  | .local _ .vmem, ⟨10, _⟩ => ⟨S2x128, .f32⟩
  | .local _ .vmem, ⟨11, _⟩ => ⟨S2x2x4x80x128, .f32⟩
  | .local _ .vmem, ⟨12, _⟩ => ⟨S2x2x1280x128, .f32⟩
  | .local _ .vmem, ⟨13, _⟩ => ⟨S2x40x160x128, .bf16⟩
  | .local _ .vmem, ⟨14, _⟩ => ⟨S2x8x160x128, .bf16⟩
  | .local _ .vmem, ⟨15, _⟩ => ⟨S2x8x160x128, .bf16⟩
  | _, _ => ⟨S2x128x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩

abbrev nD : Nat := 1
abbrev τ : Topo := Topo.v7x

variable {F : FTy → Type} [FloatOps F]

abbrev grid0 : Pipeline.Grid := .none

def k0_mult1 : BitVec 32 :=
  let c0_i32_31 : BitVec 32 := 0#32
  c0_i32_31
def k0_mult2 : BitVec 32 :=
  let c512_i32 : BitVec 32 := 512#32
  c512_i32
def k0_mult3 : BitVec 32 :=
  let c1024_i32 : BitVec 32 := 1024#32
  c1024_i32
def k0_mult4 : BitVec 32 :=
  let c1280_i32 : BitVec 32 := 1280#32
  c1280_i32
def k0_mult5 : BitVec 32 :=
  let c1792_i32 : BitVec 32 := 1792#32
  c1792_i32
def k0_mult6 : BitVec 32 :=
  let c2304_i32 : BitVec 32 := 2304#32
  c2304_i32
def k0_mult7 : BitVec 32 :=
  let c2560_i32 : BitVec 32 := 2560#32
  c2560_i32
def k0_mult8 : BitVec 32 :=
  let c3072_i32 : BitVec 32 := 3072#32
  c3072_i32
def k0_mult9 : BitVec 32 :=
  let c3584_i32 : BitVec 32 := 3584#32
  c3584_i32
def k0_mult10 : BitVec 32 :=
  let c3840_i32 : BitVec 32 := 3840#32
  c3840_i32
def k0_mult11 : BitVec 32 :=
  let c4352_i32 : BitVec 32 := 4352#32
  c4352_i32
def k0_mult12 : BitVec 32 :=
  let c4864_i32 : BitVec 32 := 4864#32
  c4864_i32
def k0_mult13 : BitVec 32 :=
  let c5120_i32 : BitVec 32 := 5120#32
  c5120_i32
def k0_mult14 : BitVec 32 :=
  let c5632_i32 : BitVec 32 := 5632#32
  c5632_i32
def k0_mult15 : BitVec 32 :=
  let c6144_i32 : BitVec 32 := 6144#32
  c6144_i32
def k0_mult16 : BitVec 32 :=
  let c6400_i32 : BitVec 32 := 6400#32
  c6400_i32
def k0_mult17 : BitVec 32 :=
  let c6912_i32 : BitVec 32 := 6912#32
  c6912_i32
def k0_mult18 : BitVec 32 :=
  let c7424_i32 : BitVec 32 := 7424#32
  c7424_i32
def k0_mult19 : BitVec 32 :=
  let c7680_i32 : BitVec 32 := 7680#32
  c7680_i32
def k0_mult20 : BitVec 32 :=
  let c8192_i32 : BitVec 32 := 8192#32
  c8192_i32
def k0_mult21 : BitVec 32 :=
  let c8704_i32 : BitVec 32 := 8704#32
  c8704_i32
def k0_mult22 : BitVec 32 :=
  let c0_i32_781 : BitVec 32 := 0#32
  c0_i32_781
def k0_mult23 : BitVec 32 :=
  let c0_i32_794 : BitVec 32 := 0#32
  c0_i32_794
def k0_mult24 : BitVec 32 :=
  let c512_i32_805 : BitVec 32 := 512#32
  c512_i32_805
def k0_mult25 : BitVec 32 :=
  let c512_i32_817 : BitVec 32 := 512#32
  c512_i32_817
def k0_mult26 : BitVec 32 :=
  let c1024_i32_828 : BitVec 32 := 1024#32
  c1024_i32_828
def k0_mult27 : BitVec 32 :=
  let c1024_i32_840 : BitVec 32 := 1024#32
  c1024_i32_840
@[reducible] def k0_t1_loop : Scf.Loop 32 :=
  let c1_i32_851 : BitVec 32 := 1#32
  let c5_i32_852 : BitVec 32 := 5#32
  let v1625 : BitVec 32 := Scalar.addi c1_i32_851 c5_i32_852
  let c1_i32_853 : BitVec 32 := 1#32
  ⟨c1_i32_851, v1625, c1_i32_853⟩
def k0_mult28 (k0_t1 : Fin k0_t1_loop.trips) : BitVec 32 :=
  let c1_i32_851 : BitVec 32 := 1#32
  let c1_i32_853 : BitVec 32 := 1#32
  let arg34 : BitVec 32 := Scf.iv c1_i32_851 c1_i32_853 k0_t1
  let c1280_i32_1652 : BitVec 32 := 1280#32
  let v2448 : BitVec 32 := Scalar.muli arg34 c1280_i32_1652
  let c0_i32_1653 : BitVec 32 := 0#32
  let v2449 : BitVec 32 := Scalar.addi v2448 c0_i32_1653
  v2449
def k0_off1 (k0_t1 : Fin k0_t1_loop.trips) : Fin 2 → Nat :=
  let c1_i32_851 : BitVec 32 := 1#32
  let c1_i32_853 : BitVec 32 := 1#32
  let arg34 : BitVec 32 := Scf.iv c1_i32_851 c1_i32_853 k0_t1
  let c0_i32_1654 : BitVec 32 := 0#32
  ![arg34.toNat, 0]
def k0_off2 (k0_t1 : Fin k0_t1_loop.trips) : Fin 3 → Nat :=
  let c1_i32_851 : BitVec 32 := 1#32
  let c1_i32_853 : BitVec 32 := 1#32
  let arg34 : BitVec 32 := Scf.iv c1_i32_851 c1_i32_853 k0_t1
  let c0_i32_1655 : BitVec 32 := 0#32
  let c0_i32_1656 : BitVec 32 := 0#32
  ![arg34.toNat, 0, 0]
def k0_off3 (k0_t1 : Fin k0_t1_loop.trips) (c0_i32_1653 : BitVec 32) : Fin 2 → Nat :=
  let c0_i32_1657 : BitVec 32 := 0#32
  let c1_i32_851 : BitVec 32 := 1#32
  let c1_i32_853 : BitVec 32 := 1#32
  let arg34 : BitVec 32 := Scf.iv c1_i32_851 c1_i32_853 k0_t1
  let c1280_i32_1652 : BitVec 32 := 1280#32
  let v2448 : BitVec 32 := Scalar.muli arg34 c1280_i32_1652
  let v2449 : BitVec 32 := Scalar.addi v2448 c0_i32_1653
  let v2450 : BitVec 32 := v2449
  ![0, v2450.toNat]
def k0_off4 (k0_t1 : Fin k0_t1_loop.trips) : Fin 3 → Nat :=
  let c1_i32_851 : BitVec 32 := 1#32
  let c1_i32_853 : BitVec 32 := 1#32
  let arg34 : BitVec 32 := Scf.iv c1_i32_851 c1_i32_853 k0_t1
  let v2457 : Index := Scalar.indexCast arg34
  let c0_1660 : Index := 0#32
  let c0_1661 : Index := 0#32
  ![v2457.toNat, 0, 0]
def k0_mult29 (k0_t1 : Fin k0_t1_loop.trips) : BitVec 32 :=
  let c1_i32_851 : BitVec 32 := 1#32
  let c1_i32_853 : BitVec 32 := 1#32
  let arg34 : BitVec 32 := Scf.iv c1_i32_851 c1_i32_853 k0_t1
  let c1280_i32_1663 : BitVec 32 := 1280#32
  let v2461 : BitVec 32 := Scalar.muli arg34 c1280_i32_1663
  let c0_i32_1664 : BitVec 32 := 0#32
  let v2462 : BitVec 32 := Scalar.addi v2461 c0_i32_1664
  v2462
def k0_off5 (k0_t1 : Fin k0_t1_loop.trips) (c0_i32_1664 : BitVec 32) : Fin 1 → Nat :=
  let c1_i32_851 : BitVec 32 := 1#32
  let c1_i32_853 : BitVec 32 := 1#32
  let arg34 : BitVec 32 := Scf.iv c1_i32_851 c1_i32_853 k0_t1
  let c1280_i32_1663 : BitVec 32 := 1280#32
  let v2461 : BitVec 32 := Scalar.muli arg34 c1280_i32_1663
  let v2462 : BitVec 32 := Scalar.addi v2461 c0_i32_1664
  let v2463 : BitVec 32 := v2462
  let v2464 : Index := Scalar.indexCast v2463
  ![v2464.toNat]
def k0_off6 (k0_t1 : Fin k0_t1_loop.trips) : Fin 4 → Nat :=
  let c1_i32_851 : BitVec 32 := 1#32
  let c1_i32_853 : BitVec 32 := 1#32
  let arg34 : BitVec 32 := Scf.iv c1_i32_851 c1_i32_853 k0_t1
  let c1_i32_1651 : BitVec 32 := 1#32
  let v2447 : BitVec 32 := Scalar.andi arg34 c1_i32_1651
  let v2474 : Index := Scalar.indexCast v2447
  let c0_1667 : Index := 0#32
  let c0_1668 : Index := 0#32
  let c0_1669 : Index := 0#32
  ![v2474.toNat, 0, 0, 0]
def k0_off7 (k0_t1 : Fin k0_t1_loop.trips) : Fin 4 → Nat :=
  let c1_i32_851 : BitVec 32 := 1#32
  let c1_i32_853 : BitVec 32 := 1#32
  let arg34 : BitVec 32 := Scf.iv c1_i32_851 c1_i32_853 k0_t1
  let c1_i32_1651 : BitVec 32 := 1#32
  let v2447 : BitVec 32 := Scalar.andi arg34 c1_i32_1651
  let v2480 : Index := Scalar.indexCast v2447
  let c1_1670 : Index := 1#32
  let c0_1671 : Index := 0#32
  let c0_1672 : Index := 0#32
  ![v2480.toNat, 1, 0, 0]
def k0_off8 (k0_t1 : Fin k0_t1_loop.trips) : Fin 4 → Nat :=
  let c1_i32_851 : BitVec 32 := 1#32
  let c1_i32_853 : BitVec 32 := 1#32
  let arg34 : BitVec 32 := Scf.iv c1_i32_851 c1_i32_853 k0_t1
  let c1_i32_1674 : BitVec 32 := 1#32
  let v2485 : BitVec 32 := Scalar.subi arg34 c1_i32_1674
  let c1_i32_1675 : BitVec 32 := 1#32
  let v2486 : BitVec 32 := Scalar.andi v2485 c1_i32_1675
  let v2487 : Index := Scalar.indexCast v2486
  let c0_1676 : Index := 0#32
  let c0_1677 : Index := 0#32
  let c0_1678 : Index := 0#32
  ![v2487.toNat, 0, 0, 0]
def k0_off9 (k0_t1 : Fin k0_t1_loop.trips) (c0_i32_1703 : BitVec 32) : Fin 4 → Nat :=
  let c0_1704 : Index := 0#32
  let c1_i32_851 : BitVec 32 := 1#32
  let c1_i32_853 : BitVec 32 := 1#32
  let arg34 : BitVec 32 := Scf.iv c1_i32_851 c1_i32_853 k0_t1
  let c1_i32_1673 : BitVec 32 := 1#32
  let v2484 : BitVec 32 := Scalar.subi arg34 c1_i32_1673
  let c8_i32_1702 : BitVec 32 := 8#32
  let v2520 : BitVec 32 := Scalar.muli v2484 c8_i32_1702
  let v2521 : BitVec 32 := Scalar.addi v2520 c0_i32_1703
  let v2522 : Index := Scalar.indexCast v2521
  let c0_1705 : Index := 0#32
  let c0_1706 : Index := 0#32
  ![0, v2522.toNat, 0, 0]
def k0_off10 (k0_t1 : Fin k0_t1_loop.trips) (c0_i32_1708 : BitVec 32) : Fin 4 → Nat :=
  let c0_1709 : Index := 0#32
  let c1_i32_851 : BitVec 32 := 1#32
  let c1_i32_853 : BitVec 32 := 1#32
  let arg34 : BitVec 32 := Scf.iv c1_i32_851 c1_i32_853 k0_t1
  let c1_i32_1673 : BitVec 32 := 1#32
  let v2484 : BitVec 32 := Scalar.subi arg34 c1_i32_1673
  let c8_i32_1707 : BitVec 32 := 8#32
  let v2526 : BitVec 32 := Scalar.muli v2484 c8_i32_1707
  let v2527 : BitVec 32 := Scalar.addi v2526 c0_i32_1708
  let v2528 : Index := Scalar.indexCast v2527
  let c80_1710 : Index := 80#32
  let c0_1711 : Index := 0#32
  ![0, v2528.toNat, 80, 0]
def k0_off11 (k0_t1 : Fin k0_t1_loop.trips) : Fin 4 → Nat :=
  let c1_i32_851 : BitVec 32 := 1#32
  let c1_i32_853 : BitVec 32 := 1#32
  let arg34 : BitVec 32 := Scf.iv c1_i32_851 c1_i32_853 k0_t1
  let c1_i32_1674 : BitVec 32 := 1#32
  let v2485 : BitVec 32 := Scalar.subi arg34 c1_i32_1674
  let c1_i32_1675 : BitVec 32 := 1#32
  let v2486 : BitVec 32 := Scalar.andi v2485 c1_i32_1675
  let v2532 : Index := Scalar.indexCast v2486
  let c1_1712 : Index := 1#32
  let c0_1713 : Index := 0#32
  let c0_1714 : Index := 0#32
  ![v2532.toNat, 1, 0, 0]
def k0_off12 (k0_t1 : Fin k0_t1_loop.trips) (c0_i32_1739 : BitVec 32) : Fin 4 → Nat :=
  let c1_1740 : Index := 1#32
  let c1_i32_851 : BitVec 32 := 1#32
  let c1_i32_853 : BitVec 32 := 1#32
  let arg34 : BitVec 32 := Scf.iv c1_i32_851 c1_i32_853 k0_t1
  let c1_i32_1673 : BitVec 32 := 1#32
  let v2484 : BitVec 32 := Scalar.subi arg34 c1_i32_1673
  let c8_i32_1738 : BitVec 32 := 8#32
  let v2565 : BitVec 32 := Scalar.muli v2484 c8_i32_1738
  let v2566 : BitVec 32 := Scalar.addi v2565 c0_i32_1739
  let v2567 : Index := Scalar.indexCast v2566
  let c0_1741 : Index := 0#32
  let c0_1742 : Index := 0#32
  ![1, v2567.toNat, 0, 0]
def k0_off13 (k0_t1 : Fin k0_t1_loop.trips) (c0_i32_1744 : BitVec 32) : Fin 4 → Nat :=
  let c1_1745 : Index := 1#32
  let c1_i32_851 : BitVec 32 := 1#32
  let c1_i32_853 : BitVec 32 := 1#32
  let arg34 : BitVec 32 := Scf.iv c1_i32_851 c1_i32_853 k0_t1
  let c1_i32_1673 : BitVec 32 := 1#32
  let v2484 : BitVec 32 := Scalar.subi arg34 c1_i32_1673
  let c8_i32_1743 : BitVec 32 := 8#32
  let v2571 : BitVec 32 := Scalar.muli v2484 c8_i32_1743
  let v2572 : BitVec 32 := Scalar.addi v2571 c0_i32_1744
  let v2573 : Index := Scalar.indexCast v2572
  let c80_1746 : Index := 80#32
  let c0_1747 : Index := 0#32
  ![1, v2573.toNat, 80, 0]
def k0_off14 (k0_t1 : Fin k0_t1_loop.trips) : Fin 4 → Nat :=
  let c1_i32_851 : BitVec 32 := 1#32
  let c1_i32_853 : BitVec 32 := 1#32
  let arg34 : BitVec 32 := Scf.iv c1_i32_851 c1_i32_853 k0_t1
  let c1_i32_1674 : BitVec 32 := 1#32
  let v2485 : BitVec 32 := Scalar.subi arg34 c1_i32_1674
  let c1_i32_1675 : BitVec 32 := 1#32
  let v2486 : BitVec 32 := Scalar.andi v2485 c1_i32_1675
  let v2577 : Index := Scalar.indexCast v2486
  let c0_1748 : Index := 0#32
  let c160_1749 : Index := 160#32
  let c0_1750 : Index := 0#32
  ![v2577.toNat, 0, 160, 0]
def k0_off15 (k0_t1 : Fin k0_t1_loop.trips) : Fin 4 → Nat :=
  let c1_i32_851 : BitVec 32 := 1#32
  let c1_i32_853 : BitVec 32 := 1#32
  let arg34 : BitVec 32 := Scf.iv c1_i32_851 c1_i32_853 k0_t1
  let c1_i32_1674 : BitVec 32 := 1#32
  let v2485 : BitVec 32 := Scalar.subi arg34 c1_i32_1674
  let c1_i32_1675 : BitVec 32 := 1#32
  let v2486 : BitVec 32 := Scalar.andi v2485 c1_i32_1675
  let v2622 : Index := Scalar.indexCast v2486
  let c1_1784 : Index := 1#32
  let c160_1785 : Index := 160#32
  let c0_1786 : Index := 0#32
  ![v2622.toNat, 1, 160, 0]
def k0_off16 (k0_t1 : Fin k0_t1_loop.trips) : Fin 4 → Nat :=
  let c1_i32_851 : BitVec 32 := 1#32
  let c1_i32_853 : BitVec 32 := 1#32
  let arg34 : BitVec 32 := Scf.iv c1_i32_851 c1_i32_853 k0_t1
  let c1_i32_1674 : BitVec 32 := 1#32
  let v2485 : BitVec 32 := Scalar.subi arg34 c1_i32_1674
  let c1_i32_1675 : BitVec 32 := 1#32
  let v2486 : BitVec 32 := Scalar.andi v2485 c1_i32_1675
  let v2667 : Index := Scalar.indexCast v2486
  let c0_1820 : Index := 0#32
  let c320_1821 : Index := 320#32
  let c0_1822 : Index := 0#32
  ![v2667.toNat, 0, 320, 0]
def k0_off17 (k0_t1 : Fin k0_t1_loop.trips) : Fin 4 → Nat :=
  let c1_i32_851 : BitVec 32 := 1#32
  let c1_i32_853 : BitVec 32 := 1#32
  let arg34 : BitVec 32 := Scf.iv c1_i32_851 c1_i32_853 k0_t1
  let c1_i32_1674 : BitVec 32 := 1#32
  let v2485 : BitVec 32 := Scalar.subi arg34 c1_i32_1674
  let c1_i32_1675 : BitVec 32 := 1#32
  let v2486 : BitVec 32 := Scalar.andi v2485 c1_i32_1675
  let v2712 : Index := Scalar.indexCast v2486
  let c1_1856 : Index := 1#32
  let c320_1857 : Index := 320#32
  let c0_1858 : Index := 0#32
  ![v2712.toNat, 1, 320, 0]
def k0_mult30 (k0_t1 : Fin k0_t1_loop.trips) : BitVec 32 :=
  let c1_i32_851 : BitVec 32 := 1#32
  let c1_i32_853 : BitVec 32 := 1#32
  let arg34 : BitVec 32 := Scf.iv c1_i32_851 c1_i32_853 k0_t1
  let c1280_i32_1893 : BitVec 32 := 1280#32
  let v2758 : BitVec 32 := Scalar.muli arg34 c1280_i32_1893
  let c512_i32_1894 : BitVec 32 := 512#32
  let v2759 : BitVec 32 := Scalar.addi v2758 c512_i32_1894
  v2759
def k0_off18 (k0_t1 : Fin k0_t1_loop.trips) : Fin 2 → Nat :=
  let c1_i32_851 : BitVec 32 := 1#32
  let c1_i32_853 : BitVec 32 := 1#32
  let arg34 : BitVec 32 := Scf.iv c1_i32_851 c1_i32_853 k0_t1
  let c1_i32_1895 : BitVec 32 := 1#32
  ![arg34.toNat, 1]
def k0_off19 (k0_t1 : Fin k0_t1_loop.trips) : Fin 3 → Nat :=
  let c1_i32_851 : BitVec 32 := 1#32
  let c1_i32_853 : BitVec 32 := 1#32
  let arg34 : BitVec 32 := Scf.iv c1_i32_851 c1_i32_853 k0_t1
  let c0_i32_1896 : BitVec 32 := 0#32
  let c512_i32_1897 : BitVec 32 := 512#32
  ![arg34.toNat, 0, 512]
def k0_off20 (k0_t1 : Fin k0_t1_loop.trips) : Fin 3 → Nat :=
  let c1_i32_851 : BitVec 32 := 1#32
  let c1_i32_853 : BitVec 32 := 1#32
  let arg34 : BitVec 32 := Scf.iv c1_i32_851 c1_i32_853 k0_t1
  let v2767 : Index := Scalar.indexCast arg34
  let c0_1901 : Index := 0#32
  let c512_1902 : Index := 512#32
  ![v2767.toNat, 0, 512]
def k0_mult31 (k0_t1 : Fin k0_t1_loop.trips) : BitVec 32 :=
  let c1_i32_851 : BitVec 32 := 1#32
  let c1_i32_853 : BitVec 32 := 1#32
  let arg34 : BitVec 32 := Scf.iv c1_i32_851 c1_i32_853 k0_t1
  let c1280_i32_1904 : BitVec 32 := 1280#32
  let v2771 : BitVec 32 := Scalar.muli arg34 c1280_i32_1904
  let c512_i32_1905 : BitVec 32 := 512#32
  let v2772 : BitVec 32 := Scalar.addi v2771 c512_i32_1905
  v2772
def k0_off21 (k0_t1 : Fin k0_t1_loop.trips) : Fin 4 → Nat :=
  let c1_i32_851 : BitVec 32 := 1#32
  let c1_i32_853 : BitVec 32 := 1#32
  let arg34 : BitVec 32 := Scf.iv c1_i32_851 c1_i32_853 k0_t1
  let c1_i32_1892 : BitVec 32 := 1#32
  let v2757 : BitVec 32 := Scalar.andi arg34 c1_i32_1892
  let v2784 : Index := Scalar.indexCast v2757
  let c0_1908 : Index := 0#32
  let c512_1909 : Index := 512#32
  let c0_1910 : Index := 0#32
  ![v2784.toNat, 0, 512, 0]
def k0_off22 (k0_t1 : Fin k0_t1_loop.trips) : Fin 4 → Nat :=
  let c1_i32_851 : BitVec 32 := 1#32
  let c1_i32_853 : BitVec 32 := 1#32
  let arg34 : BitVec 32 := Scf.iv c1_i32_851 c1_i32_853 k0_t1
  let c1_i32_1892 : BitVec 32 := 1#32
  let v2757 : BitVec 32 := Scalar.andi arg34 c1_i32_1892
  let v2790 : Index := Scalar.indexCast v2757
  let c1_1911 : Index := 1#32
  let c512_1912 : Index := 512#32
  let c0_1913 : Index := 0#32
  ![v2790.toNat, 1, 512, 0]
def k0_off23 (k0_t1 : Fin k0_t1_loop.trips) : Fin 4 → Nat :=
  let c1_i32_851 : BitVec 32 := 1#32
  let c1_i32_853 : BitVec 32 := 1#32
  let arg34 : BitVec 32 := Scf.iv c1_i32_851 c1_i32_853 k0_t1
  let c1_i32_1915 : BitVec 32 := 1#32
  let v2795 : BitVec 32 := Scalar.subi arg34 c1_i32_1915
  let c1_i32_1916 : BitVec 32 := 1#32
  let v2796 : BitVec 32 := Scalar.andi v2795 c1_i32_1916
  let v2797 : Index := Scalar.indexCast v2796
  let c0_1917 : Index := 0#32
  let c480_1918 : Index := 480#32
  let c0_1919 : Index := 0#32
  ![v2797.toNat, 0, 480, 0]
def k0_off24 (k0_t1 : Fin k0_t1_loop.trips) : Fin 4 → Nat :=
  let c1_i32_851 : BitVec 32 := 1#32
  let c1_i32_853 : BitVec 32 := 1#32
  let arg34 : BitVec 32 := Scf.iv c1_i32_851 c1_i32_853 k0_t1
  let c1_i32_1915 : BitVec 32 := 1#32
  let v2795 : BitVec 32 := Scalar.subi arg34 c1_i32_1915
  let c1_i32_1916 : BitVec 32 := 1#32
  let v2796 : BitVec 32 := Scalar.andi v2795 c1_i32_1916
  let v2842 : Index := Scalar.indexCast v2796
  let c1_1953 : Index := 1#32
  let c480_1954 : Index := 480#32
  let c0_1955 : Index := 0#32
  ![v2842.toNat, 1, 480, 0]
def k0_off25 (k0_t1 : Fin k0_t1_loop.trips) : Fin 4 → Nat :=
  let c1_i32_851 : BitVec 32 := 1#32
  let c1_i32_853 : BitVec 32 := 1#32
  let arg34 : BitVec 32 := Scf.iv c1_i32_851 c1_i32_853 k0_t1
  let c1_i32_1915 : BitVec 32 := 1#32
  let v2795 : BitVec 32 := Scalar.subi arg34 c1_i32_1915
  let c1_i32_1916 : BitVec 32 := 1#32
  let v2796 : BitVec 32 := Scalar.andi v2795 c1_i32_1916
  let v2887 : Index := Scalar.indexCast v2796
  let c0_1989 : Index := 0#32
  let c640_1990 : Index := 640#32
  let c0_1991 : Index := 0#32
  ![v2887.toNat, 0, 640, 0]
def k0_off26 (k0_t1 : Fin k0_t1_loop.trips) : Fin 4 → Nat :=
  let c1_i32_851 : BitVec 32 := 1#32
  let c1_i32_853 : BitVec 32 := 1#32
  let arg34 : BitVec 32 := Scf.iv c1_i32_851 c1_i32_853 k0_t1
  let c1_i32_1915 : BitVec 32 := 1#32
  let v2795 : BitVec 32 := Scalar.subi arg34 c1_i32_1915
  let c1_i32_1916 : BitVec 32 := 1#32
  let v2796 : BitVec 32 := Scalar.andi v2795 c1_i32_1916
  let v2932 : Index := Scalar.indexCast v2796
  let c1_2025 : Index := 1#32
  let c640_2026 : Index := 640#32
  let c0_2027 : Index := 0#32
  ![v2932.toNat, 1, 640, 0]
def k0_off27 (k0_t1 : Fin k0_t1_loop.trips) : Fin 4 → Nat :=
  let c1_i32_851 : BitVec 32 := 1#32
  let c1_i32_853 : BitVec 32 := 1#32
  let arg34 : BitVec 32 := Scf.iv c1_i32_851 c1_i32_853 k0_t1
  let c1_i32_1915 : BitVec 32 := 1#32
  let v2795 : BitVec 32 := Scalar.subi arg34 c1_i32_1915
  let c1_i32_1916 : BitVec 32 := 1#32
  let v2796 : BitVec 32 := Scalar.andi v2795 c1_i32_1916
  let v2977 : Index := Scalar.indexCast v2796
  let c0_2061 : Index := 0#32
  let c800_2062 : Index := 800#32
  let c0_2063 : Index := 0#32
  ![v2977.toNat, 0, 800, 0]
def k0_off28 (k0_t1 : Fin k0_t1_loop.trips) : Fin 4 → Nat :=
  let c1_i32_851 : BitVec 32 := 1#32
  let c1_i32_853 : BitVec 32 := 1#32
  let arg34 : BitVec 32 := Scf.iv c1_i32_851 c1_i32_853 k0_t1
  let c1_i32_1915 : BitVec 32 := 1#32
  let v2795 : BitVec 32 := Scalar.subi arg34 c1_i32_1915
  let c1_i32_1916 : BitVec 32 := 1#32
  let v2796 : BitVec 32 := Scalar.andi v2795 c1_i32_1916
  let v3022 : Index := Scalar.indexCast v2796
  let c1_2097 : Index := 1#32
  let c800_2098 : Index := 800#32
  let c0_2099 : Index := 0#32
  ![v3022.toNat, 1, 800, 0]
def k0_mult32 (k0_t1 : Fin k0_t1_loop.trips) : BitVec 32 :=
  let c1_i32_851 : BitVec 32 := 1#32
  let c1_i32_853 : BitVec 32 := 1#32
  let arg34 : BitVec 32 := Scf.iv c1_i32_851 c1_i32_853 k0_t1
  let c1280_i32_2134 : BitVec 32 := 1280#32
  let v3068 : BitVec 32 := Scalar.muli arg34 c1280_i32_2134
  let c1024_i32_2135 : BitVec 32 := 1024#32
  let v3069 : BitVec 32 := Scalar.addi v3068 c1024_i32_2135
  v3069
def k0_off29 (k0_t1 : Fin k0_t1_loop.trips) : Fin 2 → Nat :=
  let c1_i32_851 : BitVec 32 := 1#32
  let c1_i32_853 : BitVec 32 := 1#32
  let arg34 : BitVec 32 := Scf.iv c1_i32_851 c1_i32_853 k0_t1
  let c2_i32_2136 : BitVec 32 := 2#32
  ![arg34.toNat, 2]
def k0_off30 (k0_t1 : Fin k0_t1_loop.trips) : Fin 3 → Nat :=
  let c1_i32_851 : BitVec 32 := 1#32
  let c1_i32_853 : BitVec 32 := 1#32
  let arg34 : BitVec 32 := Scf.iv c1_i32_851 c1_i32_853 k0_t1
  let c0_i32_2137 : BitVec 32 := 0#32
  let c1024_i32_2138 : BitVec 32 := 1024#32
  ![arg34.toNat, 0, 1024]
def k0_off31 (k0_t1 : Fin k0_t1_loop.trips) : Fin 2 → Nat :=
  let c0_i32_2139 : BitVec 32 := 0#32
  let c1_i32_851 : BitVec 32 := 1#32
  let c1_i32_853 : BitVec 32 := 1#32
  let arg34 : BitVec 32 := Scf.iv c1_i32_851 c1_i32_853 k0_t1
  let c1280_i32_2134 : BitVec 32 := 1280#32
  let v3068 : BitVec 32 := Scalar.muli arg34 c1280_i32_2134
  let c1024_i32_2135 : BitVec 32 := 1024#32
  let v3069 : BitVec 32 := Scalar.addi v3068 c1024_i32_2135
  let v3070 : BitVec 32 := v3069
  ![0, v3070.toNat]
def k0_off32 (k0_t1 : Fin k0_t1_loop.trips) : Fin 3 → Nat :=
  let c1_i32_851 : BitVec 32 := 1#32
  let c1_i32_853 : BitVec 32 := 1#32
  let arg34 : BitVec 32 := Scf.iv c1_i32_851 c1_i32_853 k0_t1
  let v3077 : Index := Scalar.indexCast arg34
  let c0_2142 : Index := 0#32
  let c1024_2143 : Index := 1024#32
  ![v3077.toNat, 0, 1024]
def k0_mult33 (k0_t1 : Fin k0_t1_loop.trips) : BitVec 32 :=
  let c1_i32_851 : BitVec 32 := 1#32
  let c1_i32_853 : BitVec 32 := 1#32
  let arg34 : BitVec 32 := Scf.iv c1_i32_851 c1_i32_853 k0_t1
  let c1280_i32_2145 : BitVec 32 := 1280#32
  let v3081 : BitVec 32 := Scalar.muli arg34 c1280_i32_2145
  let c1024_i32_2146 : BitVec 32 := 1024#32
  let v3082 : BitVec 32 := Scalar.addi v3081 c1024_i32_2146
  v3082
def k0_off33 (k0_t1 : Fin k0_t1_loop.trips) : Fin 1 → Nat :=
  let c1_i32_851 : BitVec 32 := 1#32
  let c1_i32_853 : BitVec 32 := 1#32
  let arg34 : BitVec 32 := Scf.iv c1_i32_851 c1_i32_853 k0_t1
  let c1280_i32_2145 : BitVec 32 := 1280#32
  let v3081 : BitVec 32 := Scalar.muli arg34 c1280_i32_2145
  let c1024_i32_2146 : BitVec 32 := 1024#32
  let v3082 : BitVec 32 := Scalar.addi v3081 c1024_i32_2146
  let v3083 : BitVec 32 := v3082
  let v3084 : Index := Scalar.indexCast v3083
  ![v3084.toNat]
def k0_off34 (k0_t1 : Fin k0_t1_loop.trips) : Fin 4 → Nat :=
  let c1_i32_851 : BitVec 32 := 1#32
  let c1_i32_853 : BitVec 32 := 1#32
  let arg34 : BitVec 32 := Scf.iv c1_i32_851 c1_i32_853 k0_t1
  let c1_i32_2133 : BitVec 32 := 1#32
  let v3067 : BitVec 32 := Scalar.andi arg34 c1_i32_2133
  let v3094 : Index := Scalar.indexCast v3067
  let c0_2149 : Index := 0#32
  let c1024_2150 : Index := 1024#32
  let c0_2151 : Index := 0#32
  ![v3094.toNat, 0, 1024, 0]
def k0_off35 (k0_t1 : Fin k0_t1_loop.trips) : Fin 4 → Nat :=
  let c1_i32_851 : BitVec 32 := 1#32
  let c1_i32_853 : BitVec 32 := 1#32
  let arg34 : BitVec 32 := Scf.iv c1_i32_851 c1_i32_853 k0_t1
  let c1_i32_2133 : BitVec 32 := 1#32
  let v3067 : BitVec 32 := Scalar.andi arg34 c1_i32_2133
  let v3100 : Index := Scalar.indexCast v3067
  let c1_2152 : Index := 1#32
  let c1024_2153 : Index := 1024#32
  let c0_2154 : Index := 0#32
  ![v3100.toNat, 1, 1024, 0]
def k0_off36 (k0_t1 : Fin k0_t1_loop.trips) : Fin 4 → Nat :=
  let c1_i32_851 : BitVec 32 := 1#32
  let c1_i32_853 : BitVec 32 := 1#32
  let arg34 : BitVec 32 := Scf.iv c1_i32_851 c1_i32_853 k0_t1
  let c1_i32_2156 : BitVec 32 := 1#32
  let v3105 : BitVec 32 := Scalar.subi arg34 c1_i32_2156
  let c1_i32_2157 : BitVec 32 := 1#32
  let v3106 : BitVec 32 := Scalar.andi v3105 c1_i32_2157
  let v3107 : Index := Scalar.indexCast v3106
  let c0_2158 : Index := 0#32
  let c960_2159 : Index := 960#32
  let c0_2160 : Index := 0#32
  ![v3107.toNat, 0, 960, 0]
def k0_off37 (k0_t1 : Fin k0_t1_loop.trips) : Fin 4 → Nat :=
  let c1_i32_851 : BitVec 32 := 1#32
  let c1_i32_853 : BitVec 32 := 1#32
  let arg34 : BitVec 32 := Scf.iv c1_i32_851 c1_i32_853 k0_t1
  let c1_i32_2156 : BitVec 32 := 1#32
  let v3105 : BitVec 32 := Scalar.subi arg34 c1_i32_2156
  let c1_i32_2157 : BitVec 32 := 1#32
  let v3106 : BitVec 32 := Scalar.andi v3105 c1_i32_2157
  let v3152 : Index := Scalar.indexCast v3106
  let c1_2194 : Index := 1#32
  let c960_2195 : Index := 960#32
  let c0_2196 : Index := 0#32
  ![v3152.toNat, 1, 960, 0]
def k0_off38 (k0_t1 : Fin k0_t1_loop.trips) : Fin 4 → Nat :=
  let c1_i32_851 : BitVec 32 := 1#32
  let c1_i32_853 : BitVec 32 := 1#32
  let arg34 : BitVec 32 := Scf.iv c1_i32_851 c1_i32_853 k0_t1
  let c1_i32_2156 : BitVec 32 := 1#32
  let v3105 : BitVec 32 := Scalar.subi arg34 c1_i32_2156
  let c1_i32_2157 : BitVec 32 := 1#32
  let v3106 : BitVec 32 := Scalar.andi v3105 c1_i32_2157
  let v3197 : Index := Scalar.indexCast v3106
  let c0_2230 : Index := 0#32
  let c1120_2231 : Index := 1120#32
  let c0_2232 : Index := 0#32
  ![v3197.toNat, 0, 1120, 0]
def k0_off39 (k0_t1 : Fin k0_t1_loop.trips) : Fin 4 → Nat :=
  let c1_i32_851 : BitVec 32 := 1#32
  let c1_i32_853 : BitVec 32 := 1#32
  let arg34 : BitVec 32 := Scf.iv c1_i32_851 c1_i32_853 k0_t1
  let c1_i32_2156 : BitVec 32 := 1#32
  let v3105 : BitVec 32 := Scalar.subi arg34 c1_i32_2156
  let c1_i32_2157 : BitVec 32 := 1#32
  let v3106 : BitVec 32 := Scalar.andi v3105 c1_i32_2157
  let v3242 : Index := Scalar.indexCast v3106
  let c1_2266 : Index := 1#32
  let c1120_2267 : Index := 1120#32
  let c0_2268 : Index := 0#32
  ![v3242.toNat, 1, 1120, 0]
def k0_off40 (k0_t1 : Fin k0_t1_loop.trips) : Fin 1 → Nat :=
  let c2_i32_2304 : BitVec 32 := 2#32
  let c1_i32_851 : BitVec 32 := 1#32
  let c1_i32_853 : BitVec 32 := 1#32
  let arg34 : BitVec 32 := Scf.iv c1_i32_851 c1_i32_853 k0_t1
  let c1_i32_2302 : BitVec 32 := 1#32
  let v3287 : BitVec 32 := Scalar.subi arg34 c1_i32_2302
  let v3289 : BitVec 32 := Scalar.addi c2_i32_2304 v3287
  ![v3289.toNat]
def k0_off41 (k0_t1 : Fin k0_t1_loop.trips) : Fin 4 → Nat :=
  let c0_i32_2305 : BitVec 32 := 0#32
  let c1_i32_851 : BitVec 32 := 1#32
  let c1_i32_853 : BitVec 32 := 1#32
  let arg34 : BitVec 32 := Scf.iv c1_i32_851 c1_i32_853 k0_t1
  let c1_i32_2302 : BitVec 32 := 1#32
  let v3287 : BitVec 32 := Scalar.subi arg34 c1_i32_2302
  let c8_i32_2303 : BitVec 32 := 8#32
  let v3288 : BitVec 32 := Scalar.muli v3287 c8_i32_2303
  let c0_i32_2306 : BitVec 32 := 0#32
  let c0_i32_2307 : BitVec 32 := 0#32
  ![0, v3288.toNat, 0, 0]
def k0_mult34 : BitVec 32 :=
  let c7680_i32_855 : BitVec 32 := 7680#32
  c7680_i32_855
def k0_mult35 : BitVec 32 :=
  let c7680_i32_867 : BitVec 32 := 7680#32
  c7680_i32_867
def k0_mult36 : BitVec 32 :=
  let c8192_i32_1086 : BitVec 32 := 8192#32
  c8192_i32_1086
def k0_mult37 : BitVec 32 :=
  let c8192_i32_1099 : BitVec 32 := 8192#32
  c8192_i32_1099
def k0_mult38 : BitVec 32 :=
  let c8704_i32_1315 : BitVec 32 := 8704#32
  c8704_i32_1315
def k0_mult39 : BitVec 32 :=
  let c8704_i32_1328 : BitVec 32 := 8704#32
  c8704_i32_1328
-- ==== KernelIdeal.lean ====
variable {F : FTy → Type} [FloatOps F] [Named F]
def κ : String → Option EReal := fun
  | "inv_d" => some ((1 / 5120 : ℝ) : EReal)
  | "inv_hd" => some ((1 / 160 : ℝ) : EReal)
  | _ => none
-- ==== ReferenceIdeal.lean ====
abbrev S2x128x5120 : Shape := ⟨3, ![2, 128, 5120]⟩
abbrev S5120 : Shape := ⟨1, ![5120]⟩
abbrev S5120x8960 : Shape := ⟨2, ![5120, 8960]⟩
abbrev S8960 : Shape := ⟨1, ![8960]⟩
abbrev S160 : Shape := ⟨1, ![160]⟩
abbrev S2x128 : Shape := ⟨2, ![2, 128]⟩
abbrev S80 : Shape := ⟨1, ![80]⟩
abbrev S_ : Shape := ⟨0, ![]⟩
abbrev S2x128x1 : Shape := ⟨3, ![2, 128, 1]⟩
abbrev S1x1x5120 : Shape := ⟨3, ![1, 1, 5120]⟩
abbrev S256x5120 : Shape := ⟨2, ![256, 5120]⟩
abbrev S256x8960 : Shape := ⟨2, ![256, 8960]⟩
abbrev S2x128x8960 : Shape := ⟨3, ![2, 128, 8960]⟩
abbrev S1x1x8960 : Shape := ⟨3, ![1, 1, 8960]⟩
abbrev S2x128x6400 : Shape := ⟨3, ![2, 128, 6400]⟩
abbrev S2x128x40x160 : Shape := ⟨4, ![2, 128, 40, 160]⟩
abbrev S2x128x1280 : Shape := ⟨3, ![2, 128, 1280]⟩
abbrev S2x128x8x160 : Shape := ⟨4, ![2, 128, 8, 160]⟩
abbrev S1x1x80 : Shape := ⟨3, ![1, 1, 80]⟩
abbrev S2x128x80 : Shape := ⟨3, ![2, 128, 80]⟩
abbrev S2x128x1x80 : Shape := ⟨4, ![2, 128, 1, 80]⟩
abbrev S2x128x40 : Shape := ⟨3, ![2, 128, 40]⟩
abbrev S2x128x40x1 : Shape := ⟨4, ![2, 128, 40, 1]⟩
abbrev S1x1x1x160 : Shape := ⟨4, ![1, 1, 1, 160]⟩
abbrev S2x128x40x80 : Shape := ⟨4, ![2, 128, 40, 80]⟩
abbrev S2x128x8 : Shape := ⟨3, ![2, 128, 8]⟩
abbrev S2x128x8x1 : Shape := ⟨4, ![2, 128, 8, 1]⟩
abbrev S2x128x8x80 : Shape := ⟨4, ![2, 128, 8, 80]⟩

abbrev nBuf : Space → Nat
  | .hbm => 149
  | .vmem => 4
  | .smem => 0
  | _ => 0

abbrev hbmTy0_0 (i : Nat) : BufTy := match i % 128 with
  | 0 => ⟨S2x128x5120, .bf16⟩
  | 1 => ⟨S5120, .f32⟩
  | 2 => ⟨S5120x8960, .fp8e4m3⟩
  | 3 => ⟨S8960, .f32⟩
  | 4 => ⟨S160, .f32⟩
  | 5 => ⟨S160, .f32⟩
  | 6 => ⟨S2x128, .i32⟩
  | 7 => ⟨S80, .f32⟩
  | 8 => ⟨S2x128x5120, .f32⟩
  | 9 => ⟨S2x128x5120, .f32⟩
  | 10 => ⟨S_, .f32⟩
  | 11 => ⟨S2x128, .f32⟩
  | 12 => ⟨S2x128x1, .f32⟩
  | 13 => ⟨S_, .f32⟩
  | 14 => ⟨S2x128x1, .f32⟩
  | 15 => ⟨S2x128x1, .f32⟩
  | 16 => ⟨S_, .f32⟩
  | 17 => ⟨S2x128x1, .f32⟩
  | 18 => ⟨S2x128x1, .f32⟩
  | 19 => ⟨S2x128x1, .f32⟩
  | 20 => ⟨S2x128x5120, .f32⟩
  | 21 => ⟨S2x128x5120, .f32⟩
  | 22 => ⟨S1x1x5120, .f32⟩
  | 23 => ⟨S2x128x5120, .f32⟩
  | 24 => ⟨S2x128x5120, .f32⟩
  | 25 => ⟨S2x128x5120, .f32⟩
  | 26 => ⟨S_, .f32⟩
  | 27 => ⟨S2x128, .f32⟩
  | 28 => ⟨S_, .f32⟩
  | 29 => ⟨S2x128, .f32⟩
  | 30 => ⟨S2x128, .f32⟩
  | 31 => ⟨S_, .f32⟩
  | 32 => ⟨S2x128, .f32⟩
  | 33 => ⟨S2x128, .i1⟩
  | 34 => ⟨S_, .f32⟩
  | 35 => ⟨S2x128, .f32⟩
  | 36 => ⟨S2x128, .i1⟩
  | 37 => ⟨S2x128, .i1⟩
  | 38 => ⟨S2x128, .f32⟩
  | 39 => ⟨S_, .f32⟩
  | 40 => ⟨S_, .f32⟩
  | 41 => ⟨S2x128, .f32⟩
  | 42 => ⟨S2x128, .f32⟩
  | 43 => ⟨S2x128, .f32⟩
  | 44 => ⟨S_, .f32⟩
  | 45 => ⟨S2x128, .f32⟩
  | 46 => ⟨S2x128, .f32⟩
  | 47 => ⟨S_, .f32⟩
  | 48 => ⟨S_, .f32⟩
  | 49 => ⟨S2x128, .f32⟩
  | 50 => ⟨S2x128, .f32⟩
  | 51 => ⟨S_, .f32⟩
  | 52 => ⟨S2x128, .f32⟩
  | 53 => ⟨S2x128, .f32⟩
  | 54 => ⟨S2x128, .f32⟩
  | 55 => ⟨S_, .f32⟩
  | 56 => ⟨S2x128, .f32⟩
  | 57 => ⟨S2x128, .f32⟩
  | 58 => ⟨S2x128x1, .f32⟩
  | 59 => ⟨S2x128x5120, .f32⟩
  | 60 => ⟨S2x128x5120, .f32⟩
  | 61 => ⟨S256x5120, .f32⟩
  | 62 => ⟨S256x5120, .fp8e4m3⟩
  | 63 => ⟨S256x8960, .f32⟩
  | 64 => ⟨S2x128x8960, .f32⟩
  | 65 => ⟨S2x128x1, .f32⟩
  | 66 => ⟨S2x128x8960, .f32⟩
  | 67 => ⟨S2x128x8960, .f32⟩
  | 68 => ⟨S1x1x8960, .f32⟩
  | 69 => ⟨S2x128x8960, .f32⟩
  | 70 => ⟨S2x128x8960, .f32⟩
  | 71 => ⟨S2x128x6400, .f32⟩
  | 72 => ⟨S2x128x40x160, .f32⟩
  | 73 => ⟨S2x128x1280, .f32⟩
  | 74 => ⟨S2x128x8x160, .f32⟩
  | 75 => ⟨S2x128x1280, .f32⟩
  | 76 => ⟨S2x128x8x160, .f32⟩
  | 77 => ⟨S2x128, .f32⟩
  | 78 => ⟨S2x128x1, .f32⟩
  | 79 => ⟨S1x1x80, .f32⟩
  | 80 => ⟨S2x128x80, .f32⟩
  | 81 => ⟨S2x128x80, .f32⟩
  | 82 => ⟨S2x128x80, .f32⟩
  | 83 => ⟨S2x128x80, .f32⟩
  | 84 => ⟨S2x128x1x80, .f32⟩
  | 85 => ⟨S2x128x80, .f32⟩
  | 86 => ⟨S2x128x1x80, .f32⟩
  | 87 => ⟨S2x128x40x160, .f32⟩
  | 88 => ⟨S_, .f32⟩
  | 89 => ⟨S2x128x40, .f32⟩
  | 90 => ⟨S2x128x40x1, .f32⟩
  | 91 => ⟨S_, .f32⟩
  | 92 => ⟨S2x128x40x1, .f32⟩
  | 93 => ⟨S2x128x40x1, .f32⟩
  | 94 => ⟨S_, .f32⟩
  | 95 => ⟨S2x128x40x1, .f32⟩
  | 96 => ⟨S2x128x40x1, .f32⟩
  | 97 => ⟨S2x128x40x1, .f32⟩
  | 98 => ⟨S2x128x40x160, .f32⟩
  | 99 => ⟨S2x128x40x160, .f32⟩
  | 100 => ⟨S1x1x1x160, .f32⟩
  | 101 => ⟨S2x128x40x160, .f32⟩
  | 102 => ⟨S2x128x40x160, .f32⟩
  | 103 => ⟨S2x128x40x80, .f32⟩
  | 104 => ⟨S2x128x40x80, .f32⟩
  | 105 => ⟨S2x128x40x80, .f32⟩
  | 106 => ⟨S2x128x40x80, .f32⟩
  | 107 => ⟨S2x128x40x80, .f32⟩
  | 108 => ⟨S2x128x40x80, .f32⟩
  | 109 => ⟨S2x128x40x80, .f32⟩
  | 110 => ⟨S2x128x40x80, .f32⟩
  | 111 => ⟨S2x128x40x80, .f32⟩
  | 112 => ⟨S2x128x40x80, .f32⟩
  | 113 => ⟨S2x128x40x80, .f32⟩
  | 114 => ⟨S2x128x40x80, .f32⟩
  | 115 => ⟨S2x128x40x160, .f32⟩
  | 116 => ⟨S2x128x8x160, .f32⟩
  | 117 => ⟨S_, .f32⟩
  | 118 => ⟨S2x128x8, .f32⟩
  | 119 => ⟨S2x128x8x1, .f32⟩
  | 120 => ⟨S_, .f32⟩
  | 121 => ⟨S2x128x8x1, .f32⟩
  | 122 => ⟨S2x128x8x1, .f32⟩
  | 123 => ⟨S_, .f32⟩
  | 124 => ⟨S2x128x8x1, .f32⟩
  | 125 => ⟨S2x128x8x1, .f32⟩
  | 126 => ⟨S2x128x8x1, .f32⟩
  | 127 => ⟨S2x128x8x160, .f32⟩
  | _ => ⟨S2x128x5120, .bf16⟩

abbrev hbmTy0_1 (i : Nat) : BufTy := match i % 128 with
  | 0 => ⟨S2x128x8x160, .f32⟩
  | 1 => ⟨S1x1x1x160, .f32⟩
  | 2 => ⟨S2x128x8x160, .f32⟩
  | 3 => ⟨S2x128x8x160, .f32⟩
  | 4 => ⟨S2x128x8x80, .f32⟩
  | 5 => ⟨S2x128x8x80, .f32⟩
  | 6 => ⟨S2x128x8x80, .f32⟩
  | 7 => ⟨S2x128x8x80, .f32⟩
  | 8 => ⟨S2x128x8x80, .f32⟩
  | 9 => ⟨S2x128x8x80, .f32⟩
  | 10 => ⟨S2x128x8x80, .f32⟩
  | 11 => ⟨S2x128x8x80, .f32⟩
  | 12 => ⟨S2x128x8x80, .f32⟩
  | 13 => ⟨S2x128x8x80, .f32⟩
  | 14 => ⟨S2x128x8x80, .f32⟩
  | 15 => ⟨S2x128x8x80, .f32⟩
  | 16 => ⟨S2x128x8x160, .f32⟩
  | 17 => ⟨S2x128x40x160, .bf16⟩
  | 18 => ⟨S2x128x8x160, .bf16⟩
  | 19 => ⟨S2x128x8x160, .bf16⟩
  | 20 => ⟨S2x128x5120, .fp8e4m3⟩
  | _ => ⟨S2x128x5120, .bf16⟩

abbrev hbmTy (i : Nat) : BufTy := match i / 128 with
  | 0 => hbmTy0_0 i
  | 1 => hbmTy0_1 i
  | _ => ⟨S2x128x5120, .bf16⟩

abbrev bufTy : (tb : Table) → Fin (tcTables nBuf tb) → BufTy
  | .hbm, ⟨i, _⟩ => hbmTy i
  | .local _ .vmem, ⟨0, _⟩ => ⟨S256x5120, .f32⟩
  | .local _ .vmem, ⟨1, _⟩ => ⟨S5120x8960, .fp8e4m3⟩
  | .local _ .vmem, ⟨2, _⟩ => ⟨S256x5120, .fp8e4m3⟩
  | .local _ .vmem, ⟨3, _⟩ => ⟨S256x8960, .f32⟩
  | _, _ => ⟨S2x128x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_cst_9 : Ref sig .tc := ⟨.hbm, 47, rfl⟩
abbrev main_call0_v0 : Ref sig .tc := ⟨.hbm, 48, rfl⟩
abbrev main_call0_v1 : Ref sig .tc := ⟨.hbm, 49, rfl⟩
abbrev main_v30 : Ref sig .tc := ⟨.hbm, 50, rfl⟩
abbrev main_cst_10 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_11 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40_0 : Ref sig .tc := ⟨.hbm, 62, rfl⟩
abbrev main_v40_1 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_15 : Ref sig .tc := ⟨.hbm, 117, rfl⟩
abbrev main_v91 : Ref sig .tc := ⟨.hbm, 118, rfl⟩
abbrev main_v92 : Ref sig .tc := ⟨.hbm, 119, rfl⟩
abbrev main_cst_16 : Ref sig .tc := ⟨.hbm, 120, rfl⟩
abbrev main_v93 : Ref sig .tc := ⟨.hbm, 121, rfl⟩
abbrev main_v94 : Ref sig .tc := ⟨.hbm, 122, rfl⟩
abbrev main_cst_17 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S256x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x8960 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x8960 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelIdealStruct.lean ====
module

public import proofs.«01_k».proof.Proof.Gen.KernelIdeal.Skeleton
public import proofs.«01_k».proof.Proof.Gen.KernelIdeal.Points

/- The kernel's body said again as a short program over named blocks: one block per row block of the first stage, per
   part of a projected chunk, per head. The printed body is this program by definitional unfolding (`body_eq`). -/

@[expose] public section

set_option synthInstance.maxSize 4096

noncomputable section

namespace Cert.Proof.KernelIdeal

open Cert.KernelIdeal Cert.KernelIdeal.Gen
open Idealize.ShloMosaic Idealize.ShloMosaic.TcCoe
open Idealize.SL Idealize.SL.Sem

variable {F : FTy → Type} [FloatOps F] [Named F]

/-! ## Names -/

abbrev xH : Memref sig .tc .hbm S256x5120 .bf16 := Memref.whole main_v0
abbrev nwH : Memref sig .tc .hbm S1x5120 .f32 := Memref.whole main_v1
abbrev wH : Memref sig .tc .hbm S5120x8960 .fp8e4m3 := Memref.whole main_arg2
abbrev wsH : Memref sig .tc .hbm S8960 .f32 := Memref.whole main_arg3
abbrev qgH : Memref sig .tc .hbm S1x160 .f32 := Memref.whole main_v2
abbrev kgH : Memref sig .tc .hbm S1x160 .f32 := Memref.whole main_v3
abbrev posH : Memref sig .tc .hbm S2x128 .i32 := Memref.whole main_arg6
abbrev invfH : Memref sig .tc .hbm S80x128 .f32 := Memref.whole main_cst
abbrev qH : Memref sig .tc .hbm S2x40x160x128 .bf16 := Memref.whole main_v4_0
abbrev kH : Memref sig .tc .hbm S2x8x160x128 .bf16 := Memref.whole main_v4_1
abbrev vH : Memref sig .tc .hbm S2x8x160x128 .bf16 := Memref.whole main_v4_2
abbrev cH : Memref sig .tc .hbm S256x5120 .fp8e4m3 := Memref.whole main_v4_3
abbrev sH : Memref sig .tc .hbm S2x128 .f32 := Memref.whole main_v4_4
abbrev xV : Memref sig .tc .vmem S256x5120 .bf16 := Memref.whole cc0_scratch0
abbrev nwV : Memref sig .tc .vmem S1x5120 .f32 := Memref.whole cc0_scratch1
abbrev wV : Memref sig .tc .vmem S7x5120x1280 .fp8e4m3 := Memref.whole cc0_scratch2
abbrev wsV : Memref sig .tc .vmem S8960 .f32 := Memref.whole cc0_scratch3
abbrev qgV : Memref sig .tc .vmem S1x160 .f32 := Memref.whole cc0_scratch4
abbrev kgV : Memref sig .tc .vmem S1x160 .f32 := Memref.whole cc0_scratch5
abbrev posV : Memref sig .tc .vmem S2x128 .i32 := Memref.whole cc0_scratch6
abbrev invfV : Memref sig .tc .vmem S80x128 .f32 := Memref.whole cc0_scratch7
abbrev cV : Memref sig .tc .vmem S256x5120 .fp8e4m3 := Memref.whole cc0_scratch8
abbrev xsV : Memref sig .tc .vmem S256x128 .f32 := Memref.whole cc0_scratch9
abbrev xstV : Memref sig .tc .vmem S2x128 .f32 := Memref.whole cc0_scratch10
abbrev tabV : Memref sig .tc .vmem S2x2x4x80x128 .f32 := Memref.whole cc0_scratch11
abbrev ytV : Memref sig .tc .vmem S2x2x1280x128 .f32 := Memref.whole cc0_scratch12
abbrev qV : Memref sig .tc .vmem S2x40x160x128 .bf16 := Memref.whole cc0_scratch13
abbrev kV : Memref sig .tc .vmem S2x8x160x128 .bf16 := Memref.whole cc0_scratch14
abbrev vV : Memref sig .tc .vmem S2x8x160x128 .bf16 := Memref.whole cc0_scratch15

/-- The type of a kernel program. -/
abbrev KProg (F : FTy → Type) [FloatOps F] (α : Type _) := Prog (TpuEff nD τ sig (Elt F) Λ₀ .tc) α

/-- Cell `o` of each semaphore array. -/
abbrev xSem (o : Fin 1 → ℕ) (h : ∀ a, o a + S1.size a ≤ S8.size a) : DmaSem sig :=
  ((cc0_scratch16.slice (Rect.unit (s := S8) o S1.size h)).squeeze S_ squeezes_S1_S_).sem
abbrev pSem (o : Fin 1 → ℕ) (h : ∀ a, o a + S1.size a ≤ S6.size a) : DmaSem sig :=
  ((cc0_scratch17.slice (Rect.unit (s := S6) o S1.size h)).squeeze S_ squeezes_S1_S_).sem
abbrev wSem (o : Fin 2 → ℕ) (h : ∀ a, o a + S1x1.size a ≤ S7x3.size a) : DmaSem sig :=
  ((cc0_scratch18.slice (Rect.unit (s := S7x3) o S1x1.size h)).squeeze S_ squeezes_S1x1_S_).sem
abbrev oSem (o : Fin 1 → ℕ) (h : ∀ a, o a + S1.size a ≤ S9.size a) : DmaSem sig :=
  ((cc0_scratch19.slice (Rect.unit (s := S9) o S1.size h)).squeeze S_ squeezes_S1_S_).sem
abbrev sSem : DmaSem sig := cc0_scratch20.sem

/-- The pieces the copies move. -/
abbrev xHP (o : Fin 2 → ℕ) (h : ∀ a, o a + S32x5120.size a ≤ S256x5120.size a) : Memref sig .tc .hbm S32x5120 .bf16 :=
  xH.slice (Rect.unit (s := S256x5120) o S32x5120.size h) (fun _ => rfl)
abbrev xVP (o : Fin 2 → ℕ) (h : ∀ a, o a + S32x5120.size a ≤ S256x5120.size a) : Memref sig .tc .vmem S32x5120 .bf16 :=
  xV.slice (Rect.unit (s := S256x5120) o S32x5120.size h) (fun _ => rfl)
abbrev qHP (o : Fin 4 → ℕ) (h : ∀ a, o a + S2x8x160x128.size a ≤ S2x40x160x128.size a) : Memref sig .tc .hbm S2x8x160x128 .bf16 :=
  qH.slice (Rect.unit (s := S2x40x160x128) o S2x8x160x128.size h) (fun _ => rfl)
abbrev qVP (o : Fin 4 → ℕ) (h : ∀ a, o a + S2x8x160x128.size a ≤ S2x40x160x128.size a) : Memref sig .tc .vmem S2x8x160x128 .bf16 :=
  qV.slice (Rect.unit (s := S2x40x160x128) o S2x8x160x128.size h) (fun _ => rfl)
abbrev wHP512 (o : Fin 2 → ℕ) (h : ∀ a, o a + S5120x512.size a ≤ S5120x8960.size a) : Memref sig .tc .hbm S5120x512 .fp8e4m3 :=
  wH.slice (Rect.unit (s := S5120x8960) o S5120x512.size h) (fun _ => rfl)
abbrev wVP512 (o : Fin 3 → ℕ) (h : ∀ a, o a + S1x5120x512.size a ≤ S7x5120x1280.size a) : Memref sig .tc .vmem S5120x512 .fp8e4m3 :=
  (wV.slice (Rect.unit (s := S7x5120x1280) o S1x5120x512.size h) (fun _ => rfl)).squeeze S5120x512 squeezes_S1x5120x512_S5120x512
abbrev wHP256 (o : Fin 2 → ℕ) (h : ∀ a, o a + S5120x256.size a ≤ S5120x8960.size a) : Memref sig .tc .hbm S5120x256 .fp8e4m3 :=
  wH.slice (Rect.unit (s := S5120x8960) o S5120x256.size h) (fun _ => rfl)
abbrev wVP256 (o : Fin 3 → ℕ) (h : ∀ a, o a + S1x5120x256.size a ≤ S7x5120x1280.size a) : Memref sig .tc .vmem S5120x256 .fp8e4m3 :=
  (wV.slice (Rect.unit (s := S7x5120x1280) o S1x5120x256.size h) (fun _ => rfl)).squeeze S5120x256 squeezes_S1x5120x256_S5120x256

/-! ## What the blocks compute -/

/-- A projected part, 512 columns wide: the product of all rows' codes with the part's weights, scaled by row and by column. -/
def prodPay512 (c : Vec F S256x5120 .fp8e4m3) (wt : Vec F S1x5120x512 .fp8e4m3) (s : Vec F S512 .f32) (xs : Vec F S256x1 .f32) : FVec F S256x512 .f32 :=
  mulf (mulf (matmul dot_S256x5120_S5120x512_S256x512_1_0_0_1_n_n none c (shapeCast S5120x512 wt shapeCasts_S1x5120x512_S5120x512) (constant S256x512 .f32 0x00000000#32))
      (broadcastTo S256x512 xs broadcasts_S256x1_S256x512))
    (broadcastTo S256x512 (shapeCast S1x512 s shapeCasts_S512_S1x512) broadcasts_S1x512_S256x512)
/-- Its first 128 rows, transposed. -/
def projPay512_0 (c : Vec F S256x5120 .fp8e4m3) (wt : Vec F S1x5120x512 .fp8e4m3) (s : Vec F S512 .f32) (xs : Vec F S256x1 .f32) : FVec F S1x1x512x128 .f32 :=
  shapeCast S1x1x512x128 (transpose S512x128 [1, 0] (extractStridedSlice S128x512 ![0, 0] (prodPay512 c wt s xs) slices_S256x512_o0_0_S128x512) transposes_S128x512_p1_0_S512x128) shapeCasts_S512x128_S1x1x512x128
/-- Its last 128 rows, transposed. -/
def projPay512_1 (c : Vec F S256x5120 .fp8e4m3) (wt : Vec F S1x5120x512 .fp8e4m3) (s : Vec F S512 .f32) (xs : Vec F S256x1 .f32) : FVec F S1x1x512x128 .f32 :=
  shapeCast S1x1x512x128 (transpose S512x128 [1, 0] (extractStridedSlice S128x512 ![128, 0] (prodPay512 c wt s xs) slices_S256x512_o128_0_S128x512) transposes_S128x512_p1_0_S512x128) shapeCasts_S512x128_S1x1x512x128

/-- A projected part, 256 columns wide: the product of all rows' codes with the part's weights, scaled by row and by column. -/
def prodPay256 (c : Vec F S256x5120 .fp8e4m3) (wt : Vec F S1x5120x256 .fp8e4m3) (s : Vec F S256 .f32) (xs : Vec F S256x1 .f32) : FVec F S256x256 .f32 :=
  mulf (mulf (matmul dot_S256x5120_S5120x256_S256x256_1_0_0_1_n_n none c (shapeCast S5120x256 wt shapeCasts_S1x5120x256_S5120x256) (constant S256x256 .f32 0x00000000#32))
      (broadcastTo S256x256 xs broadcasts_S256x1_S256x256))
    (broadcastTo S256x256 (shapeCast S1x256 s shapeCasts_S256_S1x256) broadcasts_S1x256_S256x256)
/-- Its first 128 rows, transposed. -/
def projPay256_0 (c : Vec F S256x5120 .fp8e4m3) (wt : Vec F S1x5120x256 .fp8e4m3) (s : Vec F S256 .f32) (xs : Vec F S256x1 .f32) : FVec F S1x1x256x128 .f32 :=
  shapeCast S1x1x256x128 (transpose S256x128 [1, 0] (extractStridedSlice S128x256 ![0, 0] (prodPay256 c wt s xs) slices_S256x256_o0_0_S128x256) transposes_S128x256_p1_0_S256x128) shapeCasts_S256x128_S1x1x256x128
/-- Its last 128 rows, transposed. -/
def projPay256_1 (c : Vec F S256x5120 .fp8e4m3) (wt : Vec F S1x5120x256 .fp8e4m3) (s : Vec F S256 .f32) (xs : Vec F S256x1 .f32) : FVec F S1x1x256x128 .f32 :=
  shapeCast S1x1x256x128 (transpose S256x128 [1, 0] (extractStridedSlice S128x256 ![128, 0] (prodPay256 c wt s xs) slices_S256x256_o128_0_S128x256) transposes_S128x256_p1_0_S256x128) shapeCasts_S256x128_S1x1x256x128

/-- A head's reciprocal root mean square, one entry per column. -/
def headRms (y : Vec F S1x1x160x128 .f32) : FVec F S1x128 .f32 :=
  rsqrt (addf (mulf (shapeCast S1x128 (multiReduction .add [0] S128 (mulf (shapeCast S160x128 y shapeCasts_S1x1x160x128_S160x128) (shapeCast S160x128 y shapeCasts_S1x1x160x128_S160x128)) 0x00000000#32 reduces_S160x128_S128 (.inl rfl) rfl) shapeCasts_S128_S1x128)
      (broadcast S1x128 (Named.named κ "inv_hd" 0x3BCCCCCD#32)))
    (broadcast S1x128 (Scalar.ofBits .f32 0x358637BD#32)))
def headLo (y : Vec F S1x1x160x128 .f32) : FVec F S80x128 .f32 :=
  extractStridedSlice S80x128 ![0, 0] (shapeCast S160x128 y shapeCasts_S1x1x160x128_S160x128) slices_S160x128_o0_0_S80x128
def headHi (y : Vec F S1x1x160x128 .f32) : FVec F S80x128 .f32 :=
  extractStridedSlice S80x128 ![80, 0] (shapeCast S160x128 y shapeCasts_S1x1x160x128_S160x128) slices_S160x128_o80_0_S80x128
/-- The rotated first half of a head. -/
def rotLoPay (y : Vec F S1x1x160x128 .f32) (t0 t1 : Vec F S1x1x1x80x128 .f32) : FVec F S1x1x80x128 .bf16 :=
  shapeCast S1x1x80x128 (truncf .bf16 (mulf (subf (mulf (headLo y) (shapeCast S80x128 t0 shapeCasts_S1x1x1x80x128_S80x128)) (mulf (headHi y) (shapeCast S80x128 t1 shapeCasts_S1x1x1x80x128_S80x128)))
      (broadcastTo S80x128 (headRms y) broadcasts_S1x128_S80x128)) bitsLt_bf16_f32) shapeCasts_S80x128_S1x1x80x128
/-- The rotated second half of a head. -/
def rotHiPay (y : Vec F S1x1x160x128 .f32) (t2 t3 : Vec F S1x1x1x80x128 .f32) : FVec F S1x1x80x128 .bf16 :=
  shapeCast S1x1x80x128 (truncf .bf16 (mulf (addf (mulf (headHi y) (shapeCast S80x128 t2 shapeCasts_S1x1x1x80x128_S80x128)) (mulf (headLo y) (shapeCast S80x128 t3 shapeCasts_S1x1x1x80x128_S80x128)))
      (broadcastTo S80x128 (headRms y) broadcasts_S1x128_S80x128)) bitsLt_bf16_f32) shapeCasts_S80x128_S1x1x80x128
/-- A head of v. -/
def vPay (y : Vec F S1x1x160x128 .f32) : FVec F S1x1x160x128 .bf16 :=
  shapeCast S1x1x160x128 (truncf .bf16 (shapeCast S160x128 y shapeCasts_S1x1x160x128_S160x128) bitsLt_bf16_f32) shapeCasts_S160x128_S1x1x160x128
/-- The gains as columns, the same in every column. -/
def gainCols (g : Vec F S1x160 .f32) : FVec F S160x128 .f32 :=
  transpose S160x128 [1, 0] (broadcastTo S128x160 (shapeCast S1x160 g shapeCasts_S1x160_S1x160) broadcasts_S1x160_S128x160) transposes_S128x160_p1_0_S160x128
/-- The rotation angles of one row of positions. -/
def angles (p : Vec F S1x128 .i32) (f : Vec F S80x128 .f32) : FVec F S80x128 .f32 :=
  mulf (broadcastTo S80x128 (sitofp .f32 p) broadcasts_S1x128_S80x128) f
/-- One table: half of the gains times the cosine or the sine. -/
def tabLo (g : Vec F S1x160 .f32) (t : FVec F S80x128 .f32) : FVec F S1x1x1x80x128 .f32 :=
  shapeCast S1x1x1x80x128 (mulf (extractStridedSlice S80x128 ![0, 0] (gainCols g) slices_S160x128_o0_0_S80x128) t) shapeCasts_S80x128_S1x1x1x80x128
def tabHi (g : Vec F S1x160 .f32) (t : FVec F S80x128 .f32) : FVec F S1x1x1x80x128 .f32 :=
  shapeCast S1x1x1x80x128 (mulf (extractStridedSlice S80x128 ![80, 0] (gainCols g) slices_S160x128_o80_0_S80x128) t) shapeCasts_S80x128_S1x1x1x80x128

/-- The normalised rows of a row block. -/
def normPay (x : Vec F S32x5120 .bf16) (nw : Vec F S1x5120 .f32) : FVec F S32x5120 .f32 :=
  mulf (mulf (extf .f32 x bitsLt_bf16_f32) (broadcastTo S32x5120
      (rsqrt (addf (mulf (shapeCast S32x1 (multiReduction .add [1] S32 (mulf (extf .f32 x bitsLt_bf16_f32) (extf .f32 x bitsLt_bf16_f32)) 0x00000000#32 reduces_S32x5120_S32 (.inl rfl) rfl) shapeCasts_S32_S32x1)
        (broadcast S32x1 (Named.named κ "inv_d" 0x394CCCCD#32))) (broadcast S32x1 (Scalar.ofBits .f32 0x3727C5AC#32)))) broadcasts_S32x1_S32x5120))
    (broadcastTo S32x5120 nw broadcasts_S1x5120_S32x5120)
/-- The greatest magnitude of each row, over 448, in every column. -/
def amaxPay (n : FVec F S32x5120 .f32) : FVec F S32x128 .f32 :=
  mulf (broadcastTo S32x128 (shapeCast S32x1 (shapeCast S32x1 (multiReduction .maximumf [1] S32 (absf n) 0xFF800000#32 reduces_S32x5120_S32 (.inl rfl) rfl) shapeCasts_S32_S32x1) shapeCasts_S32x1_S32x1) broadcasts_S32x1_S32x128)
    (broadcast S32x128 (Scalar.ofBits .f32 0x3B124925#32))
/-- A constant in every entry. -/
def bc (w : BitVec 32) : FVec F S32x128 .f32 := broadcast S32x128 (Scalar.ofBits .f32 w)
/-- Whether `v` reaches `sc` times `2^(k-1)`. -/
def above (v sc : FVec F S32x128 .f32) (c : BitVec 32) : IVec S32x128 1 := cmpf .oge v (mulf sc (bc c))
/-- One rung for the scale: `sc * 2^k` where `v` reaches `sc * 2^(k-1)`. -/
def rungS (v sc : FVec F S32x128 .f32) (c : BitVec 32) : FVec F S32x128 .f32 :=
  select (above v sc c) (mulf (mulf sc (bc c)) (bc 0x40000000#32)) sc
/-- The same rung for its reciprocal. -/
def rungI (v sc iv : FVec F S32x128 .f32) (c a b : BitVec 32) : FVec F S32x128 .f32 :=
  select (above v sc c) (mulf (mulf iv (bc a)) (bc b)) iv

def sc0 (v : FVec F S32x128 .f32) : FVec F S32x128 .f32 := bc 0x01000000#32
def iv0 (v : FVec F S32x128 .f32) : FVec F S32x128 .f32 := bc 0x7E000000#32
def sc1 (v : FVec F S32x128 .f32) : FVec F S32x128 .f32 := rungS v (sc0 v) 0x7F000000#32
def iv1 (v : FVec F S32x128 .f32) : FVec F S32x128 .f32 := rungI v (sc0 v) (iv0 v) 0x7F000000#32 0x1F800000#32 0x1F800000#32
def sc2 (v : FVec F S32x128 .f32) : FVec F S32x128 .f32 := rungS v (sc1 v) 0x5F000000#32
def iv2 (v : FVec F S32x128 .f32) : FVec F S32x128 .f32 := rungI v (sc1 v) (iv1 v) 0x5F000000#32 0x2F800000#32 0x2F800000#32
def sc3 (v : FVec F S32x128 .f32) : FVec F S32x128 .f32 := rungS v (sc2 v) 0x4F000000#32
def iv3 (v : FVec F S32x128 .f32) : FVec F S32x128 .f32 := rungI v (sc2 v) (iv2 v) 0x4F000000#32 0x37800000#32 0x37800000#32
def sc4 (v : FVec F S32x128 .f32) : FVec F S32x128 .f32 := rungS v (sc3 v) 0x47000000#32
def iv4 (v : FVec F S32x128 .f32) : FVec F S32x128 .f32 := rungI v (sc3 v) (iv3 v) 0x47000000#32 0x3B800000#32 0x3B800000#32
def sc5 (v : FVec F S32x128 .f32) : FVec F S32x128 .f32 := rungS v (sc4 v) 0x43000000#32
def iv5 (v : FVec F S32x128 .f32) : FVec F S32x128 .f32 := rungI v (sc4 v) (iv4 v) 0x43000000#32 0x3D800000#32 0x3D800000#32
def sc6 (v : FVec F S32x128 .f32) : FVec F S32x128 .f32 := rungS v (sc5 v) 0x41000000#32
def iv6 (v : FVec F S32x128 .f32) : FVec F S32x128 .f32 := rungI v (sc5 v) (iv5 v) 0x41000000#32 0x3E800000#32 0x3E800000#32
def sc7 (v : FVec F S32x128 .f32) : FVec F S32x128 .f32 := rungS v (sc6 v) 0x40000000#32
def iv7 (v : FVec F S32x128 .f32) : FVec F S32x128 .f32 := rungI v (sc6 v) (iv6 v) 0x40000000#32 0x3F000000#32 0x3F000000#32
def sc8 (v : FVec F S32x128 .f32) : FVec F S32x128 .f32 := rungS v (sc7 v) 0x3F800000#32
def iv8 (v : FVec F S32x128 .f32) : FVec F S32x128 .f32 := rungI v (sc7 v) (iv7 v) 0x3F800000#32 0x3F800000#32 0x3F000000#32
def isNormal (v : FVec F S32x128 .f32) : IVec S32x128 1 := andi (cmpf .oge v (bc 0x00800000#32)) (cmpf .ole v (bc 0x7F7FFFFF#32))
/-- The power-of-two scale of each row, and its reciprocal. -/
def scalePay (v : FVec F S32x128 .f32) : FVec F S32x128 .f32 := select (isNormal v) (sc8 v) (bc 0x3F800000#32)
def invPay (v : FVec F S32x128 .f32) : FVec F S32x128 .f32 := select (isNormal v) (iv8 v) (bc 0x3F800000#32)
/-- The codes of a row block. -/
def codesPay (x : Vec F S32x5120 .bf16) (nw : Vec F S1x5120 .f32) : FVec F S32x5120 .fp8e4m3 :=
  shapeCast S32x5120 (truncf .fp8e4m3 (minimumf (broadcast S32x5120 (Scalar.ofBits .f32 0x43E00000#32)) (maximumf (broadcast S32x5120 (Scalar.ofBits .f32 0xC3E00000#32))
    (mulf (normPay x nw) (broadcastTo S32x5120 (extractStridedSlice S32x1 ![0, 0] (invPay (amaxPay (normPay x nw))) slices_S32x128_o0_0_S32x1) broadcasts_S32x1_S32x5120)))) bitsLt_fp8e4m3_f32) shapeCasts_S32x5120_S32x5120
def scalesPay (x : Vec F S32x5120 .bf16) (nw : Vec F S1x5120 .f32) : FVec F S32x128 .f32 :=
  shapeCast S32x128 (scalePay (amaxPay (normPay x nw))) shapeCasts_S32x128_S32x128
/-- The scales of one batch row, as a row. -/
def xstPay (v : Vec F S128x128 .f32) : FVec F S1x128 .f32 :=
  shapeCast S1x128 (extractStridedSlice S1x128 ![0, 0] (transpose S128x128 [1, 0] v transposes_S128x128_p1_0_S128x128) slices_S128x128_o0_0_S1x128) shapeCasts_S1x128_S1x128

/-! ## The blocks -/

/-- One part of a chunk: wait for its weights, multiply, store both batch rows' halves. -/
def proj512 (o1 : Fin 2 → ℕ) (h1 : ∀ a, o1 a + S1x1.size a ≤ S7x3.size a) (o2 : Fin 2 → ℕ) (h2 : ∀ a, o2 a + S5120x512.size a ≤ S5120x8960.size a)
    (o3 : Fin 3 → ℕ) (h3 : ∀ a, o3 a + S1x5120x512.size a ≤ S7x5120x1280.size a) (w2 : (wHP512 o2 h2).view.WordExact) (w3 : (wVP512 o3 h3).view.WordExact)
    (o4 : Fin 3 → ℕ) (h4 : ∀ a, o4 a + S1x5120x512.size a ≤ S7x5120x1280.size a)
    (o5 : Fin 1 → ℕ) (h5 : ∀ a, o5 a + S512.size a ≤ S8960.size a) (o6 : Fin 4 → ℕ) (h6 : ∀ a, o6 a + S1x1x512x128.size a ≤ S2x2x1280x128.size a)
    (o7 : Fin 4 → ℕ) (h7 : ∀ a, o7 a + S1x1x512x128.size a ≤ S2x2x1280x128.size a) : KProg F PUnit := do
  Prog.lift (.waitDma2 (wSem o1 h1) (wHP512 o2 h2) (wVP512 o3 h3) w2 w3)
  let c : Vec F S256x5120 .fp8e4m3 ← Prog.lift (.load cV (Rect.unit (s := S256x5120) ![0, 0] S256x5120.size inb_S256x5120_S256x5120_0_0).toLoadRect (View.loadsAt_vmem h_S256x5120))
  let wt : Vec F S1x5120x512 .fp8e4m3 ← Prog.lift (.load wV (Rect.unit (s := S7x5120x1280) o4 S1x5120x512.size h4).toLoadRect (View.loadsAt_vmem h_S1x5120x512))
  let s : Vec F S512 .f32 ← Prog.lift (.load wsV (Rect.unit (s := S8960) o5 S512.size h5).toLoadRect (View.loadsAt_vmem h_S512))
  let xs : Vec F S256x1 .f32 ← Prog.lift (.load xsV (Rect.unit (s := S256x128) ![0, 0] S256x1.size inb_S256x128_S256x1_0_0).toLoadRect (View.loadsAt_vmem h_S256x1))
  let _ : Vec F S1x1x512x128 .f32 ← Prog.lift (.load ytV (Rect.unit (s := S2x2x1280x128) o6 S1x1x512x128.size h6).toLoadRect (View.loadsAt_vmem h_S1x1x512x128))
  Prog.lift (.store ytV (Rect.unit (s := S2x2x1280x128) o6 S1x1x512x128.size h6) (projPay512_0 c wt s xs) Finset.univ (View.stores_vmem_bits_univ h_S1x1x512x128 rfl) (.inl rfl))
  let _ : Vec F S1x1x512x128 .f32 ← Prog.lift (.load ytV (Rect.unit (s := S2x2x1280x128) o7 S1x1x512x128.size h7).toLoadRect (View.loadsAt_vmem h_S1x1x512x128))
  Prog.lift (.store ytV (Rect.unit (s := S2x2x1280x128) o7 S1x1x512x128.size h7) (projPay512_1 c wt s xs) Finset.univ (View.stores_vmem_bits_univ h_S1x1x512x128 rfl) (.inl rfl))

/-- One part of a chunk: wait for its weights, multiply, store both batch rows' halves. -/
def proj256 (o1 : Fin 2 → ℕ) (h1 : ∀ a, o1 a + S1x1.size a ≤ S7x3.size a) (o2 : Fin 2 → ℕ) (h2 : ∀ a, o2 a + S5120x256.size a ≤ S5120x8960.size a)
    (o3 : Fin 3 → ℕ) (h3 : ∀ a, o3 a + S1x5120x256.size a ≤ S7x5120x1280.size a) (w2 : (wHP256 o2 h2).view.WordExact) (w3 : (wVP256 o3 h3).view.WordExact)
    (o4 : Fin 3 → ℕ) (h4 : ∀ a, o4 a + S1x5120x256.size a ≤ S7x5120x1280.size a)
    (o5 : Fin 1 → ℕ) (h5 : ∀ a, o5 a + S256.size a ≤ S8960.size a) (o6 : Fin 4 → ℕ) (h6 : ∀ a, o6 a + S1x1x256x128.size a ≤ S2x2x1280x128.size a)
    (o7 : Fin 4 → ℕ) (h7 : ∀ a, o7 a + S1x1x256x128.size a ≤ S2x2x1280x128.size a) : KProg F PUnit := do
  Prog.lift (.waitDma2 (wSem o1 h1) (wHP256 o2 h2) (wVP256 o3 h3) w2 w3)
  let c : Vec F S256x5120 .fp8e4m3 ← Prog.lift (.load cV (Rect.unit (s := S256x5120) ![0, 0] S256x5120.size inb_S256x5120_S256x5120_0_0).toLoadRect (View.loadsAt_vmem h_S256x5120))
  let wt : Vec F S1x5120x256 .fp8e4m3 ← Prog.lift (.load wV (Rect.unit (s := S7x5120x1280) o4 S1x5120x256.size h4).toLoadRect (View.loadsAt_vmem h_S1x5120x256))
  let s : Vec F S256 .f32 ← Prog.lift (.load wsV (Rect.unit (s := S8960) o5 S256.size h5).toLoadRect (View.loadsAt_vmem h_S256))
  let xs : Vec F S256x1 .f32 ← Prog.lift (.load xsV (Rect.unit (s := S256x128) ![0, 0] S256x1.size inb_S256x128_S256x1_0_0).toLoadRect (View.loadsAt_vmem h_S256x1))
  let _ : Vec F S1x1x256x128 .f32 ← Prog.lift (.load ytV (Rect.unit (s := S2x2x1280x128) o6 S1x1x256x128.size h6).toLoadRect (View.loadsAt_vmem h_S1x1x256x128))
  Prog.lift (.store ytV (Rect.unit (s := S2x2x1280x128) o6 S1x1x256x128.size h6) (projPay256_0 c wt s xs) Finset.univ (View.stores_vmem_bits_univ h_S1x1x256x128 rfl) (.inl rfl))
  let _ : Vec F S1x1x256x128 .f32 ← Prog.lift (.load ytV (Rect.unit (s := S2x2x1280x128) o7 S1x1x256x128.size h7).toLoadRect (View.loadsAt_vmem h_S1x1x256x128))
  Prog.lift (.store ytV (Rect.unit (s := S2x2x1280x128) o7 S1x1x256x128.size h7) (projPay256_1 c wt s xs) Finset.univ (View.stores_vmem_bits_univ h_S1x1x256x128 rfl) (.inl rfl))

/-- One head of q, of one batch row: normalise, rotate, store both halves. -/
def qHead (kd b : ℕ) (t0 : ∀ a, (![kd, b, 0, 0, 0] : Fin 5 → ℕ) a + S1x1x1x80x128.size a ≤ S2x2x4x80x128.size a) (t1 : ∀ a, (![kd, b, 1, 0, 0] : Fin 5 → ℕ) a + S1x1x1x80x128.size a ≤ S2x2x4x80x128.size a) (t2 : ∀ a, (![kd, b, 2, 0, 0] : Fin 5 → ℕ) a + S1x1x1x80x128.size a ≤ S2x2x4x80x128.size a) (t3 : ∀ a, (![kd, b, 3, 0, 0] : Fin 5 → ℕ) a + S1x1x1x80x128.size a ≤ S2x2x4x80x128.size a)
    (o1 : Fin 4 → ℕ) (h1 : ∀ a, o1 a + S1x1x160x128.size a ≤ S2x2x1280x128.size a) (o2 : Fin 4 → ℕ) (h2 : ∀ a, o2 a + S1x1x80x128.size a ≤ S2x40x160x128.size a)
    (o3 : Fin 4 → ℕ) (h3 : ∀ a, o3 a + S1x1x80x128.size a ≤ S2x40x160x128.size a)
    (p2 : (Rect.unit (s := S2x40x160x128) o2 S1x1x80x128.size h2).PackedRows (EltTy.packing .bf16)) (p3 : (Rect.unit (s := S2x40x160x128) o3 S1x1x80x128.size h3).PackedRows (EltTy.packing .bf16)) : KProg F PUnit := do
  let y : Vec F S1x1x160x128 .f32 ← Prog.lift (.load ytV (Rect.unit (s := S2x2x1280x128) o1 S1x1x160x128.size h1).toLoadRect (View.loadsAt_vmem h_S1x1x160x128))
  let a0 : Vec F S1x1x1x80x128 .f32 ← Prog.lift (.load tabV (Rect.unit (s := S2x2x4x80x128) ![kd, b, 0, 0, 0] S1x1x1x80x128.size t0).toLoadRect (View.loadsAt_vmem h_S1x1x1x80x128))
  let a1 : Vec F S1x1x1x80x128 .f32 ← Prog.lift (.load tabV (Rect.unit (s := S2x2x4x80x128) ![kd, b, 1, 0, 0] S1x1x1x80x128.size t1).toLoadRect (View.loadsAt_vmem h_S1x1x1x80x128))
  let a2 : Vec F S1x1x1x80x128 .f32 ← Prog.lift (.load tabV (Rect.unit (s := S2x2x4x80x128) ![kd, b, 2, 0, 0] S1x1x1x80x128.size t2).toLoadRect (View.loadsAt_vmem h_S1x1x1x80x128))
  let a3 : Vec F S1x1x1x80x128 .f32 ← Prog.lift (.load tabV (Rect.unit (s := S2x2x4x80x128) ![kd, b, 3, 0, 0] S1x1x1x80x128.size t3).toLoadRect (View.loadsAt_vmem h_S1x1x1x80x128))
  let _ : Vec F S1x1x80x128 .bf16 ← Prog.lift (.load qV (Rect.unit (s := S2x40x160x128) o2 S1x1x80x128.size h2).toLoadRect (View.loadsAt_vmem h_S1x1x80x128))
  Prog.lift (.store qV (Rect.unit (s := S2x40x160x128) o2 S1x1x80x128.size h2) (rotLoPay y a0 a1) Finset.univ (View.stores_vmem h_S1x1x80x128 ((Memref.isWhole_whole cc0_scratch13).storeExact_slice rfl _ p2) (fun _ => rfl)) (.inl rfl))
  let _ : Vec F S1x1x80x128 .bf16 ← Prog.lift (.load qV (Rect.unit (s := S2x40x160x128) o3 S1x1x80x128.size h3).toLoadRect (View.loadsAt_vmem h_S1x1x80x128))
  Prog.lift (.store qV (Rect.unit (s := S2x40x160x128) o3 S1x1x80x128.size h3) (rotHiPay y a2 a3) Finset.univ (View.stores_vmem h_S1x1x80x128 ((Memref.isWhole_whole cc0_scratch13).storeExact_slice rfl _ p3) (fun _ => rfl)) (.inl rfl))

/-- One head of k, of one batch row: normalise, rotate, store both halves. -/
def kHead (kd b : ℕ) (t0 : ∀ a, (![kd, b, 0, 0, 0] : Fin 5 → ℕ) a + S1x1x1x80x128.size a ≤ S2x2x4x80x128.size a) (t1 : ∀ a, (![kd, b, 1, 0, 0] : Fin 5 → ℕ) a + S1x1x1x80x128.size a ≤ S2x2x4x80x128.size a) (t2 : ∀ a, (![kd, b, 2, 0, 0] : Fin 5 → ℕ) a + S1x1x1x80x128.size a ≤ S2x2x4x80x128.size a) (t3 : ∀ a, (![kd, b, 3, 0, 0] : Fin 5 → ℕ) a + S1x1x1x80x128.size a ≤ S2x2x4x80x128.size a)
    (o1 : Fin 4 → ℕ) (h1 : ∀ a, o1 a + S1x1x160x128.size a ≤ S2x2x1280x128.size a) (o2 : Fin 4 → ℕ) (h2 : ∀ a, o2 a + S1x1x80x128.size a ≤ S2x8x160x128.size a)
    (o3 : Fin 4 → ℕ) (h3 : ∀ a, o3 a + S1x1x80x128.size a ≤ S2x8x160x128.size a)
    (p2 : (Rect.unit (s := S2x8x160x128) o2 S1x1x80x128.size h2).PackedRows (EltTy.packing .bf16)) (p3 : (Rect.unit (s := S2x8x160x128) o3 S1x1x80x128.size h3).PackedRows (EltTy.packing .bf16)) : KProg F PUnit := do
  let y : Vec F S1x1x160x128 .f32 ← Prog.lift (.load ytV (Rect.unit (s := S2x2x1280x128) o1 S1x1x160x128.size h1).toLoadRect (View.loadsAt_vmem h_S1x1x160x128))
  let a0 : Vec F S1x1x1x80x128 .f32 ← Prog.lift (.load tabV (Rect.unit (s := S2x2x4x80x128) ![kd, b, 0, 0, 0] S1x1x1x80x128.size t0).toLoadRect (View.loadsAt_vmem h_S1x1x1x80x128))
  let a1 : Vec F S1x1x1x80x128 .f32 ← Prog.lift (.load tabV (Rect.unit (s := S2x2x4x80x128) ![kd, b, 1, 0, 0] S1x1x1x80x128.size t1).toLoadRect (View.loadsAt_vmem h_S1x1x1x80x128))
  let a2 : Vec F S1x1x1x80x128 .f32 ← Prog.lift (.load tabV (Rect.unit (s := S2x2x4x80x128) ![kd, b, 2, 0, 0] S1x1x1x80x128.size t2).toLoadRect (View.loadsAt_vmem h_S1x1x1x80x128))
  let a3 : Vec F S1x1x1x80x128 .f32 ← Prog.lift (.load tabV (Rect.unit (s := S2x2x4x80x128) ![kd, b, 3, 0, 0] S1x1x1x80x128.size t3).toLoadRect (View.loadsAt_vmem h_S1x1x1x80x128))
  let _ : Vec F S1x1x80x128 .bf16 ← Prog.lift (.load kV (Rect.unit (s := S2x8x160x128) o2 S1x1x80x128.size h2).toLoadRect (View.loadsAt_vmem h_S1x1x80x128))
  Prog.lift (.store kV (Rect.unit (s := S2x8x160x128) o2 S1x1x80x128.size h2) (rotLoPay y a0 a1) Finset.univ (View.stores_vmem h_S1x1x80x128 ((Memref.isWhole_whole cc0_scratch14).storeExact_slice rfl _ p2) (fun _ => rfl)) (.inl rfl))
  let _ : Vec F S1x1x80x128 .bf16 ← Prog.lift (.load kV (Rect.unit (s := S2x8x160x128) o3 S1x1x80x128.size h3).toLoadRect (View.loadsAt_vmem h_S1x1x80x128))
  Prog.lift (.store kV (Rect.unit (s := S2x8x160x128) o3 S1x1x80x128.size h3) (rotHiPay y a2 a3) Finset.univ (View.stores_vmem h_S1x1x80x128 ((Memref.isWhole_whole cc0_scratch14).storeExact_slice rfl _ p3) (fun _ => rfl)) (.inl rfl))

/-- One head of v, of one batch row. -/
def vHead (o1 : Fin 4 → ℕ) (h1 : ∀ a, o1 a + S1x1x160x128.size a ≤ S2x2x1280x128.size a) (o2 : Fin 4 → ℕ) (h2 : ∀ a, o2 a + S1x1x160x128.size a ≤ S2x8x160x128.size a)
    (p2 : (Rect.unit (s := S2x8x160x128) o2 S1x1x160x128.size h2).PackedRows (EltTy.packing .bf16)) : KProg F PUnit := do
  let y : Vec F S1x1x160x128 .f32 ← Prog.lift (.load ytV (Rect.unit (s := S2x2x1280x128) o1 S1x1x160x128.size h1).toLoadRect (View.loadsAt_vmem h_S1x1x160x128))
  let _ : Vec F S1x1x160x128 .bf16 ← Prog.lift (.load vV (Rect.unit (s := S2x8x160x128) o2 S1x1x160x128.size h2).toLoadRect (View.loadsAt_vmem h_S1x1x160x128))
  Prog.lift (.store vV (Rect.unit (s := S2x8x160x128) o2 S1x1x160x128.size h2) (vPay y) Finset.univ (View.stores_vmem h_S1x1x160x128 ((Memref.isWhole_whole cc0_scratch15).storeExact_slice rfl _ p2) (fun _ => rfl)) (.inl rfl))

/-- One row block: wait for its rows, normalise, quantise, store the codes and the scales. -/
def rowBlk (o0 : Fin 1 → ℕ) (h0 : ∀ a, o0 a + S1.size a ≤ S8.size a) (o : Fin 2 → ℕ) (h : ∀ a, o a + S32x5120.size a ≤ S256x5120.size a) (h' : ∀ a, o a + S32x128.size a ≤ S256x128.size a)
    (w1 : (xHP o h).view.WordExact) (w2 : (xVP o h).view.WordExact)
    (p : (Rect.unit (s := S256x5120) o S32x5120.size h).PackedRows (EltTy.packing .fp8e4m3)) : KProg F PUnit := do
  Prog.lift (.waitDma2 (xSem o0 h0) (xHP o h) (xVP o h) w1 w2)
  let x : Vec F S32x5120 .bf16 ← Prog.lift (.load xV (Rect.unit (s := S256x5120) o S32x5120.size h).toLoadRect (View.loadsAt_vmem h_S32x5120))
  let nw : Vec F S1x5120 .f32 ← Prog.lift (.load nwV (Rect.unit (s := S1x5120) ![0, 0] S1x5120.size inb_S1x5120_S1x5120_0_0).toLoadRect (View.loadsAt_vmem h_S1x5120))
  let _ : Vec F S32x5120 .fp8e4m3 ← Prog.lift (.load cV (Rect.unit (s := S256x5120) o S32x5120.size h).toLoadRect (View.loadsAt_vmem h_S32x5120))
  Prog.lift (.store cV (Rect.unit (s := S256x5120) o S32x5120.size h) (codesPay x nw) Finset.univ (View.stores_vmem h_S32x5120 ((Memref.isWhole_whole cc0_scratch8).storeExact_slice rfl _ p) (fun _ => rfl)) (.inl rfl))
  let _ : Vec F S32x128 .f32 ← Prog.lift (.load xsV (Rect.unit (s := S256x128) o S32x128.size h').toLoadRect (View.loadsAt_vmem h_S32x128))
  Prog.lift (.store xsV (Rect.unit (s := S256x128) o S32x128.size h') (scalesPay x nw) Finset.univ (View.stores_vmem_bits_univ h_S32x128 rfl) (.inl rfl))

/-- One batch row's scales, laid out as a row. -/
def xstBlk (o : Fin 2 → ℕ) (h : ∀ a, o a + S128x128.size a ≤ S256x128.size a) (o' : Fin 2 → ℕ) (h' : ∀ a, o' a + S1x128.size a ≤ S2x128.size a) : KProg F PUnit := do
  let v : Vec F S128x128 .f32 ← Prog.lift (.load xsV (Rect.unit (s := S256x128) o S128x128.size h).toLoadRect (View.loadsAt_vmem h_S128x128))
  let _ : Vec F S1x128 .f32 ← Prog.lift (.load xstV (Rect.unit (s := S2x128) o' S1x128.size h').toLoadRect (View.loadsAt_vmem h_S1x128))
  Prog.lift (.store xstV (Rect.unit (s := S2x128) o' S1x128.size h') (xstPay v) Finset.univ (View.stores_vmem_bits_univ h_S1x128 rfl) (.inl rfl))

/-- One table stored. -/
def tabPut (o : Fin 5 → ℕ) (h : ∀ a, o a + S1x1x1x80x128.size a ≤ S2x2x4x80x128.size a) (w : FVec F S1x1x1x80x128 .f32) : KProg F PUnit := do
  let _ : Vec F S1x1x1x80x128 .f32 ← Prog.lift (.load tabV (Rect.unit (s := S2x2x4x80x128) o S1x1x1x80x128.size h).toLoadRect (View.loadsAt_vmem h_S1x1x1x80x128))
  Prog.lift (.store tabV (Rect.unit (s := S2x2x4x80x128) o S1x1x1x80x128.size h) w Finset.univ (View.stores_vmem_bits_univ h_S1x1x1x80x128 rfl) (.inl rfl))

/-- The tables: gains times cosine and sine, for q and for k, for both batch rows. -/
def tables : KProg F PUnit := do
  let qg : Vec F S1x160 .f32 ← Prog.lift (.load qgV (Rect.unit (s := S1x160) ![0, 0] S1x160.size inb_S1x160_S1x160_0_0).toLoadRect (View.loadsAt_vmem h_S1x160))
  let kg : Vec F S1x160 .f32 ← Prog.lift (.load kgV (Rect.unit (s := S1x160) ![0, 0] S1x160.size inb_S1x160_S1x160_0_0).toLoadRect (View.loadsAt_vmem h_S1x160))
  let p0 : Vec F S1x128 .i32 ← Prog.lift (.load posV (Rect.unit (s := S2x128) ![0, 0] S1x128.size inb_S2x128_S1x128_0_0).toLoadRect (View.loadsAt_vmem h_S1x128))
  let f0 : Vec F S80x128 .f32 ← Prog.lift (.load invfV (Rect.unit (s := S80x128) ![0, 0] S80x128.size inb_S80x128_S80x128_0_0).toLoadRect (View.loadsAt_vmem h_S80x128))
  tabPut ![0, 0, 0, 0, 0] inb_S2x2x4x80x128_S1x1x1x80x128_0_0_0_0_0 (tabLo qg (cos (angles p0 f0)))
  tabPut ![0, 0, 1, 0, 0] inb_S2x2x4x80x128_S1x1x1x80x128_0_0_1_0_0 (tabHi qg (sin (angles p0 f0)))
  tabPut ![0, 0, 2, 0, 0] inb_S2x2x4x80x128_S1x1x1x80x128_0_0_2_0_0 (tabHi qg (cos (angles p0 f0)))
  tabPut ![0, 0, 3, 0, 0] inb_S2x2x4x80x128_S1x1x1x80x128_0_0_3_0_0 (tabLo qg (sin (angles p0 f0)))
  tabPut ![1, 0, 0, 0, 0] inb_S2x2x4x80x128_S1x1x1x80x128_1_0_0_0_0 (tabLo kg (cos (angles p0 f0)))
  tabPut ![1, 0, 1, 0, 0] inb_S2x2x4x80x128_S1x1x1x80x128_1_0_1_0_0 (tabHi kg (sin (angles p0 f0)))
  tabPut ![1, 0, 2, 0, 0] inb_S2x2x4x80x128_S1x1x1x80x128_1_0_2_0_0 (tabHi kg (cos (angles p0 f0)))
  tabPut ![1, 0, 3, 0, 0] inb_S2x2x4x80x128_S1x1x1x80x128_1_0_3_0_0 (tabLo kg (sin (angles p0 f0)))
  let p1 : Vec F S1x128 .i32 ← Prog.lift (.load posV (Rect.unit (s := S2x128) ![1, 0] S1x128.size inb_S2x128_S1x128_1_0).toLoadRect (View.loadsAt_vmem h_S1x128))
  let f1 : Vec F S80x128 .f32 ← Prog.lift (.load invfV (Rect.unit (s := S80x128) ![0, 0] S80x128.size inb_S80x128_S80x128_0_0).toLoadRect (View.loadsAt_vmem h_S80x128))
  tabPut ![0, 1, 0, 0, 0] inb_S2x2x4x80x128_S1x1x1x80x128_0_1_0_0_0 (tabLo qg (cos (angles p1 f1)))
  tabPut ![0, 1, 1, 0, 0] inb_S2x2x4x80x128_S1x1x1x80x128_0_1_1_0_0 (tabHi qg (sin (angles p1 f1)))
  tabPut ![0, 1, 2, 0, 0] inb_S2x2x4x80x128_S1x1x1x80x128_0_1_2_0_0 (tabHi qg (cos (angles p1 f1)))
  tabPut ![0, 1, 3, 0, 0] inb_S2x2x4x80x128_S1x1x1x80x128_0_1_3_0_0 (tabLo qg (sin (angles p1 f1)))
  tabPut ![1, 1, 0, 0, 0] inb_S2x2x4x80x128_S1x1x1x80x128_1_1_0_0_0 (tabLo kg (cos (angles p1 f1)))
  tabPut ![1, 1, 1, 0, 0] inb_S2x2x4x80x128_S1x1x1x80x128_1_1_1_0_0 (tabHi kg (sin (angles p1 f1)))
  tabPut ![1, 1, 2, 0, 0] inb_S2x2x4x80x128_S1x1x1x80x128_1_1_2_0_0 (tabHi kg (cos (angles p1 f1)))
  tabPut ![1, 1, 3, 0, 0] inb_S2x2x4x80x128_S1x1x1x80x128_1_1_3_0_0 (tabLo kg (sin (angles p1 f1)))

/-- Part 0 of a trip: project part 0 of the current chunk, finish the heads of the chunk before that pair with it. -/
def trip0 (k : Fin k0_t1_loop.trips) : KProg F PUnit := do
  proj512 (k0_off1 k) (k0_off1_inb k) (k0_off3 k 0#32) (k0_off3_inb k 0) (k0_off2 k) (k0_off2_inb k) ((Memref.isWhole_whole main_arg2).wordExact_slice rfl _ (k0_off3_wordsfp8e4m3 k 0)) (((Memref.isWhole_whole cc0_scratch2).wordExact_slice rfl _ (k0_off2_wordsfp8e4m3 k)).reshape _ _) (k0_off4 k) (k0_off4_inb k) (k0_off5 k 0#32) (k0_off5_inb k 0) (k0_off6 k) (k0_off6_inb k) (k0_off7 k) (k0_off7_inb k)
  qHead 0 0 inb_S2x2x4x80x128_S1x1x1x80x128_0_0_0_0_0 inb_S2x2x4x80x128_S1x1x1x80x128_0_0_1_0_0 inb_S2x2x4x80x128_S1x1x1x80x128_0_0_2_0_0 inb_S2x2x4x80x128_S1x1x1x80x128_0_0_3_0_0 (k0_off8 k) (k0_off8_inb k) (k0_off9 k 0#32) (k0_off9_inb k 0) (k0_off10 k 0#32) (k0_off10_inb k 0) (k0_off9_packedbf16 k 0) (k0_off10_packedbf16 k 0)
  qHead 0 1 inb_S2x2x4x80x128_S1x1x1x80x128_0_1_0_0_0 inb_S2x2x4x80x128_S1x1x1x80x128_0_1_1_0_0 inb_S2x2x4x80x128_S1x1x1x80x128_0_1_2_0_0 inb_S2x2x4x80x128_S1x1x1x80x128_0_1_3_0_0 (k0_off11 k) (k0_off11_inb k) (k0_off12 k 0#32) (k0_off12_inb k 0) (k0_off13 k 0#32) (k0_off13_inb k 0) (k0_off12_packedbf16 k 0) (k0_off13_packedbf16 k 0)
  qHead 0 0 inb_S2x2x4x80x128_S1x1x1x80x128_0_0_0_0_0 inb_S2x2x4x80x128_S1x1x1x80x128_0_0_1_0_0 inb_S2x2x4x80x128_S1x1x1x80x128_0_0_2_0_0 inb_S2x2x4x80x128_S1x1x1x80x128_0_0_3_0_0 (k0_off14 k) (k0_off14_inb k) (k0_off9 k 1#32) (k0_off9_inb k 1) (k0_off10 k 1#32) (k0_off10_inb k 1) (k0_off9_packedbf16 k 1) (k0_off10_packedbf16 k 1)
  qHead 0 1 inb_S2x2x4x80x128_S1x1x1x80x128_0_1_0_0_0 inb_S2x2x4x80x128_S1x1x1x80x128_0_1_1_0_0 inb_S2x2x4x80x128_S1x1x1x80x128_0_1_2_0_0 inb_S2x2x4x80x128_S1x1x1x80x128_0_1_3_0_0 (k0_off15 k) (k0_off15_inb k) (k0_off12 k 1#32) (k0_off12_inb k 1) (k0_off13 k 1#32) (k0_off13_inb k 1) (k0_off12_packedbf16 k 1) (k0_off13_packedbf16 k 1)
  qHead 0 0 inb_S2x2x4x80x128_S1x1x1x80x128_0_0_0_0_0 inb_S2x2x4x80x128_S1x1x1x80x128_0_0_1_0_0 inb_S2x2x4x80x128_S1x1x1x80x128_0_0_2_0_0 inb_S2x2x4x80x128_S1x1x1x80x128_0_0_3_0_0 (k0_off16 k) (k0_off16_inb k) (k0_off9 k 2#32) (k0_off9_inb k 2) (k0_off10 k 2#32) (k0_off10_inb k 2) (k0_off9_packedbf16 k 2) (k0_off10_packedbf16 k 2)
  qHead 0 1 inb_S2x2x4x80x128_S1x1x1x80x128_0_1_0_0_0 inb_S2x2x4x80x128_S1x1x1x80x128_0_1_1_0_0 inb_S2x2x4x80x128_S1x1x1x80x128_0_1_2_0_0 inb_S2x2x4x80x128_S1x1x1x80x128_0_1_3_0_0 (k0_off17 k) (k0_off17_inb k) (k0_off12 k 2#32) (k0_off12_inb k 2) (k0_off13 k 2#32) (k0_off13_inb k 2) (k0_off12_packedbf16 k 2) (k0_off13_packedbf16 k 2)
/-- Part 1 of a trip: project part 1 of the current chunk, finish the heads of the chunk before that pair with it. -/
def trip1 (k : Fin k0_t1_loop.trips) : KProg F PUnit := do
  proj512 (k0_off18 k) (k0_off18_inb k) (k0_off3 k 512#32) (k0_off3_inb k 1) (k0_off19 k) (k0_off19_inb k) ((Memref.isWhole_whole main_arg2).wordExact_slice rfl _ (k0_off3_wordsfp8e4m3 k 1)) (((Memref.isWhole_whole cc0_scratch2).wordExact_slice rfl _ (k0_off19_wordsfp8e4m3 k)).reshape _ _) (k0_off20 k) (k0_off20_inb k) (k0_off5 k 512#32) (k0_off5_inb k 1) (k0_off21 k) (k0_off21_inb k) (k0_off22 k) (k0_off22_inb k)
  qHead 0 0 inb_S2x2x4x80x128_S1x1x1x80x128_0_0_0_0_0 inb_S2x2x4x80x128_S1x1x1x80x128_0_0_1_0_0 inb_S2x2x4x80x128_S1x1x1x80x128_0_0_2_0_0 inb_S2x2x4x80x128_S1x1x1x80x128_0_0_3_0_0 (k0_off23 k) (k0_off23_inb k) (k0_off9 k 3#32) (k0_off9_inb k 3) (k0_off10 k 3#32) (k0_off10_inb k 3) (k0_off9_packedbf16 k 3) (k0_off10_packedbf16 k 3)
  qHead 0 1 inb_S2x2x4x80x128_S1x1x1x80x128_0_1_0_0_0 inb_S2x2x4x80x128_S1x1x1x80x128_0_1_1_0_0 inb_S2x2x4x80x128_S1x1x1x80x128_0_1_2_0_0 inb_S2x2x4x80x128_S1x1x1x80x128_0_1_3_0_0 (k0_off24 k) (k0_off24_inb k) (k0_off12 k 3#32) (k0_off12_inb k 3) (k0_off13 k 3#32) (k0_off13_inb k 3) (k0_off12_packedbf16 k 3) (k0_off13_packedbf16 k 3)
  qHead 0 0 inb_S2x2x4x80x128_S1x1x1x80x128_0_0_0_0_0 inb_S2x2x4x80x128_S1x1x1x80x128_0_0_1_0_0 inb_S2x2x4x80x128_S1x1x1x80x128_0_0_2_0_0 inb_S2x2x4x80x128_S1x1x1x80x128_0_0_3_0_0 (k0_off25 k) (k0_off25_inb k) (k0_off9 k 4#32) (k0_off9_inb k 4) (k0_off10 k 4#32) (k0_off10_inb k 4) (k0_off9_packedbf16 k 4) (k0_off10_packedbf16 k 4)
  qHead 0 1 inb_S2x2x4x80x128_S1x1x1x80x128_0_1_0_0_0 inb_S2x2x4x80x128_S1x1x1x80x128_0_1_1_0_0 inb_S2x2x4x80x128_S1x1x1x80x128_0_1_2_0_0 inb_S2x2x4x80x128_S1x1x1x80x128_0_1_3_0_0 (k0_off26 k) (k0_off26_inb k) (k0_off12 k 4#32) (k0_off12_inb k 4) (k0_off13 k 4#32) (k0_off13_inb k 4) (k0_off12_packedbf16 k 4) (k0_off13_packedbf16 k 4)
  qHead 0 0 inb_S2x2x4x80x128_S1x1x1x80x128_0_0_0_0_0 inb_S2x2x4x80x128_S1x1x1x80x128_0_0_1_0_0 inb_S2x2x4x80x128_S1x1x1x80x128_0_0_2_0_0 inb_S2x2x4x80x128_S1x1x1x80x128_0_0_3_0_0 (k0_off27 k) (k0_off27_inb k) (k0_off9 k 5#32) (k0_off9_inb k 5) (k0_off10 k 5#32) (k0_off10_inb k 5) (k0_off9_packedbf16 k 5) (k0_off10_packedbf16 k 5)
  qHead 0 1 inb_S2x2x4x80x128_S1x1x1x80x128_0_1_0_0_0 inb_S2x2x4x80x128_S1x1x1x80x128_0_1_1_0_0 inb_S2x2x4x80x128_S1x1x1x80x128_0_1_2_0_0 inb_S2x2x4x80x128_S1x1x1x80x128_0_1_3_0_0 (k0_off28 k) (k0_off28_inb k) (k0_off12 k 5#32) (k0_off12_inb k 5) (k0_off13 k 5#32) (k0_off13_inb k 5) (k0_off12_packedbf16 k 5) (k0_off13_packedbf16 k 5)
/-- Part 2 of a trip: project part 2 of the current chunk, finish the heads of the chunk before that pair with it. -/
def trip2 (k : Fin k0_t1_loop.trips) : KProg F PUnit := do
  proj256 (k0_off29 k) (k0_off29_inb k) (k0_off31 k) (k0_off31_inb k) (k0_off30 k) (k0_off30_inb k) ((Memref.isWhole_whole main_arg2).wordExact_slice rfl _ (k0_off31_wordsfp8e4m3 k)) (((Memref.isWhole_whole cc0_scratch2).wordExact_slice rfl _ (k0_off30_wordsfp8e4m3 k)).reshape _ _) (k0_off32 k) (k0_off32_inb k) (k0_off33 k) (k0_off33_inb k) (k0_off34 k) (k0_off34_inb k) (k0_off35 k) (k0_off35_inb k)
  qHead 0 0 inb_S2x2x4x80x128_S1x1x1x80x128_0_0_0_0_0 inb_S2x2x4x80x128_S1x1x1x80x128_0_0_1_0_0 inb_S2x2x4x80x128_S1x1x1x80x128_0_0_2_0_0 inb_S2x2x4x80x128_S1x1x1x80x128_0_0_3_0_0 (k0_off36 k) (k0_off36_inb k) (k0_off9 k 6#32) (k0_off9_inb k 6) (k0_off10 k 6#32) (k0_off10_inb k 6) (k0_off9_packedbf16 k 6) (k0_off10_packedbf16 k 6)
  qHead 0 1 inb_S2x2x4x80x128_S1x1x1x80x128_0_1_0_0_0 inb_S2x2x4x80x128_S1x1x1x80x128_0_1_1_0_0 inb_S2x2x4x80x128_S1x1x1x80x128_0_1_2_0_0 inb_S2x2x4x80x128_S1x1x1x80x128_0_1_3_0_0 (k0_off37 k) (k0_off37_inb k) (k0_off12 k 6#32) (k0_off12_inb k 6) (k0_off13 k 6#32) (k0_off13_inb k 6) (k0_off12_packedbf16 k 6) (k0_off13_packedbf16 k 6)
  qHead 0 0 inb_S2x2x4x80x128_S1x1x1x80x128_0_0_0_0_0 inb_S2x2x4x80x128_S1x1x1x80x128_0_0_1_0_0 inb_S2x2x4x80x128_S1x1x1x80x128_0_0_2_0_0 inb_S2x2x4x80x128_S1x1x1x80x128_0_0_3_0_0 (k0_off38 k) (k0_off38_inb k) (k0_off9 k 7#32) (k0_off9_inb k 7) (k0_off10 k 7#32) (k0_off10_inb k 7) (k0_off9_packedbf16 k 7) (k0_off10_packedbf16 k 7)
  qHead 0 1 inb_S2x2x4x80x128_S1x1x1x80x128_0_1_0_0_0 inb_S2x2x4x80x128_S1x1x1x80x128_0_1_1_0_0 inb_S2x2x4x80x128_S1x1x1x80x128_0_1_2_0_0 inb_S2x2x4x80x128_S1x1x1x80x128_0_1_3_0_0 (k0_off39 k) (k0_off39_inb k) (k0_off12 k 7#32) (k0_off12_inb k 7) (k0_off13 k 7#32) (k0_off13_inb k 7) (k0_off12_packedbf16 k 7) (k0_off13_packedbf16 k 7)

/-- A trip of the loop. -/
def trip (k : Fin k0_t1_loop.trips) : KProg F PUnit := do
  trip0 k
  trip1 k
  trip2 k
  Prog.lift (.enqueueDma (qVP (k0_off41 k) (k0_off41_inb k)) (.here (qHP (k0_off41 k) (k0_off41_inb k))) (.dma (oSem (k0_off40 k) (k0_off40_inb k)))
    ((Memref.isWhole_whole cc0_scratch13).wordExact_slice rfl _ (k0_off41_wordsbf16 k)) ((Memref.isWhole_whole main_v4_0).wordExact_slice rfl _ (k0_off41_wordsbf16 k)) ⟨Or.inl rfl, trivial⟩)

/-- Start every copy in. -/
def startSmall : KProg F PUnit := do
  Prog.lift (.enqueueDma posH (.here posV) (.dma (pSem ![0] inb_S6_S1_0)) (Memref.isWhole_whole main_arg6).wordExact (Memref.isWhole_whole cc0_scratch6).wordExact ⟨Or.inl rfl, trivial⟩)
  Prog.lift (.enqueueDma invfH (.here invfV) (.dma (pSem ![1] inb_S6_S1_1)) (Memref.isWhole_whole main_cst).wordExact (Memref.isWhole_whole cc0_scratch7).wordExact ⟨Or.inl rfl, trivial⟩)
  Prog.lift (.enqueueDma qgH (.here qgV) (.dma (pSem ![2] inb_S6_S1_2)) (Memref.isWhole_whole main_v2).wordExact (Memref.isWhole_whole cc0_scratch4).wordExact ⟨Or.inl rfl, trivial⟩)
  Prog.lift (.enqueueDma kgH (.here kgV) (.dma (pSem ![3] inb_S6_S1_3)) (Memref.isWhole_whole main_v3).wordExact (Memref.isWhole_whole cc0_scratch5).wordExact ⟨Or.inl rfl, trivial⟩)
  Prog.lift (.enqueueDma nwH (.here nwV) (.dma (pSem ![4] inb_S6_S1_4)) (Memref.isWhole_whole main_v1).wordExact (Memref.isWhole_whole cc0_scratch1).wordExact ⟨Or.inl rfl, trivial⟩)
  Prog.lift (.enqueueDma wsH (.here wsV) (.dma (pSem ![5] inb_S6_S1_5)) (Memref.isWhole_whole main_arg3).wordExact (Memref.isWhole_whole cc0_scratch3).wordExact ⟨Or.inl rfl, trivial⟩)

def startX : KProg F PUnit := do
  Prog.lift (.enqueueDma (xHP ![0, 0] inb_S256x5120_S32x5120_0_0) (.here (xVP ![0, 0] inb_S256x5120_S32x5120_0_0)) (.dma (xSem ![0] inb_S8_S1_0)) ((Memref.isWhole_whole main_v0).wordExact_slice rfl _ wordsbf16_S256x5120_S32x5120_0_0) ((Memref.isWhole_whole cc0_scratch0).wordExact_slice rfl _ wordsbf16_S256x5120_S32x5120_0_0) ⟨Or.inl rfl, trivial⟩)
  Prog.lift (.enqueueDma (xHP ![32, 0] inb_S256x5120_S32x5120_32_0) (.here (xVP ![32, 0] inb_S256x5120_S32x5120_32_0)) (.dma (xSem ![1] inb_S8_S1_1)) ((Memref.isWhole_whole main_v0).wordExact_slice rfl _ wordsbf16_S256x5120_S32x5120_32_0) ((Memref.isWhole_whole cc0_scratch0).wordExact_slice rfl _ wordsbf16_S256x5120_S32x5120_32_0) ⟨Or.inl rfl, trivial⟩)
  Prog.lift (.enqueueDma (xHP ![64, 0] inb_S256x5120_S32x5120_64_0) (.here (xVP ![64, 0] inb_S256x5120_S32x5120_64_0)) (.dma (xSem ![2] inb_S8_S1_2)) ((Memref.isWhole_whole main_v0).wordExact_slice rfl _ wordsbf16_S256x5120_S32x5120_64_0) ((Memref.isWhole_whole cc0_scratch0).wordExact_slice rfl _ wordsbf16_S256x5120_S32x5120_64_0) ⟨Or.inl rfl, trivial⟩)
  Prog.lift (.enqueueDma (xHP ![96, 0] inb_S256x5120_S32x5120_96_0) (.here (xVP ![96, 0] inb_S256x5120_S32x5120_96_0)) (.dma (xSem ![3] inb_S8_S1_3)) ((Memref.isWhole_whole main_v0).wordExact_slice rfl _ wordsbf16_S256x5120_S32x5120_96_0) ((Memref.isWhole_whole cc0_scratch0).wordExact_slice rfl _ wordsbf16_S256x5120_S32x5120_96_0) ⟨Or.inl rfl, trivial⟩)
  Prog.lift (.enqueueDma (xHP ![128, 0] inb_S256x5120_S32x5120_128_0) (.here (xVP ![128, 0] inb_S256x5120_S32x5120_128_0)) (.dma (xSem ![4] inb_S8_S1_4)) ((Memref.isWhole_whole main_v0).wordExact_slice rfl _ wordsbf16_S256x5120_S32x5120_128_0) ((Memref.isWhole_whole cc0_scratch0).wordExact_slice rfl _ wordsbf16_S256x5120_S32x5120_128_0) ⟨Or.inl rfl, trivial⟩)
  Prog.lift (.enqueueDma (xHP ![160, 0] inb_S256x5120_S32x5120_160_0) (.here (xVP ![160, 0] inb_S256x5120_S32x5120_160_0)) (.dma (xSem ![5] inb_S8_S1_5)) ((Memref.isWhole_whole main_v0).wordExact_slice rfl _ wordsbf16_S256x5120_S32x5120_160_0) ((Memref.isWhole_whole cc0_scratch0).wordExact_slice rfl _ wordsbf16_S256x5120_S32x5120_160_0) ⟨Or.inl rfl, trivial⟩)
  Prog.lift (.enqueueDma (xHP ![192, 0] inb_S256x5120_S32x5120_192_0) (.here (xVP ![192, 0] inb_S256x5120_S32x5120_192_0)) (.dma (xSem ![6] inb_S8_S1_6)) ((Memref.isWhole_whole main_v0).wordExact_slice rfl _ wordsbf16_S256x5120_S32x5120_192_0) ((Memref.isWhole_whole cc0_scratch0).wordExact_slice rfl _ wordsbf16_S256x5120_S32x5120_192_0) ⟨Or.inl rfl, trivial⟩)
  Prog.lift (.enqueueDma (xHP ![224, 0] inb_S256x5120_S32x5120_224_0) (.here (xVP ![224, 0] inb_S256x5120_S32x5120_224_0)) (.dma (xSem ![7] inb_S8_S1_7)) ((Memref.isWhole_whole main_v0).wordExact_slice rfl _ wordsbf16_S256x5120_S32x5120_224_0) ((Memref.isWhole_whole cc0_scratch0).wordExact_slice rfl _ wordsbf16_S256x5120_S32x5120_224_0) ⟨Or.inl rfl, trivial⟩)

def startW : KProg F PUnit := do
  Prog.lift (.enqueueDma (wHP512 ![0, 0] inb_S5120x8960_S5120x512_0_0) (.here (wVP512 ![0, 0, 0] inb_S7x5120x1280_S1x5120x512_0_0_0)) (.dma (wSem ![0, 0] inb_S7x3_S1x1_0_0)) ((Memref.isWhole_whole main_arg2).wordExact_slice rfl _ wordsfp8e4m3_S5120x8960_S5120x512_0_0) (((Memref.isWhole_whole cc0_scratch2).wordExact_slice rfl _ wordsfp8e4m3_S7x5120x1280_S1x5120x512_0_0_0).reshape _ _) ⟨Or.inl rfl, trivial⟩)
  Prog.lift (.enqueueDma (wHP512 ![0, 512] inb_S5120x8960_S5120x512_0_512) (.here (wVP512 ![0, 0, 512] inb_S7x5120x1280_S1x5120x512_0_0_512)) (.dma (wSem ![0, 1] inb_S7x3_S1x1_0_1)) ((Memref.isWhole_whole main_arg2).wordExact_slice rfl _ wordsfp8e4m3_S5120x8960_S5120x512_0_512) (((Memref.isWhole_whole cc0_scratch2).wordExact_slice rfl _ wordsfp8e4m3_S7x5120x1280_S1x5120x512_0_0_512).reshape _ _) ⟨Or.inl rfl, trivial⟩)
  Prog.lift (.enqueueDma (wHP256 ![0, 1024] inb_S5120x8960_S5120x256_0_1024) (.here (wVP256 ![0, 0, 1024] inb_S7x5120x1280_S1x5120x256_0_0_1024)) (.dma (wSem ![0, 2] inb_S7x3_S1x1_0_2)) ((Memref.isWhole_whole main_arg2).wordExact_slice rfl _ wordsfp8e4m3_S5120x8960_S5120x256_0_1024) (((Memref.isWhole_whole cc0_scratch2).wordExact_slice rfl _ wordsfp8e4m3_S7x5120x1280_S1x5120x256_0_0_1024).reshape _ _) ⟨Or.inl rfl, trivial⟩)
  Prog.lift (.enqueueDma (wHP512 ![0, 1280] inb_S5120x8960_S5120x512_0_1280) (.here (wVP512 ![1, 0, 0] inb_S7x5120x1280_S1x5120x512_1_0_0)) (.dma (wSem ![1, 0] inb_S7x3_S1x1_1_0)) ((Memref.isWhole_whole main_arg2).wordExact_slice rfl _ wordsfp8e4m3_S5120x8960_S5120x512_0_1280) (((Memref.isWhole_whole cc0_scratch2).wordExact_slice rfl _ wordsfp8e4m3_S7x5120x1280_S1x5120x512_1_0_0).reshape _ _) ⟨Or.inl rfl, trivial⟩)
  Prog.lift (.enqueueDma (wHP512 ![0, 1792] inb_S5120x8960_S5120x512_0_1792) (.here (wVP512 ![1, 0, 512] inb_S7x5120x1280_S1x5120x512_1_0_512)) (.dma (wSem ![1, 1] inb_S7x3_S1x1_1_1)) ((Memref.isWhole_whole main_arg2).wordExact_slice rfl _ wordsfp8e4m3_S5120x8960_S5120x512_0_1792) (((Memref.isWhole_whole cc0_scratch2).wordExact_slice rfl _ wordsfp8e4m3_S7x5120x1280_S1x5120x512_1_0_512).reshape _ _) ⟨Or.inl rfl, trivial⟩)
  Prog.lift (.enqueueDma (wHP256 ![0, 2304] inb_S5120x8960_S5120x256_0_2304) (.here (wVP256 ![1, 0, 1024] inb_S7x5120x1280_S1x5120x256_1_0_1024)) (.dma (wSem ![1, 2] inb_S7x3_S1x1_1_2)) ((Memref.isWhole_whole main_arg2).wordExact_slice rfl _ wordsfp8e4m3_S5120x8960_S5120x256_0_2304) (((Memref.isWhole_whole cc0_scratch2).wordExact_slice rfl _ wordsfp8e4m3_S7x5120x1280_S1x5120x256_1_0_1024).reshape _ _) ⟨Or.inl rfl, trivial⟩)
  Prog.lift (.enqueueDma (wHP512 ![0, 2560] inb_S5120x8960_S5120x512_0_2560) (.here (wVP512 ![2, 0, 0] inb_S7x5120x1280_S1x5120x512_2_0_0)) (.dma (wSem ![2, 0] inb_S7x3_S1x1_2_0)) ((Memref.isWhole_whole main_arg2).wordExact_slice rfl _ wordsfp8e4m3_S5120x8960_S5120x512_0_2560) (((Memref.isWhole_whole cc0_scratch2).wordExact_slice rfl _ wordsfp8e4m3_S7x5120x1280_S1x5120x512_2_0_0).reshape _ _) ⟨Or.inl rfl, trivial⟩)
  Prog.lift (.enqueueDma (wHP512 ![0, 3072] inb_S5120x8960_S5120x512_0_3072) (.here (wVP512 ![2, 0, 512] inb_S7x5120x1280_S1x5120x512_2_0_512)) (.dma (wSem ![2, 1] inb_S7x3_S1x1_2_1)) ((Memref.isWhole_whole main_arg2).wordExact_slice rfl _ wordsfp8e4m3_S5120x8960_S5120x512_0_3072) (((Memref.isWhole_whole cc0_scratch2).wordExact_slice rfl _ wordsfp8e4m3_S7x5120x1280_S1x5120x512_2_0_512).reshape _ _) ⟨Or.inl rfl, trivial⟩)
  Prog.lift (.enqueueDma (wHP256 ![0, 3584] inb_S5120x8960_S5120x256_0_3584) (.here (wVP256 ![2, 0, 1024] inb_S7x5120x1280_S1x5120x256_2_0_1024)) (.dma (wSem ![2, 2] inb_S7x3_S1x1_2_2)) ((Memref.isWhole_whole main_arg2).wordExact_slice rfl _ wordsfp8e4m3_S5120x8960_S5120x256_0_3584) (((Memref.isWhole_whole cc0_scratch2).wordExact_slice rfl _ wordsfp8e4m3_S7x5120x1280_S1x5120x256_2_0_1024).reshape _ _) ⟨Or.inl rfl, trivial⟩)
  Prog.lift (.enqueueDma (wHP512 ![0, 3840] inb_S5120x8960_S5120x512_0_3840) (.here (wVP512 ![3, 0, 0] inb_S7x5120x1280_S1x5120x512_3_0_0)) (.dma (wSem ![3, 0] inb_S7x3_S1x1_3_0)) ((Memref.isWhole_whole main_arg2).wordExact_slice rfl _ wordsfp8e4m3_S5120x8960_S5120x512_0_3840) (((Memref.isWhole_whole cc0_scratch2).wordExact_slice rfl _ wordsfp8e4m3_S7x5120x1280_S1x5120x512_3_0_0).reshape _ _) ⟨Or.inl rfl, trivial⟩)
  Prog.lift (.enqueueDma (wHP512 ![0, 4352] inb_S5120x8960_S5120x512_0_4352) (.here (wVP512 ![3, 0, 512] inb_S7x5120x1280_S1x5120x512_3_0_512)) (.dma (wSem ![3, 1] inb_S7x3_S1x1_3_1)) ((Memref.isWhole_whole main_arg2).wordExact_slice rfl _ wordsfp8e4m3_S5120x8960_S5120x512_0_4352) (((Memref.isWhole_whole cc0_scratch2).wordExact_slice rfl _ wordsfp8e4m3_S7x5120x1280_S1x5120x512_3_0_512).reshape _ _) ⟨Or.inl rfl, trivial⟩)
  Prog.lift (.enqueueDma (wHP256 ![0, 4864] inb_S5120x8960_S5120x256_0_4864) (.here (wVP256 ![3, 0, 1024] inb_S7x5120x1280_S1x5120x256_3_0_1024)) (.dma (wSem ![3, 2] inb_S7x3_S1x1_3_2)) ((Memref.isWhole_whole main_arg2).wordExact_slice rfl _ wordsfp8e4m3_S5120x8960_S5120x256_0_4864) (((Memref.isWhole_whole cc0_scratch2).wordExact_slice rfl _ wordsfp8e4m3_S7x5120x1280_S1x5120x256_3_0_1024).reshape _ _) ⟨Or.inl rfl, trivial⟩)
  Prog.lift (.enqueueDma (wHP512 ![0, 5120] inb_S5120x8960_S5120x512_0_5120) (.here (wVP512 ![4, 0, 0] inb_S7x5120x1280_S1x5120x512_4_0_0)) (.dma (wSem ![4, 0] inb_S7x3_S1x1_4_0)) ((Memref.isWhole_whole main_arg2).wordExact_slice rfl _ wordsfp8e4m3_S5120x8960_S5120x512_0_5120) (((Memref.isWhole_whole cc0_scratch2).wordExact_slice rfl _ wordsfp8e4m3_S7x5120x1280_S1x5120x512_4_0_0).reshape _ _) ⟨Or.inl rfl, trivial⟩)
  Prog.lift (.enqueueDma (wHP512 ![0, 5632] inb_S5120x8960_S5120x512_0_5632) (.here (wVP512 ![4, 0, 512] inb_S7x5120x1280_S1x5120x512_4_0_512)) (.dma (wSem ![4, 1] inb_S7x3_S1x1_4_1)) ((Memref.isWhole_whole main_arg2).wordExact_slice rfl _ wordsfp8e4m3_S5120x8960_S5120x512_0_5632) (((Memref.isWhole_whole cc0_scratch2).wordExact_slice rfl _ wordsfp8e4m3_S7x5120x1280_S1x5120x512_4_0_512).reshape _ _) ⟨Or.inl rfl, trivial⟩)
  Prog.lift (.enqueueDma (wHP256 ![0, 6144] inb_S5120x8960_S5120x256_0_6144) (.here (wVP256 ![4, 0, 1024] inb_S7x5120x1280_S1x5120x256_4_0_1024)) (.dma (wSem ![4, 2] inb_S7x3_S1x1_4_2)) ((Memref.isWhole_whole main_arg2).wordExact_slice rfl _ wordsfp8e4m3_S5120x8960_S5120x256_0_6144) (((Memref.isWhole_whole cc0_scratch2).wordExact_slice rfl _ wordsfp8e4m3_S7x5120x1280_S1x5120x256_4_0_1024).reshape _ _) ⟨Or.inl rfl, trivial⟩)
  Prog.lift (.enqueueDma (wHP512 ![0, 6400] inb_S5120x8960_S5120x512_0_6400) (.here (wVP512 ![5, 0, 0] inb_S7x5120x1280_S1x5120x512_5_0_0)) (.dma (wSem ![5, 0] inb_S7x3_S1x1_5_0)) ((Memref.isWhole_whole main_arg2).wordExact_slice rfl _ wordsfp8e4m3_S5120x8960_S5120x512_0_6400) (((Memref.isWhole_whole cc0_scratch2).wordExact_slice rfl _ wordsfp8e4m3_S7x5120x1280_S1x5120x512_5_0_0).reshape _ _) ⟨Or.inl rfl, trivial⟩)
  Prog.lift (.enqueueDma (wHP512 ![0, 6912] inb_S5120x8960_S5120x512_0_6912) (.here (wVP512 ![5, 0, 512] inb_S7x5120x1280_S1x5120x512_5_0_512)) (.dma (wSem ![5, 1] inb_S7x3_S1x1_5_1)) ((Memref.isWhole_whole main_arg2).wordExact_slice rfl _ wordsfp8e4m3_S5120x8960_S5120x512_0_6912) (((Memref.isWhole_whole cc0_scratch2).wordExact_slice rfl _ wordsfp8e4m3_S7x5120x1280_S1x5120x512_5_0_512).reshape _ _) ⟨Or.inl rfl, trivial⟩)
  Prog.lift (.enqueueDma (wHP256 ![0, 7424] inb_S5120x8960_S5120x256_0_7424) (.here (wVP256 ![5, 0, 1024] inb_S7x5120x1280_S1x5120x256_5_0_1024)) (.dma (wSem ![5, 2] inb_S7x3_S1x1_5_2)) ((Memref.isWhole_whole main_arg2).wordExact_slice rfl _ wordsfp8e4m3_S5120x8960_S5120x256_0_7424) (((Memref.isWhole_whole cc0_scratch2).wordExact_slice rfl _ wordsfp8e4m3_S7x5120x1280_S1x5120x256_5_0_1024).reshape _ _) ⟨Or.inl rfl, trivial⟩)
  Prog.lift (.enqueueDma (wHP512 ![0, 7680] inb_S5120x8960_S5120x512_0_7680) (.here (wVP512 ![6, 0, 0] inb_S7x5120x1280_S1x5120x512_6_0_0)) (.dma (wSem ![6, 0] inb_S7x3_S1x1_6_0)) ((Memref.isWhole_whole main_arg2).wordExact_slice rfl _ wordsfp8e4m3_S5120x8960_S5120x512_0_7680) (((Memref.isWhole_whole cc0_scratch2).wordExact_slice rfl _ wordsfp8e4m3_S7x5120x1280_S1x5120x512_6_0_0).reshape _ _) ⟨Or.inl rfl, trivial⟩)
  Prog.lift (.enqueueDma (wHP512 ![0, 8192] inb_S5120x8960_S5120x512_0_8192) (.here (wVP512 ![6, 0, 512] inb_S7x5120x1280_S1x5120x512_6_0_512)) (.dma (wSem ![6, 1] inb_S7x3_S1x1_6_1)) ((Memref.isWhole_whole main_arg2).wordExact_slice rfl _ wordsfp8e4m3_S5120x8960_S5120x512_0_8192) (((Memref.isWhole_whole cc0_scratch2).wordExact_slice rfl _ wordsfp8e4m3_S7x5120x1280_S1x5120x512_6_0_512).reshape _ _) ⟨Or.inl rfl, trivial⟩)
  Prog.lift (.enqueueDma (wHP256 ![0, 8704] inb_S5120x8960_S5120x256_0_8704) (.here (wVP256 ![6, 0, 1024] inb_S7x5120x1280_S1x5120x256_6_0_1024)) (.dma (wSem ![6, 2] inb_S7x3_S1x1_6_2)) ((Memref.isWhole_whole main_arg2).wordExact_slice rfl _ wordsfp8e4m3_S5120x8960_S5120x256_0_8704) (((Memref.isWhole_whole cc0_scratch2).wordExact_slice rfl _ wordsfp8e4m3_S7x5120x1280_S1x5120x256_6_0_1024).reshape _ _) ⟨Or.inl rfl, trivial⟩)

/-- The first stage: the tables, the eight row blocks, the scales as rows. -/
def stage1 : KProg F PUnit := do
  Prog.lift (.waitDma2 (pSem ![0] inb_S6_S1_0) posH posV (Memref.isWhole_whole main_arg6).wordExact (Memref.isWhole_whole cc0_scratch6).wordExact)
  Prog.lift (.waitDma2 (pSem ![1] inb_S6_S1_1) invfH invfV (Memref.isWhole_whole main_cst).wordExact (Memref.isWhole_whole cc0_scratch7).wordExact)
  Prog.lift (.waitDma2 (pSem ![2] inb_S6_S1_2) qgH qgV (Memref.isWhole_whole main_v2).wordExact (Memref.isWhole_whole cc0_scratch4).wordExact)
  Prog.lift (.waitDma2 (pSem ![3] inb_S6_S1_3) kgH kgV (Memref.isWhole_whole main_v3).wordExact (Memref.isWhole_whole cc0_scratch5).wordExact)
  tables
  Prog.lift (.waitDma2 (pSem ![4] inb_S6_S1_4) nwH nwV (Memref.isWhole_whole main_v1).wordExact (Memref.isWhole_whole cc0_scratch1).wordExact)
  Prog.lift (.waitDma2 (pSem ![5] inb_S6_S1_5) wsH wsV (Memref.isWhole_whole main_arg3).wordExact (Memref.isWhole_whole cc0_scratch3).wordExact)
  rowBlk ![0] inb_S8_S1_0 ![0, 0] inb_S256x5120_S32x5120_0_0 inb_S256x128_S32x128_0_0 ((Memref.isWhole_whole main_v0).wordExact_slice rfl _ wordsbf16_S256x5120_S32x5120_0_0) ((Memref.isWhole_whole cc0_scratch0).wordExact_slice rfl _ wordsbf16_S256x5120_S32x5120_0_0) packedfp8e4m3_S256x5120_S32x5120_0_0
  rowBlk ![1] inb_S8_S1_1 ![32, 0] inb_S256x5120_S32x5120_32_0 inb_S256x128_S32x128_32_0 ((Memref.isWhole_whole main_v0).wordExact_slice rfl _ wordsbf16_S256x5120_S32x5120_32_0) ((Memref.isWhole_whole cc0_scratch0).wordExact_slice rfl _ wordsbf16_S256x5120_S32x5120_32_0) packedfp8e4m3_S256x5120_S32x5120_32_0
  rowBlk ![2] inb_S8_S1_2 ![64, 0] inb_S256x5120_S32x5120_64_0 inb_S256x128_S32x128_64_0 ((Memref.isWhole_whole main_v0).wordExact_slice rfl _ wordsbf16_S256x5120_S32x5120_64_0) ((Memref.isWhole_whole cc0_scratch0).wordExact_slice rfl _ wordsbf16_S256x5120_S32x5120_64_0) packedfp8e4m3_S256x5120_S32x5120_64_0
  rowBlk ![3] inb_S8_S1_3 ![96, 0] inb_S256x5120_S32x5120_96_0 inb_S256x128_S32x128_96_0 ((Memref.isWhole_whole main_v0).wordExact_slice rfl _ wordsbf16_S256x5120_S32x5120_96_0) ((Memref.isWhole_whole cc0_scratch0).wordExact_slice rfl _ wordsbf16_S256x5120_S32x5120_96_0) packedfp8e4m3_S256x5120_S32x5120_96_0
  rowBlk ![4] inb_S8_S1_4 ![128, 0] inb_S256x5120_S32x5120_128_0 inb_S256x128_S32x128_128_0 ((Memref.isWhole_whole main_v0).wordExact_slice rfl _ wordsbf16_S256x5120_S32x5120_128_0) ((Memref.isWhole_whole cc0_scratch0).wordExact_slice rfl _ wordsbf16_S256x5120_S32x5120_128_0) packedfp8e4m3_S256x5120_S32x5120_128_0
  rowBlk ![5] inb_S8_S1_5 ![160, 0] inb_S256x5120_S32x5120_160_0 inb_S256x128_S32x128_160_0 ((Memref.isWhole_whole main_v0).wordExact_slice rfl _ wordsbf16_S256x5120_S32x5120_160_0) ((Memref.isWhole_whole cc0_scratch0).wordExact_slice rfl _ wordsbf16_S256x5120_S32x5120_160_0) packedfp8e4m3_S256x5120_S32x5120_160_0
  rowBlk ![6] inb_S8_S1_6 ![192, 0] inb_S256x5120_S32x5120_192_0 inb_S256x128_S32x128_192_0 ((Memref.isWhole_whole main_v0).wordExact_slice rfl _ wordsbf16_S256x5120_S32x5120_192_0) ((Memref.isWhole_whole cc0_scratch0).wordExact_slice rfl _ wordsbf16_S256x5120_S32x5120_192_0) packedfp8e4m3_S256x5120_S32x5120_192_0
  rowBlk ![7] inb_S8_S1_7 ![224, 0] inb_S256x5120_S32x5120_224_0 inb_S256x128_S32x128_224_0 ((Memref.isWhole_whole main_v0).wordExact_slice rfl _ wordsbf16_S256x5120_S32x5120_224_0) ((Memref.isWhole_whole cc0_scratch0).wordExact_slice rfl _ wordsbf16_S256x5120_S32x5120_224_0) packedfp8e4m3_S256x5120_S32x5120_224_0
  xstBlk ![0, 0] inb_S256x128_S128x128_0_0 ![0, 0] inb_S2x128_S1x128_0_0
  xstBlk ![128, 0] inb_S256x128_S128x128_128_0 ![1, 0] inb_S2x128_S1x128_1_0
  Prog.lift (.enqueueDma cV (.here cH) (.dma (oSem ![0] inb_S9_S1_0)) (Memref.isWhole_whole cc0_scratch8).wordExact (Memref.isWhole_whole main_v4_3).wordExact ⟨Or.inl rfl, trivial⟩)
  Prog.lift (.enqueueDma xstV (.here sH) (.dma sSem) (Memref.isWhole_whole cc0_scratch10).wordExact (Memref.isWhole_whole main_v4_4).wordExact ⟨Or.inl rfl, trivial⟩)

/-- The first chunk. -/
def chunk0 : KProg F PUnit := do
  proj512 ![0, 0] inb_S7x3_S1x1_0_0 ![0, 0] inb_S5120x8960_S5120x512_0_0 ![0, 0, 0] inb_S7x5120x1280_S1x5120x512_0_0_0 ((Memref.isWhole_whole main_arg2).wordExact_slice rfl _ wordsfp8e4m3_S5120x8960_S5120x512_0_0) (((Memref.isWhole_whole cc0_scratch2).wordExact_slice rfl _ wordsfp8e4m3_S7x5120x1280_S1x5120x512_0_0_0).reshape _ _) ![0, 0, 0] inb_S7x5120x1280_S1x5120x512_0_0_0 ![0] inb_S8960_S512_0 ![0, 0, 0, 0] inb_S2x2x1280x128_S1x1x512x128_0_0_0_0 ![0, 1, 0, 0] inb_S2x2x1280x128_S1x1x512x128_0_1_0_0
  proj512 ![0, 1] inb_S7x3_S1x1_0_1 ![0, 512] inb_S5120x8960_S5120x512_0_512 ![0, 0, 512] inb_S7x5120x1280_S1x5120x512_0_0_512 ((Memref.isWhole_whole main_arg2).wordExact_slice rfl _ wordsfp8e4m3_S5120x8960_S5120x512_0_512) (((Memref.isWhole_whole cc0_scratch2).wordExact_slice rfl _ wordsfp8e4m3_S7x5120x1280_S1x5120x512_0_0_512).reshape _ _) ![0, 0, 512] inb_S7x5120x1280_S1x5120x512_0_0_512 ![512] inb_S8960_S512_512 ![0, 0, 512, 0] inb_S2x2x1280x128_S1x1x512x128_0_0_512_0 ![0, 1, 512, 0] inb_S2x2x1280x128_S1x1x512x128_0_1_512_0
  proj256 ![0, 2] inb_S7x3_S1x1_0_2 ![0, 1024] inb_S5120x8960_S5120x256_0_1024 ![0, 0, 1024] inb_S7x5120x1280_S1x5120x256_0_0_1024 ((Memref.isWhole_whole main_arg2).wordExact_slice rfl _ wordsfp8e4m3_S5120x8960_S5120x256_0_1024) (((Memref.isWhole_whole cc0_scratch2).wordExact_slice rfl _ wordsfp8e4m3_S7x5120x1280_S1x5120x256_0_0_1024).reshape _ _) ![0, 0, 1024] inb_S7x5120x1280_S1x5120x256_0_0_1024 ![1024] inb_S8960_S256_1024 ![0, 0, 1024, 0] inb_S2x2x1280x128_S1x1x256x128_0_0_1024_0 ![0, 1, 1024, 0] inb_S2x2x1280x128_S1x1x256x128_0_1_1024_0

/-- The last chunk, and the heads of k beside it. -/
def chunk6_0 : KProg F PUnit := do
  proj512 ![6, 0] inb_S7x3_S1x1_6_0 ![0, 7680] inb_S5120x8960_S5120x512_0_7680 ![6, 0, 0] inb_S7x5120x1280_S1x5120x512_6_0_0 ((Memref.isWhole_whole main_arg2).wordExact_slice rfl _ wordsfp8e4m3_S5120x8960_S5120x512_0_7680) (((Memref.isWhole_whole cc0_scratch2).wordExact_slice rfl _ wordsfp8e4m3_S7x5120x1280_S1x5120x512_6_0_0).reshape _ _) ![6, 0, 0] inb_S7x5120x1280_S1x5120x512_6_0_0 ![7680] inb_S8960_S512_7680 ![0, 0, 0, 0] inb_S2x2x1280x128_S1x1x512x128_0_0_0_0 ![0, 1, 0, 0] inb_S2x2x1280x128_S1x1x512x128_0_1_0_0
  kHead 1 0 inb_S2x2x4x80x128_S1x1x1x80x128_1_0_0_0_0 inb_S2x2x4x80x128_S1x1x1x80x128_1_0_1_0_0 inb_S2x2x4x80x128_S1x1x1x80x128_1_0_2_0_0 inb_S2x2x4x80x128_S1x1x1x80x128_1_0_3_0_0 ![1, 0, 0, 0] inb_S2x2x1280x128_S1x1x160x128_1_0_0_0 ![0, 0, 0, 0] inb_S2x8x160x128_S1x1x80x128_0_0_0_0 ![0, 0, 80, 0] inb_S2x8x160x128_S1x1x80x128_0_0_80_0 packedbf16_S2x8x160x128_S1x1x80x128_0_0_0_0 packedbf16_S2x8x160x128_S1x1x80x128_0_0_80_0
  kHead 1 1 inb_S2x2x4x80x128_S1x1x1x80x128_1_1_0_0_0 inb_S2x2x4x80x128_S1x1x1x80x128_1_1_1_0_0 inb_S2x2x4x80x128_S1x1x1x80x128_1_1_2_0_0 inb_S2x2x4x80x128_S1x1x1x80x128_1_1_3_0_0 ![1, 1, 0, 0] inb_S2x2x1280x128_S1x1x160x128_1_1_0_0 ![1, 0, 0, 0] inb_S2x8x160x128_S1x1x80x128_1_0_0_0 ![1, 0, 80, 0] inb_S2x8x160x128_S1x1x80x128_1_0_80_0 packedbf16_S2x8x160x128_S1x1x80x128_1_0_0_0 packedbf16_S2x8x160x128_S1x1x80x128_1_0_80_0
  kHead 1 0 inb_S2x2x4x80x128_S1x1x1x80x128_1_0_0_0_0 inb_S2x2x4x80x128_S1x1x1x80x128_1_0_1_0_0 inb_S2x2x4x80x128_S1x1x1x80x128_1_0_2_0_0 inb_S2x2x4x80x128_S1x1x1x80x128_1_0_3_0_0 ![1, 0, 160, 0] inb_S2x2x1280x128_S1x1x160x128_1_0_160_0 ![0, 1, 0, 0] inb_S2x8x160x128_S1x1x80x128_0_1_0_0 ![0, 1, 80, 0] inb_S2x8x160x128_S1x1x80x128_0_1_80_0 packedbf16_S2x8x160x128_S1x1x80x128_0_1_0_0 packedbf16_S2x8x160x128_S1x1x80x128_0_1_80_0
  kHead 1 1 inb_S2x2x4x80x128_S1x1x1x80x128_1_1_0_0_0 inb_S2x2x4x80x128_S1x1x1x80x128_1_1_1_0_0 inb_S2x2x4x80x128_S1x1x1x80x128_1_1_2_0_0 inb_S2x2x4x80x128_S1x1x1x80x128_1_1_3_0_0 ![1, 1, 160, 0] inb_S2x2x1280x128_S1x1x160x128_1_1_160_0 ![1, 1, 0, 0] inb_S2x8x160x128_S1x1x80x128_1_1_0_0 ![1, 1, 80, 0] inb_S2x8x160x128_S1x1x80x128_1_1_80_0 packedbf16_S2x8x160x128_S1x1x80x128_1_1_0_0 packedbf16_S2x8x160x128_S1x1x80x128_1_1_80_0
  kHead 1 0 inb_S2x2x4x80x128_S1x1x1x80x128_1_0_0_0_0 inb_S2x2x4x80x128_S1x1x1x80x128_1_0_1_0_0 inb_S2x2x4x80x128_S1x1x1x80x128_1_0_2_0_0 inb_S2x2x4x80x128_S1x1x1x80x128_1_0_3_0_0 ![1, 0, 320, 0] inb_S2x2x1280x128_S1x1x160x128_1_0_320_0 ![0, 2, 0, 0] inb_S2x8x160x128_S1x1x80x128_0_2_0_0 ![0, 2, 80, 0] inb_S2x8x160x128_S1x1x80x128_0_2_80_0 packedbf16_S2x8x160x128_S1x1x80x128_0_2_0_0 packedbf16_S2x8x160x128_S1x1x80x128_0_2_80_0
  kHead 1 1 inb_S2x2x4x80x128_S1x1x1x80x128_1_1_0_0_0 inb_S2x2x4x80x128_S1x1x1x80x128_1_1_1_0_0 inb_S2x2x4x80x128_S1x1x1x80x128_1_1_2_0_0 inb_S2x2x4x80x128_S1x1x1x80x128_1_1_3_0_0 ![1, 1, 320, 0] inb_S2x2x1280x128_S1x1x160x128_1_1_320_0 ![1, 2, 0, 0] inb_S2x8x160x128_S1x1x80x128_1_2_0_0 ![1, 2, 80, 0] inb_S2x8x160x128_S1x1x80x128_1_2_80_0 packedbf16_S2x8x160x128_S1x1x80x128_1_2_0_0 packedbf16_S2x8x160x128_S1x1x80x128_1_2_80_0
def chunk6_1 : KProg F PUnit := do
  proj512 ![6, 1] inb_S7x3_S1x1_6_1 ![0, 8192] inb_S5120x8960_S5120x512_0_8192 ![6, 0, 512] inb_S7x5120x1280_S1x5120x512_6_0_512 ((Memref.isWhole_whole main_arg2).wordExact_slice rfl _ wordsfp8e4m3_S5120x8960_S5120x512_0_8192) (((Memref.isWhole_whole cc0_scratch2).wordExact_slice rfl _ wordsfp8e4m3_S7x5120x1280_S1x5120x512_6_0_512).reshape _ _) ![6, 0, 512] inb_S7x5120x1280_S1x5120x512_6_0_512 ![8192] inb_S8960_S512_8192 ![0, 0, 512, 0] inb_S2x2x1280x128_S1x1x512x128_0_0_512_0 ![0, 1, 512, 0] inb_S2x2x1280x128_S1x1x512x128_0_1_512_0
  kHead 1 0 inb_S2x2x4x80x128_S1x1x1x80x128_1_0_0_0_0 inb_S2x2x4x80x128_S1x1x1x80x128_1_0_1_0_0 inb_S2x2x4x80x128_S1x1x1x80x128_1_0_2_0_0 inb_S2x2x4x80x128_S1x1x1x80x128_1_0_3_0_0 ![1, 0, 480, 0] inb_S2x2x1280x128_S1x1x160x128_1_0_480_0 ![0, 3, 0, 0] inb_S2x8x160x128_S1x1x80x128_0_3_0_0 ![0, 3, 80, 0] inb_S2x8x160x128_S1x1x80x128_0_3_80_0 packedbf16_S2x8x160x128_S1x1x80x128_0_3_0_0 packedbf16_S2x8x160x128_S1x1x80x128_0_3_80_0
  kHead 1 1 inb_S2x2x4x80x128_S1x1x1x80x128_1_1_0_0_0 inb_S2x2x4x80x128_S1x1x1x80x128_1_1_1_0_0 inb_S2x2x4x80x128_S1x1x1x80x128_1_1_2_0_0 inb_S2x2x4x80x128_S1x1x1x80x128_1_1_3_0_0 ![1, 1, 480, 0] inb_S2x2x1280x128_S1x1x160x128_1_1_480_0 ![1, 3, 0, 0] inb_S2x8x160x128_S1x1x80x128_1_3_0_0 ![1, 3, 80, 0] inb_S2x8x160x128_S1x1x80x128_1_3_80_0 packedbf16_S2x8x160x128_S1x1x80x128_1_3_0_0 packedbf16_S2x8x160x128_S1x1x80x128_1_3_80_0
  kHead 1 0 inb_S2x2x4x80x128_S1x1x1x80x128_1_0_0_0_0 inb_S2x2x4x80x128_S1x1x1x80x128_1_0_1_0_0 inb_S2x2x4x80x128_S1x1x1x80x128_1_0_2_0_0 inb_S2x2x4x80x128_S1x1x1x80x128_1_0_3_0_0 ![1, 0, 640, 0] inb_S2x2x1280x128_S1x1x160x128_1_0_640_0 ![0, 4, 0, 0] inb_S2x8x160x128_S1x1x80x128_0_4_0_0 ![0, 4, 80, 0] inb_S2x8x160x128_S1x1x80x128_0_4_80_0 packedbf16_S2x8x160x128_S1x1x80x128_0_4_0_0 packedbf16_S2x8x160x128_S1x1x80x128_0_4_80_0
  kHead 1 1 inb_S2x2x4x80x128_S1x1x1x80x128_1_1_0_0_0 inb_S2x2x4x80x128_S1x1x1x80x128_1_1_1_0_0 inb_S2x2x4x80x128_S1x1x1x80x128_1_1_2_0_0 inb_S2x2x4x80x128_S1x1x1x80x128_1_1_3_0_0 ![1, 1, 640, 0] inb_S2x2x1280x128_S1x1x160x128_1_1_640_0 ![1, 4, 0, 0] inb_S2x8x160x128_S1x1x80x128_1_4_0_0 ![1, 4, 80, 0] inb_S2x8x160x128_S1x1x80x128_1_4_80_0 packedbf16_S2x8x160x128_S1x1x80x128_1_4_0_0 packedbf16_S2x8x160x128_S1x1x80x128_1_4_80_0
  kHead 1 0 inb_S2x2x4x80x128_S1x1x1x80x128_1_0_0_0_0 inb_S2x2x4x80x128_S1x1x1x80x128_1_0_1_0_0 inb_S2x2x4x80x128_S1x1x1x80x128_1_0_2_0_0 inb_S2x2x4x80x128_S1x1x1x80x128_1_0_3_0_0 ![1, 0, 800, 0] inb_S2x2x1280x128_S1x1x160x128_1_0_800_0 ![0, 5, 0, 0] inb_S2x8x160x128_S1x1x80x128_0_5_0_0 ![0, 5, 80, 0] inb_S2x8x160x128_S1x1x80x128_0_5_80_0 packedbf16_S2x8x160x128_S1x1x80x128_0_5_0_0 packedbf16_S2x8x160x128_S1x1x80x128_0_5_80_0
  kHead 1 1 inb_S2x2x4x80x128_S1x1x1x80x128_1_1_0_0_0 inb_S2x2x4x80x128_S1x1x1x80x128_1_1_1_0_0 inb_S2x2x4x80x128_S1x1x1x80x128_1_1_2_0_0 inb_S2x2x4x80x128_S1x1x1x80x128_1_1_3_0_0 ![1, 1, 800, 0] inb_S2x2x1280x128_S1x1x160x128_1_1_800_0 ![1, 5, 0, 0] inb_S2x8x160x128_S1x1x80x128_1_5_0_0 ![1, 5, 80, 0] inb_S2x8x160x128_S1x1x80x128_1_5_80_0 packedbf16_S2x8x160x128_S1x1x80x128_1_5_0_0 packedbf16_S2x8x160x128_S1x1x80x128_1_5_80_0
def chunk6_2 : KProg F PUnit := do
  proj256 ![6, 2] inb_S7x3_S1x1_6_2 ![0, 8704] inb_S5120x8960_S5120x256_0_8704 ![6, 0, 1024] inb_S7x5120x1280_S1x5120x256_6_0_1024 ((Memref.isWhole_whole main_arg2).wordExact_slice rfl _ wordsfp8e4m3_S5120x8960_S5120x256_0_8704) (((Memref.isWhole_whole cc0_scratch2).wordExact_slice rfl _ wordsfp8e4m3_S7x5120x1280_S1x5120x256_6_0_1024).reshape _ _) ![6, 0, 1024] inb_S7x5120x1280_S1x5120x256_6_0_1024 ![8704] inb_S8960_S256_8704 ![0, 0, 1024, 0] inb_S2x2x1280x128_S1x1x256x128_0_0_1024_0 ![0, 1, 1024, 0] inb_S2x2x1280x128_S1x1x256x128_0_1_1024_0
  kHead 1 0 inb_S2x2x4x80x128_S1x1x1x80x128_1_0_0_0_0 inb_S2x2x4x80x128_S1x1x1x80x128_1_0_1_0_0 inb_S2x2x4x80x128_S1x1x1x80x128_1_0_2_0_0 inb_S2x2x4x80x128_S1x1x1x80x128_1_0_3_0_0 ![1, 0, 960, 0] inb_S2x2x1280x128_S1x1x160x128_1_0_960_0 ![0, 6, 0, 0] inb_S2x8x160x128_S1x1x80x128_0_6_0_0 ![0, 6, 80, 0] inb_S2x8x160x128_S1x1x80x128_0_6_80_0 packedbf16_S2x8x160x128_S1x1x80x128_0_6_0_0 packedbf16_S2x8x160x128_S1x1x80x128_0_6_80_0
  kHead 1 1 inb_S2x2x4x80x128_S1x1x1x80x128_1_1_0_0_0 inb_S2x2x4x80x128_S1x1x1x80x128_1_1_1_0_0 inb_S2x2x4x80x128_S1x1x1x80x128_1_1_2_0_0 inb_S2x2x4x80x128_S1x1x1x80x128_1_1_3_0_0 ![1, 1, 960, 0] inb_S2x2x1280x128_S1x1x160x128_1_1_960_0 ![1, 6, 0, 0] inb_S2x8x160x128_S1x1x80x128_1_6_0_0 ![1, 6, 80, 0] inb_S2x8x160x128_S1x1x80x128_1_6_80_0 packedbf16_S2x8x160x128_S1x1x80x128_1_6_0_0 packedbf16_S2x8x160x128_S1x1x80x128_1_6_80_0
  kHead 1 0 inb_S2x2x4x80x128_S1x1x1x80x128_1_0_0_0_0 inb_S2x2x4x80x128_S1x1x1x80x128_1_0_1_0_0 inb_S2x2x4x80x128_S1x1x1x80x128_1_0_2_0_0 inb_S2x2x4x80x128_S1x1x1x80x128_1_0_3_0_0 ![1, 0, 1120, 0] inb_S2x2x1280x128_S1x1x160x128_1_0_1120_0 ![0, 7, 0, 0] inb_S2x8x160x128_S1x1x80x128_0_7_0_0 ![0, 7, 80, 0] inb_S2x8x160x128_S1x1x80x128_0_7_80_0 packedbf16_S2x8x160x128_S1x1x80x128_0_7_0_0 packedbf16_S2x8x160x128_S1x1x80x128_0_7_80_0
  kHead 1 1 inb_S2x2x4x80x128_S1x1x1x80x128_1_1_0_0_0 inb_S2x2x4x80x128_S1x1x1x80x128_1_1_1_0_0 inb_S2x2x4x80x128_S1x1x1x80x128_1_1_2_0_0 inb_S2x2x4x80x128_S1x1x1x80x128_1_1_3_0_0 ![1, 1, 1120, 0] inb_S2x2x1280x128_S1x1x160x128_1_1_1120_0 ![1, 7, 0, 0] inb_S2x8x160x128_S1x1x80x128_1_7_0_0 ![1, 7, 80, 0] inb_S2x8x160x128_S1x1x80x128_1_7_80_0 packedbf16_S2x8x160x128_S1x1x80x128_1_7_0_0 packedbf16_S2x8x160x128_S1x1x80x128_1_7_80_0

def startK : KProg F PUnit :=
  Prog.lift (.enqueueDma kV (.here kH) (.dma (oSem ![7] inb_S9_S1_7)) (Memref.isWhole_whole cc0_scratch14).wordExact (Memref.isWhole_whole main_v4_1).wordExact ⟨Or.inl rfl, trivial⟩)

/-- The heads of v. -/
def vHeads : KProg F PUnit := do
  vHead ![0, 0, 0, 0] inb_S2x2x1280x128_S1x1x160x128_0_0_0_0 ![0, 0, 0, 0] inb_S2x8x160x128_S1x1x160x128_0_0_0_0 packedbf16_S2x8x160x128_S1x1x160x128_0_0_0_0
  vHead ![0, 0, 160, 0] inb_S2x2x1280x128_S1x1x160x128_0_0_160_0 ![0, 1, 0, 0] inb_S2x8x160x128_S1x1x160x128_0_1_0_0 packedbf16_S2x8x160x128_S1x1x160x128_0_1_0_0
  vHead ![0, 0, 320, 0] inb_S2x2x1280x128_S1x1x160x128_0_0_320_0 ![0, 2, 0, 0] inb_S2x8x160x128_S1x1x160x128_0_2_0_0 packedbf16_S2x8x160x128_S1x1x160x128_0_2_0_0
  vHead ![0, 0, 480, 0] inb_S2x2x1280x128_S1x1x160x128_0_0_480_0 ![0, 3, 0, 0] inb_S2x8x160x128_S1x1x160x128_0_3_0_0 packedbf16_S2x8x160x128_S1x1x160x128_0_3_0_0
  vHead ![0, 0, 640, 0] inb_S2x2x1280x128_S1x1x160x128_0_0_640_0 ![0, 4, 0, 0] inb_S2x8x160x128_S1x1x160x128_0_4_0_0 packedbf16_S2x8x160x128_S1x1x160x128_0_4_0_0
  vHead ![0, 0, 800, 0] inb_S2x2x1280x128_S1x1x160x128_0_0_800_0 ![0, 5, 0, 0] inb_S2x8x160x128_S1x1x160x128_0_5_0_0 packedbf16_S2x8x160x128_S1x1x160x128_0_5_0_0
  vHead ![0, 0, 960, 0] inb_S2x2x1280x128_S1x1x160x128_0_0_960_0 ![0, 6, 0, 0] inb_S2x8x160x128_S1x1x160x128_0_6_0_0 packedbf16_S2x8x160x128_S1x1x160x128_0_6_0_0
  vHead ![0, 0, 1120, 0] inb_S2x2x1280x128_S1x1x160x128_0_0_1120_0 ![0, 7, 0, 0] inb_S2x8x160x128_S1x1x160x128_0_7_0_0 packedbf16_S2x8x160x128_S1x1x160x128_0_7_0_0
  vHead ![0, 1, 0, 0] inb_S2x2x1280x128_S1x1x160x128_0_1_0_0 ![1, 0, 0, 0] inb_S2x8x160x128_S1x1x160x128_1_0_0_0 packedbf16_S2x8x160x128_S1x1x160x128_1_0_0_0
  vHead ![0, 1, 160, 0] inb_S2x2x1280x128_S1x1x160x128_0_1_160_0 ![1, 1, 0, 0] inb_S2x8x160x128_S1x1x160x128_1_1_0_0 packedbf16_S2x8x160x128_S1x1x160x128_1_1_0_0
  vHead ![0, 1, 320, 0] inb_S2x2x1280x128_S1x1x160x128_0_1_320_0 ![1, 2, 0, 0] inb_S2x8x160x128_S1x1x160x128_1_2_0_0 packedbf16_S2x8x160x128_S1x1x160x128_1_2_0_0
  vHead ![0, 1, 480, 0] inb_S2x2x1280x128_S1x1x160x128_0_1_480_0 ![1, 3, 0, 0] inb_S2x8x160x128_S1x1x160x128_1_3_0_0 packedbf16_S2x8x160x128_S1x1x160x128_1_3_0_0
  vHead ![0, 1, 640, 0] inb_S2x2x1280x128_S1x1x160x128_0_1_640_0 ![1, 4, 0, 0] inb_S2x8x160x128_S1x1x160x128_1_4_0_0 packedbf16_S2x8x160x128_S1x1x160x128_1_4_0_0
  vHead ![0, 1, 800, 0] inb_S2x2x1280x128_S1x1x160x128_0_1_800_0 ![1, 5, 0, 0] inb_S2x8x160x128_S1x1x160x128_1_5_0_0 packedbf16_S2x8x160x128_S1x1x160x128_1_5_0_0
  vHead ![0, 1, 960, 0] inb_S2x2x1280x128_S1x1x160x128_0_1_960_0 ![1, 6, 0, 0] inb_S2x8x160x128_S1x1x160x128_1_6_0_0 packedbf16_S2x8x160x128_S1x1x160x128_1_6_0_0
  vHead ![0, 1, 1120, 0] inb_S2x2x1280x128_S1x1x160x128_0_1_1120_0 ![1, 7, 0, 0] inb_S2x8x160x128_S1x1x160x128_1_7_0_0 packedbf16_S2x8x160x128_S1x1x160x128_1_7_0_0

def startV : KProg F PUnit :=
  Prog.lift (.enqueueDma vV (.here vH) (.dma (oSem ![8] inb_S9_S1_8)) (Memref.isWhole_whole cc0_scratch15).wordExact (Memref.isWhole_whole main_v4_2).wordExact ⟨Or.inl rfl, trivial⟩)

/-- Wait for every copy out. -/
def waitOut : KProg F PUnit := do
  Prog.lift (.waitDma2 (oSem ![0] inb_S9_S1_0) cV cH (Memref.isWhole_whole cc0_scratch8).wordExact (Memref.isWhole_whole main_v4_3).wordExact)
  Prog.lift (.waitDma2 sSem xstV sH (Memref.isWhole_whole cc0_scratch10).wordExact (Memref.isWhole_whole main_v4_4).wordExact)
  Prog.lift (.waitDma2 (oSem ![2] inb_S9_S1_2) (qVP ![0, 0, 0, 0] inb_S2x40x160x128_S2x8x160x128_0_0_0_0) (qHP ![0, 0, 0, 0] inb_S2x40x160x128_S2x8x160x128_0_0_0_0) ((Memref.isWhole_whole cc0_scratch13).wordExact_slice rfl _ wordsbf16_S2x40x160x128_S2x8x160x128_0_0_0_0) ((Memref.isWhole_whole main_v4_0).wordExact_slice rfl _ wordsbf16_S2x40x160x128_S2x8x160x128_0_0_0_0))
  Prog.lift (.waitDma2 (oSem ![3] inb_S9_S1_3) (qVP ![0, 8, 0, 0] inb_S2x40x160x128_S2x8x160x128_0_8_0_0) (qHP ![0, 8, 0, 0] inb_S2x40x160x128_S2x8x160x128_0_8_0_0) ((Memref.isWhole_whole cc0_scratch13).wordExact_slice rfl _ wordsbf16_S2x40x160x128_S2x8x160x128_0_8_0_0) ((Memref.isWhole_whole main_v4_0).wordExact_slice rfl _ wordsbf16_S2x40x160x128_S2x8x160x128_0_8_0_0))
  Prog.lift (.waitDma2 (oSem ![4] inb_S9_S1_4) (qVP ![0, 16, 0, 0] inb_S2x40x160x128_S2x8x160x128_0_16_0_0) (qHP ![0, 16, 0, 0] inb_S2x40x160x128_S2x8x160x128_0_16_0_0) ((Memref.isWhole_whole cc0_scratch13).wordExact_slice rfl _ wordsbf16_S2x40x160x128_S2x8x160x128_0_16_0_0) ((Memref.isWhole_whole main_v4_0).wordExact_slice rfl _ wordsbf16_S2x40x160x128_S2x8x160x128_0_16_0_0))
  Prog.lift (.waitDma2 (oSem ![5] inb_S9_S1_5) (qVP ![0, 24, 0, 0] inb_S2x40x160x128_S2x8x160x128_0_24_0_0) (qHP ![0, 24, 0, 0] inb_S2x40x160x128_S2x8x160x128_0_24_0_0) ((Memref.isWhole_whole cc0_scratch13).wordExact_slice rfl _ wordsbf16_S2x40x160x128_S2x8x160x128_0_24_0_0) ((Memref.isWhole_whole main_v4_0).wordExact_slice rfl _ wordsbf16_S2x40x160x128_S2x8x160x128_0_24_0_0))
  Prog.lift (.waitDma2 (oSem ![6] inb_S9_S1_6) (qVP ![0, 32, 0, 0] inb_S2x40x160x128_S2x8x160x128_0_32_0_0) (qHP ![0, 32, 0, 0] inb_S2x40x160x128_S2x8x160x128_0_32_0_0) ((Memref.isWhole_whole cc0_scratch13).wordExact_slice rfl _ wordsbf16_S2x40x160x128_S2x8x160x128_0_32_0_0) ((Memref.isWhole_whole main_v4_0).wordExact_slice rfl _ wordsbf16_S2x40x160x128_S2x8x160x128_0_32_0_0))
  Prog.lift (.waitDma2 (oSem ![7] inb_S9_S1_7) kV kH (Memref.isWhole_whole cc0_scratch14).wordExact (Memref.isWhole_whole main_v4_1).wordExact)
  Prog.lift (.waitDma2 (oSem ![8] inb_S9_S1_8) vV vH (Memref.isWhole_whole cc0_scratch15).wordExact (Memref.isWhole_whole main_v4_2).wordExact)

/-- The body. -/
def bodyProg : KProg F PUnit := do
  startSmall
  startX
  startW
  stage1
  chunk0
  Scf.Loop.for k0_t1_loop k0_t1_ok ⟨⟩ (fun k _ => trip k)
  chunk6_0
  chunk6_1
  chunk6_2
  startK
  vHeads
  startV
  waitOut
  pure ⟨⟩

end Cert.Proof.KernelIdeal

end
-- ==== Proof.Holds.lean ====
module

public import Idealize.ShloMosaic.Lib.Pipeline.FrameBody
public import Idealize.ShloMosaic.Lib.Pipeline.FrameSuffixV
public import Idealize.ShloMosaic.Lib.Ring
public import Idealize.ShloMosaic.Lib.Transfers
public import Idealize.ShloMosaic.Lib.Tactic

/-! # Buffers held by a fact about what they read

`Holds c q m S A G`: core `c` holds the elements `S` of `m`'s buffer, and at every index of `m` in `A` the buffer reads
what the function `G` says. A load inside `A` then yields a window of `G`; a store of a window of `G` widens `A`; a
copy between two memrefs delivers its destination at named contents. -/

@[expose] public section

noncomputable section

namespace Cert.Proof.Rules

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

local notation "𝕄" => MT nD τ sig Unit Val ℕ (Pipeline.UD sig nD τ) ℕ

/-- The bookkeeping of a core's own copies. -/
abbrev EC : UEmb Counters 𝕄 := countersEmb (U := Pipeline.UD sig nD τ)

/-- The weakest precondition of a core's program. -/
abbrev WP (defs : Defs nD τ sig Val Λ) (c : Dev nD) {α : Type} (p : Prog (TpuEff nD τ sig Val Λ .tc) α) (Q : α → sProp 𝕄) : sProp 𝕄 :=
  wp frame (wpE (Ix := Unit) (Name := ℕ) (U := Pipeline.UD sig nD τ) (Lvl := ℕ) defs Variants.none (c.tc : Thread nD τ) none) Set.univ p Q

section Seq

variable (defs : Defs nD τ sig Val Λ) (c : Dev nD) {α β : Type}

theorem WP_mono {p : Prog (TpuEff nD τ sig Val Λ .tc) α} {Q Q' : α → sProp 𝕄} (h : ∀ a, Q a ⊢ Q' a) : WP defs c p Q ⊢ WP defs c p Q' :=
  wp_mono _ _ _ h

/-- One program after another. -/
theorem WP_seq {P : sProp 𝕄} {p : Prog (TpuEff nD τ sig Val Λ .tc) α} {k : α → Prog (TpuEff nD τ sig Val Λ .tc) β} {Q : α → sProp 𝕄}
    {R : β → sProp 𝕄} (hp : P ⊢ WP defs c p Q) (hk : ∀ a, Q a ⊢ WP defs c (k a) R) : P ⊢ WP defs c (p >>= k) R :=
  by
  rw [WP, wp_bind]
  exact hp.trans (WP_mono defs c hk)

/-- What a program does not touch stays. -/
theorem WP_frame {p : Prog (TpuEff nD τ sig Val Λ .tc) α} {Q : α → sProp 𝕄} {R : sProp 𝕄} :
    iprop(WP defs c p Q ∗ R) ⊢ WP defs c p (fun a => iprop(Q a ∗ R)) :=
  wp_frame_r _ _ _

/-- Two programs on separate resources, one after the other. -/
theorem WP_par {P P' : sProp 𝕄} {p : Prog (TpuEff nD τ sig Val Λ .tc) PUnit} {k : PUnit → Prog (TpuEff nD τ sig Val Λ .tc) PUnit}
    {Q R : PUnit → sProp 𝕄} (hp : P ⊢ WP defs c p Q) (hk : P' ⊢ WP defs c (k ⟨⟩) R) :
    iprop(P ∗ P') ⊢ WP defs c (p >>= k) (fun _ => iprop(Q ⟨⟩ ∗ R ⟨⟩)) := by
  refine WP_seq defs c (Q := fun a => iprop(Q a ∗ P')) ((sep_mono_left hp).trans (WP_frame defs c)) fun a => ?_
  refine (sep_mono_right hk).trans (sep_comm.1.trans ((WP_frame defs c).trans (WP_mono defs c fun _ => sep_comm.1)))

/-- Two programs side by side, with results of their own. -/
theorem WP_par2 {P P' Q R : sProp 𝕄} {p : Prog (TpuEff nD τ sig Val Λ .tc) PUnit} {k : PUnit → Prog (TpuEff nD τ sig Val Λ .tc) PUnit}
    (hp : P ⊢ WP defs c p fun _ => Q) (hk : P' ⊢ WP defs c (k ⟨⟩) fun _ => R) :
    iprop(P ∗ P') ⊢ WP defs c (p >>= k) (fun _ => iprop(Q ∗ R)) := WP_par defs c hp hk

theorem WP_ret {a : α} {Q : α → sProp 𝕄} : Q a ⊢ WP defs c (pure a) Q := by
  rw [WP, wp_pure]
  iintro H
  imodintro
  iexact H

/-- A program used in the middle of a proof. -/
theorem WP_use {P Q : sProp 𝕄} {p : Prog (TpuEff nD τ sig Val Λ .tc) PUnit} {k : PUnit → Prog (TpuEff nD τ sig Val Λ .tc) β}
    {R : β → sProp 𝕄} (hp : P ⊢ WP defs c p fun _ => Q) : P ⊢ iprop((Q -∗ WP defs c (k ⟨⟩) R) -∗ WP defs c (p >>= k) R) := by
  iintro H Hk
  have h := WP_seq defs c (P := iprop(P ∗ (Q -∗ WP defs c (k ⟨⟩) R))) (p := p) (k := k) (Q := fun _ => iprop(Q ∗ (Q -∗ WP defs c (k ⟨⟩) R))) (R := R)
    ((sep_mono_left hp).trans (WP_frame defs c)) (fun _ => wand_elim_right)
  iapply h
  isplitl [H]
  · iexact H
  iexact Hk

theorem WP_use_last {P Q : sProp 𝕄} {p : Prog (TpuEff nD τ sig Val Λ .tc) α}
    {R : α → sProp 𝕄} (hp : P ⊢ WP defs c p fun _ => Q) : P ⊢ iprop((∀ a, Q -∗ R a) -∗ WP defs c p R) := by
  iintro H Hk
  have h : iprop(P ∗ (∀ a, Q -∗ R a)) ⊢ WP defs c p R := ((sep_mono_left hp).trans (WP_frame defs c)).trans (WP_mono defs c fun a =>
    (sep_mono_right (forall_elim a)).trans wand_elim_right)
  iapply h
  isplitl [H]
  · iexact H
  iexact Hk

/-- A list of programs, each with its own resource and all with a state they pass on. -/
theorem WP_chain {A As B Bs C C' C'' : sProp 𝕄} {p : Prog (TpuEff nD τ sig Val Λ .tc) PUnit} {k : PUnit → Prog (TpuEff nD τ sig Val Λ .tc) PUnit}
    (hp : iprop(A ∗ C) ⊢ WP defs c p fun _ => iprop(B ∗ C')) (hk : iprop(As ∗ C') ⊢ WP defs c (k ⟨⟩) fun _ => iprop(Bs ∗ C'')) :
    iprop((A ∗ As) ∗ C) ⊢ WP defs c (p >>= k) fun _ => iprop((B ∗ Bs) ∗ C'') := by
  refine WP_seq defs c (Q := fun _ => iprop((B ∗ C') ∗ As)) ?_ fun _ => ?_
  · refine BIBase.Entails.trans ?_ ((sep_mono_left hp).trans (WP_frame defs c))
    iintro ⟨⟨H1, H2⟩, H3⟩
    isplitl [H1 H3]
    · isplitl [H1]; · iexact H1
      iexact H3
    iexact H2
  · refine BIBase.Entails.trans ?_ (((sep_mono_left hk).trans (WP_frame defs c (R := B))).trans (WP_mono defs c fun _ => ?_))
    · iintro ⟨⟨H1, H2⟩, H3⟩
      isplitl [H3 H2]
      · isplitl [H3]; · iexact H3
        iexact H2
      iexact H1
    · iintro ⟨⟨H1, H2⟩, H3⟩
      isplitl [H3 H1]
      · isplitl [H3]; · iexact H3
        iexact H1
      iexact H2

/-- A program's postcondition rearranged. -/
theorem WP_post {P : sProp 𝕄} {Q Q' : α → sProp 𝕄} {p : Prog (TpuEff nD τ sig Val Λ .tc) α} (hp : P ⊢ WP defs c p Q) (h : ∀ a, Q a ⊢ Q' a) :
    P ⊢ WP defs c p Q' := hp.trans (WP_mono defs c h)

end Seq

section Rules

variable {sp sp' : Space} {s : Shape} {e : EltTy}

def Holds (c : Dev nD) (q : PosShare TreeShare) (m : Memref sig .tc sp s e) (S : Finset (Idx (m.view.loc (c.tc : Thread nD τ))))
    (A : s.Idx → Prop) (G : s.Idx → Val e) : sProp 𝕄 :=
  iprop(∃ f : Buf Val (m.view.loc (c.tc : Thread nD τ)), ⌜∀ x, A x → m.view.read Val f x = G x⌝ ∗ (m.view.loc (c.tc : Thread nD τ) ↦[S]{q} f))

variable {c : Dev nD} {q : PosShare TreeShare} {m : Memref sig .tc sp s e} {S : Finset (Idx (m.view.loc (c.tc : Thread nD τ)))}
  {A A' : s.Idx → Prop} {G G' : s.Idx → Val e}

/-- Nothing known. -/
theorem Holds.of_any : iprop(∃ f, m.view.loc (c.tc : Thread nD τ) ↦[S]{q} f) ⊢ Holds c q m S (fun _ => False) G := by
  unfold Holds
  iintro ⟨%f, H⟩
  iexists f
  isplitr
  · ipureintro; exact fun _ h => h.elim
  iexact H

theorem Holds.any : Holds c q m S A G ⊢ iprop(∃ f, m.view.loc (c.tc : Thread nD τ) ↦[S]{q} f) := by
  unfold Holds
  iintro ⟨%f, -, H⟩
  iexists f
  iexact H

theorem Holds.of_eq {f : Buf Val (m.view.loc (c.tc : Thread nD τ))} (h : ∀ x, A x → m.view.read Val f x = G x) :
    (m.view.loc (c.tc : Thread nD τ) ↦[S]{q} f) ⊢ Holds c q m S A G := by
  unfold Holds
  iintro H
  iexists f
  isplitr
  · ipureintro; exact h
  iexact H

theorem Holds.mono (h : ∀ x, A' x → A x ∧ G x = G' x) : Holds c q m S A G ⊢ Holds c q m S A' G' := by
  unfold Holds
  iintro ⟨%f, %hf, H⟩
  iexists f
  isplitr
  · ipureintro; exact fun x hx => (hf x (h x hx).1).trans (h x hx).2
  iexact H

/-- Known on all it holds: held at definite contents. -/
theorem Holds.toPt {g : Buf Val (m.view.loc (c.tc : Thread nD τ))}
    (h : ∀ i ∈ S, ∃ x, A x ∧ m.view.emb x = i ∧ m.view.read Val g x = G x) :
    Holds c q m S A G ⊢ (m.view.loc (c.tc : Thread nD τ) ↦[S]{q} g) := by
  unfold Holds
  refine exists_elim fun f => ?_
  iintro ⟨%hf, H⟩
  have hc : (m.view.loc (c.tc : Thread nD τ) ↦[S]{q} f : sProp 𝕄) = m.view.loc (c.tc : Thread nD τ) ↦[S]{q} g := by
    refine pointsTo_congr fun i hi => ?_
    obtain ⟨x, hx, rfl, hg⟩ := h i hi
    have h2 := (hf x hx).trans hg.symm
    rw [View.read_apply, View.read_apply] at h2
    exact (cast_inj _).mp h2
  irevert H
  rw [hc]
  iintro H
  iexact H

variable {defs : Defs nD τ sig Val Λ} {β : Type}

/-- A load of known contents. -/
theorem Holds.load {Q : β → sProp 𝕄} {cs : CoreSpace} {m : Memref sig .tc cs s e} {r : Rect s} {hl : m.view.LoadsAt r.toLoadRect} {S : Finset (Idx (m.view.loc (c.tc : Thread nD τ)))}
    {k : (r.shape.Idx → Val e) → Prog (TpuEff nD τ sig Val Λ .tc) β}
    (hS : (m.access r).set ⊆ S) (hA : ∀ j, A (r.emb j)) :
    Holds c q m S A G ⊢ iprop((Holds c q m S A G -∗ WP defs c (k (fun j => G (r.emb j))) Q)
      -∗ WP defs c (Prog.lift (.load m r.toLoadRect hl) >>= k) Q) := by
  unfold Holds
  iintro ⟨%f, %hf, H⟩ Hk
  have e : (fun j => G (r.emb j)) = (m.access r).read Val f := funext fun j => (hf _ (hA j)).symm
  rw [e]
  iapply (wp_load_rect (c := (c.tc : Thread nD τ)) Variants.none none Set.univ hS) $$ H
  iintro H
  iapply Hk
  iexists f
  isplitr
  · ipureintro; exact hf
  iexact H

/-- A load of known contents, under a name of one's own. -/
theorem Holds.loadAs {Q : β → sProp 𝕄} {cs : CoreSpace} {m : Memref sig .tc cs s e} {r : Rect s} {hl : m.view.LoadsAt r.toLoadRect} {S : Finset (Idx (m.view.loc (c.tc : Thread nD τ)))}
    {k : (r.shape.Idx → Val e) → Prog (TpuEff nD τ sig Val Λ .tc) β} (v : r.shape.Idx → Val e)
    (hS : (m.access r).set ⊆ S) (hA : ∀ j, A (r.emb j)) (hv : ∀ j, G (r.emb j) = v j) :
    Holds c q m S A G ⊢ iprop((Holds c q m S A G -∗ WP defs c (k v) Q)
      -∗ WP defs c (Prog.lift (.load m r.toLoadRect hl) >>= k) Q) := by
  obtain rfl : (fun j => G (r.emb j)) = v := funext hv
  exact Holds.load hS hA

/-- A load whose result is not used. -/
theorem Holds.skip {Q : β → sProp 𝕄} {cs : CoreSpace} {m : Memref sig .tc cs s e} {r : Rect s} {hl : m.view.LoadsAt r.toLoadRect} {S : Finset (Idx (m.view.loc (c.tc : Thread nD τ)))}
    {k : (r.shape.Idx → Val e) → Prog (TpuEff nD τ sig Val Λ .tc) β} (p : Prog (TpuEff nD τ sig Val Λ .tc) β)
    (hk : ∀ v, k v = p) (hS : (m.access r).set ⊆ S) :
    Holds c q m S A G ⊢ iprop((Holds c q m S A G -∗ WP defs c p Q)
      -∗ WP defs c (Prog.lift (.load m r.toLoadRect hl) >>= k) Q) := by
  obtain rfl : k = fun _ => p := funext hk
  unfold Holds
  iintro ⟨%f, %hf, H⟩ Hk
  iapply (wp_load_rect (c := (c.tc : Thread nD τ)) (k := fun _ => p) Variants.none none Set.univ hS) $$ H
  iintro H
  iapply Hk
  iexists f
  isplitr
  · ipureintro; exact hf
  iexact H

/-- A store of a window of the known function. -/
theorem Holds.store {Q : β → sProp 𝕄} {cs : CoreSpace} {m : Memref sig .tc cs s e} {r : Rect s} {S : Finset (Idx (m.view.loc (c.tc : Thread nD τ)))} {w : r.shape.Idx → Val e}
    {hx : (m.access r).Stores Finset.univ} {hm : (Finset.univ : Finset r.shape.Idx) = Finset.univ ∨ ∀ a, r.stride a = 1}
    {k : PUnit → Prog (TpuEff nD τ sig Val Λ .tc) β} (A' : s.Idx → Prop)
    (hS : (m.access r).set ⊆ S) (hw : ∀ j, w j = G (r.emb j)) (hA' : ∀ x, A' x → A x ∨ ∃ j, r.emb j = x) :
    Holds c fullShare m S A G ⊢ iprop((Holds c fullShare m S A' G -∗ WP defs c (k ⟨⟩) Q)
      -∗ WP defs c (Prog.lift (.store m r w Finset.univ hx hm) >>= k) Q) := by
  unfold Holds
  iintro ⟨%f, %hf, H⟩ Hk
  iapply (wp_store (c := (c.tc : Thread nD τ)) Variants.none none Set.univ hS) $$ H
  iintro H
  iapply Hk
  iexists ((m.access r).write Val f w Finset.univ)
  isplitr
  · ipureintro
    intro x hx
    by_cases hr : ∃ j, r.emb j = x
    · obtain ⟨j, rfl⟩ := hr
      exact (View.read_slice_write_emb (v := m.view) r f w (Finset.mem_univ j)).trans (hw j)
    · refine (View.read_slice_write_of_not_mem (v := m.view) r f w Finset.univ ?_).trans (hf x ((hA' x hx).resolve_right hr))
      intro hm
      obtain ⟨j, -, hj⟩ := Finset.mem_map.mp hm
      exact hr ⟨j, hj⟩
  iexact H

theorem Holds.store_last {cs : CoreSpace} {m : Memref sig .tc cs s e} {r : Rect s} {S : Finset (Idx (m.view.loc (c.tc : Thread nD τ)))} {w : r.shape.Idx → Val e}
    {hx : (m.access r).Stores Finset.univ} {hm : (Finset.univ : Finset r.shape.Idx) = Finset.univ ∨ ∀ a, r.stride a = 1}
    {Q : PUnit → sProp 𝕄} (A' : s.Idx → Prop)
    (hS : (m.access r).set ⊆ S) (hw : ∀ j, w j = G (r.emb j)) (hA' : ∀ x, A' x → A x ∨ ∃ j, r.emb j = x) :
    Holds c fullShare m S A G ⊢ iprop((Holds c fullShare m S A' G -∗ Q ⟨⟩)
      -∗ WP defs c (Prog.lift (.store m r w Finset.univ hx hm)) Q) := by
  iintro H Hk
  iapply (Holds.store (Q := Q) (defs := defs) (c := c) (k := Prog.ret) (hx := hx) (hm := hm) A' hS hw hA') $$ H
  iintro H
  iapply (le_wp_ret _ _ _ _ _)
  iapply Hk $$ H

/-- The same of a whole buffer. -/
def HoldsU (c : Dev nD) (q : PosShare TreeShare) (m : Memref sig .tc sp s e) (A : s.Idx → Prop) (G : s.Idx → Val e) : sProp 𝕄 :=
  Holds c q m Finset.univ A G

theorem HoldsU.loadAs {Q : β → sProp 𝕄} {cs : CoreSpace} {m : Memref sig .tc cs s e} {r : Rect s} {hl : m.view.LoadsAt r.toLoadRect}
    {k : (r.shape.Idx → Val e) → Prog (TpuEff nD τ sig Val Λ .tc) β} (v : r.shape.Idx → Val e)
    (hv : ∀ j, A (r.emb j) ∧ G (r.emb j) = v j) :
    HoldsU (τ := τ) c q m A G ⊢ iprop((HoldsU (τ := τ) c q m A G -∗ WP defs c (k v) Q)
      -∗ WP defs c (Prog.lift (.load m r.toLoadRect hl) >>= k) Q) :=
  Holds.loadAs v (Finset.subset_univ _) (fun j => (hv j).1) (fun j => (hv j).2)

theorem HoldsU.skip {Q : β → sProp 𝕄} {cs : CoreSpace} {m : Memref sig .tc cs s e} {r : Rect s} {hl : m.view.LoadsAt r.toLoadRect}
    {k : (r.shape.Idx → Val e) → Prog (TpuEff nD τ sig Val Λ .tc) β} (p : Prog (TpuEff nD τ sig Val Λ .tc) β)
    (hk : ∀ v, k v = p) :
    HoldsU (τ := τ) c q m A G ⊢ iprop((HoldsU (τ := τ) c q m A G -∗ WP defs c p Q)
      -∗ WP defs c (Prog.lift (.load m r.toLoadRect hl) >>= k) Q) :=
  Holds.skip p hk (Finset.subset_univ _)

theorem HoldsU.store {Q : β → sProp 𝕄} {cs : CoreSpace} {m : Memref sig .tc cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ .tc) β} (A' : s.Idx → Prop)
    (hw : ∀ j, w j = G (r.emb j)) (hA' : ∀ x, A' x → A x ∨ ∃ j, r.emb j = x) :
    HoldsU (τ := τ) c fullShare m A G ⊢ iprop((HoldsU (τ := τ) c fullShare m A' G -∗ WP defs c (k ⟨⟩) Q)
      -∗ WP defs c (Prog.lift (.store m r w Finset.univ hx hm) >>= k) Q) :=
  Holds.store A' (Finset.subset_univ _) hw hA'

theorem HoldsU.store_last {cs : CoreSpace} {m : Memref sig .tc cs s e} {r : Rect s} {w : r.shape.Idx → Val e}
    {hx : (m.access r).Stores Finset.univ} {hm : (Finset.univ : Finset r.shape.Idx) = Finset.univ ∨ ∀ a, r.stride a = 1}
    {Q : PUnit → sProp 𝕄} (A' : s.Idx → Prop)
    (hw : ∀ j, w j = G (r.emb j)) (hA' : ∀ x, A' x → A x ∨ ∃ j, r.emb j = x) :
    HoldsU (τ := τ) c fullShare m A G ⊢ iprop((HoldsU (τ := τ) c fullShare m A' G -∗ Q ⟨⟩)
      -∗ WP defs c (Prog.lift (.store m r w Finset.univ hx hm)) Q) :=
  Holds.store_last A' (Finset.subset_univ _) hw hA'

theorem HoldsU.mono (h : ∀ x, A' x → A x ∧ G x = G' x) : HoldsU (τ := τ) c q m A G ⊢ HoldsU (τ := τ) c q m A' G' := Holds.mono h

theorem HoldsU.of_any : iprop(∃ f, m.view.loc (c.tc : Thread nD τ) ↦{q} f) ⊢ HoldsU (τ := τ) c q m (fun _ => False) G := Holds.of_any

theorem HoldsU.of_eq {f : Buf Val (m.view.loc (c.tc : Thread nD τ))} (h : ∀ x, A x → m.view.read Val f x = G x) :
    (m.view.loc (c.tc : Thread nD τ) ↦{q} f) ⊢ HoldsU (τ := τ) c q m A G := Holds.of_eq h

theorem HoldsU.toPt {g : Buf Val (m.view.loc (c.tc : Thread nD τ))}
    (h : ∀ i, ∃ x, A x ∧ m.view.emb x = i ∧ m.view.read Val g x = G x) :
    HoldsU (τ := τ) c q m A G ⊢ (m.view.loc (c.tc : Thread nD τ) ↦{q} g) := Holds.toPt fun i _ => h i

/-- The same of a rectangle of a buffer. -/
def HoldsR (c : Dev nD) (q : PosShare TreeShare) (m : Memref sig .tc sp s e) (r' : Rect s) (A : s.Idx → Prop) (G : s.Idx → Val e) : sProp 𝕄 :=
  Holds c q m (m.access r').set A G

theorem access_subset {m : Memref sig .tc sp s e} {r r' : Rect s} (h : r.set ⊆ r'.set) : (m.access r).set ⊆ (m.access r').set := by
  rw [View.set_slice, View.set_slice]
  exact Finset.map_subset_map.mpr h

variable {r' : Rect s}

theorem HoldsR.loadAs {Q : β → sProp 𝕄} {cs : CoreSpace} {m : Memref sig .tc cs s e} {r : Rect s} {hl : m.view.LoadsAt r.toLoadRect}
    {k : (r.shape.Idx → Val e) → Prog (TpuEff nD τ sig Val Λ .tc) β} (v : r.shape.Idx → Val e) (hS : r.set ⊆ r'.set)
    (hv : ∀ j, A (r.emb j) ∧ G (r.emb j) = v j) :
    HoldsR (τ := τ) c q m r' A G ⊢ iprop((HoldsR (τ := τ) c q m r' A G -∗ WP defs c (k v) Q)
      -∗ WP defs c (Prog.lift (.load m r.toLoadRect hl) >>= k) Q) :=
  Holds.loadAs v (access_subset hS) (fun j => (hv j).1) (fun j => (hv j).2)

theorem HoldsR.skip {Q : β → sProp 𝕄} {cs : CoreSpace} {m : Memref sig .tc cs s e} {r : Rect s} {hl : m.view.LoadsAt r.toLoadRect}
    {k : (r.shape.Idx → Val e) → Prog (TpuEff nD τ sig Val Λ .tc) β} (p : Prog (TpuEff nD τ sig Val Λ .tc) β)
    (hk : ∀ v, k v = p) (hS : r.set ⊆ r'.set) :
    HoldsR (τ := τ) c q m r' A G ⊢ iprop((HoldsR (τ := τ) c q m r' A G -∗ WP defs c p Q)
      -∗ WP defs c (Prog.lift (.load m r.toLoadRect hl) >>= k) Q) :=
  Holds.skip p hk (access_subset hS)

theorem HoldsR.store {Q : β → sProp 𝕄} {cs : CoreSpace} {m : Memref sig .tc cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ .tc) β} (A' : s.Idx → Prop) (hS : r.set ⊆ r'.set)
    (hw : ∀ j, w j = G (r.emb j)) (hA' : ∀ x, A' x → A x ∨ ∃ j, r.emb j = x) :
    HoldsR (τ := τ) c fullShare m r' A G ⊢ iprop((HoldsR (τ := τ) c fullShare m r' A' G -∗ WP defs c (k ⟨⟩) Q)
      -∗ WP defs c (Prog.lift (.store m r w Finset.univ hx hm) >>= k) Q) :=
  Holds.store A' (access_subset hS) hw hA'

theorem HoldsR.store_last {cs : CoreSpace} {m : Memref sig .tc cs s e} {r : Rect s} {w : r.shape.Idx → Val e}
    {hx : (m.access r).Stores Finset.univ} {hm : (Finset.univ : Finset r.shape.Idx) = Finset.univ ∨ ∀ a, r.stride a = 1}
    {Q : PUnit → sProp 𝕄} (A' : s.Idx → Prop) (hS : r.set ⊆ r'.set)
    (hw : ∀ j, w j = G (r.emb j)) (hA' : ∀ x, A' x → A x ∨ ∃ j, r.emb j = x) :
    HoldsR (τ := τ) c fullShare m r' A G ⊢ iprop((HoldsR (τ := τ) c fullShare m r' A' G -∗ Q ⟨⟩)
      -∗ WP defs c (Prog.lift (.store m r w Finset.univ hx hm)) Q) :=
  Holds.store_last A' (access_subset hS) hw hA'

theorem HoldsR.of_any : iprop(∃ f, m.view.loc (c.tc : Thread nD τ) ↦[(m.access r').set]{q} f) ⊢ HoldsR (τ := τ) c q m r' (fun _ => False) G := Holds.of_any

theorem HoldsR.of_eq {f : Buf Val (m.view.loc (c.tc : Thread nD τ))} (h : ∀ x, A x → m.view.read Val f x = G x) :
    (m.view.loc (c.tc : Thread nD τ) ↦[(m.access r').set]{q} f) ⊢ HoldsR (τ := τ) c q m r' A G := Holds.of_eq h

theorem HoldsR.any : HoldsR (τ := τ) c q m r' A G ⊢ iprop(∃ f, m.view.loc (c.tc : Thread nD τ) ↦[(m.access r').set]{q} f) := Holds.any

theorem HoldsR.mono (h : ∀ x, A' x → A x ∧ G x = G' x) : HoldsR (τ := τ) c q m r' A G ⊢ HoldsR (τ := τ) c q m r' A' G' := Holds.mono h

theorem HoldsR.toPt {g : Buf Val (m.view.loc (c.tc : Thread nD τ))}
    (h : ∀ x ∈ r'.set, A x ∧ m.view.read Val g x = G x) :
    HoldsR (τ := τ) c q m r' A G ⊢ (m.view.loc (c.tc : Thread nD τ) ↦[(m.access r').set]{q} g) := Holds.toPt fun i hi => by
  rw [View.set_slice] at hi
  obtain ⟨x, hx, rfl⟩ := Finset.mem_map.mp hi
  exact ⟨x, (h x hx).1, rfl, (h x hx).2⟩

theorem HoldsU.of_whole (b : Ref sig .tc) {f : Buf Val ((Memref.whole b : Memref sig .tc _ _ _).view.loc (c.tc : Thread nD τ))} :
    ((Memref.whole b : Memref sig .tc _ _ _).view.loc (c.tc : Thread nD τ) ↦[(Memref.whole b : Memref sig .tc _ _ _).view.set]{q} f)
      ⊢ HoldsU (τ := τ) c q (Memref.whole b) (fun _ => True) f := by
  have h : (Memref.whole b : Memref sig .tc _ _ _).view.set = Finset.univ := View.set_whole b
  rw [h]
  exact HoldsU.of_eq fun x _ => rfl

theorem HoldsU.to_whole (b : Ref sig .tc) {A : b.ty.shape.Idx → Prop} (hA : ∀ x, A x) {f : Buf Val ((Memref.whole b : Memref sig .tc _ _ _).view.loc (c.tc : Thread nD τ))} :
    HoldsU (τ := τ) c q (Memref.whole b) A f
      ⊢ ((Memref.whole b : Memref sig .tc _ _ _).view.loc (c.tc : Thread nD τ) ↦[(Memref.whole b : Memref sig .tc _ _ _).view.set]{q} f) := by
  have h : (Memref.whole b : Memref sig .tc _ _ _).view.set = Finset.univ := View.set_whole b
  rw [h]
  exact HoldsU.toPt fun x => ⟨x, hA x, rfl, rfl⟩

theorem HoldsU.any_whole (b : Ref sig .tc) {A : b.ty.shape.Idx → Prop} {f : Buf Val ((Memref.whole b : Memref sig .tc _ _ _).view.loc (c.tc : Thread nD τ))} :
    HoldsU (τ := τ) c q (Memref.whole b) A f ⊢ iprop(∃ f, (Memref.whole b : Memref sig .tc _ _ _).view.loc (c.tc : Thread nD τ) ↦{q} f) :=
  Holds.any

/-- Starting a copy: the source's elements lent, the destination to come at contents reading what the source reads. -/
theorem start {src : Memref sig .tc sp s e} {dst : Memref sig .tc sp' s e} {sm : DmaSem sig}
    {hsrc : src.view.WordExact} {hdst : dst.view.WordExact} {hsem : DmaTarget.Typed (nD := nD) sp (.dma sm) (.here dst : DmaTarget nD τ sig Proc.tc sp' s e)}
    {fs : Buf Val (src.view.loc (c.tc : Thread nD τ))} {gd : Buf Val (dst.view.loc (c.tc : Thread nD τ))}
    (hN0 : 0 < s.numel) (h : ∀ x, dst.view.read Val gd x = src.view.read Val fs x) :
    iprop((src.view.loc (c.tc : Thread nD τ) ↦[src.view.set]{q} fs)
        ∗ (∃ f, dst.view.loc (c.tc : Thread nD τ) ↦[dst.view.set]{fullShare} f) ∗ semVal ((c.tc : Thread nD τ), .dma sm) 0)
      ⊢ WP defs c (Prog.lift (.enqueueDma src (.here dst) (.dma sm) hsrc hdst hsem)) fun _ =>
          Transfers.Flight EC (c.tc : Thread nD τ) (.dma sm) () dst.view.dmaCredit
            iprop((dst.view.loc (c.tc : Thread nD τ) ↦[dst.view.set]{fullShare} gd)
              ∗ (src.view.loc (c.tc : Thread nD τ) ↦[src.view.set]{q} fs)) := by
  iintro ⟨Hs, ⟨%fd, Hd⟩, Hv⟩
  iapply (Transfers.wp_dmaLocal EC Variants.none (c.tc : Thread nD τ) none () dst.view.dmaCredit rfl (View.dmaCredit_pos _ hN0) subset_rfl) $$ [Hs Hd Hv]
  · isplitl [Hs]; · iexact Hs
    isplitl [Hd]; · iexact Hd
    iexact Hv
  iintro HF
  iapply (le_wp_ret _ _ _ _ _)
  have hc : (dst.view.loc (c.tc : Thread nD τ) ↦[dst.view.set]{fullShare} (dst.view.write Val fd (src.view.read Val fs) Finset.univ) : sProp 𝕄)
      = dst.view.loc (c.tc : Thread nD τ) ↦[dst.view.set]{fullShare} gd := by
    refine pointsTo_congr fun i hi => ?_
    obtain ⟨x, -, rfl⟩ := Finset.mem_map.mp hi
    rw [View.write_emb_of_mem _ _ (Finset.mem_univ x), ← h x, View.read_apply, cast_cast, cast_eq]
  rw [← hc]
  iexact HF

/-- Waiting for a copy. -/
theorem wait {srcw : Memref sig .tc sp s e} {dstw : Memref sig .tc sp' s e} {sem : DmaSem sig}
    {h1 : srcw.view.WordExact} {h2 : dstw.view.WordExact} {D : sProp 𝕄} :
    iprop(Transfers.Flight EC (c.tc : Thread nD τ) (.dma sem) () dstw.view.dmaCredit D ∗ ∃ W, owes (c.tc : Thread nD τ) 0 W)
      ⊢ WP defs c (Prog.lift (.waitDma2 sem srcw dstw h1 h2)) fun _ =>
          iprop((D ∗ semVal ((c.tc : Thread nD τ), .dma sem) 0) ∗ ∃ W, owes (c.tc : Thread nD τ) 0 W) := by
  iintro ⟨HF, ⟨%W, HW⟩⟩
  iapply (Transfers.wp_waitLocal EC Variants.none (c.tc : Thread nD τ) none () rfl) $$ [HF HW]
  · isplitl [HF]; · iexact HF
    iexact HW
  iintro ⟨HD, Hv, HW⟩
  iapply (le_wp_ret _ _ _ _ _)
  isplitl [HD Hv]
  · isplitl [HD]; · iexact HD
    iexact Hv
  iexists (insert (SemLoc.dma sem, ()) W)
  iexact HW

end Rules

section Split

variable {c : Dev nD} {q : PosShare TreeShare}

theorem ent_of_eq {P Q : sProp 𝕄} (h : P = Q) : P ⊢ Q := h ▸ .rfl

/-- A whole buffer's elements are all of them. -/
theorem whole_eq (b : Ref sig .tc) (f : Buf Val ((c.tc : Thread nD τ).loc b)) :
    ((Memref.whole b : Memref sig .tc _ _ _).view.loc (c.tc : Thread nD τ) ↦[(Memref.whole b : Memref sig .tc _ _ _).view.set]{q} f : sProp 𝕄) = (((c.tc : Thread nD τ).loc b) ↦{q} f) := by
  have h : (Memref.whole b : Memref sig .tc _ _ _).view.set = Finset.univ := View.set_whole b
  rw [h]

theorem whole_any (b : Ref sig .tc) :
    (iprop(∃ f, (Memref.whole b : Memref sig .tc _ _ _).view.loc (c.tc : Thread nD τ) ↦[(Memref.whole b : Memref sig .tc _ _ _).view.set]{q} f) : sProp 𝕄)
      = iprop(∃ f, ((c.tc : Thread nD τ).loc b) ↦{q} f) := by
  have h : (Memref.whole b : Memref sig .tc _ _ _).view.set = Finset.univ := View.set_whole b
  rw [h]

/-- A buffer cut into pieces. -/
theorem split_whole (b : Ref sig .tc) {B : Type} [Fintype B] [DecidableEq B] (J : B → Finset b.ty.shape.Idx) (hd : ∀ i j, i ≠ j → Disjoint (J i) (J j))
    (hc : ∀ x, ∃ i, x ∈ J i) (f : Buf Val ((c.tc : Thread nD τ).loc b)) :
    (((c.tc : Thread nD τ).loc b) ↦{q} f : sProp 𝕄) = BI.bigSep Finset.univ fun i => ((c.tc : Thread nD τ).loc b) ↦[J i]{q} f :=
  Ring.pointsTo_blocks (ℓ := (c.tc : Thread nD τ).loc b) J hd (Finset.eq_univ_iff_forall.mpr fun x => Finset.mem_biUnion.mpr ((hc x).imp fun i h => ⟨Finset.mem_univ _, h⟩)) f

theorem split_any (b : Ref sig .tc) {B : Type} [Fintype B] [DecidableEq B] (J : B → Finset b.ty.shape.Idx) (hd : ∀ i j, i ≠ j → Disjoint (J i) (J j))
    (hc : ∀ x, ∃ i, x ∈ J i) :
    (iprop(∃ f, ((c.tc : Thread nD τ).loc b) ↦{q} f) : sProp 𝕄) ⊢ BI.bigSep Finset.univ fun i => iprop(∃ f, ((c.tc : Thread nD τ).loc b) ↦[J i]{q} f) := by
  refine exists_elim fun f => ?_
  rw [split_whole b J hd hc f]
  exact BI.bigSep_mono fun i _ => exists_intro (Φ := fun f => ((c.tc : Thread nD τ).loc b) ↦[J i]{q} f) f

theorem join_any (b : Ref sig .tc) {B : Type} [Fintype B] [DecidableEq B] (J : B → Finset b.ty.shape.Idx) (hd : ∀ i j, i ≠ j → Disjoint (J i) (J j))
    (hc : ∀ x, ∃ i, x ∈ J i) (f₀ : Buf Val ((c.tc : Thread nD τ).loc b)) :
    (BI.bigSep Finset.univ fun i => iprop(∃ f, ((c.tc : Thread nD τ).loc b) ↦[J i]{q} f) : sProp 𝕄) ⊢ iprop(∃ f, ((c.tc : Thread nD τ).loc b) ↦{q} f) :=
  Ring.pointsTo_blocks_join_exists (ℓ := (c.tc : Thread nD τ).loc b) J hd (Finset.eq_univ_iff_forall.mpr fun x => Finset.mem_biUnion.mpr ((hc x).imp fun i h => ⟨Finset.mem_univ _, h⟩)) f₀

end Split

end Cert.Proof.Rules

end
-- ==== Proof.KernelIdealState.lean ====
module

public import proofs.«01_k».proof.Proof.KernelIdealStruct
public import proofs.«01_k».proof.Proof.Holds
public import Idealize.ShloMosaic.Lib.ValueIdx
public import Idealize.ShloMosaic.Lib.ValueLayout
public import Idealize.ShloMosaic.Lib.Pipeline.ValueKit

/-! # What each buffer of the kernel comes to hold, as functions of the arrays it is handed -/

@[expose] public section

noncomputable section

namespace Cert.Proof.KernelIdeal

open Cert.KernelIdeal Cert.KernelIdeal.Gen
open Idealize.ShloMosaic hiding ix0 ix1 ix2 ix3 ix4 ix5 ix6
open Idealize.ShloMosaic.TcCoe
open Idealize.SL Idealize.SL.Sem
open Idealize.ShloMosaic.ValueIdx

variable {F : FTy → Type} [FloatOps F] [Named F]

/-- The arrays the kernel is handed. -/
structure In (F : FTy → Type) [FloatOps F] [Named F] where
  x : Vec F S256x5120 .bf16
  nw : Vec F S1x5120 .f32
  w : Vec F S5120x8960 .fp8e4m3
  ws : Vec F S8960 .f32
  qg : Vec F S1x160 .f32
  kg : Vec F S1x160 .f32
  pos : Vec F S2x128 .i32
  invf : Vec F S80x128 .f32

variable (I : In F)

/-- Rows `32 i …` of `x`. -/
def xRows (i : Fin 8) : Vec F S32x5120 .bf16 := fun j =>
  I.x (ix2 ⟨32 * i.val + (j 0).val, by have := (show (j 0).val < 32 from (j 0).isLt); omega⟩ (j 1))

/-- The codes. -/
def CODES : Vec F S256x5120 .fp8e4m3 := fun x =>
  codesPay (xRows I ⟨(x 0).val / 32, by have := (show (x 0).val < 256 from (x 0).isLt); omega⟩) I.nw
    (ix2 ⟨(x 0).val % 32, Nat.mod_lt _ (by decide)⟩ (x 1))

/-- The scale of each row, in every column. -/
def XS : Vec F S256x128 .f32 := fun x =>
  scalesPay (xRows I ⟨(x 0).val / 32, by have := (show (x 0).val < 256 from (x 0).isLt); omega⟩) I.nw
    (ix2 ⟨(x 0).val % 32, Nat.mod_lt _ (by decide)⟩ (x 1))

/-- The scales laid out by batch row. -/
def XST : Vec F S2x128 .f32 := fun x =>
  xstPay (fun j => XS I (ix2 ⟨128 * (x 0).val + (j 0).val, by
    have := (show (j 0).val < 128 from (j 0).isLt); have := (show (x 0).val < 2 from (x 0).isLt); omega⟩ (j 1))) (ix2 0 (x 1))

/-- Batch row `b`'s positions. -/
def posRow (b : Fin 2) : Vec F S1x128 .i32 := fun j => I.pos (ix2 b (j 1))

/-- The gains of q (0) or of k (1). -/
def gains (kd : Fin 2) : Vec F S1x160 .f32 := if kd = 0 then I.qg else I.kg

/-- One of the sixteen tables. -/
def tabOf (kd b : Fin 2) : Fin 4 → FVec F S1x1x1x80x128 .f32
  | 0 => tabLo (gains I kd) (cos (angles (posRow I b) I.invf))
  | 1 => tabHi (gains I kd) (sin (angles (posRow I b) I.invf))
  | 2 => tabHi (gains I kd) (cos (angles (posRow I b) I.invf))
  | 3 => tabLo (gains I kd) (sin (angles (posRow I b) I.invf))

def TAB : Vec F S2x2x4x80x128 .f32 := fun x => tabOf I (x 0) (x 1) (x 2) (ix5 0 0 0 (x 3) (x 4))

/-- The weights by chunk. -/
def WV : Vec F S7x5120x1280 .fp8e4m3 := fun x => I.w (ix2 (x 1) ⟨1280 * (x 0).val + (x 2).val, by
  have := (show (x 0).val < 7 from (x 0).isLt); have := (show (x 2).val < 1280 from (x 2).isLt); omega⟩)

/-- The scales' first column. -/
def xs1 : Vec F S256x1 .f32 := fun j => XS I (ix2 (j 0) 0)

/-- The weights' columns `o …`, and their scales. -/
def w512 (o : ℕ) : Vec F S1x5120x512 .fp8e4m3 := fun j => I.w (ix2 (j 1) ⟨(o + (j 2).val) % 8960, Nat.mod_lt _ (by decide)⟩)
def w256 (o : ℕ) : Vec F S1x5120x256 .fp8e4m3 := fun j => I.w (ix2 (j 1) ⟨(o + (j 2).val) % 8960, Nat.mod_lt _ (by decide)⟩)
def ws512 (o : ℕ) : Vec F S512 .f32 := fun j => I.ws (ix1 ⟨(o + (j 0).val) % 8960, Nat.mod_lt _ (by decide)⟩)
def ws256 (o : ℕ) : Vec F S256 .f32 := fun j => I.ws (ix1 ⟨(o + (j 0).val) % 8960, Nat.mod_lt _ (by decide)⟩)

/-- The projected columns `o …` of batch row `b`, transposed. -/
def part512 (o : ℕ) (b : Fin 2) : FVec F S1x1x512x128 .f32 :=
  if b = 0 then projPay512_0 (CODES I) (w512 I o) (ws512 I o) (xs1 I) else projPay512_1 (CODES I) (w512 I o) (ws512 I o) (xs1 I)
def part256 (o : ℕ) (b : Fin 2) : FVec F S1x1x256x128 .f32 :=
  if b = 0 then projPay256_0 (CODES I) (w256 I o) (ws256 I o) (xs1 I) else projPay256_1 (CODES I) (w256 I o) (ws256 I o) (xs1 I)

/-- Chunk `c` of the projection: batch row, column within the chunk, position. -/
def Y (c : ℕ) (b : Fin 2) (r : Fin 1280) (l : Fin 128) : Elt F .f32 :=
  if h : r.val < 512 then part512 I (1280 * c) b (ix4 0 0 ⟨r.val, h⟩ l)
  else if h : r.val < 1024 then part512 I (1280 * c + 512) b (ix4 0 0 ⟨r.val - 512, by omega⟩ l)
  else part256 I (1280 * c + 1024) b (ix4 0 0 ⟨r.val - 1024, by have := r.isLt; omega⟩ l)

/-- The two slots while chunk `c` is projected: its own, and the chunk before in the other. -/
def YT (c : ℕ) : Vec F S2x2x1280x128 .f32 := fun x => Y I (if (x 0).val = c % 2 then c else c - 1) (x 1) (x 2) (x 3)

/-- Head `h` of chunk `c`. -/
def yHead (c : ℕ) (h : Fin 8) (b : Fin 2) : Vec F S1x1x160x128 .f32 := fun j =>
  Y I c b ⟨160 * h.val + (j 2).val, by have := (show (j 2).val < 160 from (j 2).isLt); omega⟩ (j 3)

/-- A rotated head, at one entry. -/
def rotAt (kd : Fin 2) (y : Vec F S1x1x160x128 .f32) (b : Fin 2) (d : Fin 160) (l : Fin 128) : Elt F .bf16 :=
  if h : d.val < 80 then rotLoPay y (tabOf I kd b 0) (tabOf I kd b 1) (ix4 0 0 ⟨d.val, h⟩ l)
  else rotHiPay y (tabOf I kd b 2) (tabOf I kd b 3) (ix4 0 0 ⟨d.val - 80, by have := d.isLt; omega⟩ l)

/-- The three projected results. -/
def QO : Vec F S2x40x160x128 .bf16 := fun x =>
  rotAt I 0 (yHead I ((x 1).val / 8) ⟨(x 1).val % 8, Nat.mod_lt _ (by decide)⟩ (x 0)) (x 0) (x 2) (x 3)
def KO : Vec F S2x8x160x128 .bf16 := fun x => rotAt I 1 (yHead I 5 (x 1) (x 0)) (x 0) (x 2) (x 3)
def VO : Vec F S2x8x160x128 .bf16 := fun x => vPay (yHead I 6 (x 1) (x 0)) (ix4 0 0 (x 2) (x 3))

end Cert.Proof.KernelIdeal

end
-- ==== Proof.KernelIdealRows.lean ====
module

public import proofs.«01_k».proof.Proof.KernelIdealState

/-! # What one block of the kernel does: the heads -/

@[expose] public section

noncomputable section

namespace Cert.Proof.KernelIdeal

open Cert.KernelIdeal Cert.KernelIdeal.Gen Cert.Proof.Rules
open Idealize.ShloMosaic hiding ix0 ix1 ix2 ix3 ix4 ix5 ix6
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

variable (I : In F) (c : Dev nD)

/-- The weakest precondition of a piece of the kernel. -/
abbrev WK {α : Type} (p : KProg F α) (Q : α → sProp (MT nD τ sig Unit (Elt F) ℕ (Pipeline.UD sig nD τ) ℕ)) := WP (defs₀ (F := F)) c p Q

/-- Every element of a window, by coordinates. -/
theorem in_unit {s : Shape} {o size : Fin s.rank → ℕ} {inb : ∀ a, o a + size a ≤ s.size a} {x : s.Idx}
    (h : ∀ a, o a ≤ (x a : ℕ) ∧ (x a : ℕ) < o a + size a) : ∃ j, (Rect.unit (s := s) o size inb).emb j = x := by
  refine ⟨fun a => ⟨(x a : ℕ) - o a, by have := h a; show (x a : ℕ) - o a < size a; omega⟩, funext fun a => Fin.ext ?_⟩
  rw [ValueKit.rect_emb_unit_val]
  have := h a
  show o a + ((x a : ℕ) - o a) = _
  omega

theorem YT_at {n ck : ℕ} {x : S2x2x1280x128.Idx} {b : Fin 2} {r : Fin 1280} {l : Fin 128} (h0 : (if (x 0).val = n % 2 then n else n - 1) = ck)
    (h1 : (x 1).val = b.val) (h2 : (x 2).val = r.val) (h3 : (x 3).val = l.val) : YT I n x = Y I ck b r l := by
  unfold YT
  rw [h0]
  exact congr (congr (congrArg _ (Fin.ext h1)) (Fin.ext h2)) (Fin.ext h3)

/-- What a head needs of the slots: its rows are there. -/
def HeadIn (n ck : ℕ) (b : Fin 2) (h : Fin 8) (A : S2x2x1280x128.Idx → Prop) : Prop :=
  (if ck % 2 = n % 2 then n else n - 1) = ck ∧
    ∀ x : S2x2x1280x128.Idx, (x 0).val = ck % 2 → (x 1).val = b.val → 160 * h.val ≤ (x 2).val → (x 2).val < 160 * h.val + 160 → A x

abbrev AV (n : ℕ) : S2x8x160x128.Idx → Prop := fun x => 8 * (x 0).val + (x 1).val < n

theorem lt0 (x : S2x2x1280x128.Idx) : (x 0).val < 2 := (x 0).isLt

theorem yv (n ck : ℕ) (b : Fin 2) (h : Fin 8) {o1 : Fin 4 → ℕ} {h1 : ∀ a, o1 a + S1x1x160x128.size a ≤ S2x2x1280x128.size a}
    (e1 : o1 = ![ck % 2, b.val, 160 * h.val, 0]) {A} (hA : HeadIn n ck b h A) (j : (Rect.unit (s := S2x2x1280x128) o1 S1x1x160x128.size h1).shape.Idx) :
    A ((Rect.unit (s := S2x2x1280x128) o1 S1x1x160x128.size h1).emb j) ∧ YT I n ((Rect.unit (s := S2x2x1280x128) o1 S1x1x160x128.size h1).emb j) = yHead I ck h b j := by
  subst e1
  have j2 := (show (j 2).val < 160 from (j 2).isLt)
  have j1 := (show (j 1).val < 1 from (j 1).isLt)
  have j0 := (show (j 0).val < 1 from (j 0).isLt)
  have k0 := ValueKit.rect_emb_unit_val _ _ h1 j 0
  have k1 := ValueKit.rect_emb_unit_val _ _ h1 j 1
  have k2 := ValueKit.rect_emb_unit_val _ _ h1 j 2
  have k3 := ValueKit.rect_emb_unit_val _ _ h1 j 3
  generalize (Rect.unit (s := S2x2x1280x128) _ S1x1x160x128.size h1).emb j = x at *
  simp at k0 k1 k2 k3
  have e0 : (x 0).val = ck % 2 := by omega
  have e1 : (x 1).val = b.val := by omega
  refine ⟨hA.2 x e0 e1 ?_ ?_, YT_at I ?_ ?_ ?_ ?_⟩
  · omega
  · omega
  · rw [e0]; exact hA.1
  · exact e1
  · exact k2
  · exact k3

theorem in_v (b : Fin 2) (h : Fin 8)  {o2 : Fin 4 → ℕ} {h2 : ∀ a, o2 a + S1x1x160x128.size a ≤ S2x8x160x128.size a}
    (e2 : o2 = ![b.val, h.val, 0, 0]) (x : S2x8x160x128.Idx) (hx : AV (8 * b.val + h.val + 1) x) :
    AV (8 * b.val + h.val) x ∨ ∃ j, (Rect.unit (s := S2x8x160x128) o2 S1x1x160x128.size h2).emb j = x := by
  subst e2
  have hb := b.isLt
  have hh := h.isLt
  have hx0 := (show (x 0).val < 2 from (x 0).isLt)
  have hx1 := (show (x 1).val < 8 from (x 1).isLt)
  have hx2 := (show (x 2).val < 160 from (x 2).isLt)
  have hx3 := (show (x 3).val < 128 from (x 3).isLt)
  by_cases hA : 8 * (x 0).val + (x 1).val < 8 * b.val + h.val
  · exact Or.inl hA
  · refine Or.inr (in_unit ?_)
    simp only [AV] at hx
    simp only [Fin.forall_fin_succ]
    simp
    omega

theorem vv (b : Fin 2) (h : Fin 8)  {o2 : Fin 4 → ℕ} {h2 : ∀ a, o2 a + S1x1x160x128.size a ≤ S2x8x160x128.size a}
    (e2 : o2 = ![b.val, h.val, 0, 0]) (j : (Rect.unit (s := S2x8x160x128) o2 S1x1x160x128.size h2).shape.Idx) :
    vPay (yHead I 6 h b) j = VO I ((Rect.unit (s := S2x8x160x128) o2 S1x1x160x128.size h2).emb j) := by
  subst e2
  have j1 := (show (j 1).val < 1 from (j 1).isLt)
  have j0 := (show (j 0).val < 1 from (j 0).isLt)
  have k0 := ValueKit.rect_emb_unit_val _ _ h2 j 0
  have k1 := ValueKit.rect_emb_unit_val _ _ h2 j 1
  have k2 := ValueKit.rect_emb_unit_val _ _ h2 j 2
  have k3 := ValueKit.rect_emb_unit_val _ _ h2 j 3
  generalize (Rect.unit (s := S2x8x160x128) _ S1x1x160x128.size h2).emb j = x at *
  simp at k0 k1 k2 k3
  have e0 : x 0 = b := Fin.ext (by omega)
  have e1 : x 1 = h := Fin.ext (by omega)
  unfold VO
  rw [e0, e1]
  congr 1
  funext a
  match a with
  | ⟨0, _⟩ => exact Fin.ext (by show (j 0).val = 0; omega)
  | ⟨1, _⟩ => exact Fin.ext (by show (j 1).val = 0; omega)
  | ⟨2, _⟩ => exact Fin.ext k2.symm
  | ⟨3, _⟩ => exact Fin.ext k3.symm

theorem vHead_spec {A : S2x2x1280x128.Idx → Prop} (b : Fin 2) (h : Fin 8) (hA : HeadIn 6 6 b h A) {o1 : Fin 4 → ℕ} {h1} {o2 : Fin 4 → ℕ} {h2} {p2}
    (e1 : o1 = ![6 % 2, b.val, 160 * h.val, 0]) (e2 : o2 = ![b.val, h.val, 0, 0]) :
    iprop(HoldsU c fullShare ytV A (YT I 6) ∗ HoldsU c fullShare vV (AV (8 * b.val + h.val)) (VO I))
      ⊢ WK c (vHead o1 h1 o2 h2 p2) fun _ => iprop(HoldsU c fullShare ytV A (YT I 6)
          ∗ HoldsU c fullShare vV (AV (8 * b.val + h.val + 1)) (VO I)) := by
  unfold vHead
  iintro ⟨HY, HV⟩
  iapply (HoldsU.loadAs (yHead I 6 h b) (yv I 6 6 b h e1 hA)) $$ HY
  iintro HY
  iapply (HoldsU.skip _ (fun _ => rfl)) $$ HV
  iintro HV
  iapply (HoldsU.store_last (AV (8 * b.val + h.val + 1)) (vv I b h e2) (in_v b h e2)) $$ HV
  iintro HV
  isplitl [HY]; · iexact HY
  iexact HV

end Cert.Proof.KernelIdeal

end
-- ==== Proof.KernelIdealHeads.lean ====
module

public import proofs.«01_k».proof.Proof.KernelIdealRows

/-! # The rotated heads -/

@[expose] public section

noncomputable section

namespace Cert.Proof.KernelIdeal

open Cert.KernelIdeal Cert.KernelIdeal.Gen Cert.Proof.Rules
open Idealize.ShloMosaic hiding ix0 ix1 ix2 ix3 ix4 ix5 ix6
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ (Pipeline.UD sig nD τ) ℕ

variable (I : In F) (c : Dev nD)

theorem tabv (kd b : Fin 2) (t : Fin 4) {h1 : ∀ a, (![kd.val, b.val, t.val, 0, 0] : Fin 5 → ℕ) a + S1x1x1x80x128.size a ≤ S2x2x4x80x128.size a}
    (j : (Rect.unit (s := S2x2x4x80x128) ![kd.val, b.val, t.val, 0, 0] S1x1x1x80x128.size h1).shape.Idx) :
    True ∧ TAB I ((Rect.unit (s := S2x2x4x80x128) ![kd.val, b.val, t.val, 0, 0] S1x1x1x80x128.size h1).emb j) = tabOf I kd b t j := by
  refine ⟨trivial, ?_⟩
  have j2 := (show (j 2).val < 1 from (j 2).isLt)
  have j1 := (show (j 1).val < 1 from (j 1).isLt)
  have j0 := (show (j 0).val < 1 from (j 0).isLt)
  have k0 := ValueKit.rect_emb_unit_val _ _ h1 j 0
  have k1 := ValueKit.rect_emb_unit_val _ _ h1 j 1
  have k2 := ValueKit.rect_emb_unit_val _ _ h1 j 2
  have k3 := ValueKit.rect_emb_unit_val _ _ h1 j 3
  have k4 := ValueKit.rect_emb_unit_val _ _ h1 j 4
  generalize (Rect.unit (s := S2x2x4x80x128) _ S1x1x1x80x128.size h1).emb j = x at *
  simp at k0 k1 k2 k3 k4
  have e0 : x 0 = kd := Fin.ext (by omega)
  have e1 : x 1 = b := Fin.ext (by omega)
  have e2 : x 2 = t := Fin.ext (by omega)
  unfold TAB
  rw [e0, e1, e2]
  congr 1
  funext a
  match a with
  | ⟨0, _⟩ => exact Fin.ext (by show 0 = (j 0).val; omega)
  | ⟨1, _⟩ => exact Fin.ext (by show 0 = (j 1).val; omega)
  | ⟨2, _⟩ => exact Fin.ext (by show 0 = (j 2).val; omega)
  | ⟨3, _⟩ => exact Fin.ext k3
  | ⟨4, _⟩ => exact Fin.ext k4

/-- The heads of one chunk of q, in the order they are written: the first `n` of them. -/
abbrev AQ (ck n : ℕ) : S2x40x160x128.Idx → Prop := fun x => 8 * ck ≤ (x 1).val ∧ (x 1).val < 8 * ck + 8 ∧ 2 * ((x 1).val - 8 * ck) + (x 0).val < n

/-- The heads of k, in the order they are written: the first `n` of them. -/
abbrev AK (n : ℕ) : S2x8x160x128.Idx → Prop := fun x => 2 * (x 1).val + (x 0).val < n

theorem inbQ (ck : Fin 5) : ∀ a, (![0, 8 * ck.val, 0, 0] : Fin 4 → ℕ) a + S2x8x160x128.size a ≤ S2x40x160x128.size a := by
  have := ck.isLt
  simp only [Fin.forall_fin_succ]
  simp
  omega

/-- The rectangle of one chunk of q. -/
abbrev rQ (ck : Fin 5) : Rect S2x40x160x128 := Rect.unit (s := S2x40x160x128) ![0, 8 * ck.val, 0, 0] S2x8x160x128.size (inbQ ck)

theorem subQ (ck : Fin 5) (h : Fin 8) (b : Fin 2) {d : ℕ} (hd : d ≤ 80) {h2 : ∀ a, (![b.val, 8 * ck.val + h.val, d, 0] : Fin 4 → ℕ) a + S1x1x80x128.size a ≤ S2x40x160x128.size a} :
    (Rect.unit (s := S2x40x160x128) ![b.val, 8 * ck.val + h.val, d, 0] S1x1x80x128.size h2).set ⊆ (rQ ck).set := by
  intro x hx
  rw [Rect.mem_set_unit] at hx ⊢
  have hb := b.isLt
  have hh := h.isLt
  have hx0 := (show (x 0).val < 2 from (x 0).isLt)
  have hx2 := (show (x 2).val < 160 from (x 2).isLt)
  have hx3 := (show (x 3).val < 128 from (x 3).isLt)
  simp only [Fin.forall_fin_succ] at hx ⊢
  simp at hx ⊢
  omega

theorem in_qlo (ck : Fin 5) (h : Fin 8) (b : Fin 2) {o2 : Fin 4 → ℕ} {h2 : ∀ a, o2 a + S1x1x80x128.size a ≤ S2x40x160x128.size a}
    (e2 : o2 = ![b.val, 8 * ck.val + h.val, 0, 0]) (x : S2x40x160x128.Idx) (hx : (fun x => AQ ck.val (2 * h.val + b.val) x ∨ (AQ ck.val (2 * h.val + b.val + 1) x ∧ (x 2).val < 80)) x) :
    AQ ck.val (2 * h.val + b.val) x ∨ ∃ j, (Rect.unit (s := S2x40x160x128) o2 S1x1x80x128.size h2).emb j = x := by
  subst e2
  have hb := b.isLt
  have hh := h.isLt
  have hck := ck.isLt
  have hx0 := (show (x 0).val < 2 from (x 0).isLt)
  have hx1 := (show (x 1).val < 40 from (x 1).isLt)
  have hx2 := (show (x 2).val < 160 from (x 2).isLt)
  have hx3 := (show (x 3).val < 128 from (x 3).isLt)
  by_cases hA : AQ ck.val (2 * h.val + b.val) x
  · exact Or.inl hA
  · refine Or.inr (in_unit ?_)
    simp only [AQ, AK] at hx hA
    simp only [Fin.forall_fin_succ]
    simp
    omega

theorem qvlo (ck : Fin 5) (h : Fin 8) (b : Fin 2) {o2 : Fin 4 → ℕ} {h2 : ∀ a, o2 a + S1x1x80x128.size a ≤ S2x40x160x128.size a}
    (e2 : o2 = ![b.val, 8 * ck.val + h.val, 0, 0]) (j : (Rect.unit (s := S2x40x160x128) o2 S1x1x80x128.size h2).shape.Idx) :
    rotLoPay (yHead I ck.val h b) (tabOf I 0 b 0) (tabOf I 0 b 1) j = QO I ((Rect.unit (s := S2x40x160x128) o2 S1x1x80x128.size h2).emb j) := by
  subst e2
  have hh := h.isLt
  have hck := ck.isLt
  have j2 := (show (j 2).val < 80 from (j 2).isLt)
  have j1 := (show (j 1).val < 1 from (j 1).isLt)
  have j0 := (show (j 0).val < 1 from (j 0).isLt)
  have k0 := ValueKit.rect_emb_unit_val _ _ h2 j 0
  have k1 := ValueKit.rect_emb_unit_val _ _ h2 j 1
  have k2 := ValueKit.rect_emb_unit_val _ _ h2 j 2
  have k3 := ValueKit.rect_emb_unit_val _ _ h2 j 3
  generalize (Rect.unit (s := S2x40x160x128) _ S1x1x80x128.size h2).emb j = x at *
  simp at k0 k1 k2 k3
  have e0 : x 0 = b := Fin.ext (by omega)
  have e1 : (x 1).val / 8 = ck.val := by omega
  have e1' : (⟨(x 1).val % 8, Nat.mod_lt _ (by decide)⟩ : Fin 8) = h := Fin.ext (by show (x 1).val % 8 = h.val; omega)
  unfold QO
  rw [e0, e1, e1']
  unfold rotAt
  rw [dif_pos (show (x 2).val < 80 by omega)]
  congr 1
  funext a
  match a with
  | ⟨0, _⟩ => exact Fin.ext (by show (j 0).val = 0; omega)
  | ⟨1, _⟩ => exact Fin.ext (by show (j 1).val = 0; omega)
  | ⟨2, _⟩ => exact Fin.ext (by show (j 2).val = (x 2).val; omega)
  | ⟨3, _⟩ => exact Fin.ext k3.symm

theorem in_qhi (ck : Fin 5) (h : Fin 8) (b : Fin 2) {o2 : Fin 4 → ℕ} {h2 : ∀ a, o2 a + S1x1x80x128.size a ≤ S2x40x160x128.size a}
    (e2 : o2 = ![b.val, 8 * ck.val + h.val, 80, 0]) (x : S2x40x160x128.Idx) (hx : AQ ck.val (2 * h.val + b.val + 1) x) :
    (fun x => AQ ck.val (2 * h.val + b.val) x ∨ (AQ ck.val (2 * h.val + b.val + 1) x ∧ (x 2).val < 80)) x ∨ ∃ j, (Rect.unit (s := S2x40x160x128) o2 S1x1x80x128.size h2).emb j = x := by
  subst e2
  have hb := b.isLt
  have hh := h.isLt
  have hck := ck.isLt
  have hx0 := (show (x 0).val < 2 from (x 0).isLt)
  have hx1 := (show (x 1).val < 40 from (x 1).isLt)
  have hx2 := (show (x 2).val < 160 from (x 2).isLt)
  have hx3 := (show (x 3).val < 128 from (x 3).isLt)
  by_cases hA : (fun x => AQ ck.val (2 * h.val + b.val) x ∨ (AQ ck.val (2 * h.val + b.val + 1) x ∧ (x 2).val < 80)) x
  · exact Or.inl hA
  · refine Or.inr (in_unit ?_)
    simp only [AQ, AK] at hx hA
    simp only [Fin.forall_fin_succ]
    simp
    omega

theorem qvhi (ck : Fin 5) (h : Fin 8) (b : Fin 2) {o2 : Fin 4 → ℕ} {h2 : ∀ a, o2 a + S1x1x80x128.size a ≤ S2x40x160x128.size a}
    (e2 : o2 = ![b.val, 8 * ck.val + h.val, 80, 0]) (j : (Rect.unit (s := S2x40x160x128) o2 S1x1x80x128.size h2).shape.Idx) :
    rotHiPay (yHead I ck.val h b) (tabOf I 0 b 2) (tabOf I 0 b 3) j = QO I ((Rect.unit (s := S2x40x160x128) o2 S1x1x80x128.size h2).emb j) := by
  subst e2
  have hh := h.isLt
  have hck := ck.isLt
  have j2 := (show (j 2).val < 80 from (j 2).isLt)
  have j1 := (show (j 1).val < 1 from (j 1).isLt)
  have j0 := (show (j 0).val < 1 from (j 0).isLt)
  have k0 := ValueKit.rect_emb_unit_val _ _ h2 j 0
  have k1 := ValueKit.rect_emb_unit_val _ _ h2 j 1
  have k2 := ValueKit.rect_emb_unit_val _ _ h2 j 2
  have k3 := ValueKit.rect_emb_unit_val _ _ h2 j 3
  generalize (Rect.unit (s := S2x40x160x128) _ S1x1x80x128.size h2).emb j = x at *
  simp at k0 k1 k2 k3
  have e0 : x 0 = b := Fin.ext (by omega)
  have e1 : (x 1).val / 8 = ck.val := by omega
  have e1' : (⟨(x 1).val % 8, Nat.mod_lt _ (by decide)⟩ : Fin 8) = h := Fin.ext (by show (x 1).val % 8 = h.val; omega)
  unfold QO
  rw [e0, e1, e1']
  unfold rotAt
  rw [dif_neg (show ¬ (x 2).val < 80 by omega)]
  congr 1
  funext a
  match a with
  | ⟨0, _⟩ => exact Fin.ext (by show (j 0).val = 0; omega)
  | ⟨1, _⟩ => exact Fin.ext (by show (j 1).val = 0; omega)
  | ⟨2, _⟩ => exact Fin.ext (by show (j 2).val = (x 2).val - 80; omega)
  | ⟨3, _⟩ => exact Fin.ext k3.symm

theorem qHead_spec (ck : Fin 5) (h : Fin 8) (b : Fin 2) {A : S2x2x1280x128.Idx → Prop} (hA : HeadIn (ck.val + 1) (ck.val) b h A)
    {t0 t1 t2 t3} {o1 : Fin 4 → ℕ} {h1} {o2 : Fin 4 → ℕ} {h2} {o3 : Fin 4 → ℕ} {h3 p2 p3}
    (e1 : o1 = ![ck.val % 2, b.val, 160 * h.val, 0]) (e2 : o2 = ![b.val, 8 * ck.val + h.val, 0, 0]) (e3 : o3 = ![b.val, 8 * ck.val + h.val, 80, 0]) :
    iprop((HoldsU c fullShare ytV A (YT I (ck.val + 1)) ∗ HoldsU c fullShare tabV (fun _ => True) (TAB I)) ∗ HoldsR c fullShare qV (rQ ck) (AQ ck.val (2 * h.val + b.val)) (QO I))
      ⊢ WK c (qHead 0 b.val t0 t1 t2 t3 o1 h1 o2 h2 o3 h3 p2 p3) fun _ =>
        iprop((HoldsU c fullShare ytV A (YT I (ck.val + 1)) ∗ HoldsU c fullShare tabV (fun _ => True) (TAB I)) ∗ HoldsR c fullShare qV (rQ ck) (AQ ck.val (2 * h.val + b.val + 1)) (QO I)) := by
  subst e2 e3
  unfold qHead
  iintro ⟨⟨HY, HT⟩, HV⟩
  iapply (HoldsU.loadAs (yHead I ck.val h b) (yv I (ck.val + 1) ck.val b h e1 hA)) $$ HY
  iintro HY
  iapply (HoldsU.loadAs (tabOf I 0 b 0) (tabv I 0 b 0)) $$ HT
  iintro HT
  iapply (HoldsU.loadAs (tabOf I 0 b 1) (tabv I 0 b 1)) $$ HT
  iintro HT
  iapply (HoldsU.loadAs (tabOf I 0 b 2) (tabv I 0 b 2)) $$ HT
  iintro HT
  iapply (HoldsU.loadAs (tabOf I 0 b 3) (tabv I 0 b 3)) $$ HT
  iintro HT
  iapply (HoldsR.skip _ (fun _ => rfl) (subQ ck h b (by decide))) $$ HV
  iintro HV
  iapply (HoldsR.store (fun x => AQ ck.val (2 * h.val + b.val) x ∨ (AQ ck.val (2 * h.val + b.val + 1) x ∧ (x 2).val < 80)) (subQ ck h b (by decide)) (qvlo I ck h b rfl) (in_qlo ck h b rfl)) $$ HV
  iintro HV
  iapply (HoldsR.skip _ (fun _ => rfl) (subQ ck h b (by decide))) $$ HV
  iintro HV
  iapply (HoldsR.store_last (AQ ck.val (2 * h.val + b.val + 1)) (subQ ck h b (by decide)) (qvhi I ck h b rfl) (in_qhi ck h b rfl)) $$ HV
  iintro HV
  isplitl [HY HT]
  · isplitl [HY]; · iexact HY
    iexact HT
  iexact HV

theorem in_klo (h : Fin 8) (b : Fin 2) {o2 : Fin 4 → ℕ} {h2 : ∀ a, o2 a + S1x1x80x128.size a ≤ S2x8x160x128.size a}
    (e2 : o2 = ![b.val, h.val, 0, 0]) (x : S2x8x160x128.Idx) (hx : (fun x => AK (2 * h.val + b.val) x ∨ (AK (2 * h.val + b.val + 1) x ∧ (x 2).val < 80)) x) :
    AK (2 * h.val + b.val) x ∨ ∃ j, (Rect.unit (s := S2x8x160x128) o2 S1x1x80x128.size h2).emb j = x := by
  subst e2
  have hb := b.isLt
  have hh := h.isLt
  have hx0 := (show (x 0).val < 2 from (x 0).isLt)
  have hx1 := (show (x 1).val < 8 from (x 1).isLt)
  have hx2 := (show (x 2).val < 160 from (x 2).isLt)
  have hx3 := (show (x 3).val < 128 from (x 3).isLt)
  by_cases hA : AK (2 * h.val + b.val) x
  · exact Or.inl hA
  · refine Or.inr (in_unit ?_)
    simp only [AQ, AK] at hx hA
    simp only [Fin.forall_fin_succ]
    simp
    omega

theorem kvlo (h : Fin 8) (b : Fin 2) {o2 : Fin 4 → ℕ} {h2 : ∀ a, o2 a + S1x1x80x128.size a ≤ S2x8x160x128.size a}
    (e2 : o2 = ![b.val, h.val, 0, 0]) (j : (Rect.unit (s := S2x8x160x128) o2 S1x1x80x128.size h2).shape.Idx) :
    rotLoPay (yHead I 5 h b) (tabOf I 1 b 0) (tabOf I 1 b 1) j = KO I ((Rect.unit (s := S2x8x160x128) o2 S1x1x80x128.size h2).emb j) := by
  subst e2
  have hh := h.isLt
  have j2 := (show (j 2).val < 80 from (j 2).isLt)
  have j1 := (show (j 1).val < 1 from (j 1).isLt)
  have j0 := (show (j 0).val < 1 from (j 0).isLt)
  have k0 := ValueKit.rect_emb_unit_val _ _ h2 j 0
  have k1 := ValueKit.rect_emb_unit_val _ _ h2 j 1
  have k2 := ValueKit.rect_emb_unit_val _ _ h2 j 2
  have k3 := ValueKit.rect_emb_unit_val _ _ h2 j 3
  generalize (Rect.unit (s := S2x8x160x128) _ S1x1x80x128.size h2).emb j = x at *
  simp at k0 k1 k2 k3
  have e0 : x 0 = b := Fin.ext (by omega)
  have e1 : x 1 = h := Fin.ext (by omega)
  unfold KO
  rw [e0, e1]
  unfold rotAt
  rw [dif_pos (show (x 2).val < 80 by omega)]
  congr 1
  funext a
  match a with
  | ⟨0, _⟩ => exact Fin.ext (by show (j 0).val = 0; omega)
  | ⟨1, _⟩ => exact Fin.ext (by show (j 1).val = 0; omega)
  | ⟨2, _⟩ => exact Fin.ext (by show (j 2).val = (x 2).val; omega)
  | ⟨3, _⟩ => exact Fin.ext k3.symm

theorem in_khi (h : Fin 8) (b : Fin 2) {o2 : Fin 4 → ℕ} {h2 : ∀ a, o2 a + S1x1x80x128.size a ≤ S2x8x160x128.size a}
    (e2 : o2 = ![b.val, h.val, 80, 0]) (x : S2x8x160x128.Idx) (hx : AK (2 * h.val + b.val + 1) x) :
    (fun x => AK (2 * h.val + b.val) x ∨ (AK (2 * h.val + b.val + 1) x ∧ (x 2).val < 80)) x ∨ ∃ j, (Rect.unit (s := S2x8x160x128) o2 S1x1x80x128.size h2).emb j = x := by
  subst e2
  have hb := b.isLt
  have hh := h.isLt
  have hx0 := (show (x 0).val < 2 from (x 0).isLt)
  have hx1 := (show (x 1).val < 8 from (x 1).isLt)
  have hx2 := (show (x 2).val < 160 from (x 2).isLt)
  have hx3 := (show (x 3).val < 128 from (x 3).isLt)
  by_cases hA : (fun x => AK (2 * h.val + b.val) x ∨ (AK (2 * h.val + b.val + 1) x ∧ (x 2).val < 80)) x
  · exact Or.inl hA
  · refine Or.inr (in_unit ?_)
    simp only [AQ, AK] at hx hA
    simp only [Fin.forall_fin_succ]
    simp
    omega

theorem kvhi (h : Fin 8) (b : Fin 2) {o2 : Fin 4 → ℕ} {h2 : ∀ a, o2 a + S1x1x80x128.size a ≤ S2x8x160x128.size a}
    (e2 : o2 = ![b.val, h.val, 80, 0]) (j : (Rect.unit (s := S2x8x160x128) o2 S1x1x80x128.size h2).shape.Idx) :
    rotHiPay (yHead I 5 h b) (tabOf I 1 b 2) (tabOf I 1 b 3) j = KO I ((Rect.unit (s := S2x8x160x128) o2 S1x1x80x128.size h2).emb j) := by
  subst e2
  have hh := h.isLt
  have j2 := (show (j 2).val < 80 from (j 2).isLt)
  have j1 := (show (j 1).val < 1 from (j 1).isLt)
  have j0 := (show (j 0).val < 1 from (j 0).isLt)
  have k0 := ValueKit.rect_emb_unit_val _ _ h2 j 0
  have k1 := ValueKit.rect_emb_unit_val _ _ h2 j 1
  have k2 := ValueKit.rect_emb_unit_val _ _ h2 j 2
  have k3 := ValueKit.rect_emb_unit_val _ _ h2 j 3
  generalize (Rect.unit (s := S2x8x160x128) _ S1x1x80x128.size h2).emb j = x at *
  simp at k0 k1 k2 k3
  have e0 : x 0 = b := Fin.ext (by omega)
  have e1 : x 1 = h := Fin.ext (by omega)
  unfold KO
  rw [e0, e1]
  unfold rotAt
  rw [dif_neg (show ¬ (x 2).val < 80 by omega)]
  congr 1
  funext a
  match a with
  | ⟨0, _⟩ => exact Fin.ext (by show (j 0).val = 0; omega)
  | ⟨1, _⟩ => exact Fin.ext (by show (j 1).val = 0; omega)
  | ⟨2, _⟩ => exact Fin.ext (by show (j 2).val = (x 2).val - 80; omega)
  | ⟨3, _⟩ => exact Fin.ext k3.symm

theorem kHead_spec (h : Fin 8) (b : Fin 2) {A : S2x2x1280x128.Idx → Prop} (hA : HeadIn (6) (5) b h A)
    {t0 t1 t2 t3} {o1 : Fin 4 → ℕ} {h1} {o2 : Fin 4 → ℕ} {h2} {o3 : Fin 4 → ℕ} {h3 p2 p3}
    (e1 : o1 = ![5 % 2, b.val, 160 * h.val, 0]) (e2 : o2 = ![b.val, h.val, 0, 0]) (e3 : o3 = ![b.val, h.val, 80, 0]) :
    iprop((HoldsU c fullShare ytV A (YT I (6)) ∗ HoldsU c fullShare tabV (fun _ => True) (TAB I)) ∗ HoldsU c fullShare kV (AK (2 * h.val + b.val)) (KO I))
      ⊢ WK c (kHead 1 b.val t0 t1 t2 t3 o1 h1 o2 h2 o3 h3 p2 p3) fun _ =>
        iprop((HoldsU c fullShare ytV A (YT I (6)) ∗ HoldsU c fullShare tabV (fun _ => True) (TAB I)) ∗ HoldsU c fullShare kV (AK (2 * h.val + b.val + 1)) (KO I)) := by
  subst e2 e3
  unfold kHead
  iintro ⟨⟨HY, HT⟩, HV⟩
  iapply (HoldsU.loadAs (yHead I 5 h b) (yv I (6) 5 b h e1 hA)) $$ HY
  iintro HY
  iapply (HoldsU.loadAs (tabOf I 1 b 0) (tabv I 1 b 0)) $$ HT
  iintro HT
  iapply (HoldsU.loadAs (tabOf I 1 b 1) (tabv I 1 b 1)) $$ HT
  iintro HT
  iapply (HoldsU.loadAs (tabOf I 1 b 2) (tabv I 1 b 2)) $$ HT
  iintro HT
  iapply (HoldsU.loadAs (tabOf I 1 b 3) (tabv I 1 b 3)) $$ HT
  iintro HT
  iapply (HoldsU.skip _ (fun _ => rfl) ) $$ HV
  iintro HV
  iapply (HoldsU.store (fun x => AK (2 * h.val + b.val) x ∨ (AK (2 * h.val + b.val + 1) x ∧ (x 2).val < 80))  (kvlo I h b rfl) (in_klo h b rfl)) $$ HV
  iintro HV
  iapply (HoldsU.skip _ (fun _ => rfl) ) $$ HV
  iintro HV
  iapply (HoldsU.store_last (AK (2 * h.val + b.val + 1))  (kvhi I h b rfl) (in_khi h b rfl)) $$ HV
  iintro HV
  isplitl [HY HT]
  · isplitl [HY]; · iexact HY
    iexact HT
  iexact HV

end Cert.Proof.KernelIdeal

end
-- ==== Proof.KernelIdealProj.lean ====
module

public import proofs.«01_k».proof.Proof.KernelIdealRows

/-! # Projecting one part of a chunk -/

@[expose] public section

noncomputable section

namespace Cert.Proof.KernelIdeal

open Cert.KernelIdeal Cert.KernelIdeal.Gen Cert.Proof.Rules
open Idealize.ShloMosaic hiding ix0 ix1 ix2 ix3 ix4 ix5 ix6
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ (Pipeline.UD sig nD τ) ℕ

variable (I : In F) (c : Dev nD)

/-- What the slots hold while chunk `ck` is projected: all of the chunk before, and `n` columns of this one. -/
abbrev AY (ck n : ℕ) : S2x2x1280x128.Idx → Prop := fun x => (1 ≤ ck ∧ (x 0).val ≠ ck % 2) ∨ ((x 0).val = ck % 2 ∧ (x 2).val < n)

theorem inbW (ck : Fin 7) (s : Fin 3) : ∀ a, (![ck.val, s.val] : Fin 2 → ℕ) a + S1x1.size a ≤ S7x3.size a := by
  have := ck.isLt
  have := s.isLt
  simp only [Fin.forall_fin_succ]
  simp <;> omega

theorem xsv (j : (Rect.unit (s := S256x128) ![0, 0] S256x1.size inb_S256x128_S256x1_0_0).shape.Idx) :
    True ∧ XS I ((Rect.unit (s := S256x128) ![0, 0] S256x1.size inb_S256x128_S256x1_0_0).emb j) = xs1 I j := by
  refine ⟨trivial, ?_⟩
  have j1 := (show (j 1).val < 1 from (j 1).isLt)
  have k0 := ValueKit.rect_emb_unit_val _ _ inb_S256x128_S256x1_0_0 j 0
  have k1 := ValueKit.rect_emb_unit_val _ _ inb_S256x128_S256x1_0_0 j 1
  unfold xs1
  congr 1
  funext a
  match a with
  | ⟨0, _⟩ => exact Fin.ext (by refine k0.trans ?_; simp)
  | ⟨1, _⟩ => exact Fin.ext (by refine k1.trans ?_; show _ = 0; simp)

theorem cvv (j : (Rect.unit (s := S256x5120) ![0, 0] S256x5120.size inb_S256x5120_S256x5120_0_0).shape.Idx) :
    True ∧ CODES I ((Rect.unit (s := S256x5120) ![0, 0] S256x5120.size inb_S256x5120_S256x5120_0_0).emb j) = CODES I j := by
  refine ⟨trivial, ?_⟩
  have k0 := ValueKit.rect_emb_unit_val _ _ inb_S256x5120_S256x5120_0_0 j 0
  have k1 := ValueKit.rect_emb_unit_val _ _ inb_S256x5120_S256x5120_0_0 j 1
  congr 1
  funext a
  match a with
  | ⟨0, _⟩ => exact Fin.ext (by refine k0.trans ?_; simp)
  | ⟨1, _⟩ => exact Fin.ext (by refine k1.trans ?_; simp)

/-- What projecting uses. -/
def Core (ck n : ℕ) : sProp 𝕄 :=
  iprop((∃ W, owes (c.tc : Thread nD τ) 0 W) ∗ HoldsU c (Transfers.shareDrop fullShare 1) cV (fun _ => True) (CODES I) ∗ HoldsU c fullShare wsV (fun _ => True) I.ws
    ∗ HoldsU c fullShare xsV (fun _ => True) (XS I) ∗ HoldsU c fullShare ytV (AY ck n) (YT I ck))

theorem inbWH512 (ck : Fin 7) (s : Fin 2) : ∀ a, (![0, 1280 * ck.val + 512 * s.val] : Fin 2 → ℕ) a + S5120x512.size a ≤ S5120x8960.size a := by
  have := ck.isLt
  have hs := s.isLt
  simp only [Fin.forall_fin_succ]
  simp <;> omega

theorem inbWV512 (ck : Fin 7) (s : Fin 2) : ∀ a, (![ck.val, 0, 512 * s.val] : Fin 3 → ℕ) a + S1x5120x512.size a ≤ S7x5120x1280.size a := by
  have := ck.isLt
  have hs := s.isLt
  simp only [Fin.forall_fin_succ]
  simp <;> omega

abbrev rW512 (ck : Fin 7) (s : Fin 2) : Rect S7x5120x1280 := Rect.unit (s := S7x5120x1280) ![ck.val, 0, 512 * s.val] S1x5120x512.size (inbWV512 ck s )

/-- The columns the part's weights lie at. -/
def wHAt512 (ck : Fin 7) (s : Fin 2) : sProp 𝕄 :=
  iprop((wHP512 ![0, 1280 * ck.val + 512 * s.val] (inbWH512 ck s )).view.loc (c.tc : Thread nD τ) ↦[(wHP512 ![0, 1280 * ck.val + 512 * s.val] (inbWH512 ck s )).view.set]{fullShare} I.w)

/-- Where they are copied to. -/
def wVAny512 (ck : Fin 7) (s : Fin 2) : sProp 𝕄 :=
  iprop(∃ f, (wVP512 ![ck.val, 0, 512 * s.val] (inbWV512 ck s )).view.loc (c.tc : Thread nD τ) ↦[(wVP512 ![ck.val, 0, 512 * s.val] (inbWV512 ck s )).view.set]{fullShare} f)

def wIn512 (ck : Fin 7) (s : Fin 2) : sProp 𝕄 :=
  iprop(wHAt512 I c ck s ∗ wVAny512 (F := F) c ck s ∗ semVal ((c.tc : Thread nD τ), .dma (wSem ![ck.val, s.val] (inbW ck ⟨s.val, by have := s.isLt; omega⟩))) 0)

def wFl512 (ck : Fin 7) (s : Fin 2) : sProp 𝕄 :=
  Transfers.Flight EC (c.tc : Thread nD τ) (.dma (wSem ![ck.val, s.val] (inbW ck ⟨s.val, by have := s.isLt; omega⟩))) () (wVP512 ![ck.val, 0, 512 * s.val] (inbWV512 ck s )).view.dmaCredit
    iprop(((wVP512 ![ck.val, 0, 512 * s.val] (inbWV512 ck s )).view.loc (c.tc : Thread nD τ) ↦[(wVP512 ![ck.val, 0, 512 * s.val] (inbWV512 ck s )).view.set]{fullShare} WV I)
      ∗ wHAt512 I c ck s )

theorem wv512 (ck : Fin 7) (s : Fin 2) {o4 : Fin 3 → ℕ} {h4 : ∀ a, o4 a + S1x5120x512.size a ≤ S7x5120x1280.size a} (e4 : o4 = ![ck.val, 0, 512 * s.val])
    (j : (Rect.unit (s := S7x5120x1280) o4 S1x5120x512.size h4).shape.Idx) :
    True ∧ WV I ((Rect.unit (s := S7x5120x1280) o4 S1x5120x512.size h4).emb j) = w512 I (1280 * ck.val + 512 * s.val) j := by
  refine ⟨trivial, ?_⟩
  subst e4
  have hck := ck.isLt
  have hs := s.isLt
  have j0 := (show (j 0).val < 1 from (j 0).isLt)
  have j2 := (show (j 2).val < 512 from (j 2).isLt)
  have k0 := ValueKit.rect_emb_unit_val _ _ h4 j 0
  have k1 := ValueKit.rect_emb_unit_val _ _ h4 j 1
  have k2 := ValueKit.rect_emb_unit_val _ _ h4 j 2
  generalize (Rect.unit (s := S7x5120x1280) _ S1x5120x512.size h4).emb j = x at *
  simp at k0 k1 k2
  unfold WV w512
  congr 1
  funext a
  match a with
  | ⟨0, _⟩ => exact Fin.ext k1
  | ⟨1, _⟩ => exact Fin.ext (by show 1280 * (x 0).val + (x 2).val = (1280 * ck.val + 512 * s.val + (j 2).val) % 8960; rw [Nat.mod_eq_of_lt (by omega)]; omega)

theorem wStart512 (ck : Fin 7) (s : Fin 2) {o1 : Fin 2 → ℕ} {h1} {o2 : Fin 2 → ℕ} {h2} {o3 : Fin 3 → ℕ} {h3 w2 w3 t}
    (e1 : o1 = ![ck.val, s.val]) (e2 : o2 = ![0, 1280 * ck.val + 512 * s.val]) (e3 : o3 = ![ck.val, 0, 512 * s.val]) :
    wIn512 I c ck s ⊢ WK c (Prog.lift (.enqueueDma (wHP512 o2 h2) (.here (wVP512 o3 h3)) (.dma (wSem o1 h1)) w2 w3 t)) fun _ => wFl512 I c ck s := by
  subst e1 e2 e3
  unfold wIn512 wFl512 wHAt512 wVAny512
  refine start (by decide) fun x => ?_
  have x0 := (show (x 0).val < 5120 from (x 0).isLt)
  have x1 := (show (x 1).val < 512 from (x 1).isLt)
  have e := Memref.read_squeeze_slice (Val := Elt F) wV (Rect.unit (s := S7x5120x1280) ![ck.val, 0, 512 * s.val] S1x5120x512.size h3) (fun _ => rfl) squeezes_S1x5120x512_S5120x512
    shapeCasts_S1x5120x512_S5120x512 (WV I)
  refine (congrFun e x).trans ?_
  have hx : x = ix2 (x 0) (x 1) := funext fun a => match a with | ⟨0, _⟩ => rfl | ⟨1, _⟩ => rfl
  rw [hx]
  refine (shapeCast_1ab_ab_apply _ _ (x 0) (x 1)).trans ?_
  refine ((wv512 I ck s rfl (ix3 0 (x 0) (x 1))).2).trans ?_
  have k0 := ValueKit.rect_emb_unit_val (s := S5120x8960) ![0, 1280 * ck.val + 512 * s.val] S5120x512.size h2 (ix2 (x 0) (x 1)) 0
  have k1 := ValueKit.rect_emb_unit_val (s := S5120x8960) ![0, 1280 * ck.val + 512 * s.val] S5120x512.size h2 (ix2 (x 0) (x 1)) 1
  unfold w512
  show I.w _ = I.w ((Rect.unit (s := S5120x8960) ![0, 1280 * ck.val + 512 * s.val] S5120x512.size h2).emb (ix2 (x 0) (x 1)))
  congr 1
  have hck := ck.isLt
  have hs := s.isLt
  funext a
  match a with
  | ⟨0, _⟩ => exact Fin.ext (by refine Eq.trans ?_ k0.symm; show (x 0).val = 0 + (x 0).val; omega)
  | ⟨1, _⟩ => exact Fin.ext (by refine Eq.trans ?_ k1.symm; show (1280 * ck.val + 512 * s.val + (x 1).val) % 8960 = 1280 * ck.val + 512 * s.val + (x 1).val; exact Nat.mod_eq_of_lt (by omega))

theorem wsv512 (ck : Fin 7) (s : Fin 2) {o5 : Fin 1 → ℕ} {h5 : ∀ a, o5 a + S512.size a ≤ S8960.size a} (e5 : o5 = ![1280 * ck.val + 512 * s.val])
    (j : (Rect.unit (s := S8960) o5 S512.size h5).shape.Idx) :
    True ∧ I.ws ((Rect.unit (s := S8960) o5 S512.size h5).emb j) = ws512 I (1280 * ck.val + 512 * s.val) j := by
  refine ⟨trivial, ?_⟩
  subst e5
  have hck := ck.isLt
  have hs := s.isLt
  have j0 := (show (j 0).val < 512 from (j 0).isLt)
  have k0 := ValueKit.rect_emb_unit_val _ _ h5 j 0
  unfold ws512
  congr 1
  funext a
  match a with
  | ⟨0, _⟩ => exact Fin.ext (by refine k0.trans ?_; show 1280 * ck.val + 512 * s.val + (j 0).val = (1280 * ck.val + 512 * s.val + (j 0).val) % 8960; rw [Nat.mod_eq_of_lt (by omega)])

theorem Y512 (ck : ℕ) (s : Fin 2) (b : Fin 2) (r : Fin 1280) (l : Fin 128) (i : Fin 512) (h : r.val = 512 * s.val + i.val) :
    Y I ck b r l = part512 I (1280 * ck + 512 * s.val) b (ix4 0 0 i l) := by
  unfold Y
  have hi := i.isLt
  match s with
  | ⟨0, _⟩ =>
    rw [dif_pos (show r.val < 512 by simp at h; omega)]
    show part512 I (1280 * ck) b _ = part512 I (1280 * ck) b _
    congr 2
    exact Fin.ext (by simp at h; omega)
  | ⟨1, _⟩ =>
    rw [dif_neg (show ¬ r.val < 512 by simp at h; omega), dif_pos (show r.val < 1024 by simp at h; omega)]
    show part512 I (1280 * ck + 512) b _ = part512 I (1280 * ck + 512) b _
    congr 2
    exact Fin.ext (by simp at h; simp; omega)

theorem yp512_0 (ck : Fin 7) (s : Fin 2) {o6 : Fin 4 → ℕ} {h6 : ∀ a, o6 a + S1x1x512x128.size a ≤ S2x2x1280x128.size a} (e6 : o6 = ![ck.val % 2, 0, 512 * s.val, 0])
    (j : (Rect.unit (s := S2x2x1280x128) o6 S1x1x512x128.size h6).shape.Idx) :
    projPay512_0 (CODES I) (w512 I (1280 * ck.val + 512 * s.val)) (ws512 I (1280 * ck.val + 512 * s.val)) (xs1 I) j = YT I ck.val ((Rect.unit (s := S2x2x1280x128) o6 S1x1x512x128.size h6).emb j) := by
  subst e6
  have hs := s.isLt
  have j1 := (show (j 1).val < 1 from (j 1).isLt)
  have j0 := (show (j 0).val < 1 from (j 0).isLt)
  have j2 := (show (j 2).val < 512 from (j 2).isLt)
  have k0 := ValueKit.rect_emb_unit_val _ _ h6 j 0
  have k1 := ValueKit.rect_emb_unit_val _ _ h6 j 1
  have k2 := ValueKit.rect_emb_unit_val _ _ h6 j 2
  have k3 := ValueKit.rect_emb_unit_val _ _ h6 j 3
  generalize (Rect.unit (s := S2x2x1280x128) _ S1x1x512x128.size h6).emb j = x at *
  simp at k0 k1 k2 k3
  refine Eq.trans ?_ ((YT_at I (x := x) (ck := ck.val) (b := 0) (r := ⟨512 * s.val + (j 2).val, by omega⟩) (l := ⟨(j 3).val, (j 3).isLt⟩) (by rw [if_pos (by omega)]) (by show _ = 0; omega) k2 k3).trans
    (Y512 I ck.val s 0 _ _ ⟨(j 2).val, j2⟩ rfl)).symm
  unfold part512
  rw [if_pos rfl]
  congr 1
  funext a
  match a with
  | ⟨0, _⟩ => exact Fin.ext (by show (j 0).val = 0; omega)
  | ⟨1, _⟩ => exact Fin.ext (by show (j 1).val = 0; omega)
  | ⟨2, _⟩ => rfl
  | ⟨3, _⟩ => rfl

theorem yin512_0 (ck : Fin 7) (s : Fin 2) {o6 : Fin 4 → ℕ} {h6 : ∀ a, o6 a + S1x1x512x128.size a ≤ S2x2x1280x128.size a} (e6 : o6 = ![ck.val % 2, 0, 512 * s.val, 0])
    (x : S2x2x1280x128.Idx) (hx : (fun x => AY ck.val (512 * s.val) x ∨ (AY ck.val (512 * s.val + 512) x ∧ (x 1).val = 0)) x) : AY ck.val (512 * s.val) x ∨ ∃ j, (Rect.unit (s := S2x2x1280x128) o6 S1x1x512x128.size h6).emb j = x := by
  subst e6
  have hs := s.isLt
  have hx0 := (show (x 0).val < 2 from (x 0).isLt)
  have hx1 := (show (x 1).val < 2 from (x 1).isLt)
  have hx2 := (show (x 2).val < 1280 from (x 2).isLt)
  have hx3 := (show (x 3).val < 128 from (x 3).isLt)
  by_cases hA : AY ck.val (512 * s.val) x
  · exact Or.inl hA
  · refine Or.inr (in_unit ?_)
    simp only [AY] at hx hA
    simp only [Fin.forall_fin_succ]
    simp
    omega

theorem yp512_1 (ck : Fin 7) (s : Fin 2) {o6 : Fin 4 → ℕ} {h6 : ∀ a, o6 a + S1x1x512x128.size a ≤ S2x2x1280x128.size a} (e6 : o6 = ![ck.val % 2, 1, 512 * s.val, 0])
    (j : (Rect.unit (s := S2x2x1280x128) o6 S1x1x512x128.size h6).shape.Idx) :
    projPay512_1 (CODES I) (w512 I (1280 * ck.val + 512 * s.val)) (ws512 I (1280 * ck.val + 512 * s.val)) (xs1 I) j = YT I ck.val ((Rect.unit (s := S2x2x1280x128) o6 S1x1x512x128.size h6).emb j) := by
  subst e6
  have hs := s.isLt
  have j1 := (show (j 1).val < 1 from (j 1).isLt)
  have j0 := (show (j 0).val < 1 from (j 0).isLt)
  have j2 := (show (j 2).val < 512 from (j 2).isLt)
  have k0 := ValueKit.rect_emb_unit_val _ _ h6 j 0
  have k1 := ValueKit.rect_emb_unit_val _ _ h6 j 1
  have k2 := ValueKit.rect_emb_unit_val _ _ h6 j 2
  have k3 := ValueKit.rect_emb_unit_val _ _ h6 j 3
  generalize (Rect.unit (s := S2x2x1280x128) _ S1x1x512x128.size h6).emb j = x at *
  simp at k0 k1 k2 k3
  refine Eq.trans ?_ ((YT_at I (x := x) (ck := ck.val) (b := 1) (r := ⟨512 * s.val + (j 2).val, by omega⟩) (l := ⟨(j 3).val, (j 3).isLt⟩) (by rw [if_pos (by omega)]) (by show _ = 1; omega) k2 k3).trans
    (Y512 I ck.val s 1 _ _ ⟨(j 2).val, j2⟩ rfl)).symm
  unfold part512
  rw [if_neg (by decide)]
  congr 1
  funext a
  match a with
  | ⟨0, _⟩ => exact Fin.ext (by show (j 0).val = 0; omega)
  | ⟨1, _⟩ => exact Fin.ext (by show (j 1).val = 0; omega)
  | ⟨2, _⟩ => rfl
  | ⟨3, _⟩ => rfl

theorem yin512_1 (ck : Fin 7) (s : Fin 2) {o6 : Fin 4 → ℕ} {h6 : ∀ a, o6 a + S1x1x512x128.size a ≤ S2x2x1280x128.size a} (e6 : o6 = ![ck.val % 2, 1, 512 * s.val, 0])
    (x : S2x2x1280x128.Idx) (hx : AY ck.val (512 * s.val + 512) x) : (fun x => AY ck.val (512 * s.val) x ∨ (AY ck.val (512 * s.val + 512) x ∧ (x 1).val = 0)) x ∨ ∃ j, (Rect.unit (s := S2x2x1280x128) o6 S1x1x512x128.size h6).emb j = x := by
  subst e6
  have hs := s.isLt
  have hx0 := (show (x 0).val < 2 from (x 0).isLt)
  have hx1 := (show (x 1).val < 2 from (x 1).isLt)
  have hx2 := (show (x 2).val < 1280 from (x 2).isLt)
  have hx3 := (show (x 3).val < 128 from (x 3).isLt)
  by_cases hA : (fun x => AY ck.val (512 * s.val) x ∨ (AY ck.val (512 * s.val + 512) x ∧ (x 1).val = 0)) x
  · exact Or.inl hA
  · refine Or.inr (in_unit ?_)
    simp only [AY] at hx hA
    simp only [Fin.forall_fin_succ]
    simp
    omega

/-- A part of a chunk, projected: its weights have come, and its columns are in the slot. -/
theorem proj512_spec (ck : Fin 7) (s : Fin 2) {o1 : Fin 2 → ℕ} {h1} {o2 : Fin 2 → ℕ} {h2} {o3 : Fin 3 → ℕ} {h3 w2 w3} {o4 : Fin 3 → ℕ} {h4} {o5 : Fin 1 → ℕ} {h5}
    {o6 : Fin 4 → ℕ} {h6} {o7 : Fin 4 → ℕ} {h7}
    (e1 : o1 = ![ck.val, s.val]) (e2 : o2 = ![0, 1280 * ck.val + 512 * s.val]) (e3 : o3 = ![ck.val, 0, 512 * s.val]) (e4 : o4 = ![ck.val, 0, 512 * s.val]) (e5 : o5 = ![1280 * ck.val + 512 * s.val])
    (e6 : o6 = ![ck.val % 2, 0, 512 * s.val, 0]) (e7 : o7 = ![ck.val % 2, 1, 512 * s.val, 0]) :
    iprop(wFl512 I c ck s ∗ Core I c ck.val (512 * s.val)) ⊢ WK c (proj512 o1 h1 o2 h2 o3 h3 w2 w3 o4 h4 o5 h5 o6 h6 o7 h7) fun _ =>
      iprop(wIn512 I c ck s ∗ Core I c ck.val (512 * s.val + 512)) := by
  subst e1 e2 e3 e4
  unfold proj512 wFl512 Core wIn512
  iintro ⟨HF, HO, HC, HS, HX, HY⟩
  iapply (WP_use _ c wait) $$ [HF HO]
  · isplitl [HF]; · iexact HF
    iexact HO
  iintro ⟨⟨⟨HWV, HWH⟩, Hs⟩, HO⟩
  ihave HW := (HoldsR.of_eq (c := c) (q := fullShare) (m := wV) (r' := rW512 ck s ) (A := fun _ => True) (G := WV I) (f := WV I) (fun x _ => rfl)) $$ [HWV]
  · rw [Memref.set_view_squeeze]
    iexact HWV
  iapply (HoldsU.loadAs (CODES I) (cvv I)) $$ HC
  iintro HC
  iapply (HoldsR.loadAs (w512 I (1280 * ck.val + 512 * s.val)) subset_rfl (wv512 I ck s rfl)) $$ HW
  iintro HW
  iapply (HoldsU.loadAs (ws512 I (1280 * ck.val + 512 * s.val)) (wsv512 I ck s e5)) $$ HS
  iintro HS
  iapply (HoldsU.loadAs (xs1 I) (xsv I)) $$ HX
  iintro HX
  iapply (HoldsU.skip _ (fun _ => rfl)) $$ HY
  iintro HY
  iapply (HoldsU.store (fun x => AY ck.val (512 * s.val) x ∨ (AY ck.val (512 * s.val + 512) x ∧ (x 1).val = 0)) (yp512_0 I ck s e6) (yin512_0 ck s e6)) $$ HY
  iintro HY
  iapply (HoldsU.skip _ (fun _ => rfl)) $$ HY
  iintro HY
  iapply (HoldsU.store_last (AY ck.val (512 * s.val + 512)) (yp512_1 I ck s e7) (yin512_1 ck s e7)) $$ HY
  iintro HY
  isplitl [HWH HW Hs]
  · isplitl [HWH]; · iexact HWH
    isplitl [HW]
    · unfold wVAny512
      rw [Memref.set_view_squeeze]
      iapply HoldsR.any $$ HW
    iexact Hs
  isplitl [HO]; · iexact HO
  isplitl [HC]; · iexact HC
  isplitl [HS]; · iexact HS
  isplitl [HX]; · iexact HX
  iexact HY

theorem inbWH256 (ck : Fin 7) : ∀ a, (![0, 1280 * ck.val + 1024] : Fin 2 → ℕ) a + S5120x256.size a ≤ S5120x8960.size a := by
  have := ck.isLt
  simp only [Fin.forall_fin_succ]
  simp <;> omega

theorem inbWV256 (ck : Fin 7) : ∀ a, (![ck.val, 0, 1024] : Fin 3 → ℕ) a + S1x5120x256.size a ≤ S7x5120x1280.size a := by
  have := ck.isLt
  simp only [Fin.forall_fin_succ]
  simp <;> omega

abbrev rW256 (ck : Fin 7) : Rect S7x5120x1280 := Rect.unit (s := S7x5120x1280) ![ck.val, 0, 1024] S1x5120x256.size (inbWV256 ck )

/-- The columns the part's weights lie at. -/
def wHAt256 (ck : Fin 7) : sProp 𝕄 :=
  iprop((wHP256 ![0, 1280 * ck.val + 1024] (inbWH256 ck )).view.loc (c.tc : Thread nD τ) ↦[(wHP256 ![0, 1280 * ck.val + 1024] (inbWH256 ck )).view.set]{fullShare} I.w)

/-- Where they are copied to. -/
def wVAny256 (ck : Fin 7) : sProp 𝕄 :=
  iprop(∃ f, (wVP256 ![ck.val, 0, 1024] (inbWV256 ck )).view.loc (c.tc : Thread nD τ) ↦[(wVP256 ![ck.val, 0, 1024] (inbWV256 ck )).view.set]{fullShare} f)

def wIn256 (ck : Fin 7) : sProp 𝕄 :=
  iprop(wHAt256 I c ck ∗ wVAny256 (F := F) c ck ∗ semVal ((c.tc : Thread nD τ), .dma (wSem ![ck.val, 2] (inbW ck 2))) 0)

def wFl256 (ck : Fin 7) : sProp 𝕄 :=
  Transfers.Flight EC (c.tc : Thread nD τ) (.dma (wSem ![ck.val, 2] (inbW ck 2))) () (wVP256 ![ck.val, 0, 1024] (inbWV256 ck )).view.dmaCredit
    iprop(((wVP256 ![ck.val, 0, 1024] (inbWV256 ck )).view.loc (c.tc : Thread nD τ) ↦[(wVP256 ![ck.val, 0, 1024] (inbWV256 ck )).view.set]{fullShare} WV I)
      ∗ wHAt256 I c ck )

theorem wv256 (ck : Fin 7) {o4 : Fin 3 → ℕ} {h4 : ∀ a, o4 a + S1x5120x256.size a ≤ S7x5120x1280.size a} (e4 : o4 = ![ck.val, 0, 1024])
    (j : (Rect.unit (s := S7x5120x1280) o4 S1x5120x256.size h4).shape.Idx) :
    True ∧ WV I ((Rect.unit (s := S7x5120x1280) o4 S1x5120x256.size h4).emb j) = w256 I (1280 * ck.val + 1024) j := by
  refine ⟨trivial, ?_⟩
  subst e4
  have hck := ck.isLt
  have j0 := (show (j 0).val < 1 from (j 0).isLt)
  have j2 := (show (j 2).val < 256 from (j 2).isLt)
  have k0 := ValueKit.rect_emb_unit_val _ _ h4 j 0
  have k1 := ValueKit.rect_emb_unit_val _ _ h4 j 1
  have k2 := ValueKit.rect_emb_unit_val _ _ h4 j 2
  generalize (Rect.unit (s := S7x5120x1280) _ S1x5120x256.size h4).emb j = x at *
  simp at k0 k1 k2
  unfold WV w256
  congr 1
  funext a
  match a with
  | ⟨0, _⟩ => exact Fin.ext k1
  | ⟨1, _⟩ => exact Fin.ext (by show 1280 * (x 0).val + (x 2).val = (1280 * ck.val + 1024 + (j 2).val) % 8960; rw [Nat.mod_eq_of_lt (by omega)]; omega)

theorem wStart256 (ck : Fin 7) {o1 : Fin 2 → ℕ} {h1} {o2 : Fin 2 → ℕ} {h2} {o3 : Fin 3 → ℕ} {h3 w2 w3 t}
    (e1 : o1 = ![ck.val, 2]) (e2 : o2 = ![0, 1280 * ck.val + 1024]) (e3 : o3 = ![ck.val, 0, 1024]) :
    wIn256 I c ck ⊢ WK c (Prog.lift (.enqueueDma (wHP256 o2 h2) (.here (wVP256 o3 h3)) (.dma (wSem o1 h1)) w2 w3 t)) fun _ => wFl256 I c ck := by
  subst e1 e2 e3
  unfold wIn256 wFl256 wHAt256 wVAny256
  refine start (by decide) fun x => ?_
  have x0 := (show (x 0).val < 5120 from (x 0).isLt)
  have x1 := (show (x 1).val < 256 from (x 1).isLt)
  have e := Memref.read_squeeze_slice (Val := Elt F) wV (Rect.unit (s := S7x5120x1280) ![ck.val, 0, 1024] S1x5120x256.size h3) (fun _ => rfl) squeezes_S1x5120x256_S5120x256
    shapeCasts_S1x5120x256_S5120x256 (WV I)
  refine (congrFun e x).trans ?_
  have hx : x = ix2 (x 0) (x 1) := funext fun a => match a with | ⟨0, _⟩ => rfl | ⟨1, _⟩ => rfl
  rw [hx]
  refine (shapeCast_1ab_ab_apply _ _ (x 0) (x 1)).trans ?_
  refine ((wv256 I ck rfl (ix3 0 (x 0) (x 1))).2).trans ?_
  have k0 := ValueKit.rect_emb_unit_val (s := S5120x8960) ![0, 1280 * ck.val + 1024] S5120x256.size h2 (ix2 (x 0) (x 1)) 0
  have k1 := ValueKit.rect_emb_unit_val (s := S5120x8960) ![0, 1280 * ck.val + 1024] S5120x256.size h2 (ix2 (x 0) (x 1)) 1
  unfold w256
  show I.w _ = I.w ((Rect.unit (s := S5120x8960) ![0, 1280 * ck.val + 1024] S5120x256.size h2).emb (ix2 (x 0) (x 1)))
  congr 1
  have hck := ck.isLt
  funext a
  match a with
  | ⟨0, _⟩ => exact Fin.ext (by refine Eq.trans ?_ k0.symm; show (x 0).val = 0 + (x 0).val; omega)
  | ⟨1, _⟩ => exact Fin.ext (by refine Eq.trans ?_ k1.symm; show (1280 * ck.val + 1024 + (x 1).val) % 8960 = 1280 * ck.val + 1024 + (x 1).val; exact Nat.mod_eq_of_lt (by omega))

theorem wsv256 (ck : Fin 7) {o5 : Fin 1 → ℕ} {h5 : ∀ a, o5 a + S256.size a ≤ S8960.size a} (e5 : o5 = ![1280 * ck.val + 1024])
    (j : (Rect.unit (s := S8960) o5 S256.size h5).shape.Idx) :
    True ∧ I.ws ((Rect.unit (s := S8960) o5 S256.size h5).emb j) = ws256 I (1280 * ck.val + 1024) j := by
  refine ⟨trivial, ?_⟩
  subst e5
  have hck := ck.isLt
  have j0 := (show (j 0).val < 256 from (j 0).isLt)
  have k0 := ValueKit.rect_emb_unit_val _ _ h5 j 0
  unfold ws256
  congr 1
  funext a
  match a with
  | ⟨0, _⟩ => exact Fin.ext (by refine k0.trans ?_; show 1280 * ck.val + 1024 + (j 0).val = (1280 * ck.val + 1024 + (j 0).val) % 8960; rw [Nat.mod_eq_of_lt (by omega)])

theorem Y256 (ck : ℕ) (b : Fin 2) (r : Fin 1280) (l : Fin 128) (i : Fin 256) (h : r.val = 1024 + i.val) :
    Y I ck b r l = part256 I (1280 * ck + 1024) b (ix4 0 0 i l) := by
  unfold Y
  have hi := i.isLt
  rw [dif_neg (show ¬ r.val < 512 by omega), dif_neg (show ¬ r.val < 1024 by omega)]
  congr 2
  exact Fin.ext (by simp; omega)

theorem yp256_0 (ck : Fin 7) {o6 : Fin 4 → ℕ} {h6 : ∀ a, o6 a + S1x1x256x128.size a ≤ S2x2x1280x128.size a} (e6 : o6 = ![ck.val % 2, 0, 1024, 0])
    (j : (Rect.unit (s := S2x2x1280x128) o6 S1x1x256x128.size h6).shape.Idx) :
    projPay256_0 (CODES I) (w256 I (1280 * ck.val + 1024)) (ws256 I (1280 * ck.val + 1024)) (xs1 I) j = YT I ck.val ((Rect.unit (s := S2x2x1280x128) o6 S1x1x256x128.size h6).emb j) := by
  subst e6
  have j1 := (show (j 1).val < 1 from (j 1).isLt)
  have j0 := (show (j 0).val < 1 from (j 0).isLt)
  have j2 := (show (j 2).val < 256 from (j 2).isLt)
  have k0 := ValueKit.rect_emb_unit_val _ _ h6 j 0
  have k1 := ValueKit.rect_emb_unit_val _ _ h6 j 1
  have k2 := ValueKit.rect_emb_unit_val _ _ h6 j 2
  have k3 := ValueKit.rect_emb_unit_val _ _ h6 j 3
  generalize (Rect.unit (s := S2x2x1280x128) _ S1x1x256x128.size h6).emb j = x at *
  simp at k0 k1 k2 k3
  refine Eq.trans ?_ ((YT_at I (x := x) (ck := ck.val) (b := 0) (r := ⟨1024 + (j 2).val, by omega⟩) (l := ⟨(j 3).val, (j 3).isLt⟩) (by rw [if_pos (by omega)]) (by show _ = 0; omega) k2 k3).trans
    (Y256 I ck.val 0 _ _ ⟨(j 2).val, j2⟩ rfl)).symm
  unfold part256
  rw [if_pos rfl]
  congr 1
  funext a
  match a with
  | ⟨0, _⟩ => exact Fin.ext (by show (j 0).val = 0; omega)
  | ⟨1, _⟩ => exact Fin.ext (by show (j 1).val = 0; omega)
  | ⟨2, _⟩ => rfl
  | ⟨3, _⟩ => rfl

theorem yin256_0 (ck : Fin 7) {o6 : Fin 4 → ℕ} {h6 : ∀ a, o6 a + S1x1x256x128.size a ≤ S2x2x1280x128.size a} (e6 : o6 = ![ck.val % 2, 0, 1024, 0])
    (x : S2x2x1280x128.Idx) (hx : (fun x => AY ck.val (1024) x ∨ (AY ck.val (1024 + 256) x ∧ (x 1).val = 0)) x) : AY ck.val (1024) x ∨ ∃ j, (Rect.unit (s := S2x2x1280x128) o6 S1x1x256x128.size h6).emb j = x := by
  subst e6
  have hx0 := (show (x 0).val < 2 from (x 0).isLt)
  have hx1 := (show (x 1).val < 2 from (x 1).isLt)
  have hx2 := (show (x 2).val < 1280 from (x 2).isLt)
  have hx3 := (show (x 3).val < 128 from (x 3).isLt)
  by_cases hA : AY ck.val (1024) x
  · exact Or.inl hA
  · refine Or.inr (in_unit ?_)
    simp only [AY] at hx hA
    simp only [Fin.forall_fin_succ]
    simp
    omega

theorem yp256_1 (ck : Fin 7) {o6 : Fin 4 → ℕ} {h6 : ∀ a, o6 a + S1x1x256x128.size a ≤ S2x2x1280x128.size a} (e6 : o6 = ![ck.val % 2, 1, 1024, 0])
    (j : (Rect.unit (s := S2x2x1280x128) o6 S1x1x256x128.size h6).shape.Idx) :
    projPay256_1 (CODES I) (w256 I (1280 * ck.val + 1024)) (ws256 I (1280 * ck.val + 1024)) (xs1 I) j = YT I ck.val ((Rect.unit (s := S2x2x1280x128) o6 S1x1x256x128.size h6).emb j) := by
  subst e6
  have j1 := (show (j 1).val < 1 from (j 1).isLt)
  have j0 := (show (j 0).val < 1 from (j 0).isLt)
  have j2 := (show (j 2).val < 256 from (j 2).isLt)
  have k0 := ValueKit.rect_emb_unit_val _ _ h6 j 0
  have k1 := ValueKit.rect_emb_unit_val _ _ h6 j 1
  have k2 := ValueKit.rect_emb_unit_val _ _ h6 j 2
  have k3 := ValueKit.rect_emb_unit_val _ _ h6 j 3
  generalize (Rect.unit (s := S2x2x1280x128) _ S1x1x256x128.size h6).emb j = x at *
  simp at k0 k1 k2 k3
  refine Eq.trans ?_ ((YT_at I (x := x) (ck := ck.val) (b := 1) (r := ⟨1024 + (j 2).val, by omega⟩) (l := ⟨(j 3).val, (j 3).isLt⟩) (by rw [if_pos (by omega)]) (by show _ = 1; omega) k2 k3).trans
    (Y256 I ck.val 1 _ _ ⟨(j 2).val, j2⟩ rfl)).symm
  unfold part256
  rw [if_neg (by decide)]
  congr 1
  funext a
  match a with
  | ⟨0, _⟩ => exact Fin.ext (by show (j 0).val = 0; omega)
  | ⟨1, _⟩ => exact Fin.ext (by show (j 1).val = 0; omega)
  | ⟨2, _⟩ => rfl
  | ⟨3, _⟩ => rfl

theorem yin256_1 (ck : Fin 7) {o6 : Fin 4 → ℕ} {h6 : ∀ a, o6 a + S1x1x256x128.size a ≤ S2x2x1280x128.size a} (e6 : o6 = ![ck.val % 2, 1, 1024, 0])
    (x : S2x2x1280x128.Idx) (hx : AY ck.val (1024 + 256) x) : (fun x => AY ck.val (1024) x ∨ (AY ck.val (1024 + 256) x ∧ (x 1).val = 0)) x ∨ ∃ j, (Rect.unit (s := S2x2x1280x128) o6 S1x1x256x128.size h6).emb j = x := by
  subst e6
  have hx0 := (show (x 0).val < 2 from (x 0).isLt)
  have hx1 := (show (x 1).val < 2 from (x 1).isLt)
  have hx2 := (show (x 2).val < 1280 from (x 2).isLt)
  have hx3 := (show (x 3).val < 128 from (x 3).isLt)
  by_cases hA : (fun x => AY ck.val (1024) x ∨ (AY ck.val (1024 + 256) x ∧ (x 1).val = 0)) x
  · exact Or.inl hA
  · refine Or.inr (in_unit ?_)
    simp only [AY] at hx hA
    simp only [Fin.forall_fin_succ]
    simp
    omega

/-- A part of a chunk, projected: its weights have come, and its columns are in the slot. -/
theorem proj256_spec (ck : Fin 7) {o1 : Fin 2 → ℕ} {h1} {o2 : Fin 2 → ℕ} {h2} {o3 : Fin 3 → ℕ} {h3 w2 w3} {o4 : Fin 3 → ℕ} {h4} {o5 : Fin 1 → ℕ} {h5}
    {o6 : Fin 4 → ℕ} {h6} {o7 : Fin 4 → ℕ} {h7}
    (e1 : o1 = ![ck.val, 2]) (e2 : o2 = ![0, 1280 * ck.val + 1024]) (e3 : o3 = ![ck.val, 0, 1024]) (e4 : o4 = ![ck.val, 0, 1024]) (e5 : o5 = ![1280 * ck.val + 1024])
    (e6 : o6 = ![ck.val % 2, 0, 1024, 0]) (e7 : o7 = ![ck.val % 2, 1, 1024, 0]) :
    iprop(wFl256 I c ck ∗ Core I c ck.val (1024)) ⊢ WK c (proj256 o1 h1 o2 h2 o3 h3 w2 w3 o4 h4 o5 h5 o6 h6 o7 h7) fun _ =>
      iprop(wIn256 I c ck ∗ Core I c ck.val (1024 + 256)) := by
  subst e1 e2 e3 e4
  unfold proj256 wFl256 Core wIn256
  iintro ⟨HF, HO, HC, HS, HX, HY⟩
  iapply (WP_use _ c wait) $$ [HF HO]
  · isplitl [HF]; · iexact HF
    iexact HO
  iintro ⟨⟨⟨HWV, HWH⟩, Hs⟩, HO⟩
  ihave HW := (HoldsR.of_eq (c := c) (q := fullShare) (m := wV) (r' := rW256 ck ) (A := fun _ => True) (G := WV I) (f := WV I) (fun x _ => rfl)) $$ [HWV]
  · rw [Memref.set_view_squeeze]
    iexact HWV
  iapply (HoldsU.loadAs (CODES I) (cvv I)) $$ HC
  iintro HC
  iapply (HoldsR.loadAs (w256 I (1280 * ck.val + 1024)) subset_rfl (wv256 I ck rfl)) $$ HW
  iintro HW
  iapply (HoldsU.loadAs (ws256 I (1280 * ck.val + 1024)) (wsv256 I ck e5)) $$ HS
  iintro HS
  iapply (HoldsU.loadAs (xs1 I) (xsv I)) $$ HX
  iintro HX
  iapply (HoldsU.skip _ (fun _ => rfl)) $$ HY
  iintro HY
  iapply (HoldsU.store (fun x => AY ck.val (1024) x ∨ (AY ck.val (1024 + 256) x ∧ (x 1).val = 0)) (yp256_0 I ck e6) (yin256_0 ck e6)) $$ HY
  iintro HY
  iapply (HoldsU.skip _ (fun _ => rfl)) $$ HY
  iintro HY
  iapply (HoldsU.store_last (AY ck.val (1024 + 256)) (yp256_1 I ck e7) (yin256_1 ck e7)) $$ HY
  iintro HY
  isplitl [HWH HW Hs]
  · isplitl [HWH]; · iexact HWH
    isplitl [HW]
    · unfold wVAny256
      rw [Memref.set_view_squeeze]
      iapply HoldsR.any $$ HW
    iexact Hs
  isplitl [HO]; · iexact HO
  isplitl [HC]; · iexact HC
  isplitl [HS]; · iexact HS
  isplitl [HX]; · iexact HX
  iexact HY

end Cert.Proof.KernelIdeal

end
-- ==== Proof.KernelIdealChunks.lean ====
module

public import proofs.«01_k».proof.Proof.KernelIdealHeads
public import proofs.«01_k».proof.Proof.KernelIdealProj

/-! # The chunks: projecting one while the heads of the one before are finished -/

@[expose] public section

noncomputable section

namespace Cert.Proof.KernelIdeal

open Cert.KernelIdeal Cert.KernelIdeal.Gen Cert.Proof.Rules
open Idealize.ShloMosaic hiding ix0 ix1 ix2 ix3 ix4 ix5 ix6
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ (Pipeline.UD sig nD τ) ℕ

variable (I : In F) (c : Dev nD)

/-- A chunk's weights on their way, and back. -/
def WF (ck : Fin 7) : sProp 𝕄 := iprop(wFl512 I c ck 0 ∗ wFl512 I c ck 1 ∗ wFl256 I c ck)
def WD (ck : Fin 7) : sProp 𝕄 := iprop(wIn512 I c ck 0 ∗ wIn512 I c ck 1 ∗ wIn256 I c ck)

/-- From one chunk to the next: the slot just filled is the other one now. -/
theorem Core_next (ck : ℕ) : Core I c ck 1280 ⊢ Core I c (ck + 1) 0 := by
  unfold Core
  iintro ⟨HO, HC, HS, HX, HY⟩
  isplitl [HO]; · iexact HO
  isplitl [HC]; · iexact HC
  isplitl [HS]; · iexact HS
  isplitl [HX]; · iexact HX
  iapply (HoldsU.mono (fun x hx => ?_)) $$ HY
  have hx0 := (show (x 0).val < 2 from (x 0).isLt)
  have hx2 := (show (x 2).val < 1280 from (x 2).isLt)
  simp only [AY] at hx ⊢
  refine ⟨by omega, ?_⟩
  unfold YT
  rw [if_pos (show (x 0).val = ck % 2 by omega), if_neg (show ¬ (x 0).val = (ck + 1) % 2 by omega), Nat.add_sub_cancel]

def Tab : sProp 𝕄 := HoldsU c fullShare tabV (fun _ => True) (TAB I)

/-- A chunk's state, with a piece of q. -/
def St (k : Fin 5) (n m : ℕ) : sProp 𝕄 := iprop((Core I c (k.val + 1) n ∗ Tab I c) ∗ HoldsR c fullShare qV (rQ k) (AQ k.val m) (QO I))

/-- The last chunk's state, with k. -/
def StK (n m : ℕ) : sProp 𝕄 := iprop((Core I c 6 n ∗ Tab I c) ∗ HoldsU c fullShare kV (AK m) (KO I))

theorem headIn_prev (k : ℕ) (n : ℕ) (b : Fin 2) (h : Fin 8) : HeadIn (k + 1) k b h (AY (k + 1) n) := by
  refine ⟨by rw [if_neg (by omega), Nat.add_sub_cancel], fun x hx _ _ _ => Or.inl ⟨by omega, by omega⟩⟩

theorem headIn_own (b : Fin 2) (h : Fin 8) : HeadIn 6 6 b h (AY 6 1280) := by
  refine ⟨by rw [if_pos rfl], fun x hx _ _ h2 => Or.inr ⟨hx, by have := h.isLt; omega⟩⟩

abbrev c7 (k : Fin 5) : Fin 7 := ⟨k.val + 1, by have := k.isLt; omega⟩

theorem qHeadS (k : Fin 5) {n m m' : ℕ} (h : Fin 8) (b : Fin 2) (hm : m = 2 * h.val + b.val) (hm' : m' = 2 * h.val + b.val + 1)
    {bb : ℕ} {t0 t1 t2 t3} {o1 : Fin 4 → ℕ} {h1} {o2 : Fin 4 → ℕ} {h2} {o3 : Fin 4 → ℕ} {h3 p2 p3} (hb : bb = b.val)
    (e1 : o1 = ![k.val % 2, b.val, 160 * h.val, 0]) (e2 : o2 = ![b.val, 8 * k.val + h.val, 0, 0]) (e3 : o3 = ![b.val, 8 * k.val + h.val, 80, 0]) :
    St I c k n m ⊢ WK c (qHead 0 bb t0 t1 t2 t3 o1 h1 o2 h2 o3 h3 p2 p3) fun _ => St I c k n m' := by
  subst hm hm' hb
  unfold St Core Tab
  iintro ⟨⟨⟨HO, HC, HS, HX, HY⟩, HT⟩, HQ⟩
  iapply (WP_use_last _ c (qHead_spec I c k h b (headIn_prev k.val n b h) e1 e2 e3)) $$ [HY HT HQ]
  · isplitl [HY HT]
    · isplitl [HY]; · iexact HY
      iexact HT
    iexact HQ
  iintro %_ ⟨⟨HY, HT⟩, HQ⟩
  isplitl [HO HC HS HX HY HT]
  · isplitl [HO HC HS HX HY]
    · isplitl [HO]; · iexact HO
      isplitl [HC]; · iexact HC
      isplitl [HS]; · iexact HS
      isplitl [HX]; · iexact HX
      iexact HY
    iexact HT
  iexact HQ

theorem proj512Sq (k : Fin 5) (s : Fin 2) {n n' m : ℕ} (hn : n = 512 * s.val) (hn' : n' = 512 * s.val + 512) {o1 : Fin 2 → ℕ} {h1} {o2 : Fin 2 → ℕ} {h2} {o3 : Fin 3 → ℕ} {h3 w2 w3} {o4 : Fin 3 → ℕ} {h4} {o5 : Fin 1 → ℕ} {h5}
    {o6 : Fin 4 → ℕ} {h6} {o7 : Fin 4 → ℕ} {h7}
    (e1 : o1 = ![(k.val + 1), s.val]) (e2 : o2 = ![0, 1280 * (k.val + 1) + 512 * s.val]) (e3 : o3 = ![(k.val + 1), 0, 512 * s.val]) (e4 : o4 = ![(k.val + 1), 0, 512 * s.val]) (e5 : o5 = ![1280 * (k.val + 1) + 512 * s.val])
    (e6 : o6 = ![(k.val + 1) % 2, 0, 512 * s.val, 0]) (e7 : o7 = ![(k.val + 1) % 2, 1, 512 * s.val, 0]) :
    iprop(wFl512 I c (c7 k) s ∗ St I c k n m) ⊢ WK c (proj512 o1 h1 o2 h2 o3 h3 w2 w3 o4 h4 o5 h5 o6 h6 o7 h7) fun _ => iprop(wIn512 I c (c7 k) s ∗ St I c k n' m) := by
  subst hn hn'
  unfold St
  iintro ⟨HF, ⟨HC, HT⟩, HQ⟩
  iapply (WP_use_last _ c (proj512_spec I c (c7 k) s e1 e2 e3 e4 e5 e6 e7)) $$ [HF HC]
  · isplitl [HF]; · iexact HF
    iexact HC
  iintro %_ ⟨HF, HC⟩
  isplitl [HF]; · iexact HF
  isplitl [HC HT]
  · isplitl [HC]; · iexact HC
    iexact HT
  iexact HQ

theorem proj256Sq (k : Fin 5) {n n' m : ℕ} (hn : n = 1024) (hn' : n' = 1024 + 256) {o1 : Fin 2 → ℕ} {h1} {o2 : Fin 2 → ℕ} {h2} {o3 : Fin 3 → ℕ} {h3 w2 w3} {o4 : Fin 3 → ℕ} {h4} {o5 : Fin 1 → ℕ} {h5}
    {o6 : Fin 4 → ℕ} {h6} {o7 : Fin 4 → ℕ} {h7}
    (e1 : o1 = ![(k.val + 1), 2]) (e2 : o2 = ![0, 1280 * (k.val + 1) + 1024]) (e3 : o3 = ![(k.val + 1), 0, 1024]) (e4 : o4 = ![(k.val + 1), 0, 1024]) (e5 : o5 = ![1280 * (k.val + 1) + 1024])
    (e6 : o6 = ![(k.val + 1) % 2, 0, 1024, 0]) (e7 : o7 = ![(k.val + 1) % 2, 1, 1024, 0]) :
    iprop(wFl256 I c (c7 k) ∗ St I c k n m) ⊢ WK c (proj256 o1 h1 o2 h2 o3 h3 w2 w3 o4 h4 o5 h5 o6 h6 o7 h7) fun _ => iprop(wIn256 I c (c7 k) ∗ St I c k n' m) := by
  subst hn hn'
  unfold St
  iintro ⟨HF, ⟨HC, HT⟩, HQ⟩
  iapply (WP_use_last _ c (proj256_spec I c (c7 k) e1 e2 e3 e4 e5 e6 e7)) $$ [HF HC]
  · isplitl [HF]; · iexact HF
    iexact HC
  iintro %_ ⟨HF, HC⟩
  isplitl [HF]; · iexact HF
  isplitl [HC HT]
  · isplitl [HC]; · iexact HC
    iexact HT
  iexact HQ

theorem kHeadS {n m m' : ℕ} (h : Fin 8) (b : Fin 2) (hm : m = 2 * h.val + b.val) (hm' : m' = 2 * h.val + b.val + 1)
    {bb : ℕ} {t0 t1 t2 t3} {o1 : Fin 4 → ℕ} {h1} {o2 : Fin 4 → ℕ} {h2} {o3 : Fin 4 → ℕ} {h3 p2 p3} (hb : bb = b.val)
    (e1 : o1 = ![5 % 2, b.val, 160 * h.val, 0]) (e2 : o2 = ![b.val, h.val, 0, 0]) (e3 : o3 = ![b.val, h.val, 80, 0]) :
    StK I c n m ⊢ WK c (kHead 1 bb t0 t1 t2 t3 o1 h1 o2 h2 o3 h3 p2 p3) fun _ => StK I c n m' := by
  subst hm hm' hb
  unfold StK Core Tab
  iintro ⟨⟨⟨HO, HC, HS, HX, HY⟩, HT⟩, HQ⟩
  iapply (WP_use_last _ c (kHead_spec I c h b (headIn_prev 5 n b h) e1 e2 e3)) $$ [HY HT HQ]
  · isplitl [HY HT]
    · isplitl [HY]; · iexact HY
      iexact HT
    iexact HQ
  iintro %_ ⟨⟨HY, HT⟩, HQ⟩
  isplitl [HO HC HS HX HY HT]
  · isplitl [HO HC HS HX HY]
    · isplitl [HO]; · iexact HO
      isplitl [HC]; · iexact HC
      isplitl [HS]; · iexact HS
      isplitl [HX]; · iexact HX
      iexact HY
    iexact HT
  iexact HQ

theorem proj512Sk (s : Fin 2) {n n' m : ℕ} (hn : n = 512 * s.val) (hn' : n' = 512 * s.val + 512) {o1 : Fin 2 → ℕ} {h1} {o2 : Fin 2 → ℕ} {h2} {o3 : Fin 3 → ℕ} {h3 w2 w3} {o4 : Fin 3 → ℕ} {h4} {o5 : Fin 1 → ℕ} {h5}
    {o6 : Fin 4 → ℕ} {h6} {o7 : Fin 4 → ℕ} {h7}
    (e1 : o1 = ![6, s.val]) (e2 : o2 = ![0, 1280 * 6 + 512 * s.val]) (e3 : o3 = ![6, 0, 512 * s.val]) (e4 : o4 = ![6, 0, 512 * s.val]) (e5 : o5 = ![1280 * 6 + 512 * s.val])
    (e6 : o6 = ![6 % 2, 0, 512 * s.val, 0]) (e7 : o7 = ![6 % 2, 1, 512 * s.val, 0]) :
    iprop(wFl512 I c 6 s ∗ StK I c n m) ⊢ WK c (proj512 o1 h1 o2 h2 o3 h3 w2 w3 o4 h4 o5 h5 o6 h6 o7 h7) fun _ => iprop(wIn512 I c 6 s ∗ StK I c n' m) := by
  subst hn hn'
  unfold StK
  iintro ⟨HF, ⟨HC, HT⟩, HQ⟩
  iapply (WP_use_last _ c (proj512_spec I c 6 s e1 e2 e3 e4 e5 e6 e7)) $$ [HF HC]
  · isplitl [HF]; · iexact HF
    iexact HC
  iintro %_ ⟨HF, HC⟩
  isplitl [HF]; · iexact HF
  isplitl [HC HT]
  · isplitl [HC]; · iexact HC
    iexact HT
  iexact HQ

theorem proj256Sk {n n' m : ℕ} (hn : n = 1024) (hn' : n' = 1024 + 256) {o1 : Fin 2 → ℕ} {h1} {o2 : Fin 2 → ℕ} {h2} {o3 : Fin 3 → ℕ} {h3 w2 w3} {o4 : Fin 3 → ℕ} {h4} {o5 : Fin 1 → ℕ} {h5}
    {o6 : Fin 4 → ℕ} {h6} {o7 : Fin 4 → ℕ} {h7}
    (e1 : o1 = ![6, 2]) (e2 : o2 = ![0, 1280 * 6 + 1024]) (e3 : o3 = ![6, 0, 1024]) (e4 : o4 = ![6, 0, 1024]) (e5 : o5 = ![1280 * 6 + 1024])
    (e6 : o6 = ![6 % 2, 0, 1024, 0]) (e7 : o7 = ![6 % 2, 1, 1024, 0]) :
    iprop(wFl256 I c 6 ∗ StK I c n m) ⊢ WK c (proj256 o1 h1 o2 h2 o3 h3 w2 w3 o4 h4 o5 h5 o6 h6 o7 h7) fun _ => iprop(wIn256 I c 6 ∗ StK I c n' m) := by
  subst hn hn'
  unfold StK
  iintro ⟨HF, ⟨HC, HT⟩, HQ⟩
  iapply (WP_use_last _ c (proj256_spec I c 6 e1 e2 e3 e4 e5 e6 e7)) $$ [HF HC]
  · isplitl [HF]; · iexact HF
    iexact HC
  iintro %_ ⟨HF, HC⟩
  isplitl [HF]; · iexact HF
  isplitl [HC HT]
  · isplitl [HC]; · iexact HC
    iexact HT
  iexact HQ

/-- A trip's number. -/
abbrev k5 (k : Fin k0_t1_loop.trips) : Fin 5 := ⟨k.val, k.isLt.trans_eq (by decide)⟩

theorem o1_0 : ∀ k : Fin k0_t1_loop.trips, k0_off1 k = ![((k5 k).val + 1), (0 : Fin 2).val] := by decide
theorem o2_0 : ∀ k : Fin k0_t1_loop.trips, k0_off3 k 0#32 = ![0, 1280 * ((k5 k).val + 1) + 512 * (0 : Fin 2).val] := by decide
theorem o3_0 : ∀ k : Fin k0_t1_loop.trips, k0_off2 k = ![((k5 k).val + 1), 0, 512 * (0 : Fin 2).val] := by decide
theorem o4_0 : ∀ k : Fin k0_t1_loop.trips, k0_off4 k = ![((k5 k).val + 1), 0, 512 * (0 : Fin 2).val] := by decide
theorem o5_0 : ∀ k : Fin k0_t1_loop.trips, k0_off5 k 0#32 = ![1280 * ((k5 k).val + 1) + 512 * (0 : Fin 2).val] := by decide
theorem o6_0 : ∀ k : Fin k0_t1_loop.trips, k0_off6 k = ![((k5 k).val + 1) % 2, 0, 512 * (0 : Fin 2).val, 0] := by decide
theorem o7_0 : ∀ k : Fin k0_t1_loop.trips, k0_off7 k = ![((k5 k).val + 1) % 2, 1, 512 * (0 : Fin 2).val, 0] := by decide
theorem o1_1 : ∀ k : Fin k0_t1_loop.trips, k0_off18 k = ![((k5 k).val + 1), (1 : Fin 2).val] := by decide
theorem o2_1 : ∀ k : Fin k0_t1_loop.trips, k0_off3 k 512#32 = ![0, 1280 * ((k5 k).val + 1) + 512 * (1 : Fin 2).val] := by decide
theorem o3_1 : ∀ k : Fin k0_t1_loop.trips, k0_off19 k = ![((k5 k).val + 1), 0, 512 * (1 : Fin 2).val] := by decide
theorem o4_1 : ∀ k : Fin k0_t1_loop.trips, k0_off20 k = ![((k5 k).val + 1), 0, 512 * (1 : Fin 2).val] := by decide
theorem o5_1 : ∀ k : Fin k0_t1_loop.trips, k0_off5 k 512#32 = ![1280 * ((k5 k).val + 1) + 512 * (1 : Fin 2).val] := by decide
theorem o6_1 : ∀ k : Fin k0_t1_loop.trips, k0_off21 k = ![((k5 k).val + 1) % 2, 0, 512 * (1 : Fin 2).val, 0] := by decide
theorem o7_1 : ∀ k : Fin k0_t1_loop.trips, k0_off22 k = ![((k5 k).val + 1) % 2, 1, 512 * (1 : Fin 2).val, 0] := by decide
theorem o1_2 : ∀ k : Fin k0_t1_loop.trips, k0_off29 k = ![((k5 k).val + 1), 2] := by decide
theorem o2_2 : ∀ k : Fin k0_t1_loop.trips, k0_off31 k  = ![0, 1280 * ((k5 k).val + 1) + 1024] := by decide
theorem o3_2 : ∀ k : Fin k0_t1_loop.trips, k0_off30 k = ![((k5 k).val + 1), 0, 1024] := by decide
theorem o4_2 : ∀ k : Fin k0_t1_loop.trips, k0_off32 k = ![((k5 k).val + 1), 0, 1024] := by decide
theorem o5_2 : ∀ k : Fin k0_t1_loop.trips, k0_off33 k  = ![1280 * ((k5 k).val + 1) + 1024] := by decide
theorem o6_2 : ∀ k : Fin k0_t1_loop.trips, k0_off34 k = ![((k5 k).val + 1) % 2, 0, 1024, 0] := by decide
theorem o7_2 : ∀ k : Fin k0_t1_loop.trips, k0_off35 k = ![((k5 k).val + 1) % 2, 1, 1024, 0] := by decide
theorem y_0_0 : ∀ k : Fin k0_t1_loop.trips, k0_off8 k = ![(k5 k).val % 2, (0 : Fin 2).val, 160 * (0 : Fin 8).val, 0] := by decide
theorem l_0_0 : ∀ k : Fin k0_t1_loop.trips, k0_off9 k 0#32 = ![(0 : Fin 2).val, 8 * (k5 k).val + (0 : Fin 8).val, 0, 0] := by decide
theorem u_0_0 : ∀ k : Fin k0_t1_loop.trips, k0_off10 k 0#32 = ![(0 : Fin 2).val, 8 * (k5 k).val + (0 : Fin 8).val, 80, 0] := by decide
theorem y_0_1 : ∀ k : Fin k0_t1_loop.trips, k0_off11 k = ![(k5 k).val % 2, (1 : Fin 2).val, 160 * (0 : Fin 8).val, 0] := by decide
theorem l_0_1 : ∀ k : Fin k0_t1_loop.trips, k0_off12 k 0#32 = ![(1 : Fin 2).val, 8 * (k5 k).val + (0 : Fin 8).val, 0, 0] := by decide
theorem u_0_1 : ∀ k : Fin k0_t1_loop.trips, k0_off13 k 0#32 = ![(1 : Fin 2).val, 8 * (k5 k).val + (0 : Fin 8).val, 80, 0] := by decide
theorem y_1_0 : ∀ k : Fin k0_t1_loop.trips, k0_off14 k = ![(k5 k).val % 2, (0 : Fin 2).val, 160 * (1 : Fin 8).val, 0] := by decide
theorem l_1_0 : ∀ k : Fin k0_t1_loop.trips, k0_off9 k 1#32 = ![(0 : Fin 2).val, 8 * (k5 k).val + (1 : Fin 8).val, 0, 0] := by decide
theorem u_1_0 : ∀ k : Fin k0_t1_loop.trips, k0_off10 k 1#32 = ![(0 : Fin 2).val, 8 * (k5 k).val + (1 : Fin 8).val, 80, 0] := by decide
theorem y_1_1 : ∀ k : Fin k0_t1_loop.trips, k0_off15 k = ![(k5 k).val % 2, (1 : Fin 2).val, 160 * (1 : Fin 8).val, 0] := by decide
theorem l_1_1 : ∀ k : Fin k0_t1_loop.trips, k0_off12 k 1#32 = ![(1 : Fin 2).val, 8 * (k5 k).val + (1 : Fin 8).val, 0, 0] := by decide
theorem u_1_1 : ∀ k : Fin k0_t1_loop.trips, k0_off13 k 1#32 = ![(1 : Fin 2).val, 8 * (k5 k).val + (1 : Fin 8).val, 80, 0] := by decide
theorem y_2_0 : ∀ k : Fin k0_t1_loop.trips, k0_off16 k = ![(k5 k).val % 2, (0 : Fin 2).val, 160 * (2 : Fin 8).val, 0] := by decide
theorem l_2_0 : ∀ k : Fin k0_t1_loop.trips, k0_off9 k 2#32 = ![(0 : Fin 2).val, 8 * (k5 k).val + (2 : Fin 8).val, 0, 0] := by decide
theorem u_2_0 : ∀ k : Fin k0_t1_loop.trips, k0_off10 k 2#32 = ![(0 : Fin 2).val, 8 * (k5 k).val + (2 : Fin 8).val, 80, 0] := by decide
theorem y_2_1 : ∀ k : Fin k0_t1_loop.trips, k0_off17 k = ![(k5 k).val % 2, (1 : Fin 2).val, 160 * (2 : Fin 8).val, 0] := by decide
theorem l_2_1 : ∀ k : Fin k0_t1_loop.trips, k0_off12 k 2#32 = ![(1 : Fin 2).val, 8 * (k5 k).val + (2 : Fin 8).val, 0, 0] := by decide
theorem u_2_1 : ∀ k : Fin k0_t1_loop.trips, k0_off13 k 2#32 = ![(1 : Fin 2).val, 8 * (k5 k).val + (2 : Fin 8).val, 80, 0] := by decide
theorem y_3_0 : ∀ k : Fin k0_t1_loop.trips, k0_off23 k = ![(k5 k).val % 2, (0 : Fin 2).val, 160 * (3 : Fin 8).val, 0] := by decide
theorem l_3_0 : ∀ k : Fin k0_t1_loop.trips, k0_off9 k 3#32 = ![(0 : Fin 2).val, 8 * (k5 k).val + (3 : Fin 8).val, 0, 0] := by decide
theorem u_3_0 : ∀ k : Fin k0_t1_loop.trips, k0_off10 k 3#32 = ![(0 : Fin 2).val, 8 * (k5 k).val + (3 : Fin 8).val, 80, 0] := by decide
theorem y_3_1 : ∀ k : Fin k0_t1_loop.trips, k0_off24 k = ![(k5 k).val % 2, (1 : Fin 2).val, 160 * (3 : Fin 8).val, 0] := by decide
theorem l_3_1 : ∀ k : Fin k0_t1_loop.trips, k0_off12 k 3#32 = ![(1 : Fin 2).val, 8 * (k5 k).val + (3 : Fin 8).val, 0, 0] := by decide
theorem u_3_1 : ∀ k : Fin k0_t1_loop.trips, k0_off13 k 3#32 = ![(1 : Fin 2).val, 8 * (k5 k).val + (3 : Fin 8).val, 80, 0] := by decide
theorem y_4_0 : ∀ k : Fin k0_t1_loop.trips, k0_off25 k = ![(k5 k).val % 2, (0 : Fin 2).val, 160 * (4 : Fin 8).val, 0] := by decide
theorem l_4_0 : ∀ k : Fin k0_t1_loop.trips, k0_off9 k 4#32 = ![(0 : Fin 2).val, 8 * (k5 k).val + (4 : Fin 8).val, 0, 0] := by decide
theorem u_4_0 : ∀ k : Fin k0_t1_loop.trips, k0_off10 k 4#32 = ![(0 : Fin 2).val, 8 * (k5 k).val + (4 : Fin 8).val, 80, 0] := by decide
theorem y_4_1 : ∀ k : Fin k0_t1_loop.trips, k0_off26 k = ![(k5 k).val % 2, (1 : Fin 2).val, 160 * (4 : Fin 8).val, 0] := by decide
theorem l_4_1 : ∀ k : Fin k0_t1_loop.trips, k0_off12 k 4#32 = ![(1 : Fin 2).val, 8 * (k5 k).val + (4 : Fin 8).val, 0, 0] := by decide
theorem u_4_1 : ∀ k : Fin k0_t1_loop.trips, k0_off13 k 4#32 = ![(1 : Fin 2).val, 8 * (k5 k).val + (4 : Fin 8).val, 80, 0] := by decide
theorem y_5_0 : ∀ k : Fin k0_t1_loop.trips, k0_off27 k = ![(k5 k).val % 2, (0 : Fin 2).val, 160 * (5 : Fin 8).val, 0] := by decide
theorem l_5_0 : ∀ k : Fin k0_t1_loop.trips, k0_off9 k 5#32 = ![(0 : Fin 2).val, 8 * (k5 k).val + (5 : Fin 8).val, 0, 0] := by decide
theorem u_5_0 : ∀ k : Fin k0_t1_loop.trips, k0_off10 k 5#32 = ![(0 : Fin 2).val, 8 * (k5 k).val + (5 : Fin 8).val, 80, 0] := by decide
theorem y_5_1 : ∀ k : Fin k0_t1_loop.trips, k0_off28 k = ![(k5 k).val % 2, (1 : Fin 2).val, 160 * (5 : Fin 8).val, 0] := by decide
theorem l_5_1 : ∀ k : Fin k0_t1_loop.trips, k0_off12 k 5#32 = ![(1 : Fin 2).val, 8 * (k5 k).val + (5 : Fin 8).val, 0, 0] := by decide
theorem u_5_1 : ∀ k : Fin k0_t1_loop.trips, k0_off13 k 5#32 = ![(1 : Fin 2).val, 8 * (k5 k).val + (5 : Fin 8).val, 80, 0] := by decide
theorem y_6_0 : ∀ k : Fin k0_t1_loop.trips, k0_off36 k = ![(k5 k).val % 2, (0 : Fin 2).val, 160 * (6 : Fin 8).val, 0] := by decide
theorem l_6_0 : ∀ k : Fin k0_t1_loop.trips, k0_off9 k 6#32 = ![(0 : Fin 2).val, 8 * (k5 k).val + (6 : Fin 8).val, 0, 0] := by decide
theorem u_6_0 : ∀ k : Fin k0_t1_loop.trips, k0_off10 k 6#32 = ![(0 : Fin 2).val, 8 * (k5 k).val + (6 : Fin 8).val, 80, 0] := by decide
theorem y_6_1 : ∀ k : Fin k0_t1_loop.trips, k0_off37 k = ![(k5 k).val % 2, (1 : Fin 2).val, 160 * (6 : Fin 8).val, 0] := by decide
theorem l_6_1 : ∀ k : Fin k0_t1_loop.trips, k0_off12 k 6#32 = ![(1 : Fin 2).val, 8 * (k5 k).val + (6 : Fin 8).val, 0, 0] := by decide
theorem u_6_1 : ∀ k : Fin k0_t1_loop.trips, k0_off13 k 6#32 = ![(1 : Fin 2).val, 8 * (k5 k).val + (6 : Fin 8).val, 80, 0] := by decide
theorem y_7_0 : ∀ k : Fin k0_t1_loop.trips, k0_off38 k = ![(k5 k).val % 2, (0 : Fin 2).val, 160 * (7 : Fin 8).val, 0] := by decide
theorem l_7_0 : ∀ k : Fin k0_t1_loop.trips, k0_off9 k 7#32 = ![(0 : Fin 2).val, 8 * (k5 k).val + (7 : Fin 8).val, 0, 0] := by decide
theorem u_7_0 : ∀ k : Fin k0_t1_loop.trips, k0_off10 k 7#32 = ![(0 : Fin 2).val, 8 * (k5 k).val + (7 : Fin 8).val, 80, 0] := by decide
theorem y_7_1 : ∀ k : Fin k0_t1_loop.trips, k0_off39 k = ![(k5 k).val % 2, (1 : Fin 2).val, 160 * (7 : Fin 8).val, 0] := by decide
theorem l_7_1 : ∀ k : Fin k0_t1_loop.trips, k0_off12 k 7#32 = ![(1 : Fin 2).val, 8 * (k5 k).val + (7 : Fin 8).val, 0, 0] := by decide
theorem u_7_1 : ∀ k : Fin k0_t1_loop.trips, k0_off13 k 7#32 = ![(1 : Fin 2).val, 8 * (k5 k).val + (7 : Fin 8).val, 80, 0] := by decide
theorem oq : ∀ k : Fin k0_t1_loop.trips, k0_off41 k = ![0, 8 * (k5 k).val, 0, 0] := by decide
theorem oqs : ∀ k : Fin k0_t1_loop.trips, k0_off40 k = ![(k5 k).val + 2] := by decide

theorem trip0_spec (k : Fin k0_t1_loop.trips) : iprop(wFl512 I c (c7 (k5 k)) 0 ∗ St I c (k5 k) 0 0) ⊢ WK c (trip0 k) fun _ =>
    iprop(wIn512 I c (c7 (k5 k)) 0 ∗ St I c (k5 k) 512 6) := by
  unfold trip0
  iintro H
  iapply (WP_use _ c (proj512Sq I c (k5 k) 0 (n := 0) (n' := 512) (m := 0) rfl rfl (o1_0 k) (o2_0 k) (o3_0 k) (o4_0 k) (o5_0 k) (o6_0 k) (o7_0 k))) $$ H
  iintro ⟨HW, HS⟩
  iapply (WP_use _ c (qHeadS I c (k5 k) (n := 512) (m := 0) (m' := 1) 0 0 rfl rfl rfl (y_0_0 k) (l_0_0 k) (u_0_0 k))) $$ HS
  iintro HS
  iapply (WP_use _ c (qHeadS I c (k5 k) (n := 512) (m := 1) (m' := 2) 0 1 rfl rfl rfl (y_0_1 k) (l_0_1 k) (u_0_1 k))) $$ HS
  iintro HS
  iapply (WP_use _ c (qHeadS I c (k5 k) (n := 512) (m := 2) (m' := 3) 1 0 rfl rfl rfl (y_1_0 k) (l_1_0 k) (u_1_0 k))) $$ HS
  iintro HS
  iapply (WP_use _ c (qHeadS I c (k5 k) (n := 512) (m := 3) (m' := 4) 1 1 rfl rfl rfl (y_1_1 k) (l_1_1 k) (u_1_1 k))) $$ HS
  iintro HS
  iapply (WP_use _ c (qHeadS I c (k5 k) (n := 512) (m := 4) (m' := 5) 2 0 rfl rfl rfl (y_2_0 k) (l_2_0 k) (u_2_0 k))) $$ HS
  iintro HS
  iapply (WP_use_last _ c (qHeadS I c (k5 k) (n := 512) (m := 5) (m' := 6) 2 1 rfl rfl rfl (y_2_1 k) (l_2_1 k) (u_2_1 k))) $$ HS
  iintro %_ HS
  isplitl [HW]; · iexact HW
  iexact HS

theorem trip1_spec (k : Fin k0_t1_loop.trips) : iprop(wFl512 I c (c7 (k5 k)) 1 ∗ St I c (k5 k) 512 6) ⊢ WK c (trip1 k) fun _ =>
    iprop(wIn512 I c (c7 (k5 k)) 1 ∗ St I c (k5 k) 1024 12) := by
  unfold trip1
  iintro H
  iapply (WP_use _ c (proj512Sq I c (k5 k) 1 (n := 512) (n' := 1024) (m := 6) rfl rfl (o1_1 k) (o2_1 k) (o3_1 k) (o4_1 k) (o5_1 k) (o6_1 k) (o7_1 k))) $$ H
  iintro ⟨HW, HS⟩
  iapply (WP_use _ c (qHeadS I c (k5 k) (n := 1024) (m := 6) (m' := 7) 3 0 rfl rfl rfl (y_3_0 k) (l_3_0 k) (u_3_0 k))) $$ HS
  iintro HS
  iapply (WP_use _ c (qHeadS I c (k5 k) (n := 1024) (m := 7) (m' := 8) 3 1 rfl rfl rfl (y_3_1 k) (l_3_1 k) (u_3_1 k))) $$ HS
  iintro HS
  iapply (WP_use _ c (qHeadS I c (k5 k) (n := 1024) (m := 8) (m' := 9) 4 0 rfl rfl rfl (y_4_0 k) (l_4_0 k) (u_4_0 k))) $$ HS
  iintro HS
  iapply (WP_use _ c (qHeadS I c (k5 k) (n := 1024) (m := 9) (m' := 10) 4 1 rfl rfl rfl (y_4_1 k) (l_4_1 k) (u_4_1 k))) $$ HS
  iintro HS
  iapply (WP_use _ c (qHeadS I c (k5 k) (n := 1024) (m := 10) (m' := 11) 5 0 rfl rfl rfl (y_5_0 k) (l_5_0 k) (u_5_0 k))) $$ HS
  iintro HS
  iapply (WP_use_last _ c (qHeadS I c (k5 k) (n := 1024) (m := 11) (m' := 12) 5 1 rfl rfl rfl (y_5_1 k) (l_5_1 k) (u_5_1 k))) $$ HS
  iintro %_ HS
  isplitl [HW]; · iexact HW
  iexact HS

theorem trip2_spec (k : Fin k0_t1_loop.trips) : iprop(wFl256 I c (c7 (k5 k)) ∗ St I c (k5 k) 1024 12) ⊢ WK c (trip2 k) fun _ =>
    iprop(wIn256 I c (c7 (k5 k)) ∗ St I c (k5 k) 1280 16) := by
  unfold trip2
  iintro H
  iapply (WP_use _ c (proj256Sq I c (k5 k) (n := 1024) (n' := 1280) (m := 12) rfl rfl (o1_2 k) (o2_2 k) (o3_2 k) (o4_2 k) (o5_2 k) (o6_2 k) (o7_2 k))) $$ H
  iintro ⟨HW, HS⟩
  iapply (WP_use _ c (qHeadS I c (k5 k) (n := 1280) (m := 12) (m' := 13) 6 0 rfl rfl rfl (y_6_0 k) (l_6_0 k) (u_6_0 k))) $$ HS
  iintro HS
  iapply (WP_use _ c (qHeadS I c (k5 k) (n := 1280) (m := 13) (m' := 14) 6 1 rfl rfl rfl (y_6_1 k) (l_6_1 k) (u_6_1 k))) $$ HS
  iintro HS
  iapply (WP_use _ c (qHeadS I c (k5 k) (n := 1280) (m := 14) (m' := 15) 7 0 rfl rfl rfl (y_7_0 k) (l_7_0 k) (u_7_0 k))) $$ HS
  iintro HS
  iapply (WP_use_last _ c (qHeadS I c (k5 k) (n := 1280) (m := 15) (m' := 16) 7 1 rfl rfl rfl (y_7_1 k) (l_7_1 k) (u_7_1 k))) $$ HS
  iintro %_ HS
  isplitl [HW]; · iexact HW
  iexact HS

theorem chunk6_0_spec : iprop(wFl512 I c 6 0 ∗ StK I c 0 0) ⊢ WK c chunk6_0 fun _ =>
    iprop(wIn512 I c 6 0 ∗ StK I c 512 6) := by
  unfold chunk6_0
  iintro H
  iapply (WP_use _ c (proj512Sk I c 0 (n := 0) (n' := 512) (m := 0) rfl rfl rfl rfl rfl rfl rfl rfl rfl)) $$ H
  iintro ⟨HW, HS⟩
  iapply (WP_use _ c (kHeadS I c (n := 512) (m := 0) (m' := 1) 0 0 rfl rfl rfl rfl rfl rfl)) $$ HS
  iintro HS
  iapply (WP_use _ c (kHeadS I c (n := 512) (m := 1) (m' := 2) 0 1 rfl rfl rfl rfl rfl rfl)) $$ HS
  iintro HS
  iapply (WP_use _ c (kHeadS I c (n := 512) (m := 2) (m' := 3) 1 0 rfl rfl rfl rfl rfl rfl)) $$ HS
  iintro HS
  iapply (WP_use _ c (kHeadS I c (n := 512) (m := 3) (m' := 4) 1 1 rfl rfl rfl rfl rfl rfl)) $$ HS
  iintro HS
  iapply (WP_use _ c (kHeadS I c (n := 512) (m := 4) (m' := 5) 2 0 rfl rfl rfl rfl rfl rfl)) $$ HS
  iintro HS
  iapply (WP_use_last _ c (kHeadS I c (n := 512) (m := 5) (m' := 6) 2 1 rfl rfl rfl rfl rfl rfl)) $$ HS
  iintro %_ HS
  isplitl [HW]; · iexact HW
  iexact HS

theorem chunk6_1_spec : iprop(wFl512 I c 6 1 ∗ StK I c 512 6) ⊢ WK c chunk6_1 fun _ =>
    iprop(wIn512 I c 6 1 ∗ StK I c 1024 12) := by
  unfold chunk6_1
  iintro H
  iapply (WP_use _ c (proj512Sk I c 1 (n := 512) (n' := 1024) (m := 6) rfl rfl rfl rfl rfl rfl rfl rfl rfl)) $$ H
  iintro ⟨HW, HS⟩
  iapply (WP_use _ c (kHeadS I c (n := 1024) (m := 6) (m' := 7) 3 0 rfl rfl rfl rfl rfl rfl)) $$ HS
  iintro HS
  iapply (WP_use _ c (kHeadS I c (n := 1024) (m := 7) (m' := 8) 3 1 rfl rfl rfl rfl rfl rfl)) $$ HS
  iintro HS
  iapply (WP_use _ c (kHeadS I c (n := 1024) (m := 8) (m' := 9) 4 0 rfl rfl rfl rfl rfl rfl)) $$ HS
  iintro HS
  iapply (WP_use _ c (kHeadS I c (n := 1024) (m := 9) (m' := 10) 4 1 rfl rfl rfl rfl rfl rfl)) $$ HS
  iintro HS
  iapply (WP_use _ c (kHeadS I c (n := 1024) (m := 10) (m' := 11) 5 0 rfl rfl rfl rfl rfl rfl)) $$ HS
  iintro HS
  iapply (WP_use_last _ c (kHeadS I c (n := 1024) (m := 11) (m' := 12) 5 1 rfl rfl rfl rfl rfl rfl)) $$ HS
  iintro %_ HS
  isplitl [HW]; · iexact HW
  iexact HS

theorem chunk6_2_spec : iprop(wFl256 I c 6 ∗ StK I c 1024 12) ⊢ WK c chunk6_2 fun _ =>
    iprop(wIn256 I c 6 ∗ StK I c 1280 16) := by
  unfold chunk6_2
  iintro H
  iapply (WP_use _ c (proj256Sk I c (n := 1024) (n' := 1280) (m := 12) rfl rfl rfl rfl rfl rfl rfl rfl rfl)) $$ H
  iintro ⟨HW, HS⟩
  iapply (WP_use _ c (kHeadS I c (n := 1280) (m := 12) (m' := 13) 6 0 rfl rfl rfl rfl rfl rfl)) $$ HS
  iintro HS
  iapply (WP_use _ c (kHeadS I c (n := 1280) (m := 13) (m' := 14) 6 1 rfl rfl rfl rfl rfl rfl)) $$ HS
  iintro HS
  iapply (WP_use _ c (kHeadS I c (n := 1280) (m := 14) (m' := 15) 7 0 rfl rfl rfl rfl rfl rfl)) $$ HS
  iintro HS
  iapply (WP_use_last _ c (kHeadS I c (n := 1280) (m := 15) (m' := 16) 7 1 rfl rfl rfl rfl rfl rfl)) $$ HS
  iintro %_ HS
  isplitl [HW]; · iexact HW
  iexact HS

theorem chunk0_spec : iprop(WF I c 0 ∗ Core I c 0 0) ⊢ WK c chunk0 fun _ => iprop(WD I c 0 ∗ Core I c 1 0) := by
  unfold chunk0 WF WD
  iintro ⟨⟨H0, H1, H2⟩, HC⟩
  iapply (WP_use _ c (proj512_spec I c 0 0 rfl rfl rfl rfl rfl rfl rfl)) $$ [H0 HC]
  · isplitl [H0]; · iexact H0
    iexact HC
  iintro ⟨H0, HC⟩
  iapply (WP_use _ c (proj512_spec I c 0 1 rfl rfl rfl rfl rfl rfl rfl)) $$ [H1 HC]
  · isplitl [H1]; · iexact H1
    iexact HC
  iintro ⟨H1, HC⟩
  iapply (WP_use_last _ c (proj256_spec I c 0 rfl rfl rfl rfl rfl rfl rfl)) $$ [H2 HC]
  · isplitl [H2]; · iexact H2
    iexact HC
  iintro %_ ⟨H2, HC⟩
  isplitl [H0 H1 H2]
  · isplitl [H0]; · iexact H0
    isplitl [H1]; · iexact H1
    iexact H2
  have e : Core I c (0 : Fin 7).val (1024 + 256) ⊢ Core I c 1 0 := Core_next I c 0
  iapply e $$ HC

/-- The heads of v. -/
theorem vHeads_spec : iprop(HoldsU c fullShare ytV (AY 6 1280) (YT I 6) ∗ HoldsU c fullShare vV (AV 0) (VO I)) ⊢ WK c vHeads fun _ =>
    iprop(HoldsU c fullShare ytV (AY 6 1280) (YT I 6) ∗ HoldsU c fullShare vV (AV 16) (VO I)) := by
  unfold vHeads
  iintro HS
  iapply (WP_use _ c (vHead_spec I c 0 0 (headIn_own 0 0) rfl rfl)) $$ HS
  iintro HS
  iapply (WP_use _ c (vHead_spec I c 0 1 (headIn_own 0 1) rfl rfl)) $$ HS
  iintro HS
  iapply (WP_use _ c (vHead_spec I c 0 2 (headIn_own 0 2) rfl rfl)) $$ HS
  iintro HS
  iapply (WP_use _ c (vHead_spec I c 0 3 (headIn_own 0 3) rfl rfl)) $$ HS
  iintro HS
  iapply (WP_use _ c (vHead_spec I c 0 4 (headIn_own 0 4) rfl rfl)) $$ HS
  iintro HS
  iapply (WP_use _ c (vHead_spec I c 0 5 (headIn_own 0 5) rfl rfl)) $$ HS
  iintro HS
  iapply (WP_use _ c (vHead_spec I c 0 6 (headIn_own 0 6) rfl rfl)) $$ HS
  iintro HS
  iapply (WP_use _ c (vHead_spec I c 0 7 (headIn_own 0 7) rfl rfl)) $$ HS
  iintro HS
  iapply (WP_use _ c (vHead_spec I c 1 0 (headIn_own 1 0) rfl rfl)) $$ HS
  iintro HS
  iapply (WP_use _ c (vHead_spec I c 1 1 (headIn_own 1 1) rfl rfl)) $$ HS
  iintro HS
  iapply (WP_use _ c (vHead_spec I c 1 2 (headIn_own 1 2) rfl rfl)) $$ HS
  iintro HS
  iapply (WP_use _ c (vHead_spec I c 1 3 (headIn_own 1 3) rfl rfl)) $$ HS
  iintro HS
  iapply (WP_use _ c (vHead_spec I c 1 4 (headIn_own 1 4) rfl rfl)) $$ HS
  iintro HS
  iapply (WP_use _ c (vHead_spec I c 1 5 (headIn_own 1 5) rfl rfl)) $$ HS
  iintro HS
  iapply (WP_use _ c (vHead_spec I c 1 6 (headIn_own 1 6) rfl rfl)) $$ HS
  iintro HS
  iapply (WP_use_last _ c (vHead_spec I c 1 7 (headIn_own 1 7) rfl rfl)) $$ HS
  iintro %_ HS
  iexact HS

end Cert.Proof.KernelIdeal

end
-- ==== Proof.KernelIdealStage.lean ====
module

public import proofs.«01_k».proof.Proof.KernelIdealRows

/-! # The first stage: row blocks, scales as rows, tables -/

@[expose] public section

noncomputable section

namespace Cert.Proof.KernelIdeal

open Cert.KernelIdeal Cert.KernelIdeal.Gen Cert.Proof.Rules
open Idealize.ShloMosaic hiding ix0 ix1 ix2 ix3 ix4 ix5 ix6
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ (Pipeline.UD sig nD τ) ℕ

variable (I : In F) (c : Dev nD)

theorem inbX (i : Fin 8) : ∀ a, (![32 * i.val, 0] : Fin 2 → ℕ) a + S32x5120.size a ≤ S256x5120.size a := by
  have := i.isLt
  simp only [Fin.forall_fin_succ]
  simp <;> omega

theorem inbXs (i : Fin 8) : ∀ a, (![i.val] : Fin 1 → ℕ) a + S1.size a ≤ S8.size a := by
  have := i.isLt
  simp only [Fin.forall_fin_succ]
  simp <;> omega

abbrev rX (i : Fin 8) : Rect S256x5120 := Rect.unit (s := S256x5120) ![32 * i.val, 0] S32x5120.size (inbX i)

def xHAt (i : Fin 8) : sProp 𝕄 :=
  iprop((xHP ![32 * i.val, 0] (inbX i)).view.loc (c.tc : Thread nD τ) ↦[(xHP ![32 * i.val, 0] (inbX i)).view.set]{fullShare} I.x)

def xVAny (i : Fin 8) : sProp 𝕄 :=
  iprop(∃ f, (xVP ![32 * i.val, 0] (inbX i)).view.loc (c.tc : Thread nD τ) ↦[(xVP ![32 * i.val, 0] (inbX i)).view.set]{fullShare} f)

def xIn (i : Fin 8) : sProp 𝕄 :=
  iprop(xHAt I c i ∗ xVAny (F := F) c i ∗ semVal ((c.tc : Thread nD τ), .dma (xSem ![i.val] (inbXs i))) 0)

def xFl (i : Fin 8) : sProp 𝕄 :=
  Transfers.Flight EC (c.tc : Thread nD τ) (.dma (xSem ![i.val] (inbXs i))) () (xVP ![32 * i.val, 0] (inbX i)).view.dmaCredit
    iprop(((xVP ![32 * i.val, 0] (inbX i)).view.loc (c.tc : Thread nD τ) ↦[(xVP ![32 * i.val, 0] (inbX i)).view.set]{fullShare} I.x) ∗ xHAt I c i)

theorem xStart (i : Fin 8) {o1 : Fin 1 → ℕ} {h1} {o2 : Fin 2 → ℕ} {h2 w2 w3 t} (e1 : o1 = ![i.val]) (e2 : o2 = ![32 * i.val, 0]) :
    xIn I c i ⊢ WK c (Prog.lift (.enqueueDma (xHP o2 h2) (.here (xVP o2 h2)) (.dma (xSem o1 h1)) w2 w3 t)) fun _ => xFl I c i := by
  subst e1 e2
  unfold xIn xFl xHAt xVAny
  exact start (by decide) fun x => rfl

/-- The first `n` row blocks. -/
abbrev AC (n : ℕ) : S256x5120.Idx → Prop := fun x => (x 0).val < 32 * n
abbrev AX (n : ℕ) : S256x128.Idx → Prop := fun x => (x 0).val < 32 * n

def RowC (n : ℕ) : sProp 𝕄 :=
  iprop((∃ W, owes (c.tc : Thread nD τ) 0 W) ∗ HoldsU c fullShare nwV (fun _ => True) I.nw ∗ HoldsU c fullShare cV (AC n) (CODES I)
    ∗ HoldsU c fullShare xsV (AX n) (XS I))

theorem xv (i : Fin 8) {h : ∀ a, (![32 * i.val, 0] : Fin 2 → ℕ) a + S32x5120.size a ≤ S256x5120.size a}
    (j : (Rect.unit (s := S256x5120) ![32 * i.val, 0] S32x5120.size h).shape.Idx) :
    True ∧ I.x ((Rect.unit (s := S256x5120) ![32 * i.val, 0] S32x5120.size h).emb j) = xRows I i j := by
  refine ⟨trivial, ?_⟩
  have k0 := ValueKit.rect_emb_unit_val _ _ h j 0
  have k1 := ValueKit.rect_emb_unit_val _ _ h j 1
  unfold xRows
  congr 1
  funext a
  match a with
  | ⟨0, _⟩ => exact Fin.ext (by refine k0.trans ?_; rfl)
  | ⟨1, _⟩ => exact Fin.ext (by refine k1.trans ?_; exact Nat.zero_add _)

theorem nwv (j : (Rect.unit (s := S1x5120) ![0, 0] S1x5120.size inb_S1x5120_S1x5120_0_0).shape.Idx) :
    True ∧ I.nw ((Rect.unit (s := S1x5120) ![0, 0] S1x5120.size inb_S1x5120_S1x5120_0_0).emb j) = I.nw j := by
  refine ⟨trivial, ?_⟩
  have k0 := ValueKit.rect_emb_unit_val _ _ inb_S1x5120_S1x5120_0_0 j 0
  have k1 := ValueKit.rect_emb_unit_val _ _ inb_S1x5120_S1x5120_0_0 j 1
  congr 1
  funext a
  match a with
  | ⟨0, _⟩ => exact Fin.ext (by refine k0.trans ?_; exact Nat.zero_add _)
  | ⟨1, _⟩ => exact Fin.ext (by refine k1.trans ?_; exact Nat.zero_add _)

theorem row_vc (i : Fin 8) {h : ∀ a, (![32 * i.val, 0] : Fin 2 → ℕ) a + S32x5120.size a ≤ S256x5120.size a} (j : (Rect.unit (s := S256x5120) ![32 * i.val, 0] S32x5120.size h).shape.Idx) :
    codesPay (xRows I i) I.nw j = CODES I ((Rect.unit (s := S256x5120) ![32 * i.val, 0] S32x5120.size h).emb j) := by
  have hi := i.isLt
  have j0 := (show (j 0).val < 32 from (j 0).isLt)
  have k0 := ValueKit.rect_emb_unit_val _ _ h j 0
  have k1 := ValueKit.rect_emb_unit_val _ _ h j 1
  generalize (Rect.unit (s := S256x5120) _ S32x5120.size h).emb j = x at *
  simp at k0 k1
  have ei : (⟨(x 0).val / 32, by have := (show (x 0).val < 256 from (x 0).isLt); omega⟩ : Fin 8) = i := Fin.ext (by show (x 0).val / 32 = i.val; omega)
  unfold CODES
  rw [ei]
  congr 1
  funext a
  match a with
  | ⟨0, _⟩ => exact Fin.ext (by show (j 0).val = (x 0).val % 32; omega)
  | ⟨1, _⟩ => exact Fin.ext k1.symm

theorem row_inc (i : Fin 8) {h : ∀ a, (![32 * i.val, 0] : Fin 2 → ℕ) a + S32x5120.size a ≤ S256x5120.size a} (x : S256x5120.Idx) (hx : AC (i.val + 1) x) :
    AC i.val x ∨ ∃ j, (Rect.unit (s := S256x5120) ![32 * i.val, 0] S32x5120.size h).emb j = x := by
  have hx0 := (show (x 0).val < 256 from (x 0).isLt)
  have hx1 := (show (x 1).val < 5120 from (x 1).isLt)
  by_cases hA : AC i.val x
  · exact Or.inl hA
  · refine Or.inr (in_unit ?_)
    simp only [AC, AX] at hx hA
    simp only [Fin.forall_fin_succ]
    simp
    omega

theorem row_vs (i : Fin 8) {h : ∀ a, (![32 * i.val, 0] : Fin 2 → ℕ) a + S32x128.size a ≤ S256x128.size a} (j : (Rect.unit (s := S256x128) ![32 * i.val, 0] S32x128.size h).shape.Idx) :
    scalesPay (xRows I i) I.nw j = XS I ((Rect.unit (s := S256x128) ![32 * i.val, 0] S32x128.size h).emb j) := by
  have hi := i.isLt
  have j0 := (show (j 0).val < 32 from (j 0).isLt)
  have k0 := ValueKit.rect_emb_unit_val _ _ h j 0
  have k1 := ValueKit.rect_emb_unit_val _ _ h j 1
  generalize (Rect.unit (s := S256x128) _ S32x128.size h).emb j = x at *
  simp at k0 k1
  have ei : (⟨(x 0).val / 32, by have := (show (x 0).val < 256 from (x 0).isLt); omega⟩ : Fin 8) = i := Fin.ext (by show (x 0).val / 32 = i.val; omega)
  unfold XS
  rw [ei]
  congr 1
  funext a
  match a with
  | ⟨0, _⟩ => exact Fin.ext (by show (j 0).val = (x 0).val % 32; omega)
  | ⟨1, _⟩ => exact Fin.ext k1.symm

theorem row_ins (i : Fin 8) {h : ∀ a, (![32 * i.val, 0] : Fin 2 → ℕ) a + S32x128.size a ≤ S256x128.size a} (x : S256x128.Idx) (hx : AX (i.val + 1) x) :
    AX i.val x ∨ ∃ j, (Rect.unit (s := S256x128) ![32 * i.val, 0] S32x128.size h).emb j = x := by
  have hx0 := (show (x 0).val < 256 from (x 0).isLt)
  have hx1 := (show (x 1).val < 128 from (x 1).isLt)
  by_cases hA : AX i.val x
  · exact Or.inl hA
  · refine Or.inr (in_unit ?_)
    simp only [AC, AX] at hx hA
    simp only [Fin.forall_fin_succ]
    simp
    omega

/-- A row block: its rows have come, and their codes and scales are written. -/
theorem rowBlk_spec (i : Fin 8) {o0 : Fin 1 → ℕ} {h0} {o : Fin 2 → ℕ} {h h' w1 w2 p} (e0 : o0 = ![i.val]) (e : o = ![32 * i.val, 0]) :
    iprop(xFl I c i ∗ RowC I c i.val) ⊢ WK c (rowBlk o0 h0 o h h' w1 w2 p) fun _ => iprop(xIn I c i ∗ RowC I c (i.val + 1)) := by
  subst e0 e
  unfold rowBlk xFl RowC xIn
  iintro ⟨HF, HO, HN, HC, HX⟩
  iapply (WP_use _ c wait) $$ [HF HO]
  · isplitl [HF]; · iexact HF
    iexact HO
  iintro ⟨⟨⟨HXV, HXH⟩, Hs⟩, HO⟩
  ihave HW := (HoldsR.of_eq (c := c) (q := fullShare) (m := xV) (r' := rX i) (A := fun _ => True) (G := I.x) (f := I.x) (fun x _ => rfl)) $$ HXV
  iapply (HoldsR.loadAs (xRows I i) subset_rfl (xv I i)) $$ HW
  iintro HW
  iapply (HoldsU.loadAs I.nw (nwv I)) $$ HN
  iintro HN
  iapply (HoldsU.skip _ (fun _ => rfl)) $$ HC
  iintro HC
  iapply (HoldsU.store (AC (i.val + 1)) (row_vc I i) (row_inc i)) $$ HC
  iintro HC
  iapply (HoldsU.skip _ (fun _ => rfl)) $$ HX
  iintro HX
  iapply (HoldsU.store_last (AX (i.val + 1)) (row_vs I i) (row_ins i)) $$ HX
  iintro HX
  isplitl [HXH HW Hs]
  · isplitl [HXH]; · iexact HXH
    isplitl [HW]
    · unfold xVAny
      iapply HoldsR.any $$ HW
    iexact Hs
  isplitl [HO]; · iexact HO
  isplitl [HN]; · iexact HN
  isplitl [HC]; · iexact HC
  iexact HX

abbrev AS (n : ℕ) : S2x128.Idx → Prop := fun x => (x 0).val < n

theorem xst_v (b : Fin 2) {h : ∀ a, (![128 * b.val, 0] : Fin 2 → ℕ) a + S128x128.size a ≤ S256x128.size a} {h' : ∀ a, (![b.val, 0] : Fin 2 → ℕ) a + S1x128.size a ≤ S2x128.size a}
    (j : (Rect.unit (s := S2x128) ![b.val, 0] S1x128.size h').shape.Idx) :
    xstPay (fun i => XS I ((Rect.unit (s := S256x128) ![128 * b.val, 0] S128x128.size h).emb i)) j = XST I ((Rect.unit (s := S2x128) ![b.val, 0] S1x128.size h').emb j) := by
  have j0 := (show (j 0).val < 1 from (j 0).isLt)
  have k0 := ValueKit.rect_emb_unit_val _ _ h' j 0
  have k1 := ValueKit.rect_emb_unit_val _ _ h' j 1
  generalize (Rect.unit (s := S2x128) _ S1x128.size h').emb j = x at *
  simp at k0 k1
  unfold XST
  refine congr (congrArg xstPay (funext fun i => ?_)) (funext fun a => ?_)
  · have k0' := ValueKit.rect_emb_unit_val (s := S256x128) ![128 * b.val, 0] S128x128.size h i 0
    have k1' := ValueKit.rect_emb_unit_val (s := S256x128) ![128 * b.val, 0] S128x128.size h i 1
    refine congrArg (XS I) (funext fun a => ?_)
    match a with
    | ⟨0, _⟩ => exact Fin.ext (by refine k0'.trans ?_; show 128 * b.val + (i 0).val = 128 * (x 0).val + (i 0).val; omega)
    | ⟨1, _⟩ => exact Fin.ext (by refine k1'.trans ?_; exact Nat.zero_add _)
  · match a with
    | ⟨0, _⟩ => exact Fin.ext (by show (j 0).val = 0; omega)
    | ⟨1, _⟩ => exact Fin.ext k1.symm

theorem xst_in (b : Fin 2) {h' : ∀ a, (![b.val, 0] : Fin 2 → ℕ) a + S1x128.size a ≤ S2x128.size a} (x : S2x128.Idx) (hx : AS (b.val + 1) x) :
    AS b.val x ∨ ∃ j, (Rect.unit (s := S2x128) ![b.val, 0] S1x128.size h').emb j = x := by
  have hx1 := (show (x 1).val < 128 from (x 1).isLt)
  by_cases hA : AS b.val x
  · exact Or.inl hA
  · refine Or.inr (in_unit ?_)
    simp only [AS] at hx hA
    simp only [Fin.forall_fin_succ]
    simp
    omega

theorem xstBlk_spec (b : Fin 2) {o : Fin 2 → ℕ} {h} {o' : Fin 2 → ℕ} {h'} (e : o = ![128 * b.val, 0]) (e' : o' = ![b.val, 0]) :
    iprop(HoldsU c fullShare xsV (fun _ => True) (XS I) ∗ HoldsU c fullShare xstV (AS b.val) (XST I)) ⊢ WK c (xstBlk o h o' h') fun _ =>
      iprop(HoldsU c fullShare xsV (fun _ => True) (XS I) ∗ HoldsU c fullShare xstV (AS (b.val + 1)) (XST I)) := by
  subst e e'
  unfold xstBlk
  iintro ⟨HX, HS⟩
  iapply (HoldsU.loadAs (fun i => XS I ((Rect.unit (s := S256x128) ![128 * b.val, 0] S128x128.size h).emb i)) (fun j => ⟨trivial, rfl⟩)) $$ HX
  iintro HX
  iapply (HoldsU.skip _ (fun _ => rfl)) $$ HS
  iintro HS
  iapply (HoldsU.store_last (AS (b.val + 1)) (xst_v I b) (xst_in b)) $$ HS
  iintro HS
  isplitl [HX]; · iexact HX
  iexact HS

abbrev AT (n : ℕ) : S2x2x4x80x128.Idx → Prop := fun x => ((x 1).val * 2 + (x 0).val) * 4 + (x 2).val < n

theorem tab_in (kd b : Fin 2) (t : Fin 4) {h : ∀ a, (![kd.val, b.val, t.val, 0, 0] : Fin 5 → ℕ) a + S1x1x1x80x128.size a ≤ S2x2x4x80x128.size a}
    (x : S2x2x4x80x128.Idx) (hx : AT ((b.val * 2 + kd.val) * 4 + t.val + 1) x) :
    AT ((b.val * 2 + kd.val) * 4 + t.val) x ∨ ∃ j, (Rect.unit (s := S2x2x4x80x128) ![kd.val, b.val, t.val, 0, 0] S1x1x1x80x128.size h).emb j = x := by
  have hb := b.isLt
  have hk := kd.isLt
  have ht := t.isLt
  have hx0 := (show (x 0).val < 2 from (x 0).isLt)
  have hx1 := (show (x 1).val < 2 from (x 1).isLt)
  have hx2 := (show (x 2).val < 4 from (x 2).isLt)
  have hx3 := (show (x 3).val < 80 from (x 3).isLt)
  have hx4 := (show (x 4).val < 128 from (x 4).isLt)
  by_cases hA : AT ((b.val * 2 + kd.val) * 4 + t.val) x
  · exact Or.inl hA
  · refine Or.inr (in_unit ?_)
    simp only [AT] at hx hA
    simp only [Fin.forall_fin_succ]
    simp
    omega

theorem tab_v (kd b : Fin 2) (t : Fin 4) {h1 : ∀ a, (![kd.val, b.val, t.val, 0, 0] : Fin 5 → ℕ) a + S1x1x1x80x128.size a ≤ S2x2x4x80x128.size a}
    (j : (Rect.unit (s := S2x2x4x80x128) ![kd.val, b.val, t.val, 0, 0] S1x1x1x80x128.size h1).shape.Idx) :
    tabOf I kd b t j = TAB I ((Rect.unit (s := S2x2x4x80x128) ![kd.val, b.val, t.val, 0, 0] S1x1x1x80x128.size h1).emb j) := by
  have j2 := (show (j 2).val < 1 from (j 2).isLt)
  have j1 := (show (j 1).val < 1 from (j 1).isLt)
  have j0 := (show (j 0).val < 1 from (j 0).isLt)
  have k0 := ValueKit.rect_emb_unit_val _ _ h1 j 0
  have k1 := ValueKit.rect_emb_unit_val _ _ h1 j 1
  have k2 := ValueKit.rect_emb_unit_val _ _ h1 j 2
  have k3 := ValueKit.rect_emb_unit_val _ _ h1 j 3
  have k4 := ValueKit.rect_emb_unit_val _ _ h1 j 4
  generalize (Rect.unit (s := S2x2x4x80x128) _ S1x1x1x80x128.size h1).emb j = x at *
  simp at k0 k1 k2 k3 k4
  have e0 : x 0 = kd := Fin.ext (by omega)
  have e1 : x 1 = b := Fin.ext (by omega)
  have e2 : x 2 = t := Fin.ext (by omega)
  unfold TAB
  rw [e0, e1, e2]
  congr 1
  funext a
  match a with
  | ⟨0, _⟩ => exact Fin.ext (by show (j 0).val = 0; omega)
  | ⟨1, _⟩ => exact Fin.ext (by show (j 1).val = 0; omega)
  | ⟨2, _⟩ => exact Fin.ext (by show (j 2).val = 0; omega)
  | ⟨3, _⟩ => exact Fin.ext k3.symm
  | ⟨4, _⟩ => exact Fin.ext k4.symm

theorem tabPut_spec (kd b : Fin 2) (t : Fin 4) {o : Fin 5 → ℕ} {h} {w : FVec F S1x1x1x80x128 .f32} (e : o = ![kd.val, b.val, t.val, 0, 0]) (ew : w = tabOf I kd b t) :
    HoldsU c fullShare tabV (AT ((b.val * 2 + kd.val) * 4 + t.val)) (TAB I) ⊢ WK c (tabPut o h w) fun _ =>
      HoldsU c fullShare tabV (AT ((b.val * 2 + kd.val) * 4 + t.val + 1)) (TAB I) := by
  subst e ew
  unfold tabPut
  iintro HT
  iapply (HoldsU.skip _ (fun _ => rfl)) $$ HT
  iintro HT
  iapply (HoldsU.store_last (AT ((b.val * 2 + kd.val) * 4 + t.val + 1)) (tab_v I kd b t) (tab_in kd b t)) $$ HT
  iintro HT
  iexact HT

theorem gv (g : Vec F S1x160 .f32) (j : (Rect.unit (s := S1x160) ![0, 0] S1x160.size inb_S1x160_S1x160_0_0).shape.Idx) :
    True ∧ g ((Rect.unit (s := S1x160) ![0, 0] S1x160.size inb_S1x160_S1x160_0_0).emb j) = g j := by
  refine ⟨trivial, ?_⟩
  have k0 := ValueKit.rect_emb_unit_val _ _ inb_S1x160_S1x160_0_0 j 0
  have k1 := ValueKit.rect_emb_unit_val _ _ inb_S1x160_S1x160_0_0 j 1
  congr 1
  funext a
  match a with
  | ⟨0, _⟩ => exact Fin.ext (by refine k0.trans ?_; exact Nat.zero_add _)
  | ⟨1, _⟩ => exact Fin.ext (by refine k1.trans ?_; exact Nat.zero_add _)

theorem fv (g : Vec F S80x128 .f32) (j : (Rect.unit (s := S80x128) ![0, 0] S80x128.size inb_S80x128_S80x128_0_0).shape.Idx) :
    True ∧ g ((Rect.unit (s := S80x128) ![0, 0] S80x128.size inb_S80x128_S80x128_0_0).emb j) = g j := by
  refine ⟨trivial, ?_⟩
  have k0 := ValueKit.rect_emb_unit_val _ _ inb_S80x128_S80x128_0_0 j 0
  have k1 := ValueKit.rect_emb_unit_val _ _ inb_S80x128_S80x128_0_0 j 1
  congr 1
  funext a
  match a with
  | ⟨0, _⟩ => exact Fin.ext (by refine k0.trans ?_; exact Nat.zero_add _)
  | ⟨1, _⟩ => exact Fin.ext (by refine k1.trans ?_; exact Nat.zero_add _)

theorem posv (b : Fin 2) {h : ∀ a, (![b.val, 0] : Fin 2 → ℕ) a + S1x128.size a ≤ S2x128.size a} (j : (Rect.unit (s := S2x128) ![b.val, 0] S1x128.size h).shape.Idx) :
    True ∧ I.pos ((Rect.unit (s := S2x128) ![b.val, 0] S1x128.size h).emb j) = posRow I b j := by
  refine ⟨trivial, ?_⟩
  have j0 := (show (j 0).val < 1 from (j 0).isLt)
  have k0 := ValueKit.rect_emb_unit_val _ _ h j 0
  have k1 := ValueKit.rect_emb_unit_val _ _ h j 1
  unfold posRow
  congr 1
  funext a
  match a with
  | ⟨0, _⟩ => exact Fin.ext (by refine k0.trans ?_; show b.val + (j 0).val = b.val; omega)
  | ⟨1, _⟩ => exact Fin.ext (by refine k1.trans ?_; exact Nat.zero_add _)

/-- The small inputs the tables are made of. -/
def Small : sProp 𝕄 :=
  iprop(HoldsU c fullShare qgV (fun _ => True) I.qg ∗ HoldsU c fullShare kgV (fun _ => True) I.kg
    ∗ HoldsU c fullShare posV (fun _ => True) I.pos ∗ HoldsU c fullShare invfV (fun _ => True) I.invf)

theorem tables_spec : iprop(Small I c ∗ HoldsU c fullShare tabV (AT 0) (TAB I)) ⊢ WK c tables fun _ =>
    iprop(Small I c ∗ HoldsU c fullShare tabV (AT 16) (TAB I)) := by
  unfold tables Small
  iintro ⟨⟨HQ, HK, HP, HF⟩, HT⟩
  iapply (HoldsU.loadAs I.qg (gv I.qg)) $$ HQ
  iintro HQ
  iapply (HoldsU.loadAs I.kg (gv I.kg)) $$ HK
  iintro HK
  iapply (HoldsU.loadAs (posRow I 0) (posv I 0)) $$ HP
  iintro HP
  iapply (HoldsU.loadAs I.invf (fv I.invf)) $$ HF
  iintro HF
  iapply (WP_use _ c (tabPut_spec I c 0 0 0 rfl rfl)) $$ HT
  iintro HT
  iapply (WP_use _ c (tabPut_spec I c 0 0 1 rfl rfl)) $$ HT
  iintro HT
  iapply (WP_use _ c (tabPut_spec I c 0 0 2 rfl rfl)) $$ HT
  iintro HT
  iapply (WP_use _ c (tabPut_spec I c 0 0 3 rfl rfl)) $$ HT
  iintro HT
  iapply (WP_use _ c (tabPut_spec I c 1 0 0 rfl rfl)) $$ HT
  iintro HT
  iapply (WP_use _ c (tabPut_spec I c 1 0 1 rfl rfl)) $$ HT
  iintro HT
  iapply (WP_use _ c (tabPut_spec I c 1 0 2 rfl rfl)) $$ HT
  iintro HT
  iapply (WP_use _ c (tabPut_spec I c 1 0 3 rfl rfl)) $$ HT
  iintro HT
  iapply (HoldsU.loadAs (posRow I 1) (posv I 1)) $$ HP
  iintro HP
  iapply (HoldsU.loadAs I.invf (fv I.invf)) $$ HF
  iintro HF
  iapply (WP_use _ c (tabPut_spec I c 0 1 0 rfl rfl)) $$ HT
  iintro HT
  iapply (WP_use _ c (tabPut_spec I c 0 1 1 rfl rfl)) $$ HT
  iintro HT
  iapply (WP_use _ c (tabPut_spec I c 0 1 2 rfl rfl)) $$ HT
  iintro HT
  iapply (WP_use _ c (tabPut_spec I c 0 1 3 rfl rfl)) $$ HT
  iintro HT
  iapply (WP_use _ c (tabPut_spec I c 1 1 0 rfl rfl)) $$ HT
  iintro HT
  iapply (WP_use _ c (tabPut_spec I c 1 1 1 rfl rfl)) $$ HT
  iintro HT
  iapply (WP_use _ c (tabPut_spec I c 1 1 2 rfl rfl)) $$ HT
  iintro HT
  iapply (WP_use_last _ c (tabPut_spec I c 1 1 3 rfl rfl)) $$ HT
  iintro %_ HT
  isplitl [HQ HK HP HF]
  · isplitl [HQ]; · iexact HQ
    isplitl [HK]; · iexact HK
    isplitl [HP]; · iexact HP
    iexact HF
  iexact HT

end Cert.Proof.KernelIdeal

end
-- ==== Proof.KernelIdealTrip.lean ====
module

public import proofs.«01_k».proof.Proof.Gen.KernelIdeal.Skeleton
public import proofs.«01_k».proof.Proof.KernelIdealStruct

public import Idealize.ShloMosaic.Lib.Pipeline.Regions

@[expose] public section

set_option synthInstance.maxSize 4096

noncomputable section

namespace Cert.Proof.KernelIdeal

open Cert.KernelIdeal Cert.KernelIdeal.Gen
open Idealize.ShloMosaic Idealize.ShloMosaic.TcCoe
open Idealize.SL Idealize.SL.Sem

variable {F : FTy → Type} [FloatOps F] [Named F]

set_option maxRecDepth 65536 in
set_option maxHeartbeats 4000000 in
/-- The loop's region is the trip, whatever value it is handed. -/
theorem trip_eq (v : Vec F S256x5120 .fp8e4m3) (k : Fin k0_t1_loop.trips) (u : Unit) :
    k0_t1_body xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v k u = (trip k : KProg F PUnit) := by chain_rfl

end Cert.Proof.KernelIdeal

end
-- ==== Proof.KernelIdealBody.lean ====
module

public import proofs.«01_k».proof.Proof.Gen.KernelIdeal.Skeleton
public import proofs.«01_k».proof.Proof.KernelIdealTrip

/-! # The printed body is the program

The printer cuts the body into numbered parts; `bodyProg` is the same sequence of operations cut into
blocks that mean something. Unfolding shows them equal up to the loop; the loop sits inside two nested
sequences of the printed text, so its continuation is re-associated once. -/

@[expose] public section

set_option synthInstance.maxSize 4096

noncomputable section

namespace Cert.Proof.KernelIdeal

open Cert.KernelIdeal Cert.KernelIdeal.Gen
open Idealize.ShloMosaic Idealize.ShloMosaic.TcCoe
open Idealize.SL Idealize.SL.Sem

variable {F : FTy → Type} [FloatOps F] [Named F]

/-- What the printed text runs between the loop and the second sequence. -/
def midParts : KProg F (Σ' (v2111 : FVec F S1x128 .f32) (v2112 : FVec F S80x128 .f32) (v2113 : FVec F S80x128 .f32), FVec F S80x128 .f32) := do
  let ⟨v1664, v1665, v1666⟩ : Σ' (v1664 : FVec F S1x128 .f32) (v1665 : FVec F S80x128 .f32), FVec F S80x128 .f32 ← k0_part71 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20
  k0_part72 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v1664 v1665 v1666
  let ⟨v1723, v1724, v1725⟩ : Σ' (v1723 : FVec F S80x128 .bf16) (v1724 : FVec F S80x128 .bf16), Vec F S1x1x80x128 .bf16 ← k0_part73 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20
  let ⟨v1740, v1741, v1751, v1754⟩ : Σ' (v1740 : FVec F S1x128 .f32) (v1741 : FVec F S80x128 .f32) (v1751 : FVec F S80x128 .f32), FVec F S80x128 .f32 ← k0_part74 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v1723 v1724 v1725
  let ⟨v1778, v1779, v1780, v1783, v1785⟩ : Σ' (v1778 : FVec F S1x128 .f32) (v1779 : FVec F S80x128 .f32) (v1780 : FVec F S80x128 .f32) (v1783 : FVec F S80x128 .f32), FVec F S80x128 .f32 ← k0_part75 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v1740 v1741 v1751 v1754
  let ⟨v1816, v1817, v1818⟩ : Σ' (v1816 : FVec F S1x128 .f32) (v1817 : FVec F S80x128 .f32), FVec F S80x128 .f32 ← k0_part76 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v1778 v1779 v1780 v1783 v1785
  k0_part77 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v1816 v1817 v1818
  let ⟨v1875, v1876, v1877⟩ : Σ' (v1875 : FVec F S80x128 .bf16) (v1876 : FVec F S80x128 .bf16), Vec F S1x1x80x128 .bf16 ← k0_part78 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20
  let v1908 : FVec F S512x128 .f32 ← k0_part79 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v1875 v1876 v1877
  let ⟨v1921, v1922, v1932, v1935, v1937⟩ : Σ' (v1921 : FVec F S1x128 .f32) (v1922 : FVec F S80x128 .f32) (v1932 : FVec F S80x128 .f32) (v1935 : FVec F S80x128 .f32), FVec F S80x128 .f32 ← k0_part80 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v1908
  let ⟨v1959, v1960, v1961, v1970⟩ : Σ' (v1959 : FVec F S1x128 .f32) (v1960 : FVec F S80x128 .f32) (v1961 : FVec F S80x128 .f32), FVec F S80x128 .f32 ← k0_part81 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v1921 v1922 v1932 v1935 v1937
  let ⟨v1997, v1998, v1999⟩ : Σ' (v1997 : FVec F S1x128 .f32) (v1998 : FVec F S80x128 .f32), FVec F S80x128 .f32 ← k0_part82 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v1959 v1960 v1961 v1970
  let ⟨v2027, v2028⟩ : Σ' (v2027 : FVec F S160x128 .f32), FVec F S160x128 .f32 ← k0_part83 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v1997 v1998 v1999
  let v2057 : FVec F S80x128 .bf16 ← k0_part84 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v2027 v2028
  let ⟨v2073, v2074, v2084, v2087, v2089⟩ : Σ' (v2073 : FVec F S1x128 .f32) (v2074 : FVec F S80x128 .f32) (v2084 : FVec F S80x128 .f32) (v2087 : FVec F S80x128 .f32), FVec F S80x128 .f32 ← k0_part85 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v2057
  let ⟨v2111, v2112, v2113, v2122⟩ : Σ' (v2111 : FVec F S1x128 .f32) (v2112 : FVec F S80x128 .f32) (v2113 : FVec F S80x128 .f32), FVec F S80x128 .f32 ← k0_part86 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v2073 v2074 v2084 v2087 v2089
  pure ⟨v2111, v2112, v2113, v2122⟩

/-- What the printed text runs last. -/
def endParts (r : Σ' (v2111 : FVec F S1x128 .f32) (v2112 : FVec F S80x128 .f32) (v2113 : FVec F S80x128 .f32), FVec F S80x128 .f32) : KProg F PUnit := do
  let ⟨v2111, v2112, v2113, v2122⟩ := r
  let ⟨v2146, v2148, cst_1327⟩ : Σ' (v2146 : Vec F S256x5120 .fp8e4m3) (v2148 : FVec F S5120x256 .fp8e4m3), FVec F S256x256 .f32 ← k0_part87 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v2111 v2112 v2113 v2122
  let ⟨v2178, v2179, v2180, v2183⟩ : Σ' (v2178 : FVec F S1x128 .f32) (v2179 : FVec F S80x128 .f32) (v2180 : FVec F S80x128 .f32), FVec F S80x128 .f32 ← k0_part88 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v2146 v2148 cst_1327
  let ⟨v2208, v2211, v2212⟩ : Σ' (v2208 : FVec F S160x128 .f32) (v2211 : FVec F S1x128 .f32), FVec F S1x128 .f32 ← k0_part89 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v2178 v2179 v2180 v2183
  let ⟨v2238, v2242⟩ : Σ' (v2238 : FVec F S80x128 .bf16), Vec F S1x1x80x128 .bf16 ← k0_part90 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v2208 v2211 v2212
  let ⟨v2265, v2274⟩ : Σ' (v2265 : FVec F S80x128 .f32), FVec F S80x128 .f32 ← k0_part91 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v2238 v2242
  let ⟨v2292, v2293, v2294, v2303⟩ : Σ' (v2292 : FVec F S1x128 .f32) (v2293 : FVec F S80x128 .f32) (v2294 : FVec F S80x128 .f32), FVec F S80x128 .f32 ← k0_part92 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v2265 v2274
  let v2331 : FVec F S160x128 .bf16 ← k0_part93 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v2292 v2293 v2294 v2303
  let v2355 : FVec F S160x128 .bf16 ← k0_part94 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v2331
  let v2379 : FVec F S160x128 .bf16 ← k0_part95 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v2355
  let v2403 : FVec F S160x128 .bf16 ← k0_part96 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v2379
  k0_part97 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20 v2403
  k0_part98 xH (Memref.isWhole_whole main_v0) nwH (Memref.isWhole_whole main_v1) wH (Memref.isWhole_whole main_arg2) wsH (Memref.isWhole_whole main_arg3) qgH (Memref.isWhole_whole main_v2) kgH (Memref.isWhole_whole main_v3) posH (Memref.isWhole_whole main_arg6) invfH (Memref.isWhole_whole main_cst) qH (Memref.isWhole_whole main_v4_0) kH (Memref.isWhole_whole main_v4_1) vH (Memref.isWhole_whole main_v4_2) cH (Memref.isWhole_whole main_v4_3) sH (Memref.isWhole_whole main_v4_4) xV (Memref.isWhole_whole cc0_scratch0) nwV (Memref.isWhole_whole cc0_scratch1) wV (Memref.isWhole_whole cc0_scratch2) wsV (Memref.isWhole_whole cc0_scratch3) qgV (Memref.isWhole_whole cc0_scratch4) kgV (Memref.isWhole_whole cc0_scratch5) posV (Memref.isWhole_whole cc0_scratch6) invfV (Memref.isWhole_whole cc0_scratch7) cV (Memref.isWhole_whole cc0_scratch8) xsV (Memref.isWhole_whole cc0_scratch9) xstV (Memref.isWhole_whole cc0_scratch10) tabV (Memref.isWhole_whole cc0_scratch11) ytV (Memref.isWhole_whole cc0_scratch12) qV (Memref.isWhole_whole cc0_scratch13) kV (Memref.isWhole_whole cc0_scratch14) vV (Memref.isWhole_whole cc0_scratch15) cc0_scratch16 cc0_scratch17 cc0_scratch18 cc0_scratch19 cc0_scratch20
  let c8_i32_1650 : BitVec 32 := 8#32
  let v2445 : DmaSems sig S1 := cc0_scratch19.slice (Rect.unit (s := S9) ![8] S1.size inb_S9_S1_8)
  let v2446 : DmaSems sig S_ := v2445.squeeze S_ squeezes_S1_S_
  Prog.lift (.waitDma2 v2446.sem vV vH (Memref.isWhole_whole cc0_scratch15).wordExact (Memref.isWhole_whole main_v4_2).wordExact)
  pure ⟨⟩

/-- The first wait after the loop. -/
def firstWait : KProg F PUnit := do
  Prog.lift (.waitDma2 (wSem ![6, 0] inb_S7x3_S1x1_6_0) (wHP512 ![0, 7680] inb_S5120x8960_S5120x512_0_7680) (wVP512 ![6, 0, 0] inb_S7x5120x1280_S1x5120x512_6_0_0) ((Memref.isWhole_whole main_arg2).wordExact_slice rfl _ wordsfp8e4m3_S5120x8960_S5120x512_0_7680) (((Memref.isWhole_whole cc0_scratch2).wordExact_slice rfl _ wordsfp8e4m3_S7x5120x1280_S1x5120x512_6_0_0).reshape _ _))
  pure ⟨⟩

/-- Everything before the loop. -/
def beforeLoop : KProg F PUnit := do
  startSmall
  startX
  startW
  stage1
  chunk0

set_option maxRecDepth 65536 in
set_option maxHeartbeats 8000000 in
theorem body_eq_nested (t : Fin cfg0.N) : bodyAt0 (F := F) t =
    beforeLoop >>= fun _ => (((Scf.Loop.for k0_t1_loop k0_t1_ok ⟨⟩ (fun k _ => trip k)) >>= fun _ => firstWait) >>= fun _ => midParts) >>= endParts := by
  chain_rfl

set_option maxRecDepth 65536 in
set_option maxHeartbeats 8000000 in
theorem bodyProg_eq : (bodyProg : KProg F PUnit) =
    beforeLoop >>= fun _ => (Scf.Loop.for k0_t1_loop k0_t1_ok ⟨⟩ (fun k _ => trip k)) >>= fun _ => firstWait >>= fun _ => midParts >>= endParts := by
  chain_rfl

/-- The printed body is the program. -/
theorem body_eq (t : Fin cfg0.N) : bodyAt0 (F := F) t = bodyProg := by
  rw [body_eq_nested, bodyProg_eq]
  simp only [bind_assoc]

end Cert.Proof.KernelIdeal

end
-- ==== Proof.KernelIdealFlights.lean ====
module

public import proofs.«01_k».proof.Proof.KernelIdealChunks
public import proofs.«01_k».proof.Proof.KernelIdealStage
public import proofs.«01_k».proof.Proof.KernelIdealBody

/-! # The whole body -/

@[expose] public section

noncomputable section

namespace Cert.Proof.KernelIdeal

open Cert.KernelIdeal Cert.KernelIdeal.Gen Cert.Proof.Rules
open Idealize.ShloMosaic hiding ix0 ix1 ix2 ix3 ix4 ix5 ix6
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ (Pipeline.UD sig nD τ) ℕ

variable (I : In F) (c : Dev nD)

def pOut_pos : sProp 𝕄 := iprop((posH.view.loc (c.tc : Thread nD τ) ↦[posH.view.set]{fullShare} I.pos) ∗ semVal ((c.tc : Thread nD τ), .dma (pSem ![0] inb_S6_S1_0)) 0)
def pIn_pos : sProp 𝕄 := iprop((posH.view.loc (c.tc : Thread nD τ) ↦[posH.view.set]{fullShare} I.pos) ∗ (∃ f, posV.view.loc (c.tc : Thread nD τ) ↦[posV.view.set]{fullShare} f) ∗ semVal ((c.tc : Thread nD τ), .dma (pSem ![0] inb_S6_S1_0)) 0)
def pFl_pos : sProp 𝕄 := Transfers.Flight EC (c.tc : Thread nD τ) (.dma (pSem ![0] inb_S6_S1_0)) () posV.view.dmaCredit iprop((posV.view.loc (c.tc : Thread nD τ) ↦[posV.view.set]{fullShare} I.pos) ∗ (posH.view.loc (c.tc : Thread nD τ) ↦[posH.view.set]{fullShare} I.pos))
theorem pStart_pos {w2 w3 t} : pIn_pos I c ⊢ WK c (Prog.lift (.enqueueDma posH (.here posV) (.dma (pSem ![0] inb_S6_S1_0)) w2 w3 t)) fun _ => pFl_pos I c := by
  unfold pIn_pos pFl_pos
  exact start (by decide) fun x => rfl
theorem pWait_pos {w2 w3} : iprop(pFl_pos I c ∗ ∃ W, owes (c.tc : Thread nD τ) 0 W) ⊢ WK c (Prog.lift (.waitDma2 (pSem ![0] inb_S6_S1_0) posH posV w2 w3)) fun _ =>
    iprop(HoldsU c fullShare posV (fun _ => True) I.pos ∗ pOut_pos I c ∗ ∃ W, owes (c.tc : Thread nD τ) 0 W) := by
  unfold pFl_pos pOut_pos
  refine WP_post _ c wait fun _ => ?_
  iintro ⟨⟨⟨H1, H2⟩, H3⟩, H4⟩
  isplitl [H1]; · iapply (HoldsU.of_whole _) $$ H1
  isplitl [H2 H3]
  · isplitl [H2]; · iexact H2
    iexact H3
  iexact H4

def pOut_invf : sProp 𝕄 := iprop((invfH.view.loc (c.tc : Thread nD τ) ↦[invfH.view.set]{fullShare} I.invf) ∗ semVal ((c.tc : Thread nD τ), .dma (pSem ![1] inb_S6_S1_1)) 0)
def pIn_invf : sProp 𝕄 := iprop((invfH.view.loc (c.tc : Thread nD τ) ↦[invfH.view.set]{fullShare} I.invf) ∗ (∃ f, invfV.view.loc (c.tc : Thread nD τ) ↦[invfV.view.set]{fullShare} f) ∗ semVal ((c.tc : Thread nD τ), .dma (pSem ![1] inb_S6_S1_1)) 0)
def pFl_invf : sProp 𝕄 := Transfers.Flight EC (c.tc : Thread nD τ) (.dma (pSem ![1] inb_S6_S1_1)) () invfV.view.dmaCredit iprop((invfV.view.loc (c.tc : Thread nD τ) ↦[invfV.view.set]{fullShare} I.invf) ∗ (invfH.view.loc (c.tc : Thread nD τ) ↦[invfH.view.set]{fullShare} I.invf))
theorem pStart_invf {w2 w3 t} : pIn_invf I c ⊢ WK c (Prog.lift (.enqueueDma invfH (.here invfV) (.dma (pSem ![1] inb_S6_S1_1)) w2 w3 t)) fun _ => pFl_invf I c := by
  unfold pIn_invf pFl_invf
  exact start (by decide) fun x => rfl
theorem pWait_invf {w2 w3} : iprop(pFl_invf I c ∗ ∃ W, owes (c.tc : Thread nD τ) 0 W) ⊢ WK c (Prog.lift (.waitDma2 (pSem ![1] inb_S6_S1_1) invfH invfV w2 w3)) fun _ =>
    iprop(HoldsU c fullShare invfV (fun _ => True) I.invf ∗ pOut_invf I c ∗ ∃ W, owes (c.tc : Thread nD τ) 0 W) := by
  unfold pFl_invf pOut_invf
  refine WP_post _ c wait fun _ => ?_
  iintro ⟨⟨⟨H1, H2⟩, H3⟩, H4⟩
  isplitl [H1]; · iapply (HoldsU.of_whole _) $$ H1
  isplitl [H2 H3]
  · isplitl [H2]; · iexact H2
    iexact H3
  iexact H4

def pOut_qg : sProp 𝕄 := iprop((qgH.view.loc (c.tc : Thread nD τ) ↦[qgH.view.set]{fullShare} I.qg) ∗ semVal ((c.tc : Thread nD τ), .dma (pSem ![2] inb_S6_S1_2)) 0)
def pIn_qg : sProp 𝕄 := iprop((qgH.view.loc (c.tc : Thread nD τ) ↦[qgH.view.set]{fullShare} I.qg) ∗ (∃ f, qgV.view.loc (c.tc : Thread nD τ) ↦[qgV.view.set]{fullShare} f) ∗ semVal ((c.tc : Thread nD τ), .dma (pSem ![2] inb_S6_S1_2)) 0)
def pFl_qg : sProp 𝕄 := Transfers.Flight EC (c.tc : Thread nD τ) (.dma (pSem ![2] inb_S6_S1_2)) () qgV.view.dmaCredit iprop((qgV.view.loc (c.tc : Thread nD τ) ↦[qgV.view.set]{fullShare} I.qg) ∗ (qgH.view.loc (c.tc : Thread nD τ) ↦[qgH.view.set]{fullShare} I.qg))
theorem pStart_qg {w2 w3 t} : pIn_qg I c ⊢ WK c (Prog.lift (.enqueueDma qgH (.here qgV) (.dma (pSem ![2] inb_S6_S1_2)) w2 w3 t)) fun _ => pFl_qg I c := by
  unfold pIn_qg pFl_qg
  exact start (by decide) fun x => rfl
theorem pWait_qg {w2 w3} : iprop(pFl_qg I c ∗ ∃ W, owes (c.tc : Thread nD τ) 0 W) ⊢ WK c (Prog.lift (.waitDma2 (pSem ![2] inb_S6_S1_2) qgH qgV w2 w3)) fun _ =>
    iprop(HoldsU c fullShare qgV (fun _ => True) I.qg ∗ pOut_qg I c ∗ ∃ W, owes (c.tc : Thread nD τ) 0 W) := by
  unfold pFl_qg pOut_qg
  refine WP_post _ c wait fun _ => ?_
  iintro ⟨⟨⟨H1, H2⟩, H3⟩, H4⟩
  isplitl [H1]; · iapply (HoldsU.of_whole _) $$ H1
  isplitl [H2 H3]
  · isplitl [H2]; · iexact H2
    iexact H3
  iexact H4

def pOut_kg : sProp 𝕄 := iprop((kgH.view.loc (c.tc : Thread nD τ) ↦[kgH.view.set]{fullShare} I.kg) ∗ semVal ((c.tc : Thread nD τ), .dma (pSem ![3] inb_S6_S1_3)) 0)
def pIn_kg : sProp 𝕄 := iprop((kgH.view.loc (c.tc : Thread nD τ) ↦[kgH.view.set]{fullShare} I.kg) ∗ (∃ f, kgV.view.loc (c.tc : Thread nD τ) ↦[kgV.view.set]{fullShare} f) ∗ semVal ((c.tc : Thread nD τ), .dma (pSem ![3] inb_S6_S1_3)) 0)
def pFl_kg : sProp 𝕄 := Transfers.Flight EC (c.tc : Thread nD τ) (.dma (pSem ![3] inb_S6_S1_3)) () kgV.view.dmaCredit iprop((kgV.view.loc (c.tc : Thread nD τ) ↦[kgV.view.set]{fullShare} I.kg) ∗ (kgH.view.loc (c.tc : Thread nD τ) ↦[kgH.view.set]{fullShare} I.kg))
theorem pStart_kg {w2 w3 t} : pIn_kg I c ⊢ WK c (Prog.lift (.enqueueDma kgH (.here kgV) (.dma (pSem ![3] inb_S6_S1_3)) w2 w3 t)) fun _ => pFl_kg I c := by
  unfold pIn_kg pFl_kg
  exact start (by decide) fun x => rfl
theorem pWait_kg {w2 w3} : iprop(pFl_kg I c ∗ ∃ W, owes (c.tc : Thread nD τ) 0 W) ⊢ WK c (Prog.lift (.waitDma2 (pSem ![3] inb_S6_S1_3) kgH kgV w2 w3)) fun _ =>
    iprop(HoldsU c fullShare kgV (fun _ => True) I.kg ∗ pOut_kg I c ∗ ∃ W, owes (c.tc : Thread nD τ) 0 W) := by
  unfold pFl_kg pOut_kg
  refine WP_post _ c wait fun _ => ?_
  iintro ⟨⟨⟨H1, H2⟩, H3⟩, H4⟩
  isplitl [H1]; · iapply (HoldsU.of_whole _) $$ H1
  isplitl [H2 H3]
  · isplitl [H2]; · iexact H2
    iexact H3
  iexact H4

def pOut_nw : sProp 𝕄 := iprop((nwH.view.loc (c.tc : Thread nD τ) ↦[nwH.view.set]{fullShare} I.nw) ∗ semVal ((c.tc : Thread nD τ), .dma (pSem ![4] inb_S6_S1_4)) 0)
def pIn_nw : sProp 𝕄 := iprop((nwH.view.loc (c.tc : Thread nD τ) ↦[nwH.view.set]{fullShare} I.nw) ∗ (∃ f, nwV.view.loc (c.tc : Thread nD τ) ↦[nwV.view.set]{fullShare} f) ∗ semVal ((c.tc : Thread nD τ), .dma (pSem ![4] inb_S6_S1_4)) 0)
def pFl_nw : sProp 𝕄 := Transfers.Flight EC (c.tc : Thread nD τ) (.dma (pSem ![4] inb_S6_S1_4)) () nwV.view.dmaCredit iprop((nwV.view.loc (c.tc : Thread nD τ) ↦[nwV.view.set]{fullShare} I.nw) ∗ (nwH.view.loc (c.tc : Thread nD τ) ↦[nwH.view.set]{fullShare} I.nw))
theorem pStart_nw {w2 w3 t} : pIn_nw I c ⊢ WK c (Prog.lift (.enqueueDma nwH (.here nwV) (.dma (pSem ![4] inb_S6_S1_4)) w2 w3 t)) fun _ => pFl_nw I c := by
  unfold pIn_nw pFl_nw
  exact start (by decide) fun x => rfl
theorem pWait_nw {w2 w3} : iprop(pFl_nw I c ∗ ∃ W, owes (c.tc : Thread nD τ) 0 W) ⊢ WK c (Prog.lift (.waitDma2 (pSem ![4] inb_S6_S1_4) nwH nwV w2 w3)) fun _ =>
    iprop(HoldsU c fullShare nwV (fun _ => True) I.nw ∗ pOut_nw I c ∗ ∃ W, owes (c.tc : Thread nD τ) 0 W) := by
  unfold pFl_nw pOut_nw
  refine WP_post _ c wait fun _ => ?_
  iintro ⟨⟨⟨H1, H2⟩, H3⟩, H4⟩
  isplitl [H1]; · iapply (HoldsU.of_whole _) $$ H1
  isplitl [H2 H3]
  · isplitl [H2]; · iexact H2
    iexact H3
  iexact H4

def pOut_ws : sProp 𝕄 := iprop((wsH.view.loc (c.tc : Thread nD τ) ↦[wsH.view.set]{fullShare} I.ws) ∗ semVal ((c.tc : Thread nD τ), .dma (pSem ![5] inb_S6_S1_5)) 0)
def pIn_ws : sProp 𝕄 := iprop((wsH.view.loc (c.tc : Thread nD τ) ↦[wsH.view.set]{fullShare} I.ws) ∗ (∃ f, wsV.view.loc (c.tc : Thread nD τ) ↦[wsV.view.set]{fullShare} f) ∗ semVal ((c.tc : Thread nD τ), .dma (pSem ![5] inb_S6_S1_5)) 0)
def pFl_ws : sProp 𝕄 := Transfers.Flight EC (c.tc : Thread nD τ) (.dma (pSem ![5] inb_S6_S1_5)) () wsV.view.dmaCredit iprop((wsV.view.loc (c.tc : Thread nD τ) ↦[wsV.view.set]{fullShare} I.ws) ∗ (wsH.view.loc (c.tc : Thread nD τ) ↦[wsH.view.set]{fullShare} I.ws))
theorem pStart_ws {w2 w3 t} : pIn_ws I c ⊢ WK c (Prog.lift (.enqueueDma wsH (.here wsV) (.dma (pSem ![5] inb_S6_S1_5)) w2 w3 t)) fun _ => pFl_ws I c := by
  unfold pIn_ws pFl_ws
  exact start (by decide) fun x => rfl
theorem pWait_ws {w2 w3} : iprop(pFl_ws I c ∗ ∃ W, owes (c.tc : Thread nD τ) 0 W) ⊢ WK c (Prog.lift (.waitDma2 (pSem ![5] inb_S6_S1_5) wsH wsV w2 w3)) fun _ =>
    iprop(HoldsU c fullShare wsV (fun _ => True) I.ws ∗ pOut_ws I c ∗ ∃ W, owes (c.tc : Thread nD τ) 0 W) := by
  unfold pFl_ws pOut_ws
  refine WP_post _ c wait fun _ => ?_
  iintro ⟨⟨⟨H1, H2⟩, H3⟩, H4⟩
  isplitl [H1]; · iapply (HoldsU.of_whole _) $$ H1
  isplitl [H2 H3]
  · isplitl [H2]; · iexact H2
    iexact H3
  iexact H4

theorem startSmall_spec : iprop(pIn_pos I c ∗ pIn_invf I c ∗ pIn_qg I c ∗ pIn_kg I c ∗ pIn_nw I c ∗ pIn_ws I c) ⊢ WK c startSmall fun _ => iprop(pFl_pos I c ∗ pFl_invf I c ∗ pFl_qg I c ∗ pFl_kg I c ∗ pFl_nw I c ∗ pFl_ws I c) := by
  unfold startSmall
  refine WP_par2 _ c ?_ ?_; · exact pStart_pos I c
  refine WP_par2 _ c ?_ ?_; · exact pStart_invf I c
  refine WP_par2 _ c ?_ ?_; · exact pStart_qg I c
  refine WP_par2 _ c ?_ ?_; · exact pStart_kg I c
  refine WP_par2 _ c ?_ ?_; · exact pStart_nw I c
  exact pStart_ws I c

theorem startX_spec : iprop(xIn I c 0 ∗ xIn I c 1 ∗ xIn I c 2 ∗ xIn I c 3 ∗ xIn I c 4 ∗ xIn I c 5 ∗ xIn I c 6 ∗ xIn I c 7) ⊢ WK c startX fun _ => iprop(xFl I c 0 ∗ xFl I c 1 ∗ xFl I c 2 ∗ xFl I c 3 ∗ xFl I c 4 ∗ xFl I c 5 ∗ xFl I c 6 ∗ xFl I c 7) := by
  unfold startX
  refine WP_par2 _ c ?_ ?_; · exact xStart I c 0 rfl rfl
  refine WP_par2 _ c ?_ ?_; · exact xStart I c 1 rfl rfl
  refine WP_par2 _ c ?_ ?_; · exact xStart I c 2 rfl rfl
  refine WP_par2 _ c ?_ ?_; · exact xStart I c 3 rfl rfl
  refine WP_par2 _ c ?_ ?_; · exact xStart I c 4 rfl rfl
  refine WP_par2 _ c ?_ ?_; · exact xStart I c 5 rfl rfl
  refine WP_par2 _ c ?_ ?_; · exact xStart I c 6 rfl rfl
  exact xStart I c 7 rfl rfl

theorem startW_flat : iprop(wIn512 I c 0 0 ∗ wIn512 I c 0 1 ∗ wIn256 I c 0 ∗ wIn512 I c 1 0 ∗ wIn512 I c 1 1 ∗ wIn256 I c 1 ∗ wIn512 I c 2 0 ∗ wIn512 I c 2 1 ∗ wIn256 I c 2 ∗ wIn512 I c 3 0 ∗ wIn512 I c 3 1 ∗ wIn256 I c 3 ∗ wIn512 I c 4 0 ∗ wIn512 I c 4 1 ∗ wIn256 I c 4 ∗ wIn512 I c 5 0 ∗ wIn512 I c 5 1 ∗ wIn256 I c 5 ∗ wIn512 I c 6 0 ∗ wIn512 I c 6 1 ∗ wIn256 I c 6) ⊢ WK c startW fun _ => iprop(wFl512 I c 0 0 ∗ wFl512 I c 0 1 ∗ wFl256 I c 0 ∗ wFl512 I c 1 0 ∗ wFl512 I c 1 1 ∗ wFl256 I c 1 ∗ wFl512 I c 2 0 ∗ wFl512 I c 2 1 ∗ wFl256 I c 2 ∗ wFl512 I c 3 0 ∗ wFl512 I c 3 1 ∗ wFl256 I c 3 ∗ wFl512 I c 4 0 ∗ wFl512 I c 4 1 ∗ wFl256 I c 4 ∗ wFl512 I c 5 0 ∗ wFl512 I c 5 1 ∗ wFl256 I c 5 ∗ wFl512 I c 6 0 ∗ wFl512 I c 6 1 ∗ wFl256 I c 6) := by
  unfold startW
  refine WP_par2 _ c ?_ ?_; · exact wStart512 I c 0 0 rfl rfl rfl
  refine WP_par2 _ c ?_ ?_; · exact wStart512 I c 0 1 rfl rfl rfl
  refine WP_par2 _ c ?_ ?_; · exact wStart256 I c 0 rfl rfl rfl
  refine WP_par2 _ c ?_ ?_; · exact wStart512 I c 1 0 rfl rfl rfl
  refine WP_par2 _ c ?_ ?_; · exact wStart512 I c 1 1 rfl rfl rfl
  refine WP_par2 _ c ?_ ?_; · exact wStart256 I c 1 rfl rfl rfl
  refine WP_par2 _ c ?_ ?_; · exact wStart512 I c 2 0 rfl rfl rfl
  refine WP_par2 _ c ?_ ?_; · exact wStart512 I c 2 1 rfl rfl rfl
  refine WP_par2 _ c ?_ ?_; · exact wStart256 I c 2 rfl rfl rfl
  refine WP_par2 _ c ?_ ?_; · exact wStart512 I c 3 0 rfl rfl rfl
  refine WP_par2 _ c ?_ ?_; · exact wStart512 I c 3 1 rfl rfl rfl
  refine WP_par2 _ c ?_ ?_; · exact wStart256 I c 3 rfl rfl rfl
  refine WP_par2 _ c ?_ ?_; · exact wStart512 I c 4 0 rfl rfl rfl
  refine WP_par2 _ c ?_ ?_; · exact wStart512 I c 4 1 rfl rfl rfl
  refine WP_par2 _ c ?_ ?_; · exact wStart256 I c 4 rfl rfl rfl
  refine WP_par2 _ c ?_ ?_; · exact wStart512 I c 5 0 rfl rfl rfl
  refine WP_par2 _ c ?_ ?_; · exact wStart512 I c 5 1 rfl rfl rfl
  refine WP_par2 _ c ?_ ?_; · exact wStart256 I c 5 rfl rfl rfl
  refine WP_par2 _ c ?_ ?_; · exact wStart512 I c 6 0 rfl rfl rfl
  refine WP_par2 _ c ?_ ?_; · exact wStart512 I c 6 1 rfl rfl rfl
  exact wStart256 I c 6 rfl rfl rfl

theorem startW_spec : iprop(WD I c 0 ∗ WD I c 1 ∗ WD I c 2 ∗ WD I c 3 ∗ WD I c 4 ∗ WD I c 5 ∗ WD I c 6) ⊢ WK c startW fun _ => iprop(WF I c 0 ∗ WF I c 1 ∗ WF I c 2 ∗ WF I c 3 ∗ WF I c 4 ∗ WF I c 5 ∗ WF I c 6) := by
  unfold WF WD
  refine BIBase.Entails.trans ?_ (WP_post _ c (startW_flat I c) fun _ => ?_)
  · iintro ⟨⟨H0_0, H0_1, H0_2⟩, ⟨H1_0, H1_1, H1_2⟩, ⟨H2_0, H2_1, H2_2⟩, ⟨H3_0, H3_1, H3_2⟩, ⟨H4_0, H4_1, H4_2⟩, ⟨H5_0, H5_1, H5_2⟩, ⟨H6_0, H6_1, H6_2⟩⟩
    isplitl [H0_0]; · iexact H0_0
    isplitl [H0_1]; · iexact H0_1
    isplitl [H0_2]; · iexact H0_2
    isplitl [H1_0]; · iexact H1_0
    isplitl [H1_1]; · iexact H1_1
    isplitl [H1_2]; · iexact H1_2
    isplitl [H2_0]; · iexact H2_0
    isplitl [H2_1]; · iexact H2_1
    isplitl [H2_2]; · iexact H2_2
    isplitl [H3_0]; · iexact H3_0
    isplitl [H3_1]; · iexact H3_1
    isplitl [H3_2]; · iexact H3_2
    isplitl [H4_0]; · iexact H4_0
    isplitl [H4_1]; · iexact H4_1
    isplitl [H4_2]; · iexact H4_2
    isplitl [H5_0]; · iexact H5_0
    isplitl [H5_1]; · iexact H5_1
    isplitl [H5_2]; · iexact H5_2
    isplitl [H6_0]; · iexact H6_0
    isplitl [H6_1]; · iexact H6_1
    iexact H6_2
  · iintro ⟨H0_0, H0_1, H0_2, H1_0, H1_1, H1_2, H2_0, H2_1, H2_2, H3_0, H3_1, H3_2, H4_0, H4_1, H4_2, H5_0, H5_1, H5_2, H6_0, H6_1, H6_2⟩
    isplitl [H0_0 H0_1 H0_2]
    · isplitl [H0_0]; · iexact H0_0
      isplitl [H0_1]; · iexact H0_1
      iexact H0_2
    isplitl [H1_0 H1_1 H1_2]
    · isplitl [H1_0]; · iexact H1_0
      isplitl [H1_1]; · iexact H1_1
      iexact H1_2
    isplitl [H2_0 H2_1 H2_2]
    · isplitl [H2_0]; · iexact H2_0
      isplitl [H2_1]; · iexact H2_1
      iexact H2_2
    isplitl [H3_0 H3_1 H3_2]
    · isplitl [H3_0]; · iexact H3_0
      isplitl [H3_1]; · iexact H3_1
      iexact H3_2
    isplitl [H4_0 H4_1 H4_2]
    · isplitl [H4_0]; · iexact H4_0
      isplitl [H4_1]; · iexact H4_1
      iexact H4_2
    isplitl [H5_0 H5_1 H5_2]
    · isplitl [H5_0]; · iexact H5_0
      isplitl [H5_1]; · iexact H5_1
      iexact H5_2
    isplitl [H6_0]; · iexact H6_0
    isplitl [H6_1]; · iexact H6_1
    iexact H6_2

def oIn_c : sProp 𝕄 := iprop((∃ f, cH.view.loc (c.tc : Thread nD τ) ↦[cH.view.set]{fullShare} f) ∗ semVal ((c.tc : Thread nD τ), .dma (oSem ![0] inb_S9_S1_0)) 0)
def oOut_c : sProp 𝕄 := iprop(((cH.view.loc (c.tc : Thread nD τ) ↦[cH.view.set]{fullShare} CODES I) ∗ (cV.view.loc (c.tc : Thread nD τ) ↦[cV.view.set]{(Transfers.shareTok fullShare 1 0)} CODES I)) ∗ semVal ((c.tc : Thread nD τ), .dma (oSem ![0] inb_S9_S1_0)) 0)
def oFl_c : sProp 𝕄 := Transfers.Flight EC (c.tc : Thread nD τ) (.dma (oSem ![0] inb_S9_S1_0)) () cH.view.dmaCredit iprop((cH.view.loc (c.tc : Thread nD τ) ↦[cH.view.set]{fullShare} CODES I) ∗ (cV.view.loc (c.tc : Thread nD τ) ↦[cV.view.set]{(Transfers.shareTok fullShare 1 0)} CODES I))
theorem oStart_c {w2 w3 t} : iprop((cV.view.loc (c.tc : Thread nD τ) ↦[cV.view.set]{(Transfers.shareTok fullShare 1 0)} CODES I) ∗ oIn_c (F := F) c) ⊢ WK c (Prog.lift (.enqueueDma cV (.here cH) (.dma (oSem ![0] inb_S9_S1_0)) w2 w3 t)) fun _ => oFl_c I c := by
  unfold oIn_c oFl_c
  exact start (by decide) fun x => rfl
theorem oWait_c {w2 w3} : iprop(oFl_c I c ∗ ∃ W, owes (c.tc : Thread nD τ) 0 W) ⊢ WK c (Prog.lift (.waitDma2 (oSem ![0] inb_S9_S1_0) cV cH w2 w3)) fun _ =>
    iprop(oOut_c I c ∗ ∃ W, owes (c.tc : Thread nD τ) 0 W) := by
  unfold oFl_c oOut_c
  exact wait

def oIn_s : sProp 𝕄 := iprop((∃ f, sH.view.loc (c.tc : Thread nD τ) ↦[sH.view.set]{fullShare} f) ∗ semVal ((c.tc : Thread nD τ), .dma (sSem)) 0)
def oOut_s : sProp 𝕄 := iprop(((sH.view.loc (c.tc : Thread nD τ) ↦[sH.view.set]{fullShare} XST I) ∗ (xstV.view.loc (c.tc : Thread nD τ) ↦[xstV.view.set]{fullShare} XST I)) ∗ semVal ((c.tc : Thread nD τ), .dma (sSem)) 0)
def oFl_s : sProp 𝕄 := Transfers.Flight EC (c.tc : Thread nD τ) (.dma (sSem)) () sH.view.dmaCredit iprop((sH.view.loc (c.tc : Thread nD τ) ↦[sH.view.set]{fullShare} XST I) ∗ (xstV.view.loc (c.tc : Thread nD τ) ↦[xstV.view.set]{fullShare} XST I))
theorem oStart_s {w2 w3 t} : iprop((xstV.view.loc (c.tc : Thread nD τ) ↦[xstV.view.set]{fullShare} XST I) ∗ oIn_s (F := F) c) ⊢ WK c (Prog.lift (.enqueueDma xstV (.here sH) (.dma (sSem)) w2 w3 t)) fun _ => oFl_s I c := by
  unfold oIn_s oFl_s
  exact start (by decide) fun x => rfl
theorem oWait_s {w2 w3} : iprop(oFl_s I c ∗ ∃ W, owes (c.tc : Thread nD τ) 0 W) ⊢ WK c (Prog.lift (.waitDma2 (sSem) xstV sH w2 w3)) fun _ =>
    iprop(oOut_s I c ∗ ∃ W, owes (c.tc : Thread nD τ) 0 W) := by
  unfold oFl_s oOut_s
  exact wait

def oIn_k : sProp 𝕄 := iprop((∃ f, kH.view.loc (c.tc : Thread nD τ) ↦[kH.view.set]{fullShare} f) ∗ semVal ((c.tc : Thread nD τ), .dma (oSem ![7] inb_S9_S1_7)) 0)
def oOut_k : sProp 𝕄 := iprop(((kH.view.loc (c.tc : Thread nD τ) ↦[kH.view.set]{fullShare} KO I) ∗ (kV.view.loc (c.tc : Thread nD τ) ↦[kV.view.set]{fullShare} KO I)) ∗ semVal ((c.tc : Thread nD τ), .dma (oSem ![7] inb_S9_S1_7)) 0)
def oFl_k : sProp 𝕄 := Transfers.Flight EC (c.tc : Thread nD τ) (.dma (oSem ![7] inb_S9_S1_7)) () kH.view.dmaCredit iprop((kH.view.loc (c.tc : Thread nD τ) ↦[kH.view.set]{fullShare} KO I) ∗ (kV.view.loc (c.tc : Thread nD τ) ↦[kV.view.set]{fullShare} KO I))
theorem oStart_k {w2 w3 t} : iprop((kV.view.loc (c.tc : Thread nD τ) ↦[kV.view.set]{fullShare} KO I) ∗ oIn_k (F := F) c) ⊢ WK c (Prog.lift (.enqueueDma kV (.here kH) (.dma (oSem ![7] inb_S9_S1_7)) w2 w3 t)) fun _ => oFl_k I c := by
  unfold oIn_k oFl_k
  exact start (by decide) fun x => rfl
theorem oWait_k {w2 w3} : iprop(oFl_k I c ∗ ∃ W, owes (c.tc : Thread nD τ) 0 W) ⊢ WK c (Prog.lift (.waitDma2 (oSem ![7] inb_S9_S1_7) kV kH w2 w3)) fun _ =>
    iprop(oOut_k I c ∗ ∃ W, owes (c.tc : Thread nD τ) 0 W) := by
  unfold oFl_k oOut_k
  exact wait

def oIn_v : sProp 𝕄 := iprop((∃ f, vH.view.loc (c.tc : Thread nD τ) ↦[vH.view.set]{fullShare} f) ∗ semVal ((c.tc : Thread nD τ), .dma (oSem ![8] inb_S9_S1_8)) 0)
def oOut_v : sProp 𝕄 := iprop(((vH.view.loc (c.tc : Thread nD τ) ↦[vH.view.set]{fullShare} VO I) ∗ (vV.view.loc (c.tc : Thread nD τ) ↦[vV.view.set]{fullShare} VO I)) ∗ semVal ((c.tc : Thread nD τ), .dma (oSem ![8] inb_S9_S1_8)) 0)
def oFl_v : sProp 𝕄 := Transfers.Flight EC (c.tc : Thread nD τ) (.dma (oSem ![8] inb_S9_S1_8)) () vH.view.dmaCredit iprop((vH.view.loc (c.tc : Thread nD τ) ↦[vH.view.set]{fullShare} VO I) ∗ (vV.view.loc (c.tc : Thread nD τ) ↦[vV.view.set]{fullShare} VO I))
theorem oStart_v {w2 w3 t} : iprop((vV.view.loc (c.tc : Thread nD τ) ↦[vV.view.set]{fullShare} VO I) ∗ oIn_v (F := F) c) ⊢ WK c (Prog.lift (.enqueueDma vV (.here vH) (.dma (oSem ![8] inb_S9_S1_8)) w2 w3 t)) fun _ => oFl_v I c := by
  unfold oIn_v oFl_v
  exact start (by decide) fun x => rfl
theorem oWait_v {w2 w3} : iprop(oFl_v I c ∗ ∃ W, owes (c.tc : Thread nD τ) 0 W) ⊢ WK c (Prog.lift (.waitDma2 (oSem ![8] inb_S9_S1_8) vV vH w2 w3)) fun _ =>
    iprop(oOut_v I c ∗ ∃ W, owes (c.tc : Thread nD τ) 0 W) := by
  unfold oFl_v oOut_v
  exact wait

theorem inbO (k : Fin 5) : ∀ a, (![k.val + 2] : Fin 1 → ℕ) a + S1.size a ≤ S9.size a := by
  have := k.isLt
  simp only [Fin.forall_fin_succ]
  simp <;> omega
abbrev qHk (k : Fin 5) := qHP ![0, 8 * k.val, 0, 0] (inbQ k)
abbrev qVk (k : Fin 5) := qVP ![0, 8 * k.val, 0, 0] (inbQ k)
def qIn (k : Fin 5) : sProp 𝕄 := iprop((∃ f, (qVk k).view.loc (c.tc : Thread nD τ) ↦[(qVk k).view.set]{fullShare} f) ∗ (∃ f, (qHk k).view.loc (c.tc : Thread nD τ) ↦[(qHk k).view.set]{fullShare} f) ∗ semVal ((c.tc : Thread nD τ), .dma (oSem ![k.val + 2] (inbO k))) 0)
def qOut (k : Fin 5) : sProp 𝕄 := iprop((((qHk k).view.loc (c.tc : Thread nD τ) ↦[(qHk k).view.set]{fullShare} QO I) ∗ ((qVk k).view.loc (c.tc : Thread nD τ) ↦[(qVk k).view.set]{fullShare} QO I)) ∗ semVal ((c.tc : Thread nD τ), .dma (oSem ![k.val + 2] (inbO k))) 0)
def qFl (k : Fin 5) : sProp 𝕄 := Transfers.Flight EC (c.tc : Thread nD τ) (.dma (oSem ![k.val + 2] (inbO k))) () (qHk k).view.dmaCredit iprop(((qHk k).view.loc (c.tc : Thread nD τ) ↦[(qHk k).view.set]{fullShare} QO I) ∗ ((qVk k).view.loc (c.tc : Thread nD τ) ↦[(qVk k).view.set]{fullShare} QO I))
theorem qStart (k : Fin 5) {o1 : Fin 1 → ℕ} {h1} {o2 : Fin 4 → ℕ} {h2 w2 w3 t} (e1 : o1 = ![k.val + 2]) (e2 : o2 = ![0, 8 * k.val, 0, 0]) :
    iprop(((qVk k).view.loc (c.tc : Thread nD τ) ↦[(qVk k).view.set]{fullShare} QO I) ∗ (∃ f, (qHk k).view.loc (c.tc : Thread nD τ) ↦[(qHk k).view.set]{fullShare} f) ∗ semVal ((c.tc : Thread nD τ), .dma (oSem ![k.val + 2] (inbO k))) 0) ⊢
      WK c (Prog.lift (.enqueueDma (qVP o2 h2) (.here (qHP o2 h2)) (.dma (oSem o1 h1)) w2 w3 t)) fun _ => qFl I c k := by
  subst e1 e2
  unfold qFl
  exact start (by decide) fun x => rfl
theorem qWait (k : Fin 5) {o1 : Fin 1 → ℕ} {h1} {o2 : Fin 4 → ℕ} {h2 w2 w3} (e1 : o1 = ![k.val + 2]) (e2 : o2 = ![0, 8 * k.val, 0, 0]) :
    iprop(qFl I c k ∗ ∃ W, owes (c.tc : Thread nD τ) 0 W) ⊢ WK c (Prog.lift (.waitDma2 (oSem o1 h1) (qVP o2 h2) (qHP o2 h2) w2 w3)) fun _ =>
    iprop(qOut I c k ∗ ∃ W, owes (c.tc : Thread nD τ) 0 W) := by
  subst e1 e2
  unfold qFl qOut
  exact wait

/-- A trip: a chunk's weights come, its columns are projected, and the heads of the chunk before go out. -/
theorem trip_spec (k : Fin k0_t1_loop.trips) {n n' : ℕ} (hn : n = (k5 k).val + 1) (hn' : n' = (k5 k).val + 2) :
    iprop((WF I c (c7 (k5 k)) ∗ qIn (F := F) c (k5 k)) ∗ (Core I c n 0 ∗ Tab I c)) ⊢ WK c (trip k) fun _ =>
      iprop((WD I c (c7 (k5 k)) ∗ qFl I c (k5 k)) ∗ (Core I c n' 0 ∗ Tab I c)) := by
  subst hn hn'
  unfold trip WF WD qIn
  iintro ⟨⟨⟨F0, F1, F2⟩, HV, HH, Hs⟩, HC, HT⟩
  ihave HQ := (HoldsR.of_any (c := c) (q := fullShare) (m := qV) (r' := rQ (k5 k)) (G := QO I)) $$ HV
  ihave HQ := (HoldsR.mono (c := c) (q := fullShare) (m := qV) (r' := rQ (k5 k)) (A' := AQ (k5 k).val 0) (G' := QO I) (fun x hx => absurd hx.2.2 (Nat.not_lt_zero _))) $$ HQ
  ihave HS : (St I c (k5 k) 0 0) $$ [HC HT HQ]
  · unfold St
    isplitl [HC HT]
    · isplitl [HC]; · iexact HC
      iexact HT
    iexact HQ
  iapply (WP_use _ c (trip0_spec I c k)) $$ [F0 HS]
  · isplitl [F0]; · iexact F0
    iexact HS
  iintro ⟨F0, HS⟩
  iapply (WP_use _ c (trip1_spec I c k)) $$ [F1 HS]
  · isplitl [F1]; · iexact F1
    iexact HS
  iintro ⟨F1, HS⟩
  iapply (WP_use _ c (trip2_spec I c k)) $$ [F2 HS]
  · isplitl [F2]; · iexact F2
    iexact HS
  iintro ⟨F2, HS⟩
  unfold St
  icases HS with ⟨⟨HC, HT⟩, HQ⟩
  ihave HV := (HoldsR.toPt (c := c) (q := fullShare) (m := qV) (r' := rQ (k5 k)) (g := QO I) (fun x hx => ?_)) $$ HQ
  · refine ⟨?_, rfl⟩
    rw [Rect.mem_set_unit] at hx
    have h0 := hx 0
    have h1 := hx 1
    have hk : (k5 k).val = k.val := rfl
    simp at h0 h1
    exact ⟨by omega, by omega, by omega⟩
  iapply (WP_use_last _ c (qStart I c (k5 k) (oqs k) (oq k))) $$ [HV HH Hs]
  · isplitl [HV]; · iexact HV
    isplitl [HH]; · iexact HH
    iexact Hs
  iintro %_ HF
  isplitl [F0 F1 F2 HF]
  · isplitl [F0 F1 F2]
    · isplitl [F0]; · iexact F0
      isplitl [F1]; · iexact F1
      iexact F2
    iexact HF
  isplitl [HC]
  · iapply (Core_next I c ((k5 k).val + 1)) $$ HC
  iexact HT

theorem loop_eq : (Scf.Loop.for k0_t1_loop k0_t1_ok ⟨⟩ (fun k _ => trip (F := F) k) : KProg F PUnit) =
    (trip ⟨0, by decide⟩ >>= fun _ => trip ⟨1, by decide⟩ >>= fun _ => trip ⟨2, by decide⟩ >>= fun _ => trip ⟨3, by decide⟩ >>= fun _ => trip ⟨4, by decide⟩) := by
  unfold Scf.Loop.for
  rw [Scf.for_eq]
  have h : List.finRange (Scf.trips k0_t1_loop.lb k0_t1_loop.ub k0_t1_loop.st) = [⟨0, by decide⟩, ⟨1, by decide⟩, ⟨2, by decide⟩, ⟨3, by decide⟩, ⟨4, by decide⟩] := by decide
  rw [h]
  simp only [Scf.forFrom_cons, Scf.forFrom_nil]
  have e (p : KProg F PUnit) : (p >>= fun a => Prog.ret a) = p := bind_pure p
  simp only [e]

theorem loop_spec : iprop(((WF I c 1 ∗ qIn (F := F) c 0) ∗ (WF I c 2 ∗ qIn (F := F) c 1) ∗ (WF I c 3 ∗ qIn (F := F) c 2) ∗ (WF I c 4 ∗ qIn (F := F) c 3) ∗ (WF I c 5 ∗ qIn (F := F) c 4)) ∗ (Core I c 1 0 ∗ Tab I c)) ⊢ WK c (Scf.Loop.for k0_t1_loop k0_t1_ok ⟨⟩ (fun k _ => trip (F := F) k)) fun _ =>
    iprop(((WD I c 1 ∗ qFl I c 0) ∗ (WD I c 2 ∗ qFl I c 1) ∗ (WD I c 3 ∗ qFl I c 2) ∗ (WD I c 4 ∗ qFl I c 3) ∗ (WD I c 5 ∗ qFl I c 4)) ∗ (Core I c 6 0 ∗ Tab I c)) := by
  rw [loop_eq]
  exact WP_chain _ c (trip_spec I c ⟨0, by decide⟩ (n := 1) (n' := 2) rfl rfl) (WP_chain _ c (trip_spec I c ⟨1, by decide⟩ (n := 2) (n' := 3) rfl rfl) (WP_chain _ c (trip_spec I c ⟨2, by decide⟩ (n := 3) (n' := 4) rfl rfl)
    (WP_chain _ c (trip_spec I c ⟨3, by decide⟩ (n := 4) (n' := 5) rfl rfl) (trip_spec I c ⟨4, by decide⟩ (n := 5) (n' := 6) rfl rfl))))

end Cert.Proof.KernelIdeal

end
-- ==== Proof.KernelIdealRun.lean ====
module

public import proofs.«01_k».proof.Proof.KernelIdealFlights

/-! # The whole body -/

@[expose] public section

noncomputable section

namespace Cert.Proof.KernelIdeal

open Cert.KernelIdeal Cert.KernelIdeal.Gen Cert.Proof.Rules
open Idealize.ShloMosaic hiding ix0 ix1 ix2 ix3 ix4 ix5 ix6
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ (Pipeline.UD sig nD τ) ℕ

variable (I : In F) (c : Dev nD)

/-- One share dealt out. -/
theorem tok1 {f : Buf (Elt F) (cV.view.loc (c.tc : Thread nD τ))} :
    (BI.bigSep Finset.univ (fun i : Fin 1 => (cV.view.loc (c.tc : Thread nD τ) ↦[cV.view.set]{Transfers.shareTok fullShare 1 i} f)) : sProp 𝕄) ⊣⊢
      (cV.view.loc (c.tc : Thread nD τ) ↦[cV.view.set]{Transfers.shareTok fullShare 1 0} f) := by
  rw [BI.bigSep_eq_bigSepL_of_eq [0] (by decide) (by decide)]
  exact ⟨.rfl, .rfl⟩

theorem ax_lt (x : S256x128.Idx) : AX ((7 : Fin 8).val + 1) x := (x 0).isLt
theorem ac_lt (x : S256x5120.Idx) : AC ((7 : Fin 8).val + 1) x := (x 0).isLt
theorem as_lt (x : S2x128.Idx) : AS ((1 : Fin 2).val + 1) x := (x 0).isLt

theorem tab_lt (x : S2x2x4x80x128.Idx) : AT 16 x := by
  have h0 := (show (x 0).val < 2 from (x 0).isLt)
  have h1 := (show (x 1).val < 2 from (x 1).isLt)
  have h2 := (show (x 2).val < 4 from (x 2).isLt)
  simp only [AT]
  omega

def StageIn : sProp 𝕄 := iprop((∃ W, owes (c.tc : Thread nD τ) 0 W) ∗ (∃ f, tabV.view.loc (c.tc : Thread nD τ) ↦{fullShare} f) ∗ (∃ f, cV.view.loc (c.tc : Thread nD τ) ↦{fullShare} f) ∗ (∃ f, xsV.view.loc (c.tc : Thread nD τ) ↦{fullShare} f) ∗ (∃ f, xstV.view.loc (c.tc : Thread nD τ) ↦{fullShare} f) ∗ (∃ f, ytV.view.loc (c.tc : Thread nD τ) ↦{fullShare} f) ∗ oIn_c (F := F) c ∗ oIn_s (F := F) c)
def StageOut : sProp 𝕄 := iprop(Small I c ∗ HoldsU c fullShare nwV (fun _ => True) I.nw ∗ Core I c 0 0 ∗ Tab I c ∗ oFl_c I c ∗ oFl_s I c)
def Pin : sProp 𝕄 := iprop(pIn_pos I c ∗ pIn_invf I c ∗ pIn_qg I c ∗ pIn_kg I c ∗ pIn_nw I c ∗ pIn_ws I c)
def Pfl : sProp 𝕄 := iprop(pFl_pos I c ∗ pFl_invf I c ∗ pFl_qg I c ∗ pFl_kg I c ∗ pFl_nw I c ∗ pFl_ws I c)
def Pout : sProp 𝕄 := iprop(pOut_pos I c ∗ pOut_invf I c ∗ pOut_qg I c ∗ pOut_kg I c ∗ pOut_nw I c ∗ pOut_ws I c)
def Xin : sProp 𝕄 := iprop(xIn I c 0 ∗ xIn I c 1 ∗ xIn I c 2 ∗ xIn I c 3 ∗ xIn I c 4 ∗ xIn I c 5 ∗ xIn I c 6 ∗ xIn I c 7)
def Xfl : sProp 𝕄 := iprop(xFl I c 0 ∗ xFl I c 1 ∗ xFl I c 2 ∗ xFl I c 3 ∗ xFl I c 4 ∗ xFl I c 5 ∗ xFl I c 6 ∗ xFl I c 7)

theorem stage1_spec : iprop(Pfl I c ∗ Xfl I c ∗ StageIn (F := F) c) ⊢ WK c stage1 fun _ => iprop(Pout I c ∗ Xin I c ∗ StageOut I c) := by
  unfold stage1 Pfl Xfl StageIn Pout Xin StageOut
  iintro ⟨⟨Ppos, Pinvf, Pqg, Pkg, Pnw, Pws⟩, ⟨X0, X1, X2, X3, X4, X5, X6, X7⟩, HO, HT, HC, HXS, HST, HY, HIC, HIS⟩
  iapply (WP_use _ c (pWait_pos I c)) $$ [Ppos HO]
  · isplitl [Ppos]; · iexact Ppos
    iexact HO
  iintro ⟨Vpos, Ppos, HO⟩
  iapply (WP_use _ c (pWait_invf I c)) $$ [Pinvf HO]
  · isplitl [Pinvf]; · iexact Pinvf
    iexact HO
  iintro ⟨Vinvf, Pinvf, HO⟩
  iapply (WP_use _ c (pWait_qg I c)) $$ [Pqg HO]
  · isplitl [Pqg]; · iexact Pqg
    iexact HO
  iintro ⟨Vqg, Pqg, HO⟩
  iapply (WP_use _ c (pWait_kg I c)) $$ [Pkg HO]
  · isplitl [Pkg]; · iexact Pkg
    iexact HO
  iintro ⟨Vkg, Pkg, HO⟩
  ihave HT := (HoldsU.of_any (c := c) (q := fullShare) (m := tabV) (G := TAB I)) $$ HT
  ihave HT := (HoldsU.mono (c := c) (q := fullShare) (m := tabV) (A' := AT 0) (G' := TAB I) (fun x hx => absurd hx (Nat.not_lt_zero _))) $$ HT
  ihave HS : (Small I c) $$ [Vpos Vinvf Vqg Vkg]
  · unfold Small
    isplitl [Vqg]; · iexact Vqg
    isplitl [Vkg]; · iexact Vkg
    isplitl [Vpos]; · iexact Vpos
    iexact Vinvf
  iapply (WP_use _ c (tables_spec I c)) $$ [HS HT]
  · isplitl [HS]; · iexact HS
    iexact HT
  iintro ⟨HS, HT⟩
  iapply (WP_use _ c (pWait_nw I c)) $$ [Pnw HO]
  · isplitl [Pnw]; · iexact Pnw
    iexact HO
  iintro ⟨Vnw, Pnw, HO⟩
  iapply (WP_use _ c (pWait_ws I c)) $$ [Pws HO]
  · isplitl [Pws]; · iexact Pws
    iexact HO
  iintro ⟨Vws, Pws, HO⟩
  ihave HC := (HoldsU.of_any (c := c) (q := fullShare) (m := cV) (G := CODES I)) $$ HC
  ihave HC := (HoldsU.mono (c := c) (q := fullShare) (m := cV) (A' := AC 0) (G' := CODES I) (fun x hx => absurd hx (Nat.not_lt_zero _))) $$ HC
  ihave HXS := (HoldsU.of_any (c := c) (q := fullShare) (m := xsV) (G := XS I)) $$ HXS
  ihave HXS := (HoldsU.mono (c := c) (q := fullShare) (m := xsV) (A' := AX 0) (G' := XS I) (fun x hx => absurd hx (Nat.not_lt_zero _))) $$ HXS
  ihave HR : (RowC I c 0) $$ [HO Vnw HC HXS]
  · unfold RowC
    isplitl [HO]; · iexact HO
    isplitl [Vnw]; · iexact Vnw
    isplitl [HC]; · iexact HC
    iexact HXS
  iapply (WP_use _ c (rowBlk_spec I c 0 rfl rfl)) $$ [X0 HR]
  · isplitl [X0]; · iexact X0
    iexact HR
  iintro ⟨X0, HR⟩
  iapply (WP_use _ c (rowBlk_spec I c 1 rfl rfl)) $$ [X1 HR]
  · isplitl [X1]; · iexact X1
    iexact HR
  iintro ⟨X1, HR⟩
  iapply (WP_use _ c (rowBlk_spec I c 2 rfl rfl)) $$ [X2 HR]
  · isplitl [X2]; · iexact X2
    iexact HR
  iintro ⟨X2, HR⟩
  iapply (WP_use _ c (rowBlk_spec I c 3 rfl rfl)) $$ [X3 HR]
  · isplitl [X3]; · iexact X3
    iexact HR
  iintro ⟨X3, HR⟩
  iapply (WP_use _ c (rowBlk_spec I c 4 rfl rfl)) $$ [X4 HR]
  · isplitl [X4]; · iexact X4
    iexact HR
  iintro ⟨X4, HR⟩
  iapply (WP_use _ c (rowBlk_spec I c 5 rfl rfl)) $$ [X5 HR]
  · isplitl [X5]; · iexact X5
    iexact HR
  iintro ⟨X5, HR⟩
  iapply (WP_use _ c (rowBlk_spec I c 6 rfl rfl)) $$ [X6 HR]
  · isplitl [X6]; · iexact X6
    iexact HR
  iintro ⟨X6, HR⟩
  iapply (WP_use _ c (rowBlk_spec I c 7 rfl rfl)) $$ [X7 HR]
  · isplitl [X7]; · iexact X7
    iexact HR
  iintro ⟨X7, HR⟩
  unfold RowC
  icases HR with ⟨HO, Vnw, HC, HXS⟩
  ihave HXS := (HoldsU.mono (c := c) (q := fullShare) (m := xsV) (A := AX ((7 : Fin 8).val + 1)) (G := XS I) (A' := fun _ => True) (G' := XS I) (fun x _ => ⟨ax_lt x, rfl⟩)) $$ HXS
  ihave HC := (HoldsU.to_whole (c := c) (q := fullShare) cc0_scratch8 (A := AC ((7 : Fin 8).val + 1)) (f := CODES I) ac_lt) $$ HC
  ihave HST := (HoldsU.of_any (c := c) (q := fullShare) (m := xstV) (G := XST I)) $$ HST
  ihave HST := (HoldsU.mono (c := c) (q := fullShare) (m := xstV) (A' := AS 0) (G' := XST I) (fun x hx => absurd hx (Nat.not_lt_zero _))) $$ HST
  iapply (WP_use _ c (xstBlk_spec I c 0 rfl rfl)) $$ [HXS HST]
  · isplitl [HXS]; · iexact HXS
    iexact HST
  iintro ⟨HXS, HST⟩
  iapply (WP_use _ c (xstBlk_spec I c 1 rfl rfl)) $$ [HXS HST]
  · isplitl [HXS]; · iexact HXS
    iexact HST
  iintro ⟨HXS, HST⟩
  ihave HST := (HoldsU.to_whole (c := c) (q := fullShare) cc0_scratch10 (A := AS ((1 : Fin 2).val + 1)) (f := XST I) as_lt) $$ HST
  ihave HC := (Transfers.pointsTo_toks_split fullShare 1) $$ HC
  icases HC with ⟨HC, HCt⟩
  ihave HCt := (tok1 (F := F) c (f := CODES I)).1 $$ HCt
  iapply (WP_use _ c (oStart_c I c)) $$ [HCt HIC]
  · isplitl [HCt]; · iexact HCt
    iexact HIC
  iintro HFC
  iapply (WP_use_last _ c (oStart_s I c)) $$ [HST HIS]
  · isplitl [HST]; · iexact HST
    iexact HIS
  iintro %_ HFS
  isplitl [Ppos Pinvf Pqg Pkg Pnw Pws]
  · isplitl [Ppos]; · iexact Ppos
    isplitl [Pinvf]; · iexact Pinvf
    isplitl [Pqg]; · iexact Pqg
    isplitl [Pkg]; · iexact Pkg
    isplitl [Pnw]; · iexact Pnw
    iexact Pws
  isplitl [X0 X1 X2 X3 X4 X5 X6 X7]
  · isplitl [X0]; · iexact X0
    isplitl [X1]; · iexact X1
    isplitl [X2]; · iexact X2
    isplitl [X3]; · iexact X3
    isplitl [X4]; · iexact X4
    isplitl [X5]; · iexact X5
    isplitl [X6]; · iexact X6
    iexact X7
  isplitl [HS]; · iexact HS
  isplitl [Vnw]; · iexact Vnw
  isplitl [HO HC Vws HXS HY]
  · unfold Core
    isplitl [HO]; · iexact HO
    isplitl [HC]; · iapply (HoldsU.of_whole _) $$ HC
    isplitl [Vws]; · iexact Vws
    isplitl [HXS]; · iexact HXS
    ihave HY := (HoldsU.of_any (c := c) (q := fullShare) (m := ytV) (G := YT I 0)) $$ HY
    iapply (HoldsU.mono (c := c) (q := fullShare) (m := ytV) (A' := AY 0 0) (G' := YT I 0) (fun x hx => absurd hx (by simp [AY]))) $$ HY
  isplitl [HT]
  · unfold Tab
    iapply (HoldsU.mono (c := c) (q := fullShare) (m := tabV) (A' := fun _ => True) (G' := TAB I) (fun x _ => ⟨tab_lt x, rfl⟩)) $$ HT
  isplitl [HFC]; · iexact HFC
  iexact HFS

theorem waitOut_spec : iprop((oFl_c I c ∗ oFl_s I c ∗ qFl I c 0 ∗ qFl I c 1 ∗ qFl I c 2 ∗ qFl I c 3 ∗ qFl I c 4 ∗ oFl_k I c ∗ oFl_v I c) ∗ (∃ W, owes (c.tc : Thread nD τ) 0 W)) ⊢ WK c waitOut fun _ =>
    iprop((oOut_c I c ∗ oOut_s I c ∗ qOut I c 0 ∗ qOut I c 1 ∗ qOut I c 2 ∗ qOut I c 3 ∗ qOut I c 4 ∗ oOut_k I c ∗ oOut_v I c) ∗ (∃ W, owes (c.tc : Thread nD τ) 0 W)) := by
  unfold waitOut
  refine WP_chain _ c (oWait_c I c) ?_
  refine WP_chain _ c (oWait_s I c) ?_
  refine WP_chain _ c (qWait I c 0 rfl rfl) ?_
  refine WP_chain _ c (qWait I c 1 rfl rfl) ?_
  refine WP_chain _ c (qWait I c 2 rfl rfl) ?_
  refine WP_chain _ c (qWait I c 3 rfl rfl) ?_
  refine WP_chain _ c (qWait I c 4 rfl rfl) ?_
  refine WP_chain _ c (oWait_k I c) ?_
  exact oWait_v I c

theorem ak_lt (x : S2x8x160x128.Idx) : AK 16 x := by
  have h0 := (show (x 0).val < 2 from (x 0).isLt)
  have h1 := (show (x 1).val < 8 from (x 1).isLt)
  simp only [AK]
  omega

theorem av_lt (x : S2x8x160x128.Idx) : AV 16 x := by
  have h0 := (show (x 0).val < 2 from (x 0).isLt)
  have h1 := (show (x 1).val < 8 from (x 1).isLt)
  simp only [AV]
  omega

def BodyPre : sProp 𝕄 := iprop(Pin I c ∗ Xin I c ∗ (WD I c 0 ∗ WD I c 1 ∗ WD I c 2 ∗ WD I c 3 ∗ WD I c 4 ∗ WD I c 5 ∗ WD I c 6) ∗ StageIn (F := F) c ∗ (∃ f, kV.view.loc (c.tc : Thread nD τ) ↦{fullShare} f) ∗ (∃ f, vV.view.loc (c.tc : Thread nD τ) ↦{fullShare} f) ∗ oIn_k (F := F) c ∗ oIn_v (F := F) c ∗ (qIn (F := F) c 0 ∗ qIn (F := F) c 1 ∗ qIn (F := F) c 2 ∗ qIn (F := F) c 3 ∗ qIn (F := F) c 4))
def Outs : sProp 𝕄 := iprop(oOut_c I c ∗ oOut_s I c ∗ qOut I c 0 ∗ qOut I c 1 ∗ qOut I c 2 ∗ qOut I c 3 ∗ qOut I c 4 ∗ oOut_k I c ∗ oOut_v I c)
def Rest : sProp 𝕄 := iprop(Small I c ∗ HoldsU c fullShare nwV (fun _ => True) I.nw ∗ (HoldsU c (Transfers.shareDrop fullShare 1) cV (fun _ => True) (CODES I) ∗ HoldsU c fullShare wsV (fun _ => True) I.ws
    ∗ HoldsU c fullShare xsV (fun _ => True) (XS I) ∗ HoldsU c fullShare ytV (AY 6 1280) (YT I 6)) ∗ Tab I c)
def BodyPost : sProp 𝕄 := iprop(Pout I c ∗ Xin I c ∗ (WD I c 0 ∗ WD I c 1 ∗ WD I c 2 ∗ WD I c 3 ∗ WD I c 4 ∗ WD I c 5 ∗ WD I c 6) ∗ (∃ W, owes (c.tc : Thread nD τ) 0 W) ∗ Outs I c ∗ Rest I c)

theorem body_spec : BodyPre I c ⊢ WK c bodyProg fun _ => BodyPost I c := by
  unfold bodyProg BodyPre BodyPost
  iintro ⟨HP, HX, HW, HSI, HK, HV, HIK, HIV, ⟨Q0, Q1, Q2, Q3, Q4⟩⟩
  unfold Pin
  iapply (WP_use _ c (startSmall_spec I c)) $$ HP
  iintro HP
  unfold Xin
  iapply (WP_use _ c (startX_spec I c)) $$ HX
  iintro HX
  iapply (WP_use _ c (startW_spec I c)) $$ HW
  iintro ⟨W0, W1, W2, W3, W4, W5, W6⟩
  iapply (WP_use _ c (stage1_spec I c)) $$ [HP HX HSI]
  · unfold Pfl Xfl
    isplitl [HP]; · iexact HP
    isplitl [HX]; · iexact HX
    iexact HSI
  unfold StageOut
  iintro ⟨HP, HX, HS, Vnw, HC, HT, HFC, HFS⟩
  iapply (WP_use _ c (chunk0_spec I c)) $$ [W0 HC]
  · isplitl [W0]; · iexact W0
    iexact HC
  iintro ⟨W0, HC⟩
  iapply (WP_use _ c (loop_spec I c)) $$ [W1 W2 W3 W4 W5 Q0 Q1 Q2 Q3 Q4 HC HT]
  · isplitl [W1 W2 W3 W4 W5 Q0 Q1 Q2 Q3 Q4]
    · isplitl [W1 Q0]
      · isplitl [W1]; · iexact W1
        iexact Q0
      isplitl [W2 Q1]
      · isplitl [W2]; · iexact W2
        iexact Q1
      isplitl [W3 Q2]
      · isplitl [W3]; · iexact W3
        iexact Q2
      isplitl [W4 Q3]
      · isplitl [W4]; · iexact W4
        iexact Q3
      isplitl [W5]; · iexact W5
      iexact Q4
    isplitl [HC]; · iexact HC
    iexact HT
  iintro ⟨⟨⟨W1, Q0⟩, ⟨W2, Q1⟩, ⟨W3, Q2⟩, ⟨W4, Q3⟩, ⟨W5, Q4⟩⟩, HC, HT⟩
  unfold WF
  icases W6 with ⟨F0, F1, F2⟩
  ihave HK := (HoldsU.of_any (c := c) (q := fullShare) (m := kV) (G := KO I)) $$ HK
  ihave HK := (HoldsU.mono (c := c) (q := fullShare) (m := kV) (A' := AK 0) (G' := KO I) (fun x hx => absurd hx (Nat.not_lt_zero _))) $$ HK
  ihave HC : (StK I c 0 0) $$ [HC HT HK]
  · unfold StK
    isplitl [HC HT]
    · isplitl [HC]; · iexact HC
      iexact HT
    iexact HK
  iapply (WP_use _ c (chunk6_0_spec I c)) $$ [F0 HC]
  · isplitl [F0]; · iexact F0
    iexact HC
  iintro ⟨F0, HC⟩
  iapply (WP_use _ c (chunk6_1_spec I c)) $$ [F1 HC]
  · isplitl [F1]; · iexact F1
    iexact HC
  iintro ⟨F1, HC⟩
  iapply (WP_use _ c (chunk6_2_spec I c)) $$ [F2 HC]
  · isplitl [F2]; · iexact F2
    iexact HC
  iintro ⟨F2, HC⟩
  unfold StK
  icases HC with ⟨⟨HC, HT⟩, HK⟩
  ihave HK := (HoldsU.to_whole (c := c) (q := fullShare) cc0_scratch14 (f := KO I) ak_lt) $$ HK
  iapply (WP_use _ c (oStart_k I c)) $$ [HK HIK]
  · isplitl [HK]; · iexact HK
    iexact HIK
  iintro HFK
  unfold Core
  icases HC with ⟨HO, HC, HWS, HXS, HY⟩
  ihave HV := (HoldsU.of_any (c := c) (q := fullShare) (m := vV) (G := VO I)) $$ HV
  ihave HV := (HoldsU.mono (c := c) (q := fullShare) (m := vV) (A' := AV 0) (G' := VO I) (fun x hx => absurd hx (Nat.not_lt_zero _))) $$ HV
  iapply (WP_use _ c (vHeads_spec I c)) $$ [HY HV]
  · isplitl [HY]; · iexact HY
    iexact HV
  iintro ⟨HY, HV⟩
  ihave HV := (HoldsU.to_whole (c := c) (q := fullShare) cc0_scratch15 (f := VO I) av_lt) $$ HV
  iapply (WP_use _ c (oStart_v I c)) $$ [HV HIV]
  · isplitl [HV]; · iexact HV
    iexact HIV
  iintro HFV
  iapply (WP_use _ c (waitOut_spec I c)) $$ [HFC HFS Q0 Q1 Q2 Q3 Q4 HFK HFV HO]
  · isplitl [HFC HFS Q0 Q1 Q2 Q3 Q4 HFK HFV]
    · isplitl [HFC]; · iexact HFC
      isplitl [HFS]; · iexact HFS
      isplitl [Q0]; · iexact Q0
      isplitl [Q1]; · iexact Q1
      isplitl [Q2]; · iexact Q2
      isplitl [Q3]; · iexact Q3
      isplitl [Q4]; · iexact Q4
      isplitl [HFK]; · iexact HFK
      iexact HFV
    iexact HO
  iintro ⟨HOut, HO⟩
  iapply (WP_ret _ c)
  unfold Xin
  isplitl [HP]; · iexact HP
  isplitl [HX]; · iexact HX
  isplitl [W0 W1 W2 W3 W4 W5 F0 F1 F2]
  · isplitl [W0]; · iexact W0
    isplitl [W1]; · iexact W1
    isplitl [W2]; · iexact W2
    isplitl [W3]; · iexact W3
    isplitl [W4]; · iexact W4
    isplitl [W5]; · iexact W5
    unfold WD
    isplitl [F0]; · iexact F0
    isplitl [F1]; · iexact F1
    iexact F2
  isplitl [HO]; · iexact HO
  unfold Outs
  isplitl [HOut]; · iexact HOut
  unfold Rest
  isplitl [HS]; · iexact HS
  isplitl [Vnw]; · iexact Vnw
  isplitl [HC HWS HXS HY]
  · isplitl [HC]; · iexact HC
    isplitl [HWS]; · iexact HWS
    isplitl [HXS]; · iexact HXS
    iexact HY
  iexact HT

end Cert.Proof.KernelIdeal

end
-- ==== Proof.KernelIdealPieces.lean ====
module

public import proofs.«01_k».proof.Proof.KernelIdealRun

/-! # Buffers cut into the pieces the copies move -/

@[expose] public section

noncomputable section

namespace Cert.Proof.KernelIdeal

open Cert.KernelIdeal Cert.KernelIdeal.Gen Cert.Proof.Rules
open Idealize.ShloMosaic hiding ix0 ix1 ix2 ix3 ix4 ix5 ix6
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ (Pipeline.UD sig nD τ) ℕ

variable (I : In F) (c : Dev nD)

def jXH (i : Fin 8) : Finset main_v0.ty.shape.Idx := (xHP ![32 * i.val, 0] (inbX i)).view.set
def jXV (i : Fin 8) : Finset cc0_scratch0.ty.shape.Idx := (xVP ![32 * i.val, 0] (inbX i)).view.set
def jQH (k : Fin 5) : Finset main_v4_0.ty.shape.Idx := (qHk k).view.set
def jQV (k : Fin 5) : Finset cc0_scratch13.ty.shape.Idx := (qVk k).view.set
def jWH (p : Fin 7 × Fin 3) : Finset main_arg2.ty.shape.Idx := match p.2 with
  | 0 => (wHP512 ![0, 1280 * p.1.val + 512 * (0 : Fin 2).val] (inbWH512 p.1 0)).view.set
  | 1 => (wHP512 ![0, 1280 * p.1.val + 512 * (1 : Fin 2).val] (inbWH512 p.1 1)).view.set
  | 2 => (wHP256 ![0, 1280 * p.1.val + 1024] (inbWH256 p.1)).view.set
def jWV (p : Fin 7 × Fin 3) : Finset cc0_scratch2.ty.shape.Idx := match p.2 with
  | 0 => (wVP512 ![p.1.val, 0, 512 * (0 : Fin 2).val] (inbWV512 p.1 0)).view.set
  | 1 => (wVP512 ![p.1.val, 0, 512 * (1 : Fin 2).val] (inbWV512 p.1 1)).view.set
  | 2 => (wVP256 ![p.1.val, 0, 1024] (inbWV256 p.1)).view.set

theorem mXH (i : Fin 8) (x : S256x5120.Idx) : x ∈ jXH i ↔ 32 * i.val ≤ (x 0).val ∧ (x 0).val < 32 * i.val + 32 := by
  have h1 := (show (x 1).val < 5120 from (x 1).isLt)
  rw [show jXH i = (Rect.unit (s := S256x5120) ![32 * i.val, 0] S32x5120.size (inbX i)).set from View.set_slice_whole _ _, Rect.mem_set_unit]
  simp only [Fin.forall_fin_two]
  simp <;> omega
theorem mXV (i : Fin 8) (x : S256x5120.Idx) : x ∈ jXV i ↔ 32 * i.val ≤ (x 0).val ∧ (x 0).val < 32 * i.val + 32 := by
  have h1 := (show (x 1).val < 5120 from (x 1).isLt)
  rw [show jXV i = (Rect.unit (s := S256x5120) ![32 * i.val, 0] S32x5120.size (inbX i)).set from View.set_slice_whole _ _, Rect.mem_set_unit]
  simp only [Fin.forall_fin_two]
  simp <;> omega
theorem mQH (i : Fin 5) (x : S2x40x160x128.Idx) : x ∈ jQH i ↔ 8 * i.val ≤ (x 1).val ∧ (x 1).val < 8 * i.val + 8 := by
  have h0 := (show (x 0).val < 2 from (x 0).isLt)
  have h2 := (show (x 2).val < 160 from (x 2).isLt)
  have h3 := (show (x 3).val < 128 from (x 3).isLt)
  rw [show jQH i = (Rect.unit (s := S2x40x160x128) ![0, 8 * i.val, 0, 0] S2x8x160x128.size (inbQ i)).set from View.set_slice_whole _ _, Rect.mem_set_unit]
  simp only [Fin.forall_fin_succ]
  simp <;> omega
theorem mQV (i : Fin 5) (x : S2x40x160x128.Idx) : x ∈ jQV i ↔ 8 * i.val ≤ (x 1).val ∧ (x 1).val < 8 * i.val + 8 := by
  have h0 := (show (x 0).val < 2 from (x 0).isLt)
  have h2 := (show (x 2).val < 160 from (x 2).isLt)
  have h3 := (show (x 3).val < 128 from (x 3).isLt)
  rw [show jQV i = (Rect.unit (s := S2x40x160x128) ![0, 8 * i.val, 0, 0] S2x8x160x128.size (inbQ i)).set from View.set_slice_whole _ _, Rect.mem_set_unit]
  simp only [Fin.forall_fin_succ]
  simp <;> omega
theorem mWH (p : Fin 7 × Fin 3) (x : S5120x8960.Idx) : x ∈ jWH p ↔ 1280 * p.1.val + 512 * p.2.val ≤ (x 1).val ∧ (x 1).val < 1280 * p.1.val + min (512 * p.2.val + 512) 1280 := by
  have h0 := (show (x 0).val < 5120 from (x 0).isLt)
  obtain ⟨ck, k⟩ := p
  match k with
  | 0 =>
    rw [show jWH (ck, 0) = (Rect.unit (s := S5120x8960) ![0, 1280 * ck.val + 512 * (0 : Fin 2).val] S5120x512.size (inbWH512 ck 0)).set from View.set_slice_whole _ _, Rect.mem_set_unit]
    simp only [Fin.forall_fin_two]
    simp <;> omega
  | 1 =>
    rw [show jWH (ck, 1) = (Rect.unit (s := S5120x8960) ![0, 1280 * ck.val + 512 * (1 : Fin 2).val] S5120x512.size (inbWH512 ck 1)).set from View.set_slice_whole _ _, Rect.mem_set_unit]
    simp only [Fin.forall_fin_two]
    simp <;> omega
  | 2 =>
    rw [show jWH (ck, 2) = (Rect.unit (s := S5120x8960) ![0, 1280 * ck.val + 1024] S5120x256.size (inbWH256 ck)).set from View.set_slice_whole _ _, Rect.mem_set_unit]
    simp only [Fin.forall_fin_two]
    simp <;> omega
theorem mWV (p : Fin 7 × Fin 3) (x : S7x5120x1280.Idx) : x ∈ jWV p ↔ (x 0).val = p.1.val ∧ 512 * p.2.val ≤ (x 2).val ∧ (x 2).val < min (512 * p.2.val + 512) 1280 := by
  have h1 := (show (x 1).val < 5120 from (x 1).isLt)
  obtain ⟨ck, k⟩ := p
  match k with
  | 0 =>
    rw [show jWV (ck, 0) = (Rect.unit (s := S7x5120x1280) ![ck.val, 0, 512 * (0 : Fin 2).val] S1x5120x512.size (inbWV512 ck 0)).set from (Memref.set_view_squeeze _ _).trans (View.set_slice_whole _ _), Rect.mem_set_unit]
    simp only [Fin.forall_fin_succ]
    simp <;> omega
  | 1 =>
    rw [show jWV (ck, 1) = (Rect.unit (s := S7x5120x1280) ![ck.val, 0, 512 * (1 : Fin 2).val] S1x5120x512.size (inbWV512 ck 1)).set from (Memref.set_view_squeeze _ _).trans (View.set_slice_whole _ _), Rect.mem_set_unit]
    simp only [Fin.forall_fin_succ]
    simp <;> omega
  | 2 =>
    rw [show jWV (ck, 2) = (Rect.unit (s := S7x5120x1280) ![ck.val, 0, 1024] S1x5120x256.size (inbWV256 ck)).set from (Memref.set_view_squeeze _ _).trans (View.set_slice_whole _ _), Rect.mem_set_unit]
    simp only [Fin.forall_fin_succ]
    simp <;> omega
theorem dXH (i j : Fin 8) (h : i ≠ j) : Disjoint (jXH i) (jXH j) := by
  rw [Finset.disjoint_left]
  intro x hi hj
  rw [mXH] at hi hj
  apply h
  exact Fin.ext (by omega)
theorem cXH (x : S256x5120.Idx) : ∃ i, x ∈ jXH i := by
  have h := (show (x 0).val < 256 from (x 0).isLt)
  refine ⟨⟨(x 0).val / 32, by omega⟩, (mXH _ x).mpr ?_⟩
  simp only []; omega
theorem dQH (i j : Fin 5) (h : i ≠ j) : Disjoint (jQH i) (jQH j) := by
  rw [Finset.disjoint_left]
  intro x hi hj
  rw [mQH] at hi hj
  apply h
  exact Fin.ext (by omega)
theorem cQH (x : S2x40x160x128.Idx) : ∃ i, x ∈ jQH i := by
  have h := (show (x 1).val < 40 from (x 1).isLt)
  refine ⟨⟨(x 1).val / 8, by omega⟩, (mQH _ x).mpr ?_⟩
  simp only []; omega
theorem dXV (i j : Fin 8) (h : i ≠ j) : Disjoint (jXV i) (jXV j) := by
  rw [Finset.disjoint_left]
  intro x hi hj
  rw [mXV] at hi hj
  apply h
  exact Fin.ext (by omega)
theorem cXV (x : S256x5120.Idx) : ∃ i, x ∈ jXV i := by
  have h := (show (x 0).val < 256 from (x 0).isLt)
  refine ⟨⟨(x 0).val / 32, by omega⟩, (mXV _ x).mpr ?_⟩
  simp only []; omega
theorem dQV (i j : Fin 5) (h : i ≠ j) : Disjoint (jQV i) (jQV j) := by
  rw [Finset.disjoint_left]
  intro x hi hj
  rw [mQV] at hi hj
  apply h
  exact Fin.ext (by omega)
theorem cQV (x : S2x40x160x128.Idx) : ∃ i, x ∈ jQV i := by
  have h := (show (x 1).val < 40 from (x 1).isLt)
  refine ⟨⟨(x 1).val / 8, by omega⟩, (mQV _ x).mpr ?_⟩
  simp only []; omega
theorem dWH (i j : Fin 7 × Fin 3) (h : i ≠ j) : Disjoint (jWH i) (jWH j) := by
  rw [Finset.disjoint_left]
  intro x hi hj
  rw [mWH] at hi hj
  apply h
  have hi2 := i.2.isLt
  have hj2 := j.2.isLt
  have e : i.1 = j.1 := Fin.ext (by omega)
  have e' : i.1.val = j.1.val := congrArg Fin.val e
  exact Prod.ext e (Fin.ext (by omega))
theorem cWH (x : S5120x8960.Idx) : ∃ i, x ∈ jWH i := by
  have h := (show (x 1).val < 8960 from (x 1).isLt)
  refine ⟨(⟨(x 1).val / 1280, by omega⟩, ⟨(x 1).val % 1280 / 512, by omega⟩), (mWH _ x).mpr ?_⟩
  simp only []; omega
theorem dWV (i j : Fin 7 × Fin 3) (h : i ≠ j) : Disjoint (jWV i) (jWV j) := by
  rw [Finset.disjoint_left]
  intro x hi hj
  rw [mWV] at hi hj
  apply h
  have hi2 := i.2.isLt
  have hj2 := j.2.isLt
  have e : i.1 = j.1 := Fin.ext (by omega)
  have e' : i.1.val = j.1.val := congrArg Fin.val e
  exact Prod.ext e (Fin.ext (by omega))
theorem cWV (x : S7x5120x1280.Idx) : ∃ i, x ∈ jWV i := by
  have h0 := (show (x 0).val < 7 from (x 0).isLt)
  have h := (show (x 2).val < 1280 from (x 2).isLt)
  refine ⟨(⟨(x 0).val, h0⟩, ⟨(x 2).val / 512, by omega⟩), (mWV _ x).mpr ?_⟩
  exact ⟨rfl, by simp only []; omega, by simp only []; omega⟩
theorem eqXH : ((((c.tc : Thread nD τ).loc main_v0) ↦{fullShare} I.x) : sProp 𝕄) = iprop(xHAt I c 0 ∗ xHAt I c 1 ∗ xHAt I c 2 ∗ xHAt I c 3 ∗ xHAt I c 4 ∗ xHAt I c 5 ∗ xHAt I c 6 ∗ xHAt I c 7) := by
  rw [split_whole main_v0 jXH dXH cXH, BI.bigSep_eq_bigSepL_of_eq [0, 1, 2, 3, 4, 5, 6, 7] (by decide) (by decide)]
  rfl
theorem eqWH : ((((c.tc : Thread nD τ).loc main_arg2) ↦{fullShare} I.w) : sProp 𝕄) = iprop(wHAt512 I c 0 0 ∗ wHAt512 I c 0 1 ∗ wHAt256 I c 0 ∗ wHAt512 I c 1 0 ∗ wHAt512 I c 1 1 ∗ wHAt256 I c 1 ∗ wHAt512 I c 2 0 ∗ wHAt512 I c 2 1 ∗ wHAt256 I c 2 ∗ wHAt512 I c 3 0 ∗ wHAt512 I c 3 1 ∗ wHAt256 I c 3 ∗ wHAt512 I c 4 0 ∗ wHAt512 I c 4 1 ∗ wHAt256 I c 4 ∗ wHAt512 I c 5 0 ∗ wHAt512 I c 5 1 ∗ wHAt256 I c 5 ∗ wHAt512 I c 6 0 ∗ wHAt512 I c 6 1 ∗ wHAt256 I c 6) := by
  rw [split_whole main_arg2 jWH dWH cWH, BI.bigSep_eq_bigSepL_of_eq [(0, 0), (0, 1), (0, 2), (1, 0), (1, 1), (1, 2), (2, 0), (2, 1), (2, 2), (3, 0), (3, 1), (3, 2), (4, 0), (4, 1), (4, 2), (5, 0), (5, 1), (5, 2), (6, 0), (6, 1), (6, 2)] (by decide) (by decide)]
  rfl
theorem eqQH (f : S2x40x160x128.Idx → Elt F .bf16) : ((((c.tc : Thread nD τ).loc main_v4_0) ↦{fullShare} f) : sProp 𝕄) = iprop((((qHk 0).view.loc (c.tc : Thread nD τ) ↦[(qHk 0).view.set]{fullShare} f)) ∗ (((qHk 1).view.loc (c.tc : Thread nD τ) ↦[(qHk 1).view.set]{fullShare} f)) ∗ (((qHk 2).view.loc (c.tc : Thread nD τ) ↦[(qHk 2).view.set]{fullShare} f)) ∗ (((qHk 3).view.loc (c.tc : Thread nD τ) ↦[(qHk 3).view.set]{fullShare} f)) ∗ (((qHk 4).view.loc (c.tc : Thread nD τ) ↦[(qHk 4).view.set]{fullShare} f))) := by
  rw [split_whole main_v4_0 jQH dQH cQH, BI.bigSep_eq_bigSepL_of_eq [0, 1, 2, 3, 4] (by decide) (by decide)]
  rfl
theorem toXV : (iprop(∃ f, ((c.tc : Thread nD τ).loc cc0_scratch0) ↦{fullShare} f) : sProp 𝕄) ⊢ iprop(xVAny (F := F) c 0 ∗ xVAny (F := F) c 1 ∗ xVAny (F := F) c 2 ∗ xVAny (F := F) c 3 ∗ xVAny (F := F) c 4 ∗ xVAny (F := F) c 5 ∗ xVAny (F := F) c 6 ∗ xVAny (F := F) c 7) := by
  refine (split_any cc0_scratch0 jXV dXV cXV).trans ?_
  rw [BI.bigSep_eq_bigSepL_of_eq [0, 1, 2, 3, 4, 5, 6, 7] (by decide) (by decide)]
  exact .rfl
theorem ofXV (f₀ : cc0_scratch0.ty.shape.Idx → Elt F cc0_scratch0.ty.elt) : iprop(xVAny (F := F) c 0 ∗ xVAny (F := F) c 1 ∗ xVAny (F := F) c 2 ∗ xVAny (F := F) c 3 ∗ xVAny (F := F) c 4 ∗ xVAny (F := F) c 5 ∗ xVAny (F := F) c 6 ∗ xVAny (F := F) c 7) ⊢ (iprop(∃ f, ((c.tc : Thread nD τ).loc cc0_scratch0) ↦{fullShare} f) : sProp 𝕄) := by
  refine BIBase.Entails.trans ?_ (join_any cc0_scratch0 jXV dXV cXV f₀)
  rw [BI.bigSep_eq_bigSepL_of_eq [0, 1, 2, 3, 4, 5, 6, 7] (by decide) (by decide)]
  exact .rfl
theorem toWV : (iprop(∃ f, ((c.tc : Thread nD τ).loc cc0_scratch2) ↦{fullShare} f) : sProp 𝕄) ⊢ iprop(wVAny512 (F := F) c 0 0 ∗ wVAny512 (F := F) c 0 1 ∗ wVAny256 (F := F) c 0 ∗ wVAny512 (F := F) c 1 0 ∗ wVAny512 (F := F) c 1 1 ∗ wVAny256 (F := F) c 1 ∗ wVAny512 (F := F) c 2 0 ∗ wVAny512 (F := F) c 2 1 ∗ wVAny256 (F := F) c 2 ∗ wVAny512 (F := F) c 3 0 ∗ wVAny512 (F := F) c 3 1 ∗ wVAny256 (F := F) c 3 ∗ wVAny512 (F := F) c 4 0 ∗ wVAny512 (F := F) c 4 1 ∗ wVAny256 (F := F) c 4 ∗ wVAny512 (F := F) c 5 0 ∗ wVAny512 (F := F) c 5 1 ∗ wVAny256 (F := F) c 5 ∗ wVAny512 (F := F) c 6 0 ∗ wVAny512 (F := F) c 6 1 ∗ wVAny256 (F := F) c 6) := by
  refine (split_any cc0_scratch2 jWV dWV cWV).trans ?_
  rw [BI.bigSep_eq_bigSepL_of_eq [(0, 0), (0, 1), (0, 2), (1, 0), (1, 1), (1, 2), (2, 0), (2, 1), (2, 2), (3, 0), (3, 1), (3, 2), (4, 0), (4, 1), (4, 2), (5, 0), (5, 1), (5, 2), (6, 0), (6, 1), (6, 2)] (by decide) (by decide)]
  exact .rfl
theorem ofWV (f₀ : cc0_scratch2.ty.shape.Idx → Elt F cc0_scratch2.ty.elt) : iprop(wVAny512 (F := F) c 0 0 ∗ wVAny512 (F := F) c 0 1 ∗ wVAny256 (F := F) c 0 ∗ wVAny512 (F := F) c 1 0 ∗ wVAny512 (F := F) c 1 1 ∗ wVAny256 (F := F) c 1 ∗ wVAny512 (F := F) c 2 0 ∗ wVAny512 (F := F) c 2 1 ∗ wVAny256 (F := F) c 2 ∗ wVAny512 (F := F) c 3 0 ∗ wVAny512 (F := F) c 3 1 ∗ wVAny256 (F := F) c 3 ∗ wVAny512 (F := F) c 4 0 ∗ wVAny512 (F := F) c 4 1 ∗ wVAny256 (F := F) c 4 ∗ wVAny512 (F := F) c 5 0 ∗ wVAny512 (F := F) c 5 1 ∗ wVAny256 (F := F) c 5 ∗ wVAny512 (F := F) c 6 0 ∗ wVAny512 (F := F) c 6 1 ∗ wVAny256 (F := F) c 6) ⊢ (iprop(∃ f, ((c.tc : Thread nD τ).loc cc0_scratch2) ↦{fullShare} f) : sProp 𝕄) := by
  refine BIBase.Entails.trans ?_ (join_any cc0_scratch2 jWV dWV cWV f₀)
  rw [BI.bigSep_eq_bigSepL_of_eq [(0, 0), (0, 1), (0, 2), (1, 0), (1, 1), (1, 2), (2, 0), (2, 1), (2, 2), (3, 0), (3, 1), (3, 2), (4, 0), (4, 1), (4, 2), (5, 0), (5, 1), (5, 2), (6, 0), (6, 1), (6, 2)] (by decide) (by decide)]
  exact .rfl
theorem toQH : (iprop(∃ f, ((c.tc : Thread nD τ).loc main_v4_0) ↦{fullShare} f) : sProp 𝕄) ⊢ iprop((∃ f, (qHk 0).view.loc (c.tc : Thread nD τ) ↦[(qHk 0).view.set]{fullShare} f) ∗ (∃ f, (qHk 1).view.loc (c.tc : Thread nD τ) ↦[(qHk 1).view.set]{fullShare} f) ∗ (∃ f, (qHk 2).view.loc (c.tc : Thread nD τ) ↦[(qHk 2).view.set]{fullShare} f) ∗ (∃ f, (qHk 3).view.loc (c.tc : Thread nD τ) ↦[(qHk 3).view.set]{fullShare} f) ∗ (∃ f, (qHk 4).view.loc (c.tc : Thread nD τ) ↦[(qHk 4).view.set]{fullShare} f)) := by
  refine (split_any main_v4_0 jQH dQH cQH).trans ?_
  rw [BI.bigSep_eq_bigSepL_of_eq [0, 1, 2, 3, 4] (by decide) (by decide)]
  exact .rfl
theorem ofQH (f₀ : main_v4_0.ty.shape.Idx → Elt F main_v4_0.ty.elt) : iprop((∃ f, (qHk 0).view.loc (c.tc : Thread nD τ) ↦[(qHk 0).view.set]{fullShare} f) ∗ (∃ f, (qHk 1).view.loc (c.tc : Thread nD τ) ↦[(qHk 1).view.set]{fullShare} f) ∗ (∃ f, (qHk 2).view.loc (c.tc : Thread nD τ) ↦[(qHk 2).view.set]{fullShare} f) ∗ (∃ f, (qHk 3).view.loc (c.tc : Thread nD τ) ↦[(qHk 3).view.set]{fullShare} f) ∗ (∃ f, (qHk 4).view.loc (c.tc : Thread nD τ) ↦[(qHk 4).view.set]{fullShare} f)) ⊢ (iprop(∃ f, ((c.tc : Thread nD τ).loc main_v4_0) ↦{fullShare} f) : sProp 𝕄) := by
  refine BIBase.Entails.trans ?_ (join_any main_v4_0 jQH dQH cQH f₀)
  rw [BI.bigSep_eq_bigSepL_of_eq [0, 1, 2, 3, 4] (by decide) (by decide)]
  exact .rfl
theorem toQV : (iprop(∃ f, ((c.tc : Thread nD τ).loc cc0_scratch13) ↦{fullShare} f) : sProp 𝕄) ⊢ iprop((∃ f, (qVk 0).view.loc (c.tc : Thread nD τ) ↦[(qVk 0).view.set]{fullShare} f) ∗ (∃ f, (qVk 1).view.loc (c.tc : Thread nD τ) ↦[(qVk 1).view.set]{fullShare} f) ∗ (∃ f, (qVk 2).view.loc (c.tc : Thread nD τ) ↦[(qVk 2).view.set]{fullShare} f) ∗ (∃ f, (qVk 3).view.loc (c.tc : Thread nD τ) ↦[(qVk 3).view.set]{fullShare} f) ∗ (∃ f, (qVk 4).view.loc (c.tc : Thread nD τ) ↦[(qVk 4).view.set]{fullShare} f)) := by
  refine (split_any cc0_scratch13 jQV dQV cQV).trans ?_
  rw [BI.bigSep_eq_bigSepL_of_eq [0, 1, 2, 3, 4] (by decide) (by decide)]
  exact .rfl
theorem ofQV (f₀ : cc0_scratch13.ty.shape.Idx → Elt F cc0_scratch13.ty.elt) : iprop((∃ f, (qVk 0).view.loc (c.tc : Thread nD τ) ↦[(qVk 0).view.set]{fullShare} f) ∗ (∃ f, (qVk 1).view.loc (c.tc : Thread nD τ) ↦[(qVk 1).view.set]{fullShare} f) ∗ (∃ f, (qVk 2).view.loc (c.tc : Thread nD τ) ↦[(qVk 2).view.set]{fullShare} f) ∗ (∃ f, (qVk 3).view.loc (c.tc : Thread nD τ) ↦[(qVk 3).view.set]{fullShare} f) ∗ (∃ f, (qVk 4).view.loc (c.tc : Thread nD τ) ↦[(qVk 4).view.set]{fullShare} f)) ⊢ (iprop(∃ f, ((c.tc : Thread nD τ).loc cc0_scratch13) ↦{fullShare} f) : sProp 𝕄) := by
  refine BIBase.Entails.trans ?_ (join_any cc0_scratch13 jQV dQV cQV f₀)
  rw [BI.bigSep_eq_bigSepL_of_eq [0, 1, 2, 3, 4] (by decide) (by decide)]
  exact .rfl

end Cert.Proof.KernelIdeal

end
-- ==== Proof.KernelIdealEnds.lean ====
module

public import proofs.«01_k».proof.Proof.KernelIdealPieces
public import proofs.«01_k».proof.Proof.Gen.KernelIdeal.Launch
public import proofs.«01_k».proof.Proof.Gen.KernelIdeal.Frame
public import proofs.«01_k».proof.Proof.Gen.KernelIdeal.Points

/-! # The launch: what the body is handed and what it leaves -/

@[expose] public section

noncomputable section

namespace Cert.Proof.KernelIdeal

open Cert.KernelIdeal Cert.KernelIdeal.Gen Cert.Proof.Rules
open Idealize.ShloMosaic hiding ix0 ix1 ix2 ix3 ix4 ix5 ix6
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ (Pipeline.UD sig nD τ) ℕ

variable (V : (c : Dev nD) → (b : Ref sig .tc) → Buf (Elt F) ((c.tc : Thread nD τ).loc b)) (c : Dev nD)

abbrev osem0 : Fin 45 → SemLoc sig := ![.dma (xSem ![0] inb_S8_S1_0), .dma (xSem ![1] inb_S8_S1_1), .dma (xSem ![2] inb_S8_S1_2), .dma (xSem ![3] inb_S8_S1_3), .dma (xSem ![4] inb_S8_S1_4), .dma (xSem ![5] inb_S8_S1_5), .dma (xSem ![6] inb_S8_S1_6), .dma (xSem ![7] inb_S8_S1_7), .dma (pSem ![0] inb_S6_S1_0), .dma (pSem ![1] inb_S6_S1_1), .dma (pSem ![2] inb_S6_S1_2), .dma (pSem ![3] inb_S6_S1_3), .dma (pSem ![4] inb_S6_S1_4), .dma (pSem ![5] inb_S6_S1_5), .dma (wSem ![0, 0] inb_S7x3_S1x1_0_0), .dma (wSem ![0, 1] inb_S7x3_S1x1_0_1), .dma (wSem ![0, 2] inb_S7x3_S1x1_0_2), .dma (wSem ![1, 0] inb_S7x3_S1x1_1_0), .dma (wSem ![1, 1] inb_S7x3_S1x1_1_1), .dma (wSem ![1, 2] inb_S7x3_S1x1_1_2), .dma (wSem ![2, 0] inb_S7x3_S1x1_2_0), .dma (wSem ![2, 1] inb_S7x3_S1x1_2_1), .dma (wSem ![2, 2] inb_S7x3_S1x1_2_2), .dma (wSem ![3, 0] inb_S7x3_S1x1_3_0), .dma (wSem ![3, 1] inb_S7x3_S1x1_3_1), .dma (wSem ![3, 2] inb_S7x3_S1x1_3_2), .dma (wSem ![4, 0] inb_S7x3_S1x1_4_0), .dma (wSem ![4, 1] inb_S7x3_S1x1_4_1), .dma (wSem ![4, 2] inb_S7x3_S1x1_4_2), .dma (wSem ![5, 0] inb_S7x3_S1x1_5_0), .dma (wSem ![5, 1] inb_S7x3_S1x1_5_1), .dma (wSem ![5, 2] inb_S7x3_S1x1_5_2), .dma (wSem ![6, 0] inb_S7x3_S1x1_6_0), .dma (wSem ![6, 1] inb_S7x3_S1x1_6_1), .dma (wSem ![6, 2] inb_S7x3_S1x1_6_2), .dma (oSem ![0] inb_S9_S1_0), .dma (oSem ![1] (by decide)), .dma (oSem ![2] inb_S9_S1_2), .dma (oSem ![3] inb_S9_S1_3), .dma (oSem ![4] inb_S9_S1_4), .dma (oSem ![5] inb_S9_S1_5), .dma (oSem ![6] inb_S9_S1_6), .dma (oSem ![7] inb_S9_S1_7), .dma (oSem ![8] inb_S9_S1_8), .dma sSem]
theorem ownSemFacts0 : Pipeline.OwnSemFacts (cfg0.spec) osem0 := by decide
theorem ownSems0_list : (Pipeline.ownSems0 (Ix := Unit) (Name := ℕ) (U := Pipeline.UD sig nD τ) (Lvl := ℕ) (Val := Elt F) (τ := τ) osem0 c : sProp 𝕄) =
    iprop(semVal ((c.tc : Thread nD τ), .dma (xSem ![0] inb_S8_S1_0)) 0 ∗ semVal ((c.tc : Thread nD τ), .dma (xSem ![1] inb_S8_S1_1)) 0 ∗ semVal ((c.tc : Thread nD τ), .dma (xSem ![2] inb_S8_S1_2)) 0 ∗ semVal ((c.tc : Thread nD τ), .dma (xSem ![3] inb_S8_S1_3)) 0 ∗ semVal ((c.tc : Thread nD τ), .dma (xSem ![4] inb_S8_S1_4)) 0 ∗ semVal ((c.tc : Thread nD τ), .dma (xSem ![5] inb_S8_S1_5)) 0 ∗ semVal ((c.tc : Thread nD τ), .dma (xSem ![6] inb_S8_S1_6)) 0 ∗ semVal ((c.tc : Thread nD τ), .dma (xSem ![7] inb_S8_S1_7)) 0 ∗ semVal ((c.tc : Thread nD τ), .dma (pSem ![0] inb_S6_S1_0)) 0 ∗ semVal ((c.tc : Thread nD τ), .dma (pSem ![1] inb_S6_S1_1)) 0 ∗ semVal ((c.tc : Thread nD τ), .dma (pSem ![2] inb_S6_S1_2)) 0 ∗ semVal ((c.tc : Thread nD τ), .dma (pSem ![3] inb_S6_S1_3)) 0 ∗ semVal ((c.tc : Thread nD τ), .dma (pSem ![4] inb_S6_S1_4)) 0 ∗ semVal ((c.tc : Thread nD τ), .dma (pSem ![5] inb_S6_S1_5)) 0 ∗ semVal ((c.tc : Thread nD τ), .dma (wSem ![0, 0] inb_S7x3_S1x1_0_0)) 0 ∗ semVal ((c.tc : Thread nD τ), .dma (wSem ![0, 1] inb_S7x3_S1x1_0_1)) 0 ∗ semVal ((c.tc : Thread nD τ), .dma (wSem ![0, 2] inb_S7x3_S1x1_0_2)) 0 ∗ semVal ((c.tc : Thread nD τ), .dma (wSem ![1, 0] inb_S7x3_S1x1_1_0)) 0 ∗ semVal ((c.tc : Thread nD τ), .dma (wSem ![1, 1] inb_S7x3_S1x1_1_1)) 0 ∗ semVal ((c.tc : Thread nD τ), .dma (wSem ![1, 2] inb_S7x3_S1x1_1_2)) 0 ∗ semVal ((c.tc : Thread nD τ), .dma (wSem ![2, 0] inb_S7x3_S1x1_2_0)) 0 ∗ semVal ((c.tc : Thread nD τ), .dma (wSem ![2, 1] inb_S7x3_S1x1_2_1)) 0 ∗ semVal ((c.tc : Thread nD τ), .dma (wSem ![2, 2] inb_S7x3_S1x1_2_2)) 0 ∗ semVal ((c.tc : Thread nD τ), .dma (wSem ![3, 0] inb_S7x3_S1x1_3_0)) 0 ∗ semVal ((c.tc : Thread nD τ), .dma (wSem ![3, 1] inb_S7x3_S1x1_3_1)) 0 ∗ semVal ((c.tc : Thread nD τ), .dma (wSem ![3, 2] inb_S7x3_S1x1_3_2)) 0 ∗ semVal ((c.tc : Thread nD τ), .dma (wSem ![4, 0] inb_S7x3_S1x1_4_0)) 0 ∗ semVal ((c.tc : Thread nD τ), .dma (wSem ![4, 1] inb_S7x3_S1x1_4_1)) 0 ∗ semVal ((c.tc : Thread nD τ), .dma (wSem ![4, 2] inb_S7x3_S1x1_4_2)) 0 ∗ semVal ((c.tc : Thread nD τ), .dma (wSem ![5, 0] inb_S7x3_S1x1_5_0)) 0 ∗ semVal ((c.tc : Thread nD τ), .dma (wSem ![5, 1] inb_S7x3_S1x1_5_1)) 0 ∗ semVal ((c.tc : Thread nD τ), .dma (wSem ![5, 2] inb_S7x3_S1x1_5_2)) 0 ∗ semVal ((c.tc : Thread nD τ), .dma (wSem ![6, 0] inb_S7x3_S1x1_6_0)) 0 ∗ semVal ((c.tc : Thread nD τ), .dma (wSem ![6, 1] inb_S7x3_S1x1_6_1)) 0 ∗ semVal ((c.tc : Thread nD τ), .dma (wSem ![6, 2] inb_S7x3_S1x1_6_2)) 0 ∗ semVal ((c.tc : Thread nD τ), .dma (oSem ![0] inb_S9_S1_0)) 0 ∗ semVal ((c.tc : Thread nD τ), .dma (oSem ![1] (by decide))) 0 ∗ semVal ((c.tc : Thread nD τ), .dma (oSem ![2] inb_S9_S1_2)) 0 ∗ semVal ((c.tc : Thread nD τ), .dma (oSem ![3] inb_S9_S1_3)) 0 ∗ semVal ((c.tc : Thread nD τ), .dma (oSem ![4] inb_S9_S1_4)) 0 ∗ semVal ((c.tc : Thread nD τ), .dma (oSem ![5] inb_S9_S1_5)) 0 ∗ semVal ((c.tc : Thread nD τ), .dma (oSem ![6] inb_S9_S1_6)) 0 ∗ semVal ((c.tc : Thread nD τ), .dma (oSem ![7] inb_S9_S1_7)) 0 ∗ semVal ((c.tc : Thread nD τ), .dma (oSem ![8] inb_S9_S1_8)) 0 ∗ semVal ((c.tc : Thread nD τ), .dma sSem) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44] (by decide) (by decide)]
  rfl

abbrev H0 : Finset (Ref sig .tc) := {main_v0, main_v1, main_arg2, main_arg3, main_v2, main_v3, main_arg6, main_cst}
abbrev R0 : Finset (Ref sig .tc) := {main_v4_0, main_v4_1, main_v4_2, main_v4_3, main_v4_4}
theorem H0_sub : H0 ⊆ Pipeline.restRefs sig (cfg0.spec) := by decide
theorem R0_sub : R0 ⊆ Pipeline.restRefs sig (cfg0.spec) \ H0 := by decide

/-- The arrays the kernel is handed, read from the buffers. -/
def inOf : In F := ⟨V c main_v0, V c main_v1, V c main_arg2, V c main_arg3, V c main_v2, V c main_v3, V c main_arg6, V c main_cst⟩

/-- The buffers after the kernel: its five results written. -/
def G (b : Ref sig .tc) : Buf (Elt F) ((c.tc : Thread nD τ).loc b) :=
  Function.update (Function.update (Function.update (Function.update (Function.update (V c) main_v4_4 (XST (inOf V c))) main_v4_3 (CODES (inOf V c)))
    main_v4_2 (VO (inOf V c))) main_v4_1 (KO (inOf V c))) main_v4_0 (QO (inOf V c)) b
theorem G_0 : G V c main_v4_0 = QO (inOf V c) := by
  unfold G
  rw [Function.update_self]
theorem G_1 : G V c main_v4_1 = KO (inOf V c) := by
  unfold G
  rw [Function.update_of_ne (by decide), Function.update_self]
theorem G_2 : G V c main_v4_2 = VO (inOf V c) := by
  unfold G
  rw [Function.update_of_ne (by decide), Function.update_of_ne (by decide), Function.update_self]
theorem G_3 : G V c main_v4_3 = CODES (inOf V c) := by
  unfold G
  rw [Function.update_of_ne (by decide), Function.update_of_ne (by decide), Function.update_of_ne (by decide), Function.update_self]
theorem G_4 : G V c main_v4_4 = XST (inOf V c) := by
  unfold G
  rw [Function.update_of_ne (by decide), Function.update_of_ne (by decide), Function.update_of_ne (by decide), Function.update_of_ne (by decide), Function.update_self]

theorem H0_list : (BI.bigSep H0 fun b => (((c.tc : Thread nD τ).loc b) ↦{fullShare} V c b) : sProp 𝕄) =
    iprop((((c.tc : Thread nD τ).loc main_v0) ↦{fullShare} (inOf V c).x) ∗ (((c.tc : Thread nD τ).loc main_v1) ↦{fullShare} (inOf V c).nw) ∗ (((c.tc : Thread nD τ).loc main_arg2) ↦{fullShare} (inOf V c).w) ∗ (((c.tc : Thread nD τ).loc main_arg3) ↦{fullShare} (inOf V c).ws) ∗ (((c.tc : Thread nD τ).loc main_v2) ↦{fullShare} (inOf V c).qg) ∗ (((c.tc : Thread nD τ).loc main_v3) ↦{fullShare} (inOf V c).kg) ∗ (((c.tc : Thread nD τ).loc main_arg6) ↦{fullShare} (inOf V c).pos) ∗ (((c.tc : Thread nD τ).loc main_cst) ↦{fullShare} (inOf V c).invf)) := by
  rw [BI.bigSep_eq_bigSepL_of_eq [main_v0, main_v1, main_arg2, main_arg3, main_v2, main_v3, main_arg6, main_cst] (by decide) (by decide)]
  rfl
theorem R0_list (g : (b : Ref sig .tc) → Buf (Elt F) ((c.tc : Thread nD τ).loc b)) : (BI.bigSep R0 fun b => (((c.tc : Thread nD τ).loc b) ↦{fullShare} g b) : sProp 𝕄) =
    iprop((((c.tc : Thread nD τ).loc main_v4_0) ↦{fullShare} g main_v4_0) ∗ (((c.tc : Thread nD τ).loc main_v4_1) ↦{fullShare} g main_v4_1) ∗ (((c.tc : Thread nD τ).loc main_v4_2) ↦{fullShare} g main_v4_2) ∗ (((c.tc : Thread nD τ).loc main_v4_3) ↦{fullShare} g main_v4_3) ∗ (((c.tc : Thread nD τ).loc main_v4_4) ↦{fullShare} g main_v4_4)) := by
  rw [BI.bigSep_eq_bigSepL_of_eq [main_v4_0, main_v4_1, main_v4_2, main_v4_3, main_v4_4] (by decide) (by decide)]
  rfl

theorem pre_split : iprop(Pipeline.ΦDRV osem0 (cfg0.spec) H0 R0 V V c ∗ (∃ W, owes (c.tc : Thread nD τ) 0 W)) ⊢ iprop(BodyPre (inOf V c) c ∗ semVal ((c.tc : Thread nD τ), .dma (oSem ![1] (by decide))) 0) := by
  unfold Pipeline.ΦDRV
  rw [scopedRest0_eq, ownSems0_list, H0_list, R0_list c (V c)]
  iintro ⟨⟨⟨Sx, Snw, Sw, Sws, Sqg, Skg, Spos, Sinvf, Sc, Sxs, Sxst, Stab, Syt, Sq, Sk, Sv⟩, ⟨X0, X1, X2, X3, X4, X5, X6, X7, P0, P1, P2, P3, P4, P5, W0_0, W0_1, W0_2, W1_0, W1_1, W1_2, W2_0, W2_1, W2_2, W3_0, W3_1, W3_2, W4_0, W4_1, W4_2, W5_0, W5_1, W5_2, W6_0, W6_1, W6_2, O0, O1, O2, O3, O4, O5, O6, O7, O8, SS⟩, ⟨Hmain_v0, Hmain_v1, Hmain_arg2, Hmain_arg3, Hmain_v2, Hmain_v3, Hmain_arg6, Hmain_cst⟩, R0, R1, R2, R3, R4⟩, HO⟩
  isplitr [O1]; swap; · iexact O1
  unfold BodyPre
  isplitl [Hmain_arg6 Spos P0 Hmain_cst Sinvf P1 Hmain_v2 Sqg P2 Hmain_v3 Skg P3 Hmain_v1 Snw P4 Hmain_arg3 Sws P5]
  · unfold Pin
    isplitl [Hmain_arg6 Spos P0]
    · unfold pIn_pos
      isplitl [Hmain_arg6]; · iapply (ent_of_eq (whole_eq main_arg6 _).symm) $$ Hmain_arg6
      isplitl [Spos]; · iapply (ent_of_eq (whole_any cc0_scratch6).symm) $$ Spos
      iexact P0
    isplitl [Hmain_cst Sinvf P1]
    · unfold pIn_invf
      isplitl [Hmain_cst]; · iapply (ent_of_eq (whole_eq main_cst _).symm) $$ Hmain_cst
      isplitl [Sinvf]; · iapply (ent_of_eq (whole_any cc0_scratch7).symm) $$ Sinvf
      iexact P1
    isplitl [Hmain_v2 Sqg P2]
    · unfold pIn_qg
      isplitl [Hmain_v2]; · iapply (ent_of_eq (whole_eq main_v2 _).symm) $$ Hmain_v2
      isplitl [Sqg]; · iapply (ent_of_eq (whole_any cc0_scratch4).symm) $$ Sqg
      iexact P2
    isplitl [Hmain_v3 Skg P3]
    · unfold pIn_kg
      isplitl [Hmain_v3]; · iapply (ent_of_eq (whole_eq main_v3 _).symm) $$ Hmain_v3
      isplitl [Skg]; · iapply (ent_of_eq (whole_any cc0_scratch5).symm) $$ Skg
      iexact P3
    isplitl [Hmain_v1 Snw P4]
    · unfold pIn_nw
      isplitl [Hmain_v1]; · iapply (ent_of_eq (whole_eq main_v1 _).symm) $$ Hmain_v1
      isplitl [Snw]; · iapply (ent_of_eq (whole_any cc0_scratch1).symm) $$ Snw
      iexact P4
    unfold pIn_ws
    isplitl [Hmain_arg3]; · iapply (ent_of_eq (whole_eq main_arg3 _).symm) $$ Hmain_arg3
    isplitl [Sws]; · iapply (ent_of_eq (whole_any cc0_scratch3).symm) $$ Sws
    iexact P5
  ihave HXS := (toXV (F := F) c) $$ Sx
  ihave HXH := (ent_of_eq (eqXH (inOf V c) c)) $$ Hmain_v0
  icases HXS with ⟨A0, A1, A2, A3, A4, A5, A6, A7⟩
  icases HXH with ⟨B0, B1, B2, B3, B4, B5, B6, B7⟩
  isplitl [A0 B0 X0 A1 B1 X1 A2 B2 X2 A3 B3 X3 A4 B4 X4 A5 B5 X5 A6 B6 X6 A7 B7 X7]
  · unfold Xin
    isplitl [A0 B0 X0]
    · unfold xIn
      isplitl [B0]; · iexact B0
      isplitl [A0]; · iexact A0
      iexact X0
    isplitl [A1 B1 X1]
    · unfold xIn
      isplitl [B1]; · iexact B1
      isplitl [A1]; · iexact A1
      iexact X1
    isplitl [A2 B2 X2]
    · unfold xIn
      isplitl [B2]; · iexact B2
      isplitl [A2]; · iexact A2
      iexact X2
    isplitl [A3 B3 X3]
    · unfold xIn
      isplitl [B3]; · iexact B3
      isplitl [A3]; · iexact A3
      iexact X3
    isplitl [A4 B4 X4]
    · unfold xIn
      isplitl [B4]; · iexact B4
      isplitl [A4]; · iexact A4
      iexact X4
    isplitl [A5 B5 X5]
    · unfold xIn
      isplitl [B5]; · iexact B5
      isplitl [A5]; · iexact A5
      iexact X5
    isplitl [A6 B6 X6]
    · unfold xIn
      isplitl [B6]; · iexact B6
      isplitl [A6]; · iexact A6
      iexact X6
    unfold xIn
    isplitl [B7]; · iexact B7
    isplitl [A7]; · iexact A7
    iexact X7
  ihave HWS := (toWV (F := F) c) $$ Sw
  ihave HWH := (ent_of_eq (eqWH (inOf V c) c)) $$ Hmain_arg2
  icases HWS with ⟨A0_0, A0_1, A0_2, A1_0, A1_1, A1_2, A2_0, A2_1, A2_2, A3_0, A3_1, A3_2, A4_0, A4_1, A4_2, A5_0, A5_1, A5_2, A6_0, A6_1, A6_2⟩
  icases HWH with ⟨B0_0, B0_1, B0_2, B1_0, B1_1, B1_2, B2_0, B2_1, B2_2, B3_0, B3_1, B3_2, B4_0, B4_1, B4_2, B5_0, B5_1, B5_2, B6_0, B6_1, B6_2⟩
  isplitl [A0_0 B0_0 W0_0 A0_1 B0_1 W0_1 A0_2 B0_2 W0_2 A1_0 B1_0 W1_0 A1_1 B1_1 W1_1 A1_2 B1_2 W1_2 A2_0 B2_0 W2_0 A2_1 B2_1 W2_1 A2_2 B2_2 W2_2 A3_0 B3_0 W3_0 A3_1 B3_1 W3_1 A3_2 B3_2 W3_2 A4_0 B4_0 W4_0 A4_1 B4_1 W4_1 A4_2 B4_2 W4_2 A5_0 B5_0 W5_0 A5_1 B5_1 W5_1 A5_2 B5_2 W5_2 A6_0 B6_0 W6_0 A6_1 B6_1 W6_1 A6_2 B6_2 W6_2]
  · isplitl [A0_0 B0_0 W0_0 A0_1 B0_1 W0_1 A0_2 B0_2 W0_2]
    · unfold WD
      isplitl [A0_0 B0_0 W0_0]
      · unfold wIn512
        isplitl [B0_0]; · iexact B0_0
        isplitl [A0_0]; · iexact A0_0
        iexact W0_0
      isplitl [A0_1 B0_1 W0_1]
      · unfold wIn512
        isplitl [B0_1]; · iexact B0_1
        isplitl [A0_1]; · iexact A0_1
        iexact W0_1
      unfold wIn256
      isplitl [B0_2]; · iexact B0_2
      isplitl [A0_2]; · iexact A0_2
      iexact W0_2
    isplitl [A1_0 B1_0 W1_0 A1_1 B1_1 W1_1 A1_2 B1_2 W1_2]
    · unfold WD
      isplitl [A1_0 B1_0 W1_0]
      · unfold wIn512
        isplitl [B1_0]; · iexact B1_0
        isplitl [A1_0]; · iexact A1_0
        iexact W1_0
      isplitl [A1_1 B1_1 W1_1]
      · unfold wIn512
        isplitl [B1_1]; · iexact B1_1
        isplitl [A1_1]; · iexact A1_1
        iexact W1_1
      unfold wIn256
      isplitl [B1_2]; · iexact B1_2
      isplitl [A1_2]; · iexact A1_2
      iexact W1_2
    isplitl [A2_0 B2_0 W2_0 A2_1 B2_1 W2_1 A2_2 B2_2 W2_2]
    · unfold WD
      isplitl [A2_0 B2_0 W2_0]
      · unfold wIn512
        isplitl [B2_0]; · iexact B2_0
        isplitl [A2_0]; · iexact A2_0
        iexact W2_0
      isplitl [A2_1 B2_1 W2_1]
      · unfold wIn512
        isplitl [B2_1]; · iexact B2_1
        isplitl [A2_1]; · iexact A2_1
        iexact W2_1
      unfold wIn256
      isplitl [B2_2]; · iexact B2_2
      isplitl [A2_2]; · iexact A2_2
      iexact W2_2
    isplitl [A3_0 B3_0 W3_0 A3_1 B3_1 W3_1 A3_2 B3_2 W3_2]
    · unfold WD
      isplitl [A3_0 B3_0 W3_0]
      · unfold wIn512
        isplitl [B3_0]; · iexact B3_0
        isplitl [A3_0]; · iexact A3_0
        iexact W3_0
      isplitl [A3_1 B3_1 W3_1]
      · unfold wIn512
        isplitl [B3_1]; · iexact B3_1
        isplitl [A3_1]; · iexact A3_1
        iexact W3_1
      unfold wIn256
      isplitl [B3_2]; · iexact B3_2
      isplitl [A3_2]; · iexact A3_2
      iexact W3_2
    isplitl [A4_0 B4_0 W4_0 A4_1 B4_1 W4_1 A4_2 B4_2 W4_2]
    · unfold WD
      isplitl [A4_0 B4_0 W4_0]
      · unfold wIn512
        isplitl [B4_0]; · iexact B4_0
        isplitl [A4_0]; · iexact A4_0
        iexact W4_0
      isplitl [A4_1 B4_1 W4_1]
      · unfold wIn512
        isplitl [B4_1]; · iexact B4_1
        isplitl [A4_1]; · iexact A4_1
        iexact W4_1
      unfold wIn256
      isplitl [B4_2]; · iexact B4_2
      isplitl [A4_2]; · iexact A4_2
      iexact W4_2
    isplitl [A5_0 B5_0 W5_0 A5_1 B5_1 W5_1 A5_2 B5_2 W5_2]
    · unfold WD
      isplitl [A5_0 B5_0 W5_0]
      · unfold wIn512
        isplitl [B5_0]; · iexact B5_0
        isplitl [A5_0]; · iexact A5_0
        iexact W5_0
      isplitl [A5_1 B5_1 W5_1]
      · unfold wIn512
        isplitl [B5_1]; · iexact B5_1
        isplitl [A5_1]; · iexact A5_1
        iexact W5_1
      unfold wIn256
      isplitl [B5_2]; · iexact B5_2
      isplitl [A5_2]; · iexact A5_2
      iexact W5_2
    unfold WD
    isplitl [A6_0 B6_0 W6_0]
    · unfold wIn512
      isplitl [B6_0]; · iexact B6_0
      isplitl [A6_0]; · iexact A6_0
      iexact W6_0
    isplitl [A6_1 B6_1 W6_1]
    · unfold wIn512
      isplitl [B6_1]; · iexact B6_1
      isplitl [A6_1]; · iexact A6_1
      iexact W6_1
    unfold wIn256
    isplitl [B6_2]; · iexact B6_2
    isplitl [A6_2]; · iexact A6_2
    iexact W6_2
  isplitl [HO Stab Sc Sxs Sxst Syt R3 O0 R4 SS]
  · unfold StageIn
    isplitl [HO]; · iexact HO
    isplitl [Stab]; · iexact Stab
    isplitl [Sc]; · iexact Sc
    isplitl [Sxs]; · iexact Sxs
    isplitl [Sxst]; · iexact Sxst
    isplitl [Syt]; · iexact Syt
    isplitl [R3 O0]
    · unfold oIn_c
      isplitl [R3]
      · iapply (ent_of_eq (whole_any main_v4_3).symm)
        iexists _
        iexact R3
      iexact O0
    unfold oIn_s
    isplitl [R4]
    · iapply (ent_of_eq (whole_any main_v4_4).symm)
      iexists _
      iexact R4
    iexact SS
  isplitl [Sk]; · iexact Sk
  isplitl [Sv]; · iexact Sv
  isplitl [R1 O7]
  · unfold oIn_k
    isplitl [R1]
    · iapply (ent_of_eq (whole_any main_v4_1).symm)
      iexists _
      iexact R1
    iexact O7
  isplitl [R2 O8]
  · unfold oIn_v
    isplitl [R2]
    · iapply (ent_of_eq (whole_any main_v4_2).symm)
      iexists _
      iexact R2
    iexact O8
  ihave HQV := (toQV (F := F) c) $$ Sq
  ihave HQH : (iprop(∃ f, ((c.tc : Thread nD τ).loc main_v4_0) ↦{fullShare} f) : sProp 𝕄) $$ [R0]
  · iexists _
    iexact R0
  ihave HQH := (toQH (F := F) c) $$ HQH
  icases HQV with ⟨A0, A1, A2, A3, A4⟩
  icases HQH with ⟨B0, B1, B2, B3, B4⟩
  isplitl [A0 B0 O2]
  · unfold qIn
    isplitl [A0]; · iexact A0
    isplitl [B0]; · iexact B0
    iexact O2
  isplitl [A1 B1 O3]
  · unfold qIn
    isplitl [A1]; · iexact A1
    isplitl [B1]; · iexact B1
    iexact O3
  isplitl [A2 B2 O4]
  · unfold qIn
    isplitl [A2]; · iexact A2
    isplitl [B2]; · iexact B2
    iexact O4
  isplitl [A3 B3 O5]
  · unfold qIn
    isplitl [A3]; · iexact A3
    isplitl [B3]; · iexact B3
    iexact O5
  unfold qIn
  isplitl [A4]; · iexact A4
  isplitl [B4]; · iexact B4
  iexact O6

theorem post_join : iprop(BodyPost (inOf V c) c ∗ semVal ((c.tc : Thread nD τ), .dma (oSem ![1] (by decide))) 0) ⊢ iprop(Pipeline.ΦDRV osem0 (cfg0.spec) H0 R0 V (G V) c ∗ (∃ W, owes (c.tc : Thread nD τ) 0 W)) := by
  unfold Pipeline.ΦDRV BodyPost Pout Xin Outs Rest Small
  rw [scopedRest0_eq, ownSems0_list, H0_list, R0_list c (G V c), G_0, G_1, G_2, G_3, G_4]
  unfold pOut_pos pOut_invf pOut_qg pOut_kg pOut_nw pOut_ws xIn WD wIn512 wIn256 oOut_c oOut_s oOut_k oOut_v qOut Tab
  iintro ⟨⟨⟨⟨Hmain_arg6, P0⟩, ⟨Hmain_cst, P1⟩, ⟨Hmain_v2, P2⟩, ⟨Hmain_v3, P3⟩, ⟨Hmain_v1, P4⟩, ⟨Hmain_arg3, P5⟩⟩,
    ⟨⟨B0, A0, X0⟩, ⟨B1, A1, X1⟩, ⟨B2, A2, X2⟩, ⟨B3, A3, X3⟩, ⟨B4, A4, X4⟩, ⟨B5, A5, X5⟩, ⟨B6, A6, X6⟩, ⟨B7, A7, X7⟩⟩,
    ⟨⟨⟨B0_0, A0_0, W0_0⟩, ⟨B0_1, A0_1, W0_1⟩, ⟨B0_2, A0_2, W0_2⟩⟩, ⟨⟨B1_0, A1_0, W1_0⟩, ⟨B1_1, A1_1, W1_1⟩, ⟨B1_2, A1_2, W1_2⟩⟩, ⟨⟨B2_0, A2_0, W2_0⟩, ⟨B2_1, A2_1, W2_1⟩, ⟨B2_2, A2_2, W2_2⟩⟩, ⟨⟨B3_0, A3_0, W3_0⟩, ⟨B3_1, A3_1, W3_1⟩, ⟨B3_2, A3_2, W3_2⟩⟩, ⟨⟨B4_0, A4_0, W4_0⟩, ⟨B4_1, A4_1, W4_1⟩, ⟨B4_2, A4_2, W4_2⟩⟩, ⟨⟨B5_0, A5_0, W5_0⟩, ⟨B5_1, A5_1, W5_1⟩, ⟨B5_2, A5_2, W5_2⟩⟩, ⟨⟨B6_0, A6_0, W6_0⟩, ⟨B6_1, A6_1, W6_1⟩, ⟨B6_2, A6_2, W6_2⟩⟩⟩, HO,
    ⟨⟨⟨R3, TC⟩, O0⟩, ⟨⟨R4, Sxst⟩, SS⟩, ⟨⟨C0, D0⟩, O2⟩, ⟨⟨C1, D1⟩, O3⟩, ⟨⟨C2, D2⟩, O4⟩, ⟨⟨C3, D3⟩, O5⟩, ⟨⟨C4, D4⟩, O6⟩, ⟨⟨R1, Sk⟩, O7⟩, ⟨⟨R2, Sv⟩, O8⟩⟩,
    ⟨Sqg, Skg, Spos, Sinvf⟩, Snw, ⟨Sc, Sws, Sxs, Syt⟩, Stab⟩, O1⟩
  isplitr [HO]; swap; · iexact HO
  ihave Sc := (HoldsU.to_whole (c := c) (q := Transfers.shareDrop fullShare 1) cc0_scratch8 (f := CODES (inOf V c)) (fun _ => trivial)) $$ Sc
  ihave Sc : (iprop(cV.view.loc (c.tc : Thread nD τ) ↦[cV.view.set]{fullShare} CODES (inOf V c)) : sProp 𝕄) $$ [Sc TC]
  · iapply (Transfers.pointsTo_toks_join fullShare 1)
    isplitl [Sc]; · iexact Sc
    iapply (tok1 (F := F) c (f := CODES (inOf V c))).2 $$ TC
  isplitl [A0 A1 A2 A3 A4 A5 A6 A7 A0_0 A0_1 A0_2 A1_0 A1_1 A1_2 A2_0 A2_1 A2_2 A3_0 A3_1 A3_2 A4_0 A4_1 A4_2 A5_0 A5_1 A5_2 A6_0 A6_1 A6_2 D0 D1 D2 D3 D4 Sxst Sk Sv Sqg Skg Spos Sinvf Snw Sc Sws Sxs Syt Stab]
  · isplitl [A0 A1 A2 A3 A4 A5 A6 A7]
    · iapply (ofXV (F := F) c (inOf V c).x)
      isplitl [A0]; · iexact A0
      isplitl [A1]; · iexact A1
      isplitl [A2]; · iexact A2
      isplitl [A3]; · iexact A3
      isplitl [A4]; · iexact A4
      isplitl [A5]; · iexact A5
      isplitl [A6]; · iexact A6
      iexact A7
    isplitl [Snw]; · iapply (HoldsU.any_whole cc0_scratch1) $$ Snw
    isplitl [A0_0 A0_1 A0_2 A1_0 A1_1 A1_2 A2_0 A2_1 A2_2 A3_0 A3_1 A3_2 A4_0 A4_1 A4_2 A5_0 A5_1 A5_2 A6_0 A6_1 A6_2]
    · iapply (ofWV (F := F) c (WV (inOf V c)))
      isplitl [A0_0]; · iexact A0_0
      isplitl [A0_1]; · iexact A0_1
      isplitl [A0_2]; · iexact A0_2
      isplitl [A1_0]; · iexact A1_0
      isplitl [A1_1]; · iexact A1_1
      isplitl [A1_2]; · iexact A1_2
      isplitl [A2_0]; · iexact A2_0
      isplitl [A2_1]; · iexact A2_1
      isplitl [A2_2]; · iexact A2_2
      isplitl [A3_0]; · iexact A3_0
      isplitl [A3_1]; · iexact A3_1
      isplitl [A3_2]; · iexact A3_2
      isplitl [A4_0]; · iexact A4_0
      isplitl [A4_1]; · iexact A4_1
      isplitl [A4_2]; · iexact A4_2
      isplitl [A5_0]; · iexact A5_0
      isplitl [A5_1]; · iexact A5_1
      isplitl [A5_2]; · iexact A5_2
      isplitl [A6_0]; · iexact A6_0
      isplitl [A6_1]; · iexact A6_1
      iexact A6_2
    isplitl [Sws]; · iapply (HoldsU.any_whole cc0_scratch3) $$ Sws
    isplitl [Sqg]; · iapply (HoldsU.any_whole cc0_scratch4) $$ Sqg
    isplitl [Skg]; · iapply (HoldsU.any_whole cc0_scratch5) $$ Skg
    isplitl [Spos]; · iapply (HoldsU.any_whole cc0_scratch6) $$ Spos
    isplitl [Sinvf]; · iapply (HoldsU.any_whole cc0_scratch7) $$ Sinvf
    isplitl [Sc]; · iexists _; iapply (ent_of_eq (whole_eq cc0_scratch8 (CODES (inOf V c)))) $$ Sc
    isplitl [Sxs]; · iapply (HoldsU.any_whole cc0_scratch9) $$ Sxs
    isplitl [Sxst]; · iexists _; iapply (ent_of_eq (whole_eq cc0_scratch10 (XST (inOf V c)))) $$ Sxst
    isplitl [Stab]; · iapply (HoldsU.any_whole cc0_scratch11) $$ Stab
    isplitl [Syt]; · iapply (HoldsU.any_whole cc0_scratch12) $$ Syt
    isplitl [D0 D1 D2 D3 D4]
    · iapply (ofQV (F := F) c (QO (inOf V c)))
      isplitl [D0]; · iexists _; iexact D0
      isplitl [D1]; · iexists _; iexact D1
      isplitl [D2]; · iexists _; iexact D2
      isplitl [D3]; · iexists _; iexact D3
      iexists _; iexact D4
    isplitl [Sk]; · iexists _; iapply (ent_of_eq (whole_eq cc0_scratch14 (KO (inOf V c)))) $$ Sk
    iexists _; iapply (ent_of_eq (whole_eq cc0_scratch15 (VO (inOf V c)))) $$ Sv
  isplitl [X0 X1 X2 X3 X4 X5 X6 X7 P0 P1 P2 P3 P4 P5 W0_0 W0_1 W0_2 W1_0 W1_1 W1_2 W2_0 W2_1 W2_2 W3_0 W3_1 W3_2 W4_0 W4_1 W4_2 W5_0 W5_1 W5_2 W6_0 W6_1 W6_2 O0 O1 O2 O3 O4 O5 O6 O7 O8 SS]
  · isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [P0]; · iexact P0
    isplitl [P1]; · iexact P1
    isplitl [P2]; · iexact P2
    isplitl [P3]; · iexact P3
    isplitl [P4]; · iexact P4
    isplitl [P5]; · iexact P5
    isplitl [W0_0]; · iexact W0_0
    isplitl [W0_1]; · iexact W0_1
    isplitl [W0_2]; · iexact W0_2
    isplitl [W1_0]; · iexact W1_0
    isplitl [W1_1]; · iexact W1_1
    isplitl [W1_2]; · iexact W1_2
    isplitl [W2_0]; · iexact W2_0
    isplitl [W2_1]; · iexact W2_1
    isplitl [W2_2]; · iexact W2_2
    isplitl [W3_0]; · iexact W3_0
    isplitl [W3_1]; · iexact W3_1
    isplitl [W3_2]; · iexact W3_2
    isplitl [W4_0]; · iexact W4_0
    isplitl [W4_1]; · iexact W4_1
    isplitl [W4_2]; · iexact W4_2
    isplitl [W5_0]; · iexact W5_0
    isplitl [W5_1]; · iexact W5_1
    isplitl [W5_2]; · iexact W5_2
    isplitl [W6_0]; · iexact W6_0
    isplitl [W6_1]; · iexact W6_1
    isplitl [W6_2]; · iexact W6_2
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    iexact SS
  isplitl [B0 B1 B2 B3 B4 B5 B6 B7 B0_0 B0_1 B0_2 B1_0 B1_1 B1_2 B2_0 B2_1 B2_2 B3_0 B3_1 B3_2 B4_0 B4_1 B4_2 B5_0 B5_1 B5_2 B6_0 B6_1 B6_2 Hmain_arg6 Hmain_cst Hmain_v2 Hmain_v3 Hmain_v1 Hmain_arg3]
  · isplitl [B0 B1 B2 B3 B4 B5 B6 B7]
    · iapply (ent_of_eq (eqXH (inOf V c) c).symm)
      isplitl [B0]; · iexact B0
      isplitl [B1]; · iexact B1
      isplitl [B2]; · iexact B2
      isplitl [B3]; · iexact B3
      isplitl [B4]; · iexact B4
      isplitl [B5]; · iexact B5
      isplitl [B6]; · iexact B6
      iexact B7
    isplitl [Hmain_v1]; · iapply (ent_of_eq (whole_eq main_v1 _)) $$ Hmain_v1
    isplitl [B0_0 B0_1 B0_2 B1_0 B1_1 B1_2 B2_0 B2_1 B2_2 B3_0 B3_1 B3_2 B4_0 B4_1 B4_2 B5_0 B5_1 B5_2 B6_0 B6_1 B6_2]
    · iapply (ent_of_eq (eqWH (inOf V c) c).symm)
      isplitl [B0_0]; · iexact B0_0
      isplitl [B0_1]; · iexact B0_1
      isplitl [B0_2]; · iexact B0_2
      isplitl [B1_0]; · iexact B1_0
      isplitl [B1_1]; · iexact B1_1
      isplitl [B1_2]; · iexact B1_2
      isplitl [B2_0]; · iexact B2_0
      isplitl [B2_1]; · iexact B2_1
      isplitl [B2_2]; · iexact B2_2
      isplitl [B3_0]; · iexact B3_0
      isplitl [B3_1]; · iexact B3_1
      isplitl [B3_2]; · iexact B3_2
      isplitl [B4_0]; · iexact B4_0
      isplitl [B4_1]; · iexact B4_1
      isplitl [B4_2]; · iexact B4_2
      isplitl [B5_0]; · iexact B5_0
      isplitl [B5_1]; · iexact B5_1
      isplitl [B5_2]; · iexact B5_2
      isplitl [B6_0]; · iexact B6_0
      isplitl [B6_1]; · iexact B6_1
      iexact B6_2
    isplitl [Hmain_arg3]; · iapply (ent_of_eq (whole_eq main_arg3 _)) $$ Hmain_arg3
    isplitl [Hmain_v2]; · iapply (ent_of_eq (whole_eq main_v2 _)) $$ Hmain_v2
    isplitl [Hmain_v3]; · iapply (ent_of_eq (whole_eq main_v3 _)) $$ Hmain_v3
    isplitl [Hmain_arg6]; · iapply (ent_of_eq (whole_eq main_arg6 _)) $$ Hmain_arg6
    iapply (ent_of_eq (whole_eq main_cst _)) $$ Hmain_cst
  isplitl [C0 C1 C2 C3 C4]
  · iapply (ent_of_eq (eqQH c (QO (inOf V c))).symm)
    isplitl [C0]; · iexact C0
    isplitl [C1]; · iexact C1
    isplitl [C2]; · iexact C2
    isplitl [C3]; · iexact C3
    iexact C4
  isplitl [R1]; · iapply (ent_of_eq (whole_eq main_v4_1 _)) $$ R1
  isplitl [R2]; · iapply (ent_of_eq (whole_eq main_v4_2 _)) $$ R2
  isplitl [R3]; · iapply (ent_of_eq (whole_eq main_v4_3 _)) $$ R3
  iapply (ent_of_eq (whole_eq main_v4_4 _)) $$ R4

end Cert.Proof.KernelIdeal

end
-- ==== Proof.KernelIdealLaunch.lean ====
module

public import proofs.«01_k».proof.Proof.KernelIdealEnds

/-! # The run of the whole program, and its frame -/

@[expose] public section

noncomputable section

namespace Cert.Proof.KernelIdeal

open Cert.KernelIdeal Cert.KernelIdeal.Gen Cert.Proof.Rules
open Idealize.ShloMosaic hiding ix0 ix1 ix2 ix3 ix4 ix5 ix6
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

open Idealize.ShloMosaic.Pipeline (Dat)

/-- What is held before the body and after it. -/
def PhiAt (c : Dev nD) : ℕ → sProp 𝕄
  | 0 => Pipeline.ΦDRV osem0 (cfg0.spec) H0 R0 (Gen.V m) (Gen.V m) c
  | _ + 1 => Pipeline.ΦDRV osem0 (cfg0.spec) H0 R0 (Gen.V m) (G (Gen.V m)) c

def dats (_ : Fin 1) (c : Dev nD) : Dat τ (Elt F) Unit ℕ (Pipeline.UD sig nD τ) ℕ cfg0 c where
  A w := w.elim0
  after w := w.elim0
  Φ t := PhiAt m c t.val
  q _ := fullShare
  owed _ := 0

theorem Phi_pre (c : Dev nD) (t : Fin cfg0.N) : (dats m 0 c).Φ t.castSucc = Pipeline.ΦDRV osem0 (cfg0.spec) H0 R0 (Gen.V m) (Gen.V m) c := by
  have h : t = t0_0 := fin_N0 t
  subst h
  rfl
theorem Phi_post (c : Dev nD) (t : Fin cfg0.N) : (dats m 0 c).Φ t.succ = Pipeline.ΦDRV osem0 (cfg0.spec) H0 R0 (Gen.V m) (G (Gen.V m)) c := rfl
theorem Phi_last (c : Dev nD) : (dats m 0 c).Φ (Fin.last cfg0.N) = Pipeline.ΦDRV osem0 (cfg0.spec) H0 R0 (Gen.V m) (G (Gen.V m)) c := by
  have h : cfg0.N = 1 := N_0
  show PhiAt m c cfg0.N = _
  rw [h]
  rfl

theorem sound_body (c : Dev nD) (t : Fin cfg0.N) : iprop((dats m 0 c).Φ t.castSucc ∗ (dats m 0 c).owesAt () t.castSucc) ⊢
    WK c (bodyAt0 t) fun _ => iprop((dats m 0 c).Φ t.succ ∗ (dats m 0 c).owesAt () t.succ) := by
  rw [Phi_pre, Phi_post, body_eq]
  unfold Dat.owesAt Pipeline.owesWithin
  rw [show (dats m 0 c).owed t.castSucc = 0 from rfl, show (dats m 0 c).owed t.succ = 0 from rfl]
  iintro ⟨HP, ⟨%W, -, HW⟩⟩
  ihave H := (pre_split (Gen.V m) c) $$ [HP HW]
  · isplitl [HP]; · iexact HP
    iexists W
    iexact HW
  icases H with ⟨H, HS⟩
  iapply (WP_use_last _ c (body_spec (inOf (Gen.V m) c) c)) $$ H
  iintro %_ H
  ihave H := (post_join (Gen.V m) c) $$ [H HS]
  · isplitl [H]; · iexact H
    iexact HS
  icases H with ⟨H, ⟨%W', HW'⟩⟩
  isplitl [H]; · iexact H
  iexists W'
  isplitr; · ipureintro; exact fun _ _ => Or.inl trivial
  iexact HW'

theorem defs₀_row (t : Fin cfg0.N) : defs₀ (F := F) .tc cfg0.body (cfg0.bodyArgs t (cfg0.slots t)) = bodyAt0 t := by
  unfold defs₀; rw [Defs.onTc_tc]

theorem body_obligation (c : Dev nD) : Pipeline.BodyObligation (dats (F := F) m 0 c) (defs₀ (F := F)) Variants.none () Set.univ := fun t => by
  have : IsEmpty (Fin cfg0.W) := inferInstanceAs (IsEmpty (Fin 0))
  rw [Finset.univ_eq_empty, BI.bigSep_empty, BI.bigSep_empty, defs₀_row]
  refine BIBase.Entails.trans ?_ (WP_post _ c (sound_body m c t) fun _ => sep_mono_right Laws.sep_emp.2)
  exact sep_mono_right Laws.sep_emp.1

theorem hmainD : Pipeline.HMainK (Ix := Unit) (Name := ℕ) (U := Pipeline.UD sig nD τ) (Lvl := ℕ) cfgs 0 defs₀ Variants.none m (main (F := F)) (Gen.V m)
    (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- What every buffer outside the kernel's own ends at. -/
def final (c : Dev nD) (b : Ref sig .tc) : Buf (Elt F) ((c.tc : Thread nD τ).loc b) :=
  StableHlo.after (List.flatten [hostOps1]) (Pipeline.withArrays (cfg0.spec) c (Pipeline.withR (V0 m c) R0 c (G (Gen.V m) c)) fun w => (dats m 0 c).arrAt w cfg0.N) (Proc.devRef .tc b)

set_option backward.isDefEq.respectTransparency.types false in
theorem run_main : θ_run defs (onTc (τ := τ) (main (F := F))) ⟨m, fun _ => 0, ρ⟩
    (fun r => (∀ c : Dev nD, ∀ b ∈ Pipeline.restRefs sig (cfg0.spec), r.2.mem ((c.tc : Thread nD τ).loc b) = final m c b) ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m c).loose) (hshare := fun c => (dats m 0 c).share_full fun _ => rfl) (howed := fun _ _ => rfl)
    (V₀ := V0 m) (opss := [hostOps1]) (hsub := sfx_sub) (hfresh := sfx_fresh) (hkeep := sfx_keeps) (G := G (Gen.V m)) (hmain := hmainD m)
    (hA := fun _ w => w.elim0) (hin := fun c => .rfl) (hout := fun c => ent_of_eq (Phi_last m c))
    (Q' := _) (hQ' := fun r h => ⟨fun c b hb => (h.1 c).2 b hb, h.2⟩)

theorem final_arg0 (c : Dev nD) : final m c main_arg0 = m ((c.tc : Thread nD τ).loc main_arg0) := by
  unfold final
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c _ _ main_arg0 (by exact (by decide : ∀ w, Pipeline.arrRef (cfg0.spec) w ≠ main_arg0)),
    Pipeline.withR_of_not_mem _ _ c _ main_arg0 (by decide)]
  exact V_main_arg0 m c

theorem final_arg1 (c : Dev nD) : final m c main_arg1 = m ((c.tc : Thread nD τ).loc main_arg1) := by
  unfold final
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c _ _ main_arg1 (by exact (by decide : ∀ w, Pipeline.arrRef (cfg0.spec) w ≠ main_arg1)),
    Pipeline.withR_of_not_mem _ _ c _ main_arg1 (by decide)]
  exact V_main_arg1 m c

theorem final_arg2 (c : Dev nD) : final m c main_arg2 = m ((c.tc : Thread nD τ).loc main_arg2) := by
  unfold final
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c _ _ main_arg2 (by exact (by decide : ∀ w, Pipeline.arrRef (cfg0.spec) w ≠ main_arg2)),
    Pipeline.withR_of_not_mem _ _ c _ main_arg2 (by decide)]
  exact V_main_arg2 m c

theorem final_arg3 (c : Dev nD) : final m c main_arg3 = m ((c.tc : Thread nD τ).loc main_arg3) := by
  unfold final
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c _ _ main_arg3 (by exact (by decide : ∀ w, Pipeline.arrRef (cfg0.spec) w ≠ main_arg3)),
    Pipeline.withR_of_not_mem _ _ c _ main_arg3 (by decide)]
  exact V_main_arg3 m c

theorem final_arg4 (c : Dev nD) : final m c main_arg4 = m ((c.tc : Thread nD τ).loc main_arg4) := by
  unfold final
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c _ _ main_arg4 (by exact (by decide : ∀ w, Pipeline.arrRef (cfg0.spec) w ≠ main_arg4)),
    Pipeline.withR_of_not_mem _ _ c _ main_arg4 (by decide)]
  exact V_main_arg4 m c

theorem final_arg5 (c : Dev nD) : final m c main_arg5 = m ((c.tc : Thread nD τ).loc main_arg5) := by
  unfold final
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c _ _ main_arg5 (by exact (by decide : ∀ w, Pipeline.arrRef (cfg0.spec) w ≠ main_arg5)),
    Pipeline.withR_of_not_mem _ _ c _ main_arg5 (by decide)]
  exact V_main_arg5 m c

theorem final_arg6 (c : Dev nD) : final m c main_arg6 = m ((c.tc : Thread nD τ).loc main_arg6) := by
  unfold final
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c _ _ main_arg6 (by exact (by decide : ∀ w, Pipeline.arrRef (cfg0.spec) w ≠ main_arg6)),
    Pipeline.withR_of_not_mem _ _ c _ main_arg6 (by decide)]
  exact V_main_arg6 m c

/-- The frame: the program terminates without a fault, its arguments end unchanged, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c main_arg0 (by decide)).trans (final_arg0 m c), (h.1 c main_arg1 (by decide)).trans (final_arg1 m c), (h.1 c main_arg2 (by decide)).trans (final_arg2 m c), (h.1 c main_arg3 (by decide)).trans (final_arg3 m c), (h.1 c main_arg4 (by decide)).trans (final_arg4 m c), (h.1 c main_arg5 (by decide)).trans (final_arg5 m c), (h.1 c main_arg6 (by decide)).trans (final_arg6 m c)⟩, h.2⟩) (run_main m ρ)

end Cert.Proof.KernelIdeal

end
-- ==== Proof.Angles.lean ====
module

public import proofs.«01_k».proof.KernelIdeal
public import proofs.«01_k».proof.ReferenceIdeal

/-! # The two tables of inverse frequencies hold the same numbers -/

@[expose] public section

set_option maxRecDepth 16384

namespace Cert.Proof.Angles

/-- Every row of the kernel's table repeats one number of the reference's. -/
theorem table : ∀ (k : Fin 80) (i : Fin 128), Cert.KernelIdeal.lit0 ⟨k.val * 128 + i.val, by omega⟩ = Cert.ReferenceIdeal.lit0 k := by decide +kernel

end Cert.Proof.Angles

end
-- ==== Proof.Spec.lean ====
module

public import Idealize.ShloMosaic.Lib.Pointwise

/-! # The input stage as functions of extended reals, and the laws that relate its two spellings -/

@[expose] public section

noncomputable section

namespace Cert.Proof.Spec

open Idealize.ShloMosaic

/-! ## The mathematics -/

/-- One normalised entry of a row. -/
def nrm (x nw : Fin 5120 → EReal) (d : Fin 5120) : EReal :=
  x d * Ideal.rsqrt ((∑ k, x k * x k) * ((1 / 5120 : ℝ) : EReal) + Ideal.ofBits .f32 0x3727C5AC#32) * nw d
/-- The greatest magnitude of a row, over 448. -/
def mag (n : Fin 5120 → EReal) : EReal :=
  Finset.fold max (Ideal.ofBits .f32 0xFF800000#32) (fun k => max (n k) (-n k)) Finset.univ * Ideal.ofBits .f32 0x3B124925#32
/-- The exponent of a row's scale. -/
def expo (v : EReal) : EReal :=
  if Ideal.ofBits .f32 0x00800000#32 ≤ v ∧ v ≤ Ideal.ofBits .f32 0x7F7FFFFF#32 then
    Ideal.liftRound Int.floor (Ideal.div (Ideal.log v) (Ideal.log (Ideal.ofBits .f32 0x40000000#32))) + 1 else 0
/-- The scale, and its reciprocal. -/
def scl (v : EReal) : EReal := Ideal.pow (Ideal.ofBits .f32 0x40000000#32) (expo v)
def inv (v : EReal) : EReal := Ideal.pow (Ideal.ofBits .f32 0x40000000#32) (-expo v)
/-- The scale of a row, and one of its codes. -/
def scale (x nw : Fin 5120 → EReal) : EReal := scl (mag (nrm x nw))
def code (x nw : Fin 5120 → EReal) (d : Fin 5120) : EReal :=
  min (Ideal.ofBits .f32 0x43E00000#32) (max (Ideal.ofBits .f32 0xC3E00000#32) (nrm x nw d * inv (mag (nrm x nw))))
/-- One entry of the projection. -/
def proj (x nw w : Fin 5120 → EReal) (ws : EReal) : EReal := (∑ k, code x nw k * w k) * scale x nw * ws
/-- The reciprocal root mean square of a head. -/
def hr (y : Fin 160 → EReal) : EReal :=
  Ideal.rsqrt ((∑ k, y k * y k) * ((1 / 160 : ℝ) : EReal) + Ideal.ofBits .f32 0x358637BD#32)
/-- One entry of a head after its norm, and after the rotation. -/
def hn (y g : Fin 160 → EReal) (d : Fin 160) : EReal := y d * hr y * g d
def rot (y g : Fin 160 → EReal) (a : Fin 80 → EReal) (d : Fin 160) : EReal :=
  if h : d.val < 80 then
    hn y g d * Ideal.cos (a ⟨d.val, h⟩) - hn y g ⟨80 + d.val, by omega⟩ * Ideal.sin (a ⟨d.val, h⟩)
  else
    hn y g d * Ideal.cos (a ⟨d.val - 80, by omega⟩) + hn y g ⟨d.val - 80, by omega⟩ * Ideal.sin (a ⟨d.val - 80, by omega⟩)

/-! ## The five results -/

/-- The arguments, entry by entry: the last is the rotation's angle. -/
@[ext] structure Args where
  x : Fin 2 → Fin 128 → Fin 5120 → EReal
  nw : Fin 5120 → EReal
  w : Fin 5120 → Fin 8960 → EReal
  ws : Fin 8960 → EReal
  qg : Fin 160 → EReal
  kg : Fin 160 → EReal
  ang : Fin 2 → Fin 128 → Fin 80 → EReal

namespace Args
variable (A : Args) (b : Fin 2) (i : Fin 128)
def P (o : Fin 8960) : EReal := proj (A.x b i) A.nw (fun k => A.w k o) (A.ws o)
def q (h : Fin 40) (d : Fin 160) : EReal := rot (fun k => A.P b i ⟨h.val * 160 + k.val, by omega⟩) A.qg (A.ang b i) d
def k (h : Fin 8) (d : Fin 160) : EReal := rot (fun k => A.P b i ⟨6400 + (h.val * 160 + k.val), by omega⟩) A.kg (A.ang b i) d
def v (h : Fin 8) (d : Fin 160) : EReal := A.P b i ⟨7680 + (h.val * 160 + d.val), by omega⟩
def c (d : Fin 5120) : EReal := code (A.x b i) A.nw d
def s : EReal := scale (A.x b i) A.nw
end Args

theorem select_and (p q : Prop) [Decidable p] [Decidable q] (a b : EReal) :
    Scalar.select (IntOp.andi (BitVec.ofBool (decide p)) (BitVec.ofBool (decide q))) a b = if p ∧ q then a else b := by
  by_cases hp : p <;> by_cases hq : q <;> simp [hp, hq, Scalar.select, IntOp.andi]

/-! ## The constants -/

theorem c_eps5 : ∃ r : ℝ, 0 < r ∧ Ideal.ofBits .f32 0x3727C5AC#32 = (r : EReal) :=
  ⟨10995116 / 1099511627776, by norm_num, by simp [Ideal.ofBits, Ideal.ieee, -EReal.coe_mul]; norm_num⟩
theorem c_eps6 : ∃ r : ℝ, 0 < r ∧ Ideal.ofBits .f32 0x358637BD#32 = (r : EReal) :=
  ⟨8796093 / 8796093022208, by norm_num, by simp [Ideal.ofBits, Ideal.ieee, -EReal.coe_mul]; norm_num⟩
theorem c_5120 : Ideal.ofBits .f32 0x45A00000#32 = ((5120 : ℝ) : EReal) := by
  simp [Ideal.ofBits, Ideal.ieee, -EReal.coe_mul, -EReal.coe_pow]; norm_num [-EReal.coe_pow]
theorem c_160 : Ideal.ofBits .f32 0x43200000#32 = ((160 : ℝ) : EReal) := by
  simp [Ideal.ofBits, Ideal.ieee, -EReal.coe_mul, -EReal.coe_pow]; norm_num [-EReal.coe_pow]
theorem c_tiny : Ideal.ofBits .f32 0x00800000#32 = (((2 : ℝ) ^ (-126 : ℤ) : ℝ) : EReal) := by
  simp [Ideal.ofBits, Ideal.ieee, -EReal.coe_mul, -EReal.coe_pow]; norm_num [-EReal.coe_pow]
theorem c_max : ∃ r : ℝ, r < (2 : ℝ) ^ (130 : ℤ) ∧ Ideal.ofBits .f32 0x7F7FFFFF#32 = (r : EReal) :=
  ⟨340282346638528859811704183484516925440, by norm_num, by simp [Ideal.ofBits, Ideal.ieee, -EReal.coe_mul, -EReal.coe_pow]; norm_num [-EReal.coe_pow]⟩
theorem c_two : Ideal.ofBits .f32 0x40000000#32 = ((2 : ℝ) : EReal) := by
  simp [Ideal.ofBits, Ideal.ieee, -EReal.coe_mul, -EReal.coe_pow]; norm_num [-EReal.coe_pow]
theorem c_two' : Ideal.ofBits .f32 0x40000000#32 = (((2 : ℝ) ^ (1 : ℤ) : ℝ) : EReal) := by rw [c_two]; norm_num
theorem c_m125 : Ideal.ofBits .f32 0x01000000#32 = (((2 : ℝ) ^ (-125 : ℤ) : ℝ) : EReal) := by
  simp [Ideal.ofBits, Ideal.ieee, -EReal.coe_mul, -EReal.coe_pow]; norm_num [-EReal.coe_pow]
theorem c_125 : Ideal.ofBits .f32 0x7E000000#32 = (((2 : ℝ) ^ (-(-125) : ℤ) : ℝ) : EReal) := by
  simp [Ideal.ofBits, Ideal.ieee, -EReal.coe_mul, -EReal.coe_pow]; norm_num [-EReal.coe_pow]
theorem c_127 : Ideal.ofBits .f32 0x7F000000#32 = (((2 : ℝ) ^ (128 - 1 : ℤ) : ℝ) : EReal) := by
  simp [Ideal.ofBits, Ideal.ieee, -EReal.coe_mul, -EReal.coe_pow]; norm_num [-EReal.coe_pow]
theorem c_63 : Ideal.ofBits .f32 0x5F000000#32 = (((2 : ℝ) ^ (64 - 1 : ℤ) : ℝ) : EReal) := by
  simp [Ideal.ofBits, Ideal.ieee, -EReal.coe_mul, -EReal.coe_pow]; norm_num [-EReal.coe_pow]
theorem c_31 : Ideal.ofBits .f32 0x4F000000#32 = (((2 : ℝ) ^ (32 - 1 : ℤ) : ℝ) : EReal) := by
  simp [Ideal.ofBits, Ideal.ieee, -EReal.coe_mul, -EReal.coe_pow]; norm_num [-EReal.coe_pow]
theorem c_15 : Ideal.ofBits .f32 0x47000000#32 = (((2 : ℝ) ^ (16 - 1 : ℤ) : ℝ) : EReal) := by
  simp [Ideal.ofBits, Ideal.ieee, -EReal.coe_mul, -EReal.coe_pow]; norm_num [-EReal.coe_pow]
theorem c_7 : Ideal.ofBits .f32 0x43000000#32 = (((2 : ℝ) ^ (8 - 1 : ℤ) : ℝ) : EReal) := by
  simp [Ideal.ofBits, Ideal.ieee, -EReal.coe_mul, -EReal.coe_pow]; norm_num [-EReal.coe_pow]
theorem c_3 : Ideal.ofBits .f32 0x41000000#32 = (((2 : ℝ) ^ (4 - 1 : ℤ) : ℝ) : EReal) := by
  simp [Ideal.ofBits, Ideal.ieee, -EReal.coe_mul, -EReal.coe_pow]; norm_num [-EReal.coe_pow]
theorem c_1 : Ideal.ofBits .f32 0x40000000#32 = (((2 : ℝ) ^ (2 - 1 : ℤ) : ℝ) : EReal) := by
  simp [Ideal.ofBits, Ideal.ieee, -EReal.coe_mul, -EReal.coe_pow]; norm_num [-EReal.coe_pow]
theorem c_0 : (1 : EReal) = (((2 : ℝ) ^ (1 - 1 : ℤ) : ℝ) : EReal) := by norm_num
theorem d_64 : Ideal.ofBits .f32 0x1F800000#32 = (((2 : ℝ) ^ (-64 : ℤ) : ℝ) : EReal) := by
  simp [Ideal.ofBits, Ideal.ieee, -EReal.coe_mul, -EReal.coe_pow]; norm_num [-EReal.coe_pow]
theorem d_32 : Ideal.ofBits .f32 0x2F800000#32 = (((2 : ℝ) ^ (-32 : ℤ) : ℝ) : EReal) := by
  simp [Ideal.ofBits, Ideal.ieee, -EReal.coe_mul, -EReal.coe_pow]; norm_num [-EReal.coe_pow]
theorem d_16 : Ideal.ofBits .f32 0x37800000#32 = (((2 : ℝ) ^ (-16 : ℤ) : ℝ) : EReal) := by
  simp [Ideal.ofBits, Ideal.ieee, -EReal.coe_mul, -EReal.coe_pow]; norm_num [-EReal.coe_pow]
theorem d_8 : Ideal.ofBits .f32 0x3B800000#32 = (((2 : ℝ) ^ (-8 : ℤ) : ℝ) : EReal) := by
  simp [Ideal.ofBits, Ideal.ieee, -EReal.coe_mul, -EReal.coe_pow]; norm_num [-EReal.coe_pow]
theorem d_4 : Ideal.ofBits .f32 0x3D800000#32 = (((2 : ℝ) ^ (-4 : ℤ) : ℝ) : EReal) := by
  simp [Ideal.ofBits, Ideal.ieee, -EReal.coe_mul, -EReal.coe_pow]; norm_num [-EReal.coe_pow]
theorem d_2 : Ideal.ofBits .f32 0x3E800000#32 = (((2 : ℝ) ^ (-2 : ℤ) : ℝ) : EReal) := by
  simp [Ideal.ofBits, Ideal.ieee, -EReal.coe_mul, -EReal.coe_pow]; norm_num [-EReal.coe_pow]
theorem d_1 : Ideal.ofBits .f32 0x3F000000#32 = (((2 : ℝ) ^ (-1 : ℤ) : ℝ) : EReal) := by
  simp [Ideal.ofBits, Ideal.ieee, -EReal.coe_mul, -EReal.coe_pow]; norm_num [-EReal.coe_pow]
theorem d_0 : (1 : EReal) = (((2 : ℝ) ^ (0 : ℤ) : ℝ) : EReal) := by norm_num

/-! ## Dividing is multiplying by the reciprocal -/

theorem div_5120 (x : EReal) : Ideal.div x (Ideal.ofBits .f32 0x45A00000#32) = x * ((1 / 5120 : ℝ) : EReal) := by
  rw [c_5120, Ideal.div_coe (by norm_num)]
theorem div_160 (x : EReal) : Ideal.div x (Ideal.ofBits .f32 0x43200000#32) = x * ((1 / 160 : ℝ) : EReal) := by
  rw [c_160, Ideal.div_coe (by norm_num)]

/-! ## The ladder of comparisons -/

/-- Where the ladder stands: the scale, its reciprocal, and how much of the exponent is still to find. -/
def At (r : ℝ) (K : ℤ) (s t : EReal) : Prop :=
  ∃ E : ℤ, s = (((2 : ℝ) ^ E : ℝ) : EReal) ∧ t = (((2 : ℝ) ^ (-E) : ℝ) : EReal) ∧ (2 : ℝ) ^ (E - 1) ≤ r ∧ r < (2 : ℝ) ^ (E + K - 1)

theorem at_step {r : ℝ} {K K2 : ℤ} {s t C A B : EReal} {a b : ℤ} (h : At r K2 s t) (hK : K2 = K + K)
    (hC : C = (((2 : ℝ) ^ (K - 1) : ℝ) : EReal)) (hA : A = (((2 : ℝ) ^ a : ℝ) : EReal)) (hB : B = (((2 : ℝ) ^ b : ℝ) : EReal)) (hab : a + b = -K) :
    At r K (if s * C ≤ (r : EReal) then s * C * Ideal.ofBits .f32 0x40000000#32 else s) (if s * C ≤ (r : EReal) then t * A * B else t) := by
  obtain ⟨E, rfl, rfl, lo, hi⟩ := h
  subst hC hA hB
  have h2 : (2 : ℝ) ≠ 0 := by norm_num
  have e : ∀ i j : ℤ, ((((2 : ℝ) ^ i : ℝ) : EReal) * (((2 : ℝ) ^ j : ℝ) : EReal)) = (((2 : ℝ) ^ (i + j) : ℝ) : EReal) := fun i j => by
    rw [← EReal.coe_mul, ← zpow_add₀ h2]
  have hiff : ((((2 : ℝ) ^ E : ℝ) : EReal) * (((2 : ℝ) ^ (K - 1) : ℝ) : EReal) ≤ (r : EReal)) ↔ (2 : ℝ) ^ (E + (K - 1)) ≤ r := by
    rw [e, EReal.coe_le_coe_iff]
  by_cases hc : (2 : ℝ) ^ (E + (K - 1)) ≤ r
  · rw [if_pos (hiff.mpr hc), if_pos (hiff.mpr hc), c_two', e, e, e, e]
    refine ⟨E + K, by congr 2; ring, by congr 2; omega, ?_, ?_⟩
    · rw [show E + K - 1 = E + (K - 1) by ring]; exact hc
    · rw [show E + K + K - 1 = E + K2 - 1 by rw [hK]; ring]; exact hi
  · rw [if_neg (fun h => hc (hiff.mp h)), if_neg (fun h => hc (hiff.mp h))]
    refine ⟨E, rfl, rfl, lo, ?_⟩
    rw [show E + K - 1 = E + (K - 1) by ring]; exact not_le.mp hc

theorem at_start {r : ℝ} (lo : (2 : ℝ) ^ (-126 : ℤ) ≤ r) (hi : r < (2 : ℝ) ^ (130 : ℤ)) :
    At r 256 (Ideal.ofBits .f32 0x01000000#32) (Ideal.ofBits .f32 0x7E000000#32) :=
  ⟨-125, c_m125, c_125, by norm_num at lo ⊢; exact lo, by norm_num at hi ⊢; exact hi⟩

theorem floor_log {r : ℝ} {E : ℤ} (lo : (2 : ℝ) ^ (E - 1) ≤ r) (hi : r < (2 : ℝ) ^ E) : ⌊Real.log r / Real.log 2⌋ = E - 1 := by
  have hr : 0 < r := lt_of_lt_of_le (by positivity) lo
  have h2 : 0 < Real.log 2 := Real.log_pos (by norm_num)
  rw [Int.floor_eq_iff, le_div_iff₀ h2, div_lt_iff₀ h2]
  constructor
  · rw [← Real.log_zpow]; exact Real.log_le_log (by positivity) lo
  · have := Real.log_lt_log hr hi
    rw [Real.log_zpow] at this
    push_cast
    linarith

theorem pow_two (E : ℤ) : Ideal.pow (Ideal.ofBits .f32 0x40000000#32) ((E : ℝ) : EReal) = (((2 : ℝ) ^ E : ℝ) : EReal) := by
  rw [c_two, Ideal.pow_coe_coe]
  exact congrArg _ (Real.rpow_intCast 2 E)

/-- At the foot of the ladder stand the scale and its reciprocal. -/
theorem at_end {v : EReal} {s t : EReal} (hv : Ideal.ofBits .f32 0x00800000#32 ≤ v ∧ v ≤ Ideal.ofBits .f32 0x7F7FFFFF#32)
    (h : ∀ r : ℝ, v = (r : EReal) → (2 : ℝ) ^ (-126 : ℤ) ≤ r → r < (2 : ℝ) ^ (130 : ℤ) → At r 1 s t) : s = scl v ∧ t = inv v := by
  obtain ⟨M, hM, hMe⟩ := c_max
  have hv' := hv
  rw [c_tiny, hMe] at hv'
  obtain ⟨r, rfl⟩ : ∃ r : ℝ, v = (r : EReal) := by
    induction v with
    | bot => exact absurd (le_bot_iff.mp hv'.1) (EReal.coe_ne_bot _)
    | top => exact absurd (top_le_iff.mp hv'.2) (EReal.coe_ne_top _)
    | coe r => exact ⟨r, rfl⟩
  rw [EReal.coe_le_coe_iff, EReal.coe_le_coe_iff] at hv'
  obtain ⟨E, rfl, rfl, lo, hi⟩ := h r rfl hv'.1 (lt_of_le_of_lt hv'.2 hM)
  rw [show E + 1 - 1 = E by ring] at hi
  have hr : 0 < r := lt_of_lt_of_le (by positivity) lo
  have h2 : Real.log 2 ≠ 0 := (Real.log_pos (by norm_num)).ne'
  have he : expo (r : EReal) = ((E : ℝ) : EReal) := by
    unfold expo
    rw [if_pos hv, c_two, Ideal.log_coe, if_neg (not_le.mpr hr), Ideal.log_coe, if_neg (by norm_num), Ideal.div_coe h2, ← EReal.coe_mul, Ideal.liftRound_coe,
      show Real.log r * (1 / Real.log 2) = Real.log r / Real.log 2 by ring, floor_log lo hi, ← EReal.coe_one, ← EReal.coe_add]
    congr 1
    push_cast
    ring
  unfold scl inv
  rw [he, pow_two, ← EReal.coe_neg, show (-(E : ℝ)) = (((-E : ℤ) : ℝ)) by push_cast; rfl, pow_two]
  exact ⟨rfl, rfl⟩

theorem scl_else {v : EReal} (hv : ¬(Ideal.ofBits .f32 0x00800000#32 ≤ v ∧ v ≤ Ideal.ofBits .f32 0x7F7FFFFF#32)) : scl v = 1 ∧ inv v = 1 := by
  unfold scl inv expo
  rw [if_neg hv, neg_zero, c_two, ← EReal.coe_zero, Ideal.pow_coe_coe]
  simp

/-! ## The rotation -/

theorem sq_nonneg' (x : EReal) : 0 ≤ x * x := by
  induction x with
  | bot => simp
  | top => simp
  | coe r => rw [← EReal.coe_mul]; exact EReal.coe_nonneg.mpr (mul_self_nonneg r)

/-- The reciprocal root of a positive number is a real, not negative. -/
theorem rsqrt_real {x : EReal} (h : 0 < x) : ∃ r : ℝ, 0 ≤ r ∧ Ideal.rsqrt x = (r : EReal) := by
  induction x with
  | bot => exact absurd h (by simp)
  | top => exact ⟨0, le_rfl, by simp⟩
  | coe r =>
    have hr : 0 < r := EReal.coe_pos.mp h
    exact ⟨(Real.sqrt r)⁻¹, by positivity, by rw [Ideal.rsqrt_coe, if_neg (not_lt.mpr hr.le), if_neg hr.ne']⟩

theorem hr_real (y : Fin 160 → EReal) : ∃ r : ℝ, 0 ≤ r ∧ hr y = (r : EReal) := by
  obtain ⟨e, he, hc⟩ := c_eps6
  refine rsqrt_real ?_
  rw [hc]
  have h1 : 0 ≤ (∑ k, y k * y k) * ((1 / 160 : ℝ) : EReal) :=
    mul_nonneg (Finset.sum_nonneg fun k _ => sq_nonneg' _) (EReal.coe_nonneg.mpr (by norm_num))
  exact lt_of_lt_of_le (EReal.coe_pos.mpr he) (le_add_of_nonneg_left h1)

theorem add_mul_real {a b : EReal} {r : ℝ} (h : 0 ≤ r) : (a + b) * (r : EReal) = a * r + b * r :=
  EReal.right_distrib_of_nonneg_of_ne_top (EReal.coe_nonneg.mpr h) (EReal.coe_ne_top r) a b

theorem rot_add (a b g1 g2 c s : EReal) {ρ : EReal} (h : ∃ r : ℝ, 0 ≤ r ∧ ρ = (r : EReal)) :
    (a * (g1 * c) + b * (g2 * s)) * ρ = a * ρ * g1 * c + b * ρ * g2 * s := by
  obtain ⟨r, hr, rfl⟩ := h
  rw [add_mul_real hr]
  congr 1 <;> ac_rfl
theorem rot_sub (a b g1 g2 c s : EReal) {ρ : EReal} (h : ∃ r : ℝ, 0 ≤ r ∧ ρ = (r : EReal)) :
    (a * (g1 * c) - b * (g2 * s)) * ρ = a * ρ * g1 * c - b * ρ * g2 * s := by
  obtain ⟨r, hr, rfl⟩ := h
  rw [sub_eq_add_neg, add_mul_real hr, sub_eq_add_neg, EReal.neg_mul]
  congr 1
  · ac_rfl
  · congr 1; ac_rfl

end Cert.Proof.Spec

end
-- ==== Proof.KernelRead.lean ====
module

public import proofs.«01_k».proof.Proof.KernelIdealStruct
public import proofs.«01_k».proof.Proof.Spec
public import Idealize.ShloMosaic.Lib.Pointwise

/-! # The kernel's blocks read at an index -/

@[expose] public section

set_option maxRecDepth 16384

noncomputable section

namespace Cert.Proof.KernelIdeal

open Cert.KernelIdeal Cert.KernelIdeal.Gen
open Cert.Proof.Spec (select_and)
open Idealize.ShloMosaic Idealize.ShloMosaic.TcCoe Idealize.SL.Sem

theorem named_d : Named.named (F := Ideal) κ "inv_d" (φ := .f32) 0x394CCCCD#32 = ((1 / 5120 : ℝ) : EReal) :=
  IdealRules.named_const.ideal_named_scalar _ _ _ _ rfl
theorem named_hd : Named.named (F := Ideal) κ "inv_hd" (φ := .f32) 0x3BCCCCCD#32 = ((1 / 160 : ℝ) : EReal) :=
  IdealRules.named_const.ideal_named_scalar _ _ _ _ rfl

theorem normPay_at (x : FVec Ideal S32x5120 .bf16) (nw : FVec Ideal S1x5120 .f32) (i : Fin 32) (d : Fin 5120) :
    (normPay (F := Ideal) x nw (ix2 i d) : EReal) = x (ix2 i d) * Ideal.rsqrt ((∑ k, x (ix2 i k) * x (ix2 i k)) * Named.named (F := Ideal) κ "inv_d" (φ := .f32) 0x394CCCCD#32 + Ideal.ofBits .f32 0x3727C5AC#32) * nw (ix2 0 d) := by
  pointwise [normPay]
theorem amaxPay_at (n : FVec Ideal S32x5120 .f32) (i : Fin 32) (d : Fin 128) :
    (amaxPay (F := Ideal) n (ix2 i d) : EReal) = Finset.fold max (Ideal.ofBits .f32 0xFF800000#32) (fun x => FloatOps.absf (n (ix2 i x))) Finset.univ * Ideal.ofBits .f32 0x3B124925#32 := by
  pointwise [amaxPay]
theorem rungS_at (v sc : FVec Ideal S32x128 .f32) (c : BitVec 32) (i : Fin 32) (d : Fin 128) :
    (rungS (F := Ideal) v sc c (ix2 i d) : EReal) = if sc (ix2 i d) * Ideal.ofBits .f32 c ≤ v (ix2 i d) then sc (ix2 i d) * Ideal.ofBits .f32 c * Ideal.ofBits .f32 0x40000000#32 else sc (ix2 i d) := by
  pointwise [rungS, above, bc]
theorem rungI_at (v sc iv : FVec Ideal S32x128 .f32) (c a b : BitVec 32) (i : Fin 32) (d : Fin 128) :
    (rungI (F := Ideal) v sc iv c a b (ix2 i d) : EReal) = if sc (ix2 i d) * Ideal.ofBits .f32 c ≤ v (ix2 i d) then iv (ix2 i d) * Ideal.ofBits .f32 a * Ideal.ofBits .f32 b else iv (ix2 i d) := by
  pointwise [rungI, above, bc]
theorem scalePay_gen (v s : FVec Ideal S32x128 .f32) (i : Fin 32) (d : Fin 128) :
    (select (isNormal (F := Ideal) v) s (bc (F := Ideal) 0x3F800000#32) (ix2 i d) : EReal) = Scalar.select (IntOp.andi (BitVec.ofBool (decide (Ideal.ofBits .f32 0x00800000#32 ≤ v (ix2 i d))))
      (BitVec.ofBool (decide (v (ix2 i d) ≤ Ideal.ofBits .f32 0x7F7FFFFF#32)))) (s (ix2 i d)) (1 : EReal) := by
  pointwise [isNormal, bc]
theorem codesPay_at (x : FVec Ideal S32x5120 .bf16) (nw : FVec Ideal S1x5120 .f32) (i : Fin 32) (d : Fin 5120) :
    (codesPay (F := Ideal) x nw (ix2 i d) : EReal) = min (Ideal.ofBits .f32 0x43E00000#32) (max (Ideal.ofBits .f32 0xC3E00000#32) (normPay (F := Ideal) x nw (ix2 i d) * invPay (F := Ideal) (amaxPay (F := Ideal) (normPay (F := Ideal) x nw)) (ix2 i 0))) := by
  pointwise [codesPay]
theorem scalesPay_at (x : FVec Ideal S32x5120 .bf16) (nw : FVec Ideal S1x5120 .f32) (i : Fin 32) (d : Fin 128) :
    (scalesPay (F := Ideal) x nw (ix2 i d) : EReal) = scalePay (F := Ideal) (amaxPay (F := Ideal) (normPay (F := Ideal) x nw)) (ix2 i d) := by
  pointwise [scalesPay]
theorem xstPay_at (x : FVec Ideal S128x128 .f32) (d : Fin 128) : (xstPay (F := Ideal) x (ix2 0 d) : EReal) = x (ix2 d 0) := by
  pointwise [xstPay]
theorem projPay512_0_at (c : FVec Ideal S256x5120 .fp8e4m3) (w : FVec Ideal S1x5120x512 .fp8e4m3) (s : FVec Ideal S512 .f32) (xs : FVec Ideal S256x1 .f32) (r : Fin 512) (l : Fin 128) :
    (projPay512_0 (F := Ideal) c w s xs (ix4 0 0 r l) : EReal) = (∑ x, c (ix2 ⟨l.val, by omega⟩ x) * w (ix3 0 x r)) * xs (ix2 ⟨l.val, by omega⟩ 0) * s (ix1 r) := by
  pointwise [projPay512_0, prodPay512]
theorem projPay512_1_at (c : FVec Ideal S256x5120 .fp8e4m3) (w : FVec Ideal S1x5120x512 .fp8e4m3) (s : FVec Ideal S512 .f32) (xs : FVec Ideal S256x1 .f32) (r : Fin 512) (l : Fin 128) :
    (projPay512_1 (F := Ideal) c w s xs (ix4 0 0 r l) : EReal) = (∑ x, c (ix2 ⟨128 + l.val, by omega⟩ x) * w (ix3 0 x r)) * xs (ix2 ⟨128 + l.val, by omega⟩ 0) * s (ix1 r) := by
  pointwise [projPay512_1, prodPay512]
theorem projPay256_0_at (c : FVec Ideal S256x5120 .fp8e4m3) (w : FVec Ideal S1x5120x256 .fp8e4m3) (s : FVec Ideal S256 .f32) (xs : FVec Ideal S256x1 .f32) (r : Fin 256) (l : Fin 128) :
    (projPay256_0 (F := Ideal) c w s xs (ix4 0 0 r l) : EReal) = (∑ x, c (ix2 ⟨l.val, by omega⟩ x) * w (ix3 0 x r)) * xs (ix2 ⟨l.val, by omega⟩ 0) * s (ix1 r) := by
  pointwise [projPay256_0, prodPay256]
theorem projPay256_1_at (c : FVec Ideal S256x5120 .fp8e4m3) (w : FVec Ideal S1x5120x256 .fp8e4m3) (s : FVec Ideal S256 .f32) (xs : FVec Ideal S256x1 .f32) (r : Fin 256) (l : Fin 128) :
    (projPay256_1 (F := Ideal) c w s xs (ix4 0 0 r l) : EReal) = (∑ x, c (ix2 ⟨128 + l.val, by omega⟩ x) * w (ix3 0 x r)) * xs (ix2 ⟨128 + l.val, by omega⟩ 0) * s (ix1 r) := by
  pointwise [projPay256_1, prodPay256]
theorem headRms_at (y : FVec Ideal S1x1x160x128 .f32) (l : Fin 128) :
    (headRms (F := Ideal) y (ix2 0 l) : EReal) = Ideal.rsqrt ((∑ x, y (ix4 0 0 x l) * y (ix4 0 0 x l)) * Named.named (F := Ideal) κ "inv_hd" (φ := .f32) 0x3BCCCCCD#32 + Ideal.ofBits .f32 0x358637BD#32) := by
  pointwise [headRms]
theorem rotLoPay_at (y : FVec Ideal S1x1x160x128 .f32) (t0 t1 : FVec Ideal S1x1x1x80x128 .f32) (d : Fin 80) (l : Fin 128) :
    (rotLoPay (F := Ideal) y t0 t1 (ix4 0 0 d l) : EReal) = (y (ix4 0 0 ⟨d.val, by omega⟩ l) * t0 (ix5 0 0 0 d l) - y (ix4 0 0 ⟨80 + d.val, by omega⟩ l) * t1 (ix5 0 0 0 d l)) * headRms (F := Ideal) y (ix2 0 l) := by
  pointwise [rotLoPay, headLo, headHi]
theorem rotHiPay_at (y : FVec Ideal S1x1x160x128 .f32) (t0 t1 : FVec Ideal S1x1x1x80x128 .f32) (d : Fin 80) (l : Fin 128) :
    (rotHiPay (F := Ideal) y t0 t1 (ix4 0 0 d l) : EReal) = (y (ix4 0 0 ⟨80 + d.val, by omega⟩ l) * t0 (ix5 0 0 0 d l) + y (ix4 0 0 ⟨d.val, by omega⟩ l) * t1 (ix5 0 0 0 d l)) * headRms (F := Ideal) y (ix2 0 l) := by
  pointwise [rotHiPay, headLo, headHi]
theorem vPay_at (y : FVec Ideal S1x1x160x128 .f32) (d : Fin 160) (l : Fin 128) : (vPay (F := Ideal) y (ix4 0 0 d l) : EReal) = y (ix4 0 0 d l) := by
  pointwise [vPay]
theorem tabLo_at (g : FVec Ideal S1x160 .f32) (t : FVec Ideal S80x128 .f32) (d : Fin 80) (l : Fin 128) :
    (tabLo (F := Ideal) g t (ix5 0 0 0 d l) : EReal) = g (ix2 0 ⟨d.val, by omega⟩) * t (ix2 d l) := by
  pointwise [tabLo, gainCols]
theorem tabHi_at (g : FVec Ideal S1x160 .f32) (t : FVec Ideal S80x128 .f32) (d : Fin 80) (l : Fin 128) :
    (tabHi (F := Ideal) g t (ix5 0 0 0 d l) : EReal) = g (ix2 0 ⟨80 + d.val, by omega⟩) * t (ix2 d l) := by
  pointwise [tabHi, gainCols]
theorem cosAngles_at (p : IVec S1x128 32) (f : FVec Ideal S80x128 .f32) (d : Fin 80) (l : Fin 128) :
    (cos (F := Ideal) (angles (F := Ideal) p f) (ix2 d l) : EReal) = Ideal.cos (FloatOps.sitofp (F := Ideal) .f32 (p (ix2 0 l)) * f (ix2 d l)) := by
  pointwise [angles]
theorem sinAngles_at (p : IVec S1x128 32) (f : FVec Ideal S80x128 .f32) (d : Fin 80) (l : Fin 128) :
    (sin (F := Ideal) (angles (F := Ideal) p f) (ix2 d l) : EReal) = Ideal.sin (FloatOps.sitofp (F := Ideal) .f32 (p (ix2 0 l)) * f (ix2 d l)) := by
  pointwise [angles]

/-! ## The quantiser -/

theorem one_0 : Ideal.ofBits .f32 0x3F800000#32 = (((2 : ℝ) ^ (1 - 1 : ℤ) : ℝ) : EReal) := by
  simp [Ideal.ofBits, Ideal.ieee, -EReal.coe_mul, -EReal.coe_pow]; norm_num [-EReal.coe_pow]
theorem one_0' : Ideal.ofBits .f32 0x3F800000#32 = (((2 : ℝ) ^ (0 : ℤ) : ℝ) : EReal) := by
  simp [Ideal.ofBits, Ideal.ieee, -EReal.coe_mul, -EReal.coe_pow]; norm_num [-EReal.coe_pow]

open Cert.Proof.Spec in
theorem rung_at {v sc iv : FVec Ideal S32x128 .f32} {i : Fin 32} {d : Fin 128} {r : ℝ} (hr : v (ix2 i d) = (r : EReal)) {K K2 : ℤ} {c a b : BitVec 32} {a' b' : ℤ}
    (h : At r K2 (sc (ix2 i d)) (iv (ix2 i d))) (hK : K2 = K + K) (hC : Ideal.ofBits .f32 c = (((2 : ℝ) ^ (K - 1) : ℝ) : EReal))
    (hA : Ideal.ofBits .f32 a = (((2 : ℝ) ^ a' : ℝ) : EReal)) (hB : Ideal.ofBits .f32 b = (((2 : ℝ) ^ b' : ℝ) : EReal)) (hab : a' + b' = -K) :
    At r K (rungS (F := Ideal) v sc c (ix2 i d)) (rungI (F := Ideal) v sc iv c a b (ix2 i d)) := by
  rw [rungS_at, rungI_at, hr]
  exact at_step h hK hC hA hB hab

open Cert.Proof.Spec in
theorem scale_at (v : FVec Ideal S32x128 .f32) (i : Fin 32) (d : Fin 128) : scalePay (F := Ideal) v (ix2 i d) = scl (v (ix2 i d)) ∧ invPay (F := Ideal) v (ix2 i d) = inv (v (ix2 i d)) := by
  unfold scalePay invPay
  rw [scalePay_gen, scalePay_gen, select_and, select_and]
  by_cases hv : Ideal.ofBits .f32 0x00800000#32 ≤ v (ix2 i d) ∧ v (ix2 i d) ≤ Ideal.ofBits .f32 0x7F7FFFFF#32
  · rw [if_pos hv, if_pos hv]
    refine at_end hv fun r hr lo hi => ?_
    have h0 : At r 256 (sc0 (F := Ideal) v (ix2 i d)) (iv0 (F := Ideal) v (ix2 i d)) := at_start lo hi
    have h1 : At r 128 (sc1 (F := Ideal) v (ix2 i d)) (iv1 (F := Ideal) v (ix2 i d)) := rung_at hr h0 (by norm_num) c_127 d_64 d_64 (by norm_num)
    have h2 : At r 64 (sc2 (F := Ideal) v (ix2 i d)) (iv2 (F := Ideal) v (ix2 i d)) := rung_at hr h1 (by norm_num) c_63 d_32 d_32 (by norm_num)
    have h3 : At r 32 (sc3 (F := Ideal) v (ix2 i d)) (iv3 (F := Ideal) v (ix2 i d)) := rung_at hr h2 (by norm_num) c_31 d_16 d_16 (by norm_num)
    have h4 : At r 16 (sc4 (F := Ideal) v (ix2 i d)) (iv4 (F := Ideal) v (ix2 i d)) := rung_at hr h3 (by norm_num) c_15 d_8 d_8 (by norm_num)
    have h5 : At r 8 (sc5 (F := Ideal) v (ix2 i d)) (iv5 (F := Ideal) v (ix2 i d)) := rung_at hr h4 (by norm_num) c_7 d_4 d_4 (by norm_num)
    have h6 : At r 4 (sc6 (F := Ideal) v (ix2 i d)) (iv6 (F := Ideal) v (ix2 i d)) := rung_at hr h5 (by norm_num) c_3 d_2 d_2 (by norm_num)
    have h7 : At r 2 (sc7 (F := Ideal) v (ix2 i d)) (iv7 (F := Ideal) v (ix2 i d)) := rung_at hr h6 (by norm_num) c_1 d_1 d_1 (by norm_num)
    exact rung_at hr h7 (by norm_num) one_0 one_0' d_1 (by norm_num)
  · rw [if_neg hv, if_neg hv, (scl_else hv).1, (scl_else hv).2]
    exact ⟨rfl, rfl⟩

open Cert.Proof.Spec

theorem norm_nrm (x : FVec Ideal S32x5120 .bf16) (nw : FVec Ideal S1x5120 .f32) (i : Fin 32) (d : Fin 5120) :
    (normPay (F := Ideal) x nw (ix2 i d) : EReal) = nrm (fun k => x (ix2 i k)) (fun k => nw (ix2 0 k)) d := by
  rw [normPay_at, named_d]
  rfl
theorem amax_mag (x : FVec Ideal S32x5120 .bf16) (nw : FVec Ideal S1x5120 .f32) (i : Fin 32) (d : Fin 128) :
    (amaxPay (F := Ideal) (normPay (F := Ideal) x nw) (ix2 i d) : EReal) = mag (nrm (fun k => x (ix2 i k)) (fun k => nw (ix2 0 k))) := by
  rw [amaxPay_at]
  unfold mag
  simp only [norm_nrm]
  rfl
theorem codes_code (x : FVec Ideal S32x5120 .bf16) (nw : FVec Ideal S1x5120 .f32) (i : Fin 32) (d : Fin 5120) :
    (codesPay (F := Ideal) x nw (ix2 i d) : EReal) = code (fun k => x (ix2 i k)) (fun k => nw (ix2 0 k)) d := by
  rw [codesPay_at, (scale_at _ i 0).2, amax_mag, norm_nrm]
  rfl
theorem scales_scale (x : FVec Ideal S32x5120 .bf16) (nw : FVec Ideal S1x5120 .f32) (i : Fin 32) (d : Fin 128) :
    (scalesPay (F := Ideal) x nw (ix2 i d) : EReal) = scale (fun k => x (ix2 i k)) (fun k => nw (ix2 0 k)) := by
  rw [scalesPay_at, (scale_at _ i d).1, amax_mag]
  rfl
theorem headRms_hr (y : FVec Ideal S1x1x160x128 .f32) (l : Fin 128) : (headRms (F := Ideal) y (ix2 0 l) : EReal) = hr (fun k => y (ix4 0 0 k l)) := by
  rw [headRms_at, named_hd]
  rfl

end Cert.Proof.KernelIdeal

end
-- ==== Proof.KernelValue.lean ====
module

public import proofs.«01_k».proof.Proof.KernelRead
public import proofs.«01_k».proof.Proof.KernelIdealState
public import Idealize.ShloMosaic.Lib.Pointwise.IndexBridge

/-! # The kernel's five results as functions of the arrays it is handed -/

@[expose] public section

set_option maxRecDepth 16384

noncomputable section

namespace Cert.Proof.KernelIdeal

open Cert.KernelIdeal Cert.KernelIdeal.Gen
open Idealize.ShloMosaic Idealize.ShloMosaic.TcCoe Idealize.SL.Sem
open Cert.Proof.Spec

variable (I : In Ideal)

/-- The arrays the kernel is handed, entry by entry. -/
def argsI : Args where
  x b i k := I.x (ix2 ⟨b.val * 128 + i.val, by omega⟩ k)
  nw k := I.nw (ix2 0 k)
  w k o := I.w (ix2 k o)
  ws o := I.ws (ix1 o)
  qg k := I.qg (ix2 0 k)
  kg k := I.kg (ix2 0 k)
  ang b i k := FloatOps.sitofp (F := Ideal) .f32 (I.pos (ix2 b i)) * I.invf (ix2 k i)

theorem xRows_at (i : Fin 8) (a : Fin 32) (k : Fin 5120) : xRows I i (ix2 a k) = I.x (ix2 ⟨32 * i.val + a.val, by omega⟩ k) := by
  show I.x (ValueIdx.ix2 ⟨32 * i.val + a.val, _⟩ k) = _
  rw [← ix2_eq_valueIdx]
theorem xRow_eq (r : Fin 256) (b : Fin 2) (i : Fin 128) (hr : r.val = b.val * 128 + i.val) :
    (fun k => xRows I ⟨r.val / 32, by omega⟩ (ix2 ⟨r.val % 32, Nat.mod_lt _ (by decide)⟩ k)) = (argsI I).x b i := funext fun k => by
  rw [xRows_at]
  exact congrArg (fun r => I.x (ix2 r k)) (Fin.ext (by show 32 * (r.val / 32) + r.val % 32 = b.val * 128 + i.val; omega))
theorem CODES_c (r : Fin 256) (b : Fin 2) (i : Fin 128) (hr : r.val = b.val * 128 + i.val) (d : Fin 5120) : (CODES I (ix2 r d) : EReal) = (argsI I).c b i d := by
  show (codesPay (F := Ideal) (xRows I ⟨r.val / 32, _⟩) I.nw (ValueIdx.ix2 ⟨r.val % 32, _⟩ d) : EReal) = _
  rw [← ix2_eq_valueIdx, codes_code, xRow_eq I r b i hr]
  rfl
theorem XS_s (r : Fin 256) (b : Fin 2) (i : Fin 128) (hr : r.val = b.val * 128 + i.val) (d : Fin 128) : (XS I (ix2 r d) : EReal) = (argsI I).s b i := by
  show (scalesPay (F := Ideal) (xRows I ⟨r.val / 32, _⟩) I.nw (ValueIdx.ix2 ⟨r.val % 32, _⟩ d) : EReal) = _
  rw [← ix2_eq_valueIdx, scales_scale, xRow_eq I r b i hr]
  rfl
theorem XST_s (b : Fin 2) (i : Fin 128) : (XST I (ix2 b i) : EReal) = (argsI I).s b i := by
  show (xstPay (F := Ideal) _ (ValueIdx.ix2 0 i) : EReal) = _
  rw [← ix2_eq_valueIdx, xstPay_at]
  show (XS I (ValueIdx.ix2 ⟨128 * b.val + i.val, _⟩ 0) : EReal) = _
  rw [← ix2_eq_valueIdx]
  exact XS_s I _ b i (by show 128 * b.val + i.val = _; omega) 0

theorem xs1_at (r : Fin 256) (b : Fin 2) (i : Fin 128) (hr : r.val = b.val * 128 + i.val) : (xs1 I (ix2 r 0) : EReal) = (argsI I).s b i := by
  show (XS I (ValueIdx.ix2 r 0) : EReal) = _
  rw [← ix2_eq_valueIdx]
  exact XS_s I r b i hr 0
theorem w512_at (o : ℕ) (k : Fin 5120) (r : Fin 512) (h : o + r.val < 8960) : (w512 I o (ix3 0 k r) : EReal) = (argsI I).w k ⟨o + r.val, h⟩ := by
  show (I.w (ValueIdx.ix2 k ⟨(o + r.val) % 8960, _⟩) : EReal) = _
  rw [← ix2_eq_valueIdx]
  exact congrArg (fun o => I.w (ix2 k o)) (Fin.ext (Nat.mod_eq_of_lt h))
theorem w256_at (o : ℕ) (k : Fin 5120) (r : Fin 256) (h : o + r.val < 8960) : (w256 I o (ix3 0 k r) : EReal) = (argsI I).w k ⟨o + r.val, h⟩ := by
  show (I.w (ValueIdx.ix2 k ⟨(o + r.val) % 8960, _⟩) : EReal) = _
  rw [← ix2_eq_valueIdx]
  exact congrArg (fun o => I.w (ix2 k o)) (Fin.ext (Nat.mod_eq_of_lt h))
theorem ws512_at (o : ℕ) (r : Fin 512) (h : o + r.val < 8960) : (ws512 I o (ix1 r) : EReal) = (argsI I).ws ⟨o + r.val, h⟩ := by
  show (I.ws (ValueIdx.ix1 ⟨(o + r.val) % 8960, _⟩) : EReal) = _
  rw [← ix1_eq_valueIdx]
  exact congrArg (fun o => I.ws (ix1 o)) (Fin.ext (Nat.mod_eq_of_lt h))
theorem ws256_at (o : ℕ) (r : Fin 256) (h : o + r.val < 8960) : (ws256 I o (ix1 r) : EReal) = (argsI I).ws ⟨o + r.val, h⟩ := by
  show (I.ws (ValueIdx.ix1 ⟨(o + r.val) % 8960, _⟩) : EReal) = _
  rw [← ix1_eq_valueIdx]
  exact congrArg (fun o => I.ws (ix1 o)) (Fin.ext (Nat.mod_eq_of_lt h))

theorem part512_at (o : ℕ) (b : Fin 2) (r : Fin 512) (l : Fin 128) (h : o + r.val < 8960) :
    (part512 I o b (ix4 0 0 r l) : EReal) = (argsI I).P b l ⟨o + r.val, h⟩ := by
  have key : ∀ row : Fin 256, row.val = b.val * 128 + l.val →
      ((∑ x, (CODES I (ix2 row x) : EReal) * (w512 I o (ix3 0 x r) : EReal)) * (xs1 I (ix2 row 0) : EReal) * (ws512 I o (ix1 r) : EReal) : EReal) = (argsI I).P b l ⟨o + r.val, h⟩ := fun row hrow => by
    simp only [CODES_c I row b l hrow, w512_at I o _ r h, xs1_at I row b l hrow, ws512_at I o r h]
    rfl
  unfold part512
  by_cases hb : b = 0
  · rw [if_pos hb, projPay512_0_at]
    exact key _ (by subst hb; show l.val = 0 * 128 + l.val; omega)
  · rw [if_neg hb, projPay512_1_at]
    exact key _ (by have : b.val = 1 := by have := b.isLt; have : b.val ≠ 0 := fun e => hb (Fin.ext e); omega
                    show 128 + l.val = b.val * 128 + l.val; omega)
theorem part256_at (o : ℕ) (b : Fin 2) (r : Fin 256) (l : Fin 128) (h : o + r.val < 8960) :
    (part256 I o b (ix4 0 0 r l) : EReal) = (argsI I).P b l ⟨o + r.val, h⟩ := by
  have key : ∀ row : Fin 256, row.val = b.val * 128 + l.val →
      ((∑ x, (CODES I (ix2 row x) : EReal) * (w256 I o (ix3 0 x r) : EReal)) * (xs1 I (ix2 row 0) : EReal) * (ws256 I o (ix1 r) : EReal) : EReal) = (argsI I).P b l ⟨o + r.val, h⟩ := fun row hrow => by
    simp only [CODES_c I row b l hrow, w256_at I o _ r h, xs1_at I row b l hrow, ws256_at I o r h]
    rfl
  unfold part256
  by_cases hb : b = 0
  · rw [if_pos hb, projPay256_0_at]
    exact key _ (by subst hb; show l.val = 0 * 128 + l.val; omega)
  · rw [if_neg hb, projPay256_1_at]
    exact key _ (by have : b.val = 1 := by have := b.isLt; have : b.val ≠ 0 := fun e => hb (Fin.ext e); omega
                    show 128 + l.val = b.val * 128 + l.val; omega)

theorem Y_at (c : ℕ) (b : Fin 2) (r : Fin 1280) (l : Fin 128) (h : 1280 * c + r.val < 8960) : (Y I c b r l : EReal) = (argsI I).P b l ⟨1280 * c + r.val, h⟩ := by
  unfold Y
  by_cases h1 : r.val < 512
  · rw [dif_pos h1, ← ix4_eq_valueIdx]
    exact part512_at I _ b ⟨r.val, h1⟩ l h
  · rw [dif_neg h1]
    by_cases h2 : r.val < 1024
    · rw [dif_pos h2, ← ix4_eq_valueIdx, part512_at I _ b _ l (by show 1280 * c + 512 + (r.val - 512) < 8960; omega)]
      exact congrArg ((argsI I).P b l) (Fin.ext (by show 1280 * c + 512 + (r.val - 512) = 1280 * c + r.val; omega))
    · rw [dif_neg h2, ← ix4_eq_valueIdx, part256_at I _ b _ l (by show 1280 * c + 1024 + (r.val - 1024) < 8960; omega)]
      exact congrArg ((argsI I).P b l) (Fin.ext (by show 1280 * c + 1024 + (r.val - 1024) = 1280 * c + r.val; omega))
theorem yHead_at (c : ℕ) (h : Fin 8) (b : Fin 2) (k : Fin 160) (l : Fin 128) (hc : 1280 * c + (160 * h.val + k.val) < 8960) :
    (yHead I c h b (ix4 0 0 k l) : EReal) = (argsI I).P b l ⟨1280 * c + (160 * h.val + k.val), hc⟩ :=
  Y_at I c b ⟨160 * h.val + k.val, by omega⟩ l hc

theorem pos_at (b : Fin 2) (l : Fin 128) : posRow I b (ix2 0 l) = I.pos (ix2 b l) := by
  show I.pos (ValueIdx.ix2 b l) = _
  rw [← ix2_eq_valueIdx]
theorem tab0_at (kd b : Fin 2) (d : Fin 80) (l : Fin 128) : (tabOf I kd b 0 (ix5 0 0 0 d l) : EReal) = gains I kd (ix2 0 ⟨d.val, by omega⟩) * Ideal.cos ((argsI I).ang b l d) := by
  show (tabLo (F := Ideal) _ _ (ix5 0 0 0 d l) : EReal) = _
  rw [tabLo_at, cosAngles_at, pos_at]
  rfl
theorem tab1_at (kd b : Fin 2) (d : Fin 80) (l : Fin 128) : (tabOf I kd b 1 (ix5 0 0 0 d l) : EReal) = gains I kd (ix2 0 ⟨80 + d.val, by omega⟩) * Ideal.sin ((argsI I).ang b l d) := by
  show (tabHi (F := Ideal) _ _ (ix5 0 0 0 d l) : EReal) = _
  rw [tabHi_at, sinAngles_at, pos_at]
  rfl
theorem tab2_at (kd b : Fin 2) (d : Fin 80) (l : Fin 128) : (tabOf I kd b 2 (ix5 0 0 0 d l) : EReal) = gains I kd (ix2 0 ⟨80 + d.val, by omega⟩) * Ideal.cos ((argsI I).ang b l d) := by
  show (tabHi (F := Ideal) _ _ (ix5 0 0 0 d l) : EReal) = _
  rw [tabHi_at, cosAngles_at, pos_at]
  rfl
theorem tab3_at (kd b : Fin 2) (d : Fin 80) (l : Fin 128) : (tabOf I kd b 3 (ix5 0 0 0 d l) : EReal) = gains I kd (ix2 0 ⟨d.val, by omega⟩) * Ideal.sin ((argsI I).ang b l d) := by
  show (tabLo (F := Ideal) _ _ (ix5 0 0 0 d l) : EReal) = _
  rw [tabLo_at, sinAngles_at, pos_at]
  rfl

theorem rotAt_rot (kd : Fin 2) (y : Vec Ideal S1x1x160x128 .f32) (b : Fin 2) (d : Fin 160) (l : Fin 128) :
    (rotAt I kd y b d l : EReal) = rot (fun k => y (ix4 0 0 k l)) (fun k => gains I kd (ix2 0 k)) ((argsI I).ang b l) d := by
  unfold rotAt rot hn
  by_cases hd : d.val < 80
  · rw [dif_pos hd, dif_pos hd, ← ix4_eq_valueIdx, rotLoPay_at, tab0_at, tab1_at, headRms_hr]
    exact rot_sub _ _ _ _ _ _ (hr_real _)
  · rw [dif_neg hd, dif_neg hd, ← ix4_eq_valueIdx, rotHiPay_at, tab2_at, tab3_at, headRms_hr]
    have e : (⟨80 + (d.val - 80), by omega⟩ : Fin 160) = d := Fin.ext (by show 80 + (d.val - 80) = d.val; omega)
    refine (rot_add _ _ _ _ _ _ (hr_real _)).trans ?_
    simp only [e]

theorem QO_q (b : Fin 2) (h : Fin 40) (d : Fin 160) (l : Fin 128) : (QO I (ix4 b h d l) : EReal) = (argsI I).q b l h d := by
  show (rotAt I 0 (yHead I (h.val / 8) ⟨h.val % 8, _⟩ b) b d l : EReal) = _
  rw [rotAt_rot]
  unfold Args.q
  refine congrArg (fun y => rot y _ _ d) (funext fun k => ?_)
  refine (yHead_at I _ _ b k l (by show 1280 * (h.val / 8) + (160 * (h.val % 8) + k.val) < 8960; omega)).trans ?_
  exact congrArg ((argsI I).P b l) (Fin.ext (by show 1280 * (h.val / 8) + (160 * (h.val % 8) + k.val) = h.val * 160 + k.val; omega))
theorem KO_k (b : Fin 2) (h : Fin 8) (d : Fin 160) (l : Fin 128) : (KO I (ix4 b h d l) : EReal) = (argsI I).k b l h d := by
  show (rotAt I 1 (yHead I 5 h b) b d l : EReal) = _
  rw [rotAt_rot]
  unfold Args.k
  refine congrArg (fun y => rot y _ _ d) (funext fun k => ?_)
  refine (yHead_at I _ _ b k l (by omega)).trans ?_
  exact congrArg ((argsI I).P b l) (Fin.ext (by show 1280 * 5 + (160 * h.val + k.val) = 6400 + (h.val * 160 + k.val); omega))
theorem VO_v (b : Fin 2) (h : Fin 8) (d : Fin 160) (l : Fin 128) : (VO I (ix4 b h d l) : EReal) = (argsI I).v b l h d := by
  show (vPay (F := Ideal) (yHead I 6 h b) (ValueIdx.ix4 0 0 d l) : EReal) = _
  rw [← ix4_eq_valueIdx, vPay_at]
  unfold Args.v
  refine (yHead_at I _ _ b d l (by omega)).trans ?_
  exact congrArg ((argsI I).P b l) (Fin.ext (by show 1280 * 6 + (160 * h.val + d.val) = 7680 + (h.val * 160 + d.val); omega))

end Cert.Proof.KernelIdeal

end
-- ==== Proof.KernelFinal.lean ====
module

public import proofs.«01_k».proof.Proof.KernelValue
public import proofs.«01_k».proof.Proof.KernelIdealLaunch
public import Idealize.ShloMosaic.Lib.StableHlo.RunClose

/-! # The program's five results as functions of its arguments -/

@[expose] public section

set_option maxRecDepth 16384

noncomputable section

namespace Cert.Proof.KernelIdeal

open Cert.KernelIdeal Cert.KernelIdeal.Gen
open Idealize.ShloMosaic Idealize.ShloMosaic.TcCoe Idealize.SL.Sem
open Cert.Proof.Spec

section
variable {F : FTy → Type} [FloatOps F] [Named F] (m : (ℓ : Loc nD τ sig) → Buf (Elt F) ℓ) (c : Dev nD)

theorem V_cst : Gen.V m c main_cst = fun i => FloatOps.ofBits (F := F) .f32 (lit0 (S80x128.rowMajor i)) := by
  simp only [Gen.V, Gen.V0, hostOps0, List.flatten_cons, List.flatten_nil, List.append_nil, List.cons_append, List.nil_append]
  after_results_simp <;> rfl
theorem V_v0 : Gen.V m c main_v0 = shapeCast S256x5120 (m ((c.tc : Thread nD τ).loc main_arg0)) shapeCasts_S2x128x5120_S256x5120 := by
  simp only [Gen.V, Gen.V0, hostOps0, List.flatten_cons, List.flatten_nil, List.append_nil, List.cons_append, List.nil_append]
  after_results_simp <;> rfl
theorem V_v1 : Gen.V m c main_v1 = shapeCast S1x5120 (m ((c.tc : Thread nD τ).loc main_arg1)) shapeCasts_S5120_S1x5120 := by
  simp only [Gen.V, Gen.V0, hostOps0, List.flatten_cons, List.flatten_nil, List.append_nil, List.cons_append, List.nil_append]
  after_results_simp <;> rfl
theorem V_v2 : Gen.V m c main_v2 = shapeCast S1x160 (m ((c.tc : Thread nD τ).loc main_arg4)) shapeCasts_S160_S1x160 := by
  simp only [Gen.V, Gen.V0, hostOps0, List.flatten_cons, List.flatten_nil, List.append_nil, List.cons_append, List.nil_append]
  after_results_simp <;> rfl
theorem V_v3 : Gen.V m c main_v3 = shapeCast S1x160 (m ((c.tc : Thread nD τ).loc main_arg5)) shapeCasts_S160_S1x160 := by
  simp only [Gen.V, Gen.V0, hostOps0, List.flatten_cons, List.flatten_nil, List.append_nil, List.cons_append, List.nil_append]
  after_results_simp <;> rfl

/-- What a buffer holds when the kernel has run. -/
def mid (b : Ref sig .tc) : Buf (Elt F) ((c.tc : Thread nD τ).loc b) :=
  Pipeline.withArrays (cfg0.spec) c (Pipeline.withR (V0 m c) R0 c (G (Gen.V m) c)) (fun w => (dats m 0 c).arrAt w cfg0.N) (Proc.devRef .tc b)

theorem mid_of (b : Ref sig .tc) (hb : b ∈ R0) (hw : ∀ w, Pipeline.arrRef (cfg0.spec) w ≠ b) : mid m c b = G (Gen.V m) c b := by
  unfold mid
  rw [Pipeline.withArrays_of_ne _ c _ _ b hw, Pipeline.withR_of_mem _ _ c _ b hb]

theorem final_v5 : final m c main_v5 = transpose S2x128x40x160 [0, 3, 1, 2] (QO (inOf (Gen.V m) c)) transposes_S2x40x160x128_S2x128x40x160_0_3_1_2 := by
  refine Eq.trans ?_ (congrArg (fun z => transpose S2x128x40x160 [0, 3, 1, 2] z transposes_S2x40x160x128_S2x128x40x160_0_3_1_2) ((mid_of m c main_v4_0 (by decide) (fun w => w.elim0)).trans (G_0 _ c)))
  unfold final
  simp only [hostOps1, List.flatten_cons, List.flatten_nil, List.append_nil, List.cons_append, List.nil_append]
  after_results_simp <;> rfl
theorem final_v6 : final m c main_v6 = transpose S2x128x8x160 [0, 3, 1, 2] (KO (inOf (Gen.V m) c)) transposes_S2x8x160x128_S2x128x8x160_0_3_1_2 := by
  refine Eq.trans ?_ (congrArg (fun z => transpose S2x128x8x160 [0, 3, 1, 2] z transposes_S2x8x160x128_S2x128x8x160_0_3_1_2) ((mid_of m c main_v4_1 (by decide) (fun w => w.elim0)).trans (G_1 _ c)))
  unfold final
  simp only [hostOps1, List.flatten_cons, List.flatten_nil, List.append_nil, List.cons_append, List.nil_append]
  after_results_simp <;> rfl
theorem final_v7 : final m c main_v7 = transpose S2x128x8x160 [0, 3, 1, 2] (VO (inOf (Gen.V m) c)) transposes_S2x8x160x128_S2x128x8x160_0_3_1_2 := by
  refine Eq.trans ?_ (congrArg (fun z => transpose S2x128x8x160 [0, 3, 1, 2] z transposes_S2x8x160x128_S2x128x8x160_0_3_1_2) ((mid_of m c main_v4_2 (by decide) (fun w => w.elim0)).trans (G_2 _ c)))
  unfold final
  simp only [hostOps1, List.flatten_cons, List.flatten_nil, List.append_nil, List.cons_append, List.nil_append]
  after_results_simp <;> rfl
theorem final_v8 : final m c main_v8 = shapeCast S2x128x5120 (CODES (inOf (Gen.V m) c)) shapeCasts_S256x5120_S2x128x5120 := by
  refine Eq.trans ?_ (congrArg (fun z => shapeCast S2x128x5120 z shapeCasts_S256x5120_S2x128x5120) ((mid_of m c main_v4_3 (by decide) (fun w => w.elim0)).trans (G_3 _ c)))
  unfold final
  simp only [hostOps1, List.flatten_cons, List.flatten_nil, List.append_nil, List.cons_append, List.nil_append]
  after_results_simp <;> rfl
theorem final_v4_4 : final m c main_v4_4 = XST (inOf (Gen.V m) c) := by
  refine Eq.trans ?_ ((mid_of m c main_v4_4 (by decide) (fun w => w.elim0)).trans (G_4 _ c))
  unfold final
  simp only [hostOps1, List.flatten_cons, List.flatten_nil, List.append_nil, List.cons_append, List.nil_append]
  after_results_simp <;> rfl
end

theorem castX_gen' (x : FVec Ideal S2x128x5120 .bf16) (r : Fin 256) (k : Fin 5120) :
    (shapeCast S256x5120 x shapeCasts_S2x128x5120_S256x5120 (ix2 r k) : EReal) = x (ix3 ⟨r.val / 128, by omega⟩ ⟨r.val % 128, by omega⟩ k) := by
  pointwise []
theorem castX_gen (x : FVec Ideal S2x128x5120 .bf16) (b : Fin 2) (i : Fin 128) (k : Fin 5120) :
    (shapeCast S256x5120 x shapeCasts_S2x128x5120_S256x5120 (ix2 ⟨b.val * 128 + i.val, by omega⟩ k) : EReal) = x (ix3 b i k) := by
  refine (castX_gen' x _ k).trans ?_
  exact congrArg₂ (fun b i => x (ix3 b i k)) (Fin.ext (by show (b.val * 128 + i.val) / 128 = b.val; omega)) (Fin.ext (by show (b.val * 128 + i.val) % 128 = i.val; omega))
theorem castN_gen (x : FVec Ideal S5120 .f32) (k : Fin 5120) : (shapeCast S1x5120 x shapeCasts_S5120_S1x5120 (ix2 0 k) : EReal) = x (ix1 k) := by
  pointwise []
theorem castG_gen (x : FVec Ideal S160 .f32) (k : Fin 160) : (shapeCast S1x160 x shapeCasts_S160_S1x160 (ix2 0 k) : EReal) = x (ix1 k) := by
  pointwise []
theorem outQ_gen (y : FVec Ideal S2x40x160x128 .bf16) (b : Fin 2) (i : Fin 128) (h : Fin 40) (d : Fin 160) :
    (transpose S2x128x40x160 [0, 3, 1, 2] y transposes_S2x40x160x128_S2x128x40x160_0_3_1_2 (ix4 b i h d) : EReal) = y (ix4 b h d i) := by
  pointwise []
theorem outK_gen (y : FVec Ideal S2x8x160x128 .bf16) (b : Fin 2) (i : Fin 128) (h : Fin 8) (d : Fin 160) :
    (transpose S2x128x8x160 [0, 3, 1, 2] y transposes_S2x8x160x128_S2x128x8x160_0_3_1_2 (ix4 b i h d) : EReal) = y (ix4 b h d i) := by
  pointwise []
theorem outC_gen (v : FVec Ideal S256x5120 .fp8e4m3) (b : Fin 2) (i : Fin 128) (d : Fin 5120) :
    (shapeCast S2x128x5120 v shapeCasts_S256x5120_S2x128x5120 (ix3 b i d) : EReal) = v (ix2 ⟨b.val * 128 + i.val, by omega⟩ d) := by
  pointwise []

variable (m : (l : Loc nD τ sig) → Buf (Elt Ideal) l) (c : Dev nD)

/-- The arguments as the program is handed them. -/
def args : Args where
  x b i k := (m ((c.tc : Thread nD τ).loc main_arg0) : FVec Ideal S2x128x5120 .bf16) (ix3 b i k)
  nw k := (m ((c.tc : Thread nD τ).loc main_arg1) : FVec Ideal S5120 .f32) (ix1 k)
  w k o := (m ((c.tc : Thread nD τ).loc main_arg2) : FVec Ideal S5120x8960 .fp8e4m3) (ix2 k o)
  ws o := (m ((c.tc : Thread nD τ).loc main_arg3) : FVec Ideal S8960 .f32) (ix1 o)
  qg k := (m ((c.tc : Thread nD τ).loc main_arg4) : FVec Ideal S160 .f32) (ix1 k)
  kg k := (m ((c.tc : Thread nD τ).loc main_arg5) : FVec Ideal S160 .f32) (ix1 k)
  ang b i k := FloatOps.sitofp (F := Ideal) .f32 ((m ((c.tc : Thread nD τ).loc main_arg6) : IVec S2x128 32) (ix2 b i)) * FloatOps.ofBits (F := Ideal) .f32 (lit0 (S80x128.rowMajor (ix2 k i)))

theorem args_eq : argsI (inOf (Gen.V m) c) = args m c := by
  unfold argsI args
  congr 1
  · funext b i k
    show (Gen.V m c main_v0 : FVec Ideal S256x5120 .bf16) _ = _
    rw [V_v0]
    exact castX_gen _ b i k
  · funext k
    show (Gen.V m c main_v1 : FVec Ideal S1x5120 .f32) _ = _
    rw [V_v1]
    exact castN_gen _ k
  · funext k
    show (Gen.V m c main_v2 : FVec Ideal S1x160 .f32) _ = _
    rw [V_v2]
    exact castG_gen _ k
  · funext k
    show (Gen.V m c main_v3 : FVec Ideal S1x160 .f32) _ = _
    rw [V_v3]
    exact castG_gen _ k

theorem q_at (b : Fin 2) (i : Fin 128) (h : Fin 40) (d : Fin 160) : ((final m c main_v5 : FVec Ideal S2x128x40x160 .bf16) (ix4 b i h d) : EReal) = (args m c).q b i h d := by
  rw [final_v5, ← args_eq]
  exact (outQ_gen _ b i h d).trans (QO_q _ b h d i)
theorem k_at (b : Fin 2) (i : Fin 128) (h : Fin 8) (d : Fin 160) : ((final m c main_v6 : FVec Ideal S2x128x8x160 .bf16) (ix4 b i h d) : EReal) = (args m c).k b i h d := by
  rw [final_v6, ← args_eq]
  exact (outK_gen _ b i h d).trans (KO_k _ b h d i)
theorem v_at (b : Fin 2) (i : Fin 128) (h : Fin 8) (d : Fin 160) : ((final m c main_v7 : FVec Ideal S2x128x8x160 .bf16) (ix4 b i h d) : EReal) = (args m c).v b i h d := by
  rw [final_v7, ← args_eq]
  exact (outK_gen _ b i h d).trans (VO_v _ b h d i)
theorem c_at (b : Fin 2) (i : Fin 128) (d : Fin 5120) : ((final m c main_v8 : FVec Ideal S2x128x5120 .fp8e4m3) (ix3 b i d) : EReal) = (args m c).c b i d := by
  rw [final_v8, ← args_eq]
  exact (outC_gen _ b i d).trans (CODES_c _ _ b i rfl d)
theorem s_at (b : Fin 2) (i : Fin 128) : ((final m c main_v4_4 : FVec Ideal S2x128 .f32) (ix2 b i) : EReal) = (args m c).s b i := by
  rw [final_v4_4, ← args_eq]
  exact XST_s _ b i

end Cert.Proof.KernelIdeal

end
-- ==== Proof.RefRun.lean ====
module

public import proofs.«01_k».proof.Proof.Gen.ReferenceIdeal
public import proofs.«01_k».proof.Proof.Gen.ReferenceIdeal.Frame
public import Idealize.ShloMosaic.Lib.StableHlo.Run
public import Idealize.ShloMosaic.Lib.StableHlo.RunClose
public import Idealize.ShloMosaic.Lib.Pipeline.FrameSuffix

/-! # What the reference's buffers come to hold, as terms of the arguments and of what its kernel leaves -/

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-! ## What is computed before the kernel, as functions of `x` and of the weight of the norm -/

section
variable (x : FVec F S2x128x5120 .bf16) (w : FVec F S5120 .f32)

/-- The normalised rows. -/
def rN : FVec F S2x128x5120 .f32 :=
  mulf (mulf (extf .f32 x bitsLt_bf16_f32) (broadcastInDim S2x128x5120 ![0, 1, 2] bcast_S2x128x1_S2x128x5120_0_1_2 (Host.rsqrt (addf (Host.divf (broadcastInDim S2x128x1 ![0, 1] bcast_S2x128_S2x128x1_0_1 (Host.reduceAdd (mulf (extf .f32 x bitsLt_bf16_f32) (extf .f32 x bitsLt_bf16_f32)) (constant S_ .f32 0x00000000#32) reducesTo_S2x128x5120_S2x128_d2 h_S_)) (broadcastInDim S2x128x1 ![] bcast_S_S2x128x1 (constant S_ .f32 0x45A00000#32))) (broadcastInDim S2x128x1 ![] bcast_S_S2x128x1 (constant S_ .f32 0x3727C5AC#32)))))) (broadcastInDim S2x128x5120 ![0, 1, 2] bcast_S1x1x5120_S2x128x5120_0_1_2 (broadcastInDim S1x1x5120 ![2] bcast_S5120_S1x1x5120_2 w))
/-- The greatest magnitude of each row, over 448. -/
def rV : FVec F S2x128 .f32 :=
  mulf (Host.reduce FloatOps.maximumf (Host.absf (rN x w)) (constant S_ .f32 0xFF800000#32) reducesTo_S2x128x5120_S2x128_d2 h_S_) (broadcastInDim S2x128 ![] bcast_S_S2x128 (constant S_ .f32 0x3B124925#32))
/-- The exponent of each row's scale. -/
def rE : FVec F S2x128 .f32 :=
  select (andi (cmpf .oge (rV x w) (broadcastInDim S2x128 ![] bcast_S_S2x128 (constant S_ .f32 0x00800000#32))) (cmpf .ole (rV x w) (broadcastInDim S2x128 ![] bcast_S_S2x128 (constant S_ .f32 0x7F7FFFFF#32)))) (addf (Host.floor (Host.divf (Host.log (rV x w)) (broadcastInDim S2x128 ![] bcast_S_S2x128 (Host.log (constant S_ .f32 0x40000000#32))))) (broadcastInDim S2x128 ![] bcast_S_S2x128 (constant S_ .f32 0x3F800000#32))) (broadcastInDim S2x128 ![] bcast_S_S2x128 (constant S_ .f32 0x00000000#32))
/-- The scales. -/
def rS : FVec F S2x128 .f32 := Host.powf (broadcastInDim S2x128 ![] bcast_S_S2x128 (constant S_ .f32 0x40000000#32)) (rE x w)
/-- What the kernel is handed: the rows times the reciprocals of their scales. -/
def rT : FVec F S256x5120 .f32 :=
  shapeCast _ (mulf (rN x w) (broadcastInDim S2x128x5120 ![0, 1, 2] bcast_S2x128x1_S2x128x5120_0_1_2 (broadcastInDim S2x128x1 ![0, 1] bcast_S2x128_S2x128x1_0_1 (Host.powf (broadcastInDim S2x128 ![] bcast_S_S2x128 (constant S_ .f32 0x40000000#32)) (Host.negf (rE x w)))))) shapeCasts_S2x128x5120_S256x5120

end

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v40_0` (window 2's): not opened here. -/
def reg_main_v40_0 (c : Dev nD) : Buf (Elt F) ((c.tc : Thread nD τ).loc main_v40_0) := (Gen.dats m 0 c).arrAt 2 cfg0.N
/-- What the kernel region leaves in its result array `main_v40_1` (window 3's): not opened here. -/
def reg_main_v40_1 (c : Dev nD) : Buf (Elt F) ((c.tc : Thread nD τ).loc main_v40_1) := (Gen.dats m 0 c).arrAt 3 cfg0.N

/-- The exit contents at argument `main_arg3`: as launched. -/
theorem exit_main_arg3 (c : Dev nD) : exitV m c (Proc.devRef .tc main_arg3) = m ((c.tc : Thread nD τ).loc main_arg3) :=
  (Pipeline.withArrays_of_ne _ c (Gen.V0 m c) _ main_arg3 (by exact (by decide : ∀ w, Pipeline.arrRef spec0 w ≠ main_arg3))).trans (Gen.V_main_arg3 m c)
/-- The exit contents at argument `main_arg4`: as launched. -/
theorem exit_main_arg4 (c : Dev nD) : exitV m c (Proc.devRef .tc main_arg4) = m ((c.tc : Thread nD τ).loc main_arg4) :=
  (Pipeline.withArrays_of_ne _ c (Gen.V0 m c) _ main_arg4 (by exact (by decide : ∀ w, Pipeline.arrRef spec0 w ≠ main_arg4))).trans (Gen.V_main_arg4 m c)
/-- The exit contents at argument `main_arg5`: as launched. -/
theorem exit_main_arg5 (c : Dev nD) : exitV m c (Proc.devRef .tc main_arg5) = m ((c.tc : Thread nD τ).loc main_arg5) :=
  (Pipeline.withArrays_of_ne _ c (Gen.V0 m c) _ main_arg5 (by exact (by decide : ∀ w, Pipeline.arrRef spec0 w ≠ main_arg5))).trans (Gen.V_main_arg5 m c)
/-- The exit contents at argument `main_arg6`: as launched. -/
theorem exit_main_arg6 (c : Dev nD) : exitV m c (Proc.devRef .tc main_arg6) = m ((c.tc : Thread nD τ).loc main_arg6) :=
  (Pipeline.withArrays_of_ne _ c (Gen.V0 m c) _ main_arg6 (by exact (by decide : ∀ w, Pipeline.arrRef spec0 w ≠ main_arg6))).trans (Gen.V_main_arg6 m c)
/-- The exit contents at the region's result array `main_v40_1`. -/
theorem exit_main_v40_1 (c : Dev nD) : exitV m c (Proc.devRef .tc main_v40_1) = reg_main_v40_1 m c :=
  Pipeline.withArrays_arr spec0 Gen.launch0.win.arr_inj c (Gen.V0 m c) _ 3
set_option maxRecDepth 8192 in
set_option maxHeartbeats 4000000 in
/-- The exit contents at `main_v32`, computed before the region: its composed term of the arguments' launch contents. -/
theorem exit_main_v32 (c : Dev nD) : exitV m c (Proc.devRef .tc main_v32) = rS (m ((c.tc : Thread nD τ).loc main_arg0)) (m ((c.tc : Thread nD τ).loc main_arg1)) :=
  (Pipeline.withArrays_of_ne _ c (Gen.V0 m c) _ main_v32 (by exact (by decide : ∀ w, Pipeline.arrRef spec0 w ≠ main_v32))).trans (by
    simp only [Gen.V0, Gen.hostOps0, Gen.hostOps0_1, Gen.hostOps0_2, TRef.ternary, TRef.unary, TRef.toBuf, TRef.ofBuf, cast_eq, List.flatten_cons, List.flatten_nil, List.append_nil, List.cons_append, List.nil_append]
    after_results_simp <;> rfl)
set_option maxRecDepth 8192 in
set_option maxHeartbeats 4000000 in
/-- The exit contents at `main_cst`, computed before the region: its composed term of the arguments' launch contents. -/
theorem exit_main_cst (c : Dev nD) : exitV m c (Proc.devRef .tc main_cst) = (fun i => FloatOps.ofBits .f32 (lit0 (S80.rowMajor i))) :=
  (Pipeline.withArrays_of_ne _ c (Gen.V0 m c) _ main_cst (by exact (by decide : ∀ w, Pipeline.arrRef spec0 w ≠ main_cst))).trans (by
    show Gen.V0 m c (Proc.devRef .tc main_cst) = _
    simp only [Gen.V0, Gen.hostOps0, Gen.hostOps0_1, Gen.hostOps0_2, TRef.ternary, TRef.unary, TRef.toBuf, TRef.ofBuf, cast_eq, List.flatten_cons, List.flatten_nil, List.append_nil, List.cons_append, List.nil_append]
    after_results_simp <;> rfl)
set_option maxRecDepth 8192 in
set_option maxHeartbeats 4000000 in
/-- What the kernel is handed. -/
theorem entry_main_v39 (c : Dev nD) : Gen.V0 m c (Proc.devRef .tc main_v39) = rT (m ((c.tc : Thread nD τ).loc main_arg0)) (m ((c.tc : Thread nD τ).loc main_arg1)) := by
    simp only [Gen.V0, Gen.hostOps0, Gen.hostOps0_1, Gen.hostOps0_2, TRef.ternary, TRef.unary, TRef.toBuf, TRef.ofBuf, cast_eq, List.flatten_cons, List.flatten_nil, List.append_nil, List.cons_append, List.nil_append]
    after_results_simp <;> rfl
/-- The exit contents at the region's result array `main_v40_0`. -/
theorem exit_main_v40_0 (c : Dev nD) : exitV m c (Proc.devRef .tc main_v40_0) = reg_main_v40_0 m c :=
  Pipeline.withArrays_arr spec0 Gen.launch0.win.arr_inj c (Gen.V0 m c) _ 2

set_option maxRecDepth 8192 in
/-- Operation `main_v47`'s composed term of the contents the later operations run from (named: it is used 3 times). -/
def res_main_v47 (V0 : Valuation τ sig (Elt F)) : (Proc.devRef .tc main_v47 : DevRef τ sig).ty.Contents (Elt F) :=
  mulf (mulf (shapeCast _ (V0 (Proc.devRef .tc main_v40_1)) shapeCasts_S256x8960_S2x128x8960) (broadcastInDim S2x128x8960 ![0, 1, 2] bcast_S2x128x1_S2x128x8960_0_1_2 (broadcastInDim S2x128x1 ![0, 1] bcast_S2x128_S2x128x1_0_1 (V0 (Proc.devRef .tc main_v32))))) (broadcastInDim S2x128x8960 ![0, 1, 2] bcast_S1x1x8960_S2x128x8960_0_1_2 (broadcastInDim S1x1x8960 ![2] bcast_S8960_S1x1x8960_2 (V0 (Proc.devRef .tc main_arg3))))

set_option maxRecDepth 8192 in
/-- Operation `main_v49`'s composed term of the contents the later operations run from (named: it is used 3 times). -/
def res_main_v49 (V0 : Valuation τ sig (Elt F)) : (Proc.devRef .tc main_v49 : DevRef τ sig).ty.Contents (Elt F) :=
  shapeCast _ (extractStridedSlice S2x128x6400 ![0, 0, 0] (res_main_v47 V0) slices_S2x128x8960_S2x128x6400_0_0_0) shapeCasts_S2x128x6400_S2x128x40x160

set_option maxRecDepth 8192 in
/-- Operation `main_v51`'s composed term of the contents the later operations run from (named: it is used 3 times). -/
def res_main_v51 (V0 : Valuation τ sig (Elt F)) : (Proc.devRef .tc main_v51 : DevRef τ sig).ty.Contents (Elt F) :=
  shapeCast _ (extractStridedSlice S2x128x1280 ![0, 0, 6400] (res_main_v47 V0) slices_S2x128x8960_S2x128x1280_0_0_6400) shapeCasts_S2x128x1280_S2x128x8x160

set_option maxRecDepth 8192 in
/-- Operation `main_v59`'s composed term of the contents the later operations run from (named: it is used 2 times). -/
def res_main_v59 (V0 : Valuation τ sig (Elt F)) : (Proc.devRef .tc main_v59 : DevRef τ sig).ty.Contents (Elt F) :=
  mulf (broadcastInDim S2x128x80 ![0, 1, 2] bcast_S2x128x1_S2x128x80_0_1_2 (broadcastInDim S2x128x1 ![0, 1] bcast_S2x128_S2x128x1_0_1 (sitofp .f32 (V0 (Proc.devRef .tc main_arg6))))) (broadcastInDim S2x128x80 ![0, 1, 2] bcast_S1x1x80_S2x128x80_0_1_2 (broadcastInDim S1x1x80 ![2] bcast_S80_S1x1x80_2 (V0 (Proc.devRef .tc main_cst))))

set_option maxRecDepth 8192 in
/-- Operation `main_v61`'s composed term of the contents the later operations run from (named: it is used 4 times). -/
def res_main_v61 (V0 : Valuation τ sig (Elt F)) : (Proc.devRef .tc main_v61 : DevRef τ sig).ty.Contents (Elt F) :=
  broadcastInDim S2x128x1x80 ![0, 1, 3] bcast_S2x128x80_S2x128x1x80_0_1_3 (Host.cos (res_main_v59 V0))

set_option maxRecDepth 8192 in
/-- Operation `main_v63`'s composed term of the contents the later operations run from (named: it is used 4 times). -/
def res_main_v63 (V0 : Valuation τ sig (Elt F)) : (Proc.devRef .tc main_v63 : DevRef τ sig).ty.Contents (Elt F) :=
  broadcastInDim S2x128x1x80 ![0, 1, 3] bcast_S2x128x80_S2x128x1x80_0_1_3 (Host.sin (res_main_v59 V0))

set_option maxRecDepth 8192 in
/-- Operation `main_v76`'s composed term of the contents the later operations run from (named: it is used 2 times). -/
def res_main_v76 (V0 : Valuation τ sig (Elt F)) : (Proc.devRef .tc main_v76 : DevRef τ sig).ty.Contents (Elt F) :=
  mulf (mulf (res_main_v49 V0) (broadcastInDim S2x128x40x160 ![0, 1, 2, 3] bcast_S2x128x40x1_S2x128x40x160_0_1_2_3 (Host.rsqrt (addf (Host.divf (broadcastInDim S2x128x40x1 ![0, 1, 2] bcast_S2x128x40_S2x128x40x1_0_1_2 (Host.reduceAdd (mulf (res_main_v49 V0) (res_main_v49 V0)) (constant S_ .f32 0x00000000#32) reducesTo_S2x128x40x160_S2x128x40_d3 h_S_)) (broadcastInDim S2x128x40x1 ![] bcast_S_S2x128x40x1 (constant S_ .f32 0x43200000#32))) (broadcastInDim S2x128x40x1 ![] bcast_S_S2x128x40x1 (constant S_ .f32 0x358637BD#32)))))) (broadcastInDim S2x128x40x160 ![0, 1, 2, 3] bcast_S1x1x1x160_S2x128x40x160_0_1_2_3 (broadcastInDim S1x1x1x160 ![3] bcast_S160_S1x1x1x160_3 (V0 (Proc.devRef .tc main_arg4))))

set_option maxRecDepth 8192 in
/-- Operation `main_v77`'s composed term of the contents the later operations run from (named: it is used 2 times). -/
def res_main_v77 (V0 : Valuation τ sig (Elt F)) : (Proc.devRef .tc main_v77 : DevRef τ sig).ty.Contents (Elt F) :=
  extractStridedSlice S2x128x40x80 ![0, 0, 0, 0] (res_main_v76 V0) slices_S2x128x40x160_S2x128x40x80_0_0_0_0

set_option maxRecDepth 8192 in
/-- Operation `main_v78`'s composed term of the contents the later operations run from (named: it is used 2 times). -/
def res_main_v78 (V0 : Valuation τ sig (Elt F)) : (Proc.devRef .tc main_v78 : DevRef τ sig).ty.Contents (Elt F) :=
  extractStridedSlice S2x128x40x80 ![0, 0, 0, 80] (res_main_v76 V0) slices_S2x128x40x160_S2x128x40x80_0_0_0_80

set_option maxRecDepth 8192 in
/-- Operation `main_v102`'s composed term of the contents the later operations run from (named: it is used 2 times). -/
def res_main_v102 (V0 : Valuation τ sig (Elt F)) : (Proc.devRef .tc main_v102 : DevRef τ sig).ty.Contents (Elt F) :=
  mulf (mulf (res_main_v51 V0) (broadcastInDim S2x128x8x160 ![0, 1, 2, 3] bcast_S2x128x8x1_S2x128x8x160_0_1_2_3 (Host.rsqrt (addf (Host.divf (broadcastInDim S2x128x8x1 ![0, 1, 2] bcast_S2x128x8_S2x128x8x1_0_1_2 (Host.reduceAdd (mulf (res_main_v51 V0) (res_main_v51 V0)) (constant S_ .f32 0x00000000#32) reducesTo_S2x128x8x160_S2x128x8_d3 h_S_)) (broadcastInDim S2x128x8x1 ![] bcast_S_S2x128x8x1 (constant S_ .f32 0x43200000#32))) (broadcastInDim S2x128x8x1 ![] bcast_S_S2x128x8x1 (constant S_ .f32 0x358637BD#32)))))) (broadcastInDim S2x128x8x160 ![0, 1, 2, 3] bcast_S1x1x1x160_S2x128x8x160_0_1_2_3 (broadcastInDim S1x1x1x160 ![3] bcast_S160_S1x1x1x160_3 (V0 (Proc.devRef .tc main_arg5))))

set_option maxRecDepth 8192 in
/-- Operation `main_v103`'s composed term of the contents the later operations run from (named: it is used 2 times). -/
def res_main_v103 (V0 : Valuation τ sig (Elt F)) : (Proc.devRef .tc main_v103 : DevRef τ sig).ty.Contents (Elt F) :=
  extractStridedSlice S2x128x8x80 ![0, 0, 0, 0] (res_main_v102 V0) slices_S2x128x8x160_S2x128x8x80_0_0_0_0

set_option maxRecDepth 8192 in
/-- Operation `main_v104`'s composed term of the contents the later operations run from (named: it is used 2 times). -/
def res_main_v104 (V0 : Valuation τ sig (Elt F)) : (Proc.devRef .tc main_v104 : DevRef τ sig).ty.Contents (Elt F) :=
  extractStridedSlice S2x128x8x80 ![0, 0, 0, 80] (res_main_v102 V0) slices_S2x128x8x160_S2x128x8x80_0_0_0_80

/-- One of the rounded results. -/
def rQ (V0 : Valuation τ sig (Elt F)) : FVec F S2x128x40x160 .bf16 :=
  truncf .bf16 (concatenate S2x128x40x160 3 [⟨S2x128x40x80, (subf (mulf (res_main_v77 V0) (broadcastInDim S2x128x40x80 ![0, 1, 2, 3] bcast_S2x128x1x80_S2x128x40x80_0_1_2_3 (res_main_v61 V0))) (mulf (res_main_v78 V0) (broadcastInDim S2x128x40x80 ![0, 1, 2, 3] bcast_S2x128x1x80_S2x128x40x80_0_1_2_3 (res_main_v63 V0))))⟩, ⟨S2x128x40x80, (addf (mulf (res_main_v78 V0) (broadcastInDim S2x128x40x80 ![0, 1, 2, 3] bcast_S2x128x1x80_S2x128x40x80_0_1_2_3 (res_main_v61 V0))) (mulf (res_main_v77 V0) (broadcastInDim S2x128x40x80 ![0, 1, 2, 3] bcast_S2x128x1x80_S2x128x40x80_0_1_2_3 (res_main_v63 V0))))⟩] concatenates_S2x128x40x80_S2x128x40x80_S2x128x40x160_d3) bitsLt_bf16_f32
/-- One of the rounded results. -/
def rK (V0 : Valuation τ sig (Elt F)) : FVec F S2x128x8x160 .bf16 :=
  truncf .bf16 (concatenate S2x128x8x160 3 [⟨S2x128x8x80, (subf (mulf (res_main_v103 V0) (broadcastInDim S2x128x8x80 ![0, 1, 2, 3] bcast_S2x128x1x80_S2x128x8x80_0_1_2_3 (res_main_v61 V0))) (mulf (res_main_v104 V0) (broadcastInDim S2x128x8x80 ![0, 1, 2, 3] bcast_S2x128x1x80_S2x128x8x80_0_1_2_3 (res_main_v63 V0))))⟩, ⟨S2x128x8x80, (addf (mulf (res_main_v104 V0) (broadcastInDim S2x128x8x80 ![0, 1, 2, 3] bcast_S2x128x1x80_S2x128x8x80_0_1_2_3 (res_main_v61 V0))) (mulf (res_main_v103 V0) (broadcastInDim S2x128x8x80 ![0, 1, 2, 3] bcast_S2x128x1x80_S2x128x8x80_0_1_2_3 (res_main_v63 V0))))⟩] concatenates_S2x128x8x80_S2x128x8x80_S2x128x8x160_d3) bitsLt_bf16_f32
/-- One of the rounded results. -/
def rW (V0 : Valuation τ sig (Elt F)) : FVec F S2x128x8x160 .bf16 :=
  truncf .bf16 (shapeCast _ (extractStridedSlice S2x128x1280 ![0, 0, 7680] (res_main_v47 V0) slices_S2x128x8960_S2x128x1280_0_0_7680) shapeCasts_S2x128x1280_S2x128x8x160) bitsLt_bf16_f32

/-- The function of the later operations' operation that writes `main_v89`, named. It packs its operands into a list of dependent pairs
    whose shapes a later argument's type mentions, so `simp` cannot rewrite an operand where it stands; applied by
    name, the operands are plain arguments, which the window lemmas below rewrite before the name unfolds. -/
def fn_main_v89 : (⟨S2x128x40x80, .f32⟩ : BufTy).Contents (Elt F) → (⟨S2x128x40x80, .f32⟩ : BufTy).Contents (Elt F) → (⟨S2x128x40x160, .f32⟩ : BufTy).Contents (Elt F) :=
  (fun a b => concatenate S2x128x40x160 3 [⟨S2x128x40x80, a⟩, ⟨S2x128x40x80, b⟩] concatenates_S2x128x40x80_S2x128x40x80_S2x128x40x160_d3)

/-- The function of the later operations' operation that writes `main_v115`, named. It packs its operands into a list of dependent pairs
    whose shapes a later argument's type mentions, so `simp` cannot rewrite an operand where it stands; applied by
    name, the operands are plain arguments, which the window lemmas below rewrite before the name unfolds. -/
def fn_main_v115 : (⟨S2x128x8x80, .f32⟩ : BufTy).Contents (Elt F) → (⟨S2x128x8x80, .f32⟩ : BufTy).Contents (Elt F) → (⟨S2x128x8x160, .f32⟩ : BufTy).Contents (Elt F) :=
  (fun a b => concatenate S2x128x8x160 3 [⟨S2x128x8x80, a⟩, ⟨S2x128x8x80, b⟩] concatenates_S2x128x8x80_S2x128x8x80_S2x128x8x160_d3)

/-- The later operations 1 … 60 of 85. -/
abbrev sfx0 : List (HloOp τ sig (Elt F)) :=
  [ StableHlo.reshape main_v40_1 main_v41 (rfl : (.f32 : EltTy) = .f32) shapeCasts_S256x8960_S2x128x8960,
    StableHlo.unary main_v32 main_v42 (broadcastInDim S2x128x1 ![0, 1] bcast_S2x128_S2x128x1_0_1 : (⟨S2x128, .f32⟩ : BufTy).Contents (Elt F) → (⟨S2x128x1, .f32⟩ : BufTy).Contents (Elt F)),
    StableHlo.unary main_v42 main_v43 (broadcastInDim S2x128x8960 ![0, 1, 2] bcast_S2x128x1_S2x128x8960_0_1_2 : (⟨S2x128x1, .f32⟩ : BufTy).Contents (Elt F) → (⟨S2x128x8960, .f32⟩ : BufTy).Contents (Elt F)),
    StableHlo.binary main_v41 main_v43 main_v44 (mulf : (⟨S2x128x8960, .f32⟩ : BufTy).Contents (Elt F) → (⟨S2x128x8960, .f32⟩ : BufTy).Contents (Elt F) → (⟨S2x128x8960, .f32⟩ : BufTy).Contents (Elt F)),
    StableHlo.unary main_arg3 main_v45 (broadcastInDim S1x1x8960 ![2] bcast_S8960_S1x1x8960_2 : (⟨S8960, .f32⟩ : BufTy).Contents (Elt F) → (⟨S1x1x8960, .f32⟩ : BufTy).Contents (Elt F)),
    StableHlo.unary main_v45 main_v46 (broadcastInDim S2x128x8960 ![0, 1, 2] bcast_S1x1x8960_S2x128x8960_0_1_2 : (⟨S1x1x8960, .f32⟩ : BufTy).Contents (Elt F) → (⟨S2x128x8960, .f32⟩ : BufTy).Contents (Elt F)),
    StableHlo.binary main_v44 main_v46 main_v47 (mulf : (⟨S2x128x8960, .f32⟩ : BufTy).Contents (Elt F) → (⟨S2x128x8960, .f32⟩ : BufTy).Contents (Elt F) → (⟨S2x128x8960, .f32⟩ : BufTy).Contents (Elt F)),
    StableHlo.unary main_v47 main_v48 ((extractStridedSlice S2x128x6400 ![0, 0, 0] · slices_S2x128x8960_S2x128x6400_0_0_0) : (⟨S2x128x8960, .f32⟩ : BufTy).Contents (Elt F) → (⟨S2x128x6400, .f32⟩ : BufTy).Contents (Elt F)),
    StableHlo.reshape main_v48 main_v49 (rfl : (.f32 : EltTy) = .f32) shapeCasts_S2x128x6400_S2x128x40x160,
    StableHlo.unary main_v47 main_v50 ((extractStridedSlice S2x128x1280 ![0, 0, 6400] · slices_S2x128x8960_S2x128x1280_0_0_6400) : (⟨S2x128x8960, .f32⟩ : BufTy).Contents (Elt F) → (⟨S2x128x1280, .f32⟩ : BufTy).Contents (Elt F)),
    StableHlo.reshape main_v50 main_v51 (rfl : (.f32 : EltTy) = .f32) shapeCasts_S2x128x1280_S2x128x8x160,
    StableHlo.unary main_v47 main_v52 ((extractStridedSlice S2x128x1280 ![0, 0, 7680] · slices_S2x128x8960_S2x128x1280_0_0_7680) : (⟨S2x128x8960, .f32⟩ : BufTy).Contents (Elt F) → (⟨S2x128x1280, .f32⟩ : BufTy).Contents (Elt F)),
    StableHlo.reshape main_v52 main_v53 (rfl : (.f32 : EltTy) = .f32) shapeCasts_S2x128x1280_S2x128x8x160,
    StableHlo.unary main_arg6 main_v54 (sitofp .f32 : (⟨S2x128, .i32⟩ : BufTy).Contents (Elt F) → (⟨S2x128, .f32⟩ : BufTy).Contents (Elt F)),
    StableHlo.unary main_v54 main_v55 (broadcastInDim S2x128x1 ![0, 1] bcast_S2x128_S2x128x1_0_1 : (⟨S2x128, .f32⟩ : BufTy).Contents (Elt F) → (⟨S2x128x1, .f32⟩ : BufTy).Contents (Elt F)),
    StableHlo.unary main_cst main_v56 (broadcastInDim S1x1x80 ![2] bcast_S80_S1x1x80_2 : (⟨S80, .f32⟩ : BufTy).Contents (Elt F) → (⟨S1x1x80, .f32⟩ : BufTy).Contents (Elt F)),
    StableHlo.unary main_v55 main_v57 (broadcastInDim S2x128x80 ![0, 1, 2] bcast_S2x128x1_S2x128x80_0_1_2 : (⟨S2x128x1, .f32⟩ : BufTy).Contents (Elt F) → (⟨S2x128x80, .f32⟩ : BufTy).Contents (Elt F)),
    StableHlo.unary main_v56 main_v58 (broadcastInDim S2x128x80 ![0, 1, 2] bcast_S1x1x80_S2x128x80_0_1_2 : (⟨S1x1x80, .f32⟩ : BufTy).Contents (Elt F) → (⟨S2x128x80, .f32⟩ : BufTy).Contents (Elt F)),
    StableHlo.binary main_v57 main_v58 main_v59 (mulf : (⟨S2x128x80, .f32⟩ : BufTy).Contents (Elt F) → (⟨S2x128x80, .f32⟩ : BufTy).Contents (Elt F) → (⟨S2x128x80, .f32⟩ : BufTy).Contents (Elt F)),
    StableHlo.unary main_v59 main_v60 (Host.cos : (⟨S2x128x80, .f32⟩ : BufTy).Contents (Elt F) → (⟨S2x128x80, .f32⟩ : BufTy).Contents (Elt F)),
    StableHlo.unary main_v60 main_v61 (broadcastInDim S2x128x1x80 ![0, 1, 3] bcast_S2x128x80_S2x128x1x80_0_1_3 : (⟨S2x128x80, .f32⟩ : BufTy).Contents (Elt F) → (⟨S2x128x1x80, .f32⟩ : BufTy).Contents (Elt F)),
    StableHlo.unary main_v59 main_v62 (Host.sin : (⟨S2x128x80, .f32⟩ : BufTy).Contents (Elt F) → (⟨S2x128x80, .f32⟩ : BufTy).Contents (Elt F)),
    StableHlo.unary main_v62 main_v63 (broadcastInDim S2x128x1x80 ![0, 1, 3] bcast_S2x128x80_S2x128x1x80_0_1_3 : (⟨S2x128x80, .f32⟩ : BufTy).Contents (Elt F) → (⟨S2x128x1x80, .f32⟩ : BufTy).Contents (Elt F)),
    StableHlo.binary main_v49 main_v49 main_v64 (mulf : (⟨S2x128x40x160, .f32⟩ : BufTy).Contents (Elt F) → (⟨S2x128x40x160, .f32⟩ : BufTy).Contents (Elt F) → (⟨S2x128x40x160, .f32⟩ : BufTy).Contents (Elt F)),
    StableHlo.nullary main_cst_12 (constant S_ .f32 0x00000000#32),
    StableHlo.binary main_v64 main_cst_12 main_v65 ((fun x v => Host.reduceAdd x v reducesTo_S2x128x40x160_S2x128x40_d3 h_S_) : (⟨S2x128x40x160, .f32⟩ : BufTy).Contents (Elt F) → (⟨S_, .f32⟩ : BufTy).Contents (Elt F) → (⟨S2x128x40, .f32⟩ : BufTy).Contents (Elt F)),
    StableHlo.unary main_v65 main_v66 (broadcastInDim S2x128x40x1 ![0, 1, 2] bcast_S2x128x40_S2x128x40x1_0_1_2 : (⟨S2x128x40, .f32⟩ : BufTy).Contents (Elt F) → (⟨S2x128x40x1, .f32⟩ : BufTy).Contents (Elt F)),
    StableHlo.nullary main_cst_13 (constant S_ .f32 0x43200000#32),
    StableHlo.unary main_cst_13 main_v67 (broadcastInDim S2x128x40x1 ![] bcast_S_S2x128x40x1 : (⟨S_, .f32⟩ : BufTy).Contents (Elt F) → (⟨S2x128x40x1, .f32⟩ : BufTy).Contents (Elt F)),
    StableHlo.binary main_v66 main_v67 main_v68 (Host.divf : (⟨S2x128x40x1, .f32⟩ : BufTy).Contents (Elt F) → (⟨S2x128x40x1, .f32⟩ : BufTy).Contents (Elt F) → (⟨S2x128x40x1, .f32⟩ : BufTy).Contents (Elt F)),
    StableHlo.nullary main_cst_14 (constant S_ .f32 0x358637BD#32),
    StableHlo.unary main_cst_14 main_v69 (broadcastInDim S2x128x40x1 ![] bcast_S_S2x128x40x1 : (⟨S_, .f32⟩ : BufTy).Contents (Elt F) → (⟨S2x128x40x1, .f32⟩ : BufTy).Contents (Elt F)),
    StableHlo.binary main_v68 main_v69 main_v70 (addf : (⟨S2x128x40x1, .f32⟩ : BufTy).Contents (Elt F) → (⟨S2x128x40x1, .f32⟩ : BufTy).Contents (Elt F) → (⟨S2x128x40x1, .f32⟩ : BufTy).Contents (Elt F)),
    StableHlo.unary main_v70 main_v71 (Host.rsqrt : (⟨S2x128x40x1, .f32⟩ : BufTy).Contents (Elt F) → (⟨S2x128x40x1, .f32⟩ : BufTy).Contents (Elt F)),
    StableHlo.unary main_v71 main_v72 (broadcastInDim S2x128x40x160 ![0, 1, 2, 3] bcast_S2x128x40x1_S2x128x40x160_0_1_2_3 : (⟨S2x128x40x1, .f32⟩ : BufTy).Contents (Elt F) → (⟨S2x128x40x160, .f32⟩ : BufTy).Contents (Elt F)),
    StableHlo.binary main_v49 main_v72 main_v73 (mulf : (⟨S2x128x40x160, .f32⟩ : BufTy).Contents (Elt F) → (⟨S2x128x40x160, .f32⟩ : BufTy).Contents (Elt F) → (⟨S2x128x40x160, .f32⟩ : BufTy).Contents (Elt F)),
    StableHlo.unary main_arg4 main_v74 (broadcastInDim S1x1x1x160 ![3] bcast_S160_S1x1x1x160_3 : (⟨S160, .f32⟩ : BufTy).Contents (Elt F) → (⟨S1x1x1x160, .f32⟩ : BufTy).Contents (Elt F)),
    StableHlo.unary main_v74 main_v75 (broadcastInDim S2x128x40x160 ![0, 1, 2, 3] bcast_S1x1x1x160_S2x128x40x160_0_1_2_3 : (⟨S1x1x1x160, .f32⟩ : BufTy).Contents (Elt F) → (⟨S2x128x40x160, .f32⟩ : BufTy).Contents (Elt F)),
    StableHlo.binary main_v73 main_v75 main_v76 (mulf : (⟨S2x128x40x160, .f32⟩ : BufTy).Contents (Elt F) → (⟨S2x128x40x160, .f32⟩ : BufTy).Contents (Elt F) → (⟨S2x128x40x160, .f32⟩ : BufTy).Contents (Elt F)),
    StableHlo.unary main_v76 main_v77 ((extractStridedSlice S2x128x40x80 ![0, 0, 0, 0] · slices_S2x128x40x160_S2x128x40x80_0_0_0_0) : (⟨S2x128x40x160, .f32⟩ : BufTy).Contents (Elt F) → (⟨S2x128x40x80, .f32⟩ : BufTy).Contents (Elt F)),
    StableHlo.unary main_v76 main_v78 ((extractStridedSlice S2x128x40x80 ![0, 0, 0, 80] · slices_S2x128x40x160_S2x128x40x80_0_0_0_80) : (⟨S2x128x40x160, .f32⟩ : BufTy).Contents (Elt F) → (⟨S2x128x40x80, .f32⟩ : BufTy).Contents (Elt F)),
    StableHlo.unary main_v61 main_v79 (broadcastInDim S2x128x40x80 ![0, 1, 2, 3] bcast_S2x128x1x80_S2x128x40x80_0_1_2_3 : (⟨S2x128x1x80, .f32⟩ : BufTy).Contents (Elt F) → (⟨S2x128x40x80, .f32⟩ : BufTy).Contents (Elt F)),
    StableHlo.binary main_v77 main_v79 main_v80 (mulf : (⟨S2x128x40x80, .f32⟩ : BufTy).Contents (Elt F) → (⟨S2x128x40x80, .f32⟩ : BufTy).Contents (Elt F) → (⟨S2x128x40x80, .f32⟩ : BufTy).Contents (Elt F)),
    StableHlo.unary main_v63 main_v81 (broadcastInDim S2x128x40x80 ![0, 1, 2, 3] bcast_S2x128x1x80_S2x128x40x80_0_1_2_3 : (⟨S2x128x1x80, .f32⟩ : BufTy).Contents (Elt F) → (⟨S2x128x40x80, .f32⟩ : BufTy).Contents (Elt F)),
    StableHlo.binary main_v78 main_v81 main_v82 (mulf : (⟨S2x128x40x80, .f32⟩ : BufTy).Contents (Elt F) → (⟨S2x128x40x80, .f32⟩ : BufTy).Contents (Elt F) → (⟨S2x128x40x80, .f32⟩ : BufTy).Contents (Elt F)),
    StableHlo.binary main_v80 main_v82 main_v83 (subf : (⟨S2x128x40x80, .f32⟩ : BufTy).Contents (Elt F) → (⟨S2x128x40x80, .f32⟩ : BufTy).Contents (Elt F) → (⟨S2x128x40x80, .f32⟩ : BufTy).Contents (Elt F)),
    StableHlo.unary main_v61 main_v84 (broadcastInDim S2x128x40x80 ![0, 1, 2, 3] bcast_S2x128x1x80_S2x128x40x80_0_1_2_3 : (⟨S2x128x1x80, .f32⟩ : BufTy).Contents (Elt F) → (⟨S2x128x40x80, .f32⟩ : BufTy).Contents (Elt F)),
    StableHlo.binary main_v78 main_v84 main_v85 (mulf : (⟨S2x128x40x80, .f32⟩ : BufTy).Contents (Elt F) → (⟨S2x128x40x80, .f32⟩ : BufTy).Contents (Elt F) → (⟨S2x128x40x80, .f32⟩ : BufTy).Contents (Elt F)),
    StableHlo.unary main_v63 main_v86 (broadcastInDim S2x128x40x80 ![0, 1, 2, 3] bcast_S2x128x1x80_S2x128x40x80_0_1_2_3 : (⟨S2x128x1x80, .f32⟩ : BufTy).Contents (Elt F) → (⟨S2x128x40x80, .f32⟩ : BufTy).Contents (Elt F)),
    StableHlo.binary main_v77 main_v86 main_v87 (mulf : (⟨S2x128x40x80, .f32⟩ : BufTy).Contents (Elt F) → (⟨S2x128x40x80, .f32⟩ : BufTy).Contents (Elt F) → (⟨S2x128x40x80, .f32⟩ : BufTy).Contents (Elt F)),
    StableHlo.binary main_v85 main_v87 main_v88 (addf : (⟨S2x128x40x80, .f32⟩ : BufTy).Contents (Elt F) → (⟨S2x128x40x80, .f32⟩ : BufTy).Contents (Elt F) → (⟨S2x128x40x80, .f32⟩ : BufTy).Contents (Elt F)),
    StableHlo.binary main_v83 main_v88 main_v89 (fn_main_v89 (F := F)),
    StableHlo.binary main_v51 main_v51 main_v90 (mulf : (⟨S2x128x8x160, .f32⟩ : BufTy).Contents (Elt F) → (⟨S2x128x8x160, .f32⟩ : BufTy).Contents (Elt F) → (⟨S2x128x8x160, .f32⟩ : BufTy).Contents (Elt F)),
    StableHlo.nullary main_cst_15 (constant S_ .f32 0x00000000#32),
    StableHlo.binary main_v90 main_cst_15 main_v91 ((fun x v => Host.reduceAdd x v reducesTo_S2x128x8x160_S2x128x8_d3 h_S_) : (⟨S2x128x8x160, .f32⟩ : BufTy).Contents (Elt F) → (⟨S_, .f32⟩ : BufTy).Contents (Elt F) → (⟨S2x128x8, .f32⟩ : BufTy).Contents (Elt F)),
    StableHlo.unary main_v91 main_v92 (broadcastInDim S2x128x8x1 ![0, 1, 2] bcast_S2x128x8_S2x128x8x1_0_1_2 : (⟨S2x128x8, .f32⟩ : BufTy).Contents (Elt F) → (⟨S2x128x8x1, .f32⟩ : BufTy).Contents (Elt F)),
    StableHlo.nullary main_cst_16 (constant S_ .f32 0x43200000#32),
    StableHlo.unary main_cst_16 main_v93 (broadcastInDim S2x128x8x1 ![] bcast_S_S2x128x8x1 : (⟨S_, .f32⟩ : BufTy).Contents (Elt F) → (⟨S2x128x8x1, .f32⟩ : BufTy).Contents (Elt F)),
    StableHlo.binary main_v92 main_v93 main_v94 (Host.divf : (⟨S2x128x8x1, .f32⟩ : BufTy).Contents (Elt F) → (⟨S2x128x8x1, .f32⟩ : BufTy).Contents (Elt F) → (⟨S2x128x8x1, .f32⟩ : BufTy).Contents (Elt F)),
    StableHlo.nullary main_cst_17 (constant S_ .f32 0x358637BD#32) ]

/-- The later operations 61 … 85 of 85. -/
abbrev sfx1 : List (HloOp τ sig (Elt F)) :=
  [ StableHlo.unary main_cst_17 main_v95 (broadcastInDim S2x128x8x1 ![] bcast_S_S2x128x8x1 : (⟨S_, .f32⟩ : BufTy).Contents (Elt F) → (⟨S2x128x8x1, .f32⟩ : BufTy).Contents (Elt F)),
    StableHlo.binary main_v94 main_v95 main_v96 (addf : (⟨S2x128x8x1, .f32⟩ : BufTy).Contents (Elt F) → (⟨S2x128x8x1, .f32⟩ : BufTy).Contents (Elt F) → (⟨S2x128x8x1, .f32⟩ : BufTy).Contents (Elt F)),
    StableHlo.unary main_v96 main_v97 (Host.rsqrt : (⟨S2x128x8x1, .f32⟩ : BufTy).Contents (Elt F) → (⟨S2x128x8x1, .f32⟩ : BufTy).Contents (Elt F)),
    StableHlo.unary main_v97 main_v98 (broadcastInDim S2x128x8x160 ![0, 1, 2, 3] bcast_S2x128x8x1_S2x128x8x160_0_1_2_3 : (⟨S2x128x8x1, .f32⟩ : BufTy).Contents (Elt F) → (⟨S2x128x8x160, .f32⟩ : BufTy).Contents (Elt F)),
    StableHlo.binary main_v51 main_v98 main_v99 (mulf : (⟨S2x128x8x160, .f32⟩ : BufTy).Contents (Elt F) → (⟨S2x128x8x160, .f32⟩ : BufTy).Contents (Elt F) → (⟨S2x128x8x160, .f32⟩ : BufTy).Contents (Elt F)),
    StableHlo.unary main_arg5 main_v100 (broadcastInDim S1x1x1x160 ![3] bcast_S160_S1x1x1x160_3 : (⟨S160, .f32⟩ : BufTy).Contents (Elt F) → (⟨S1x1x1x160, .f32⟩ : BufTy).Contents (Elt F)),
    StableHlo.unary main_v100 main_v101 (broadcastInDim S2x128x8x160 ![0, 1, 2, 3] bcast_S1x1x1x160_S2x128x8x160_0_1_2_3 : (⟨S1x1x1x160, .f32⟩ : BufTy).Contents (Elt F) → (⟨S2x128x8x160, .f32⟩ : BufTy).Contents (Elt F)),
    StableHlo.binary main_v99 main_v101 main_v102 (mulf : (⟨S2x128x8x160, .f32⟩ : BufTy).Contents (Elt F) → (⟨S2x128x8x160, .f32⟩ : BufTy).Contents (Elt F) → (⟨S2x128x8x160, .f32⟩ : BufTy).Contents (Elt F)),
    StableHlo.unary main_v102 main_v103 ((extractStridedSlice S2x128x8x80 ![0, 0, 0, 0] · slices_S2x128x8x160_S2x128x8x80_0_0_0_0) : (⟨S2x128x8x160, .f32⟩ : BufTy).Contents (Elt F) → (⟨S2x128x8x80, .f32⟩ : BufTy).Contents (Elt F)),
    StableHlo.unary main_v102 main_v104 ((extractStridedSlice S2x128x8x80 ![0, 0, 0, 80] · slices_S2x128x8x160_S2x128x8x80_0_0_0_80) : (⟨S2x128x8x160, .f32⟩ : BufTy).Contents (Elt F) → (⟨S2x128x8x80, .f32⟩ : BufTy).Contents (Elt F)),
    StableHlo.unary main_v61 main_v105 (broadcastInDim S2x128x8x80 ![0, 1, 2, 3] bcast_S2x128x1x80_S2x128x8x80_0_1_2_3 : (⟨S2x128x1x80, .f32⟩ : BufTy).Contents (Elt F) → (⟨S2x128x8x80, .f32⟩ : BufTy).Contents (Elt F)),
    StableHlo.binary main_v103 main_v105 main_v106 (mulf : (⟨S2x128x8x80, .f32⟩ : BufTy).Contents (Elt F) → (⟨S2x128x8x80, .f32⟩ : BufTy).Contents (Elt F) → (⟨S2x128x8x80, .f32⟩ : BufTy).Contents (Elt F)),
    StableHlo.unary main_v63 main_v107 (broadcastInDim S2x128x8x80 ![0, 1, 2, 3] bcast_S2x128x1x80_S2x128x8x80_0_1_2_3 : (⟨S2x128x1x80, .f32⟩ : BufTy).Contents (Elt F) → (⟨S2x128x8x80, .f32⟩ : BufTy).Contents (Elt F)),
    StableHlo.binary main_v104 main_v107 main_v108 (mulf : (⟨S2x128x8x80, .f32⟩ : BufTy).Contents (Elt F) → (⟨S2x128x8x80, .f32⟩ : BufTy).Contents (Elt F) → (⟨S2x128x8x80, .f32⟩ : BufTy).Contents (Elt F)),
    StableHlo.binary main_v106 main_v108 main_v109 (subf : (⟨S2x128x8x80, .f32⟩ : BufTy).Contents (Elt F) → (⟨S2x128x8x80, .f32⟩ : BufTy).Contents (Elt F) → (⟨S2x128x8x80, .f32⟩ : BufTy).Contents (Elt F)),
    StableHlo.unary main_v61 main_v110 (broadcastInDim S2x128x8x80 ![0, 1, 2, 3] bcast_S2x128x1x80_S2x128x8x80_0_1_2_3 : (⟨S2x128x1x80, .f32⟩ : BufTy).Contents (Elt F) → (⟨S2x128x8x80, .f32⟩ : BufTy).Contents (Elt F)),
    StableHlo.binary main_v104 main_v110 main_v111 (mulf : (⟨S2x128x8x80, .f32⟩ : BufTy).Contents (Elt F) → (⟨S2x128x8x80, .f32⟩ : BufTy).Contents (Elt F) → (⟨S2x128x8x80, .f32⟩ : BufTy).Contents (Elt F)),
    StableHlo.unary main_v63 main_v112 (broadcastInDim S2x128x8x80 ![0, 1, 2, 3] bcast_S2x128x1x80_S2x128x8x80_0_1_2_3 : (⟨S2x128x1x80, .f32⟩ : BufTy).Contents (Elt F) → (⟨S2x128x8x80, .f32⟩ : BufTy).Contents (Elt F)),
    StableHlo.binary main_v103 main_v112 main_v113 (mulf : (⟨S2x128x8x80, .f32⟩ : BufTy).Contents (Elt F) → (⟨S2x128x8x80, .f32⟩ : BufTy).Contents (Elt F) → (⟨S2x128x8x80, .f32⟩ : BufTy).Contents (Elt F)),
    StableHlo.binary main_v111 main_v113 main_v114 (addf : (⟨S2x128x8x80, .f32⟩ : BufTy).Contents (Elt F) → (⟨S2x128x8x80, .f32⟩ : BufTy).Contents (Elt F) → (⟨S2x128x8x80, .f32⟩ : BufTy).Contents (Elt F)),
    StableHlo.binary main_v109 main_v114 main_v115 (fn_main_v115 (F := F)),
    StableHlo.unary main_v89 main_v116 ((truncf .bf16 · bitsLt_bf16_f32) : (⟨S2x128x40x160, .f32⟩ : BufTy).Contents (Elt F) → (⟨S2x128x40x160, .bf16⟩ : BufTy).Contents (Elt F)),
    StableHlo.unary main_v115 main_v117 ((truncf .bf16 · bitsLt_bf16_f32) : (⟨S2x128x8x160, .f32⟩ : BufTy).Contents (Elt F) → (⟨S2x128x8x160, .bf16⟩ : BufTy).Contents (Elt F)),
    StableHlo.unary main_v53 main_v118 ((truncf .bf16 · bitsLt_bf16_f32) : (⟨S2x128x8x160, .f32⟩ : BufTy).Contents (Elt F) → (⟨S2x128x8x160, .bf16⟩ : BufTy).Contents (Elt F)),
    StableHlo.reshape main_v40_0 main_v119 (rfl : (.fp8e4m3 : EltTy) = .fp8e4m3) shapeCasts_S256x5120_S2x128x5120 ]

set_option maxRecDepth 5000 in
/-- The Launch module's `hostOps1` is its windows in order. -/
theorem hostOps1_sfx_cut : (Gen.hostOps1 : List (HloOp τ sig (Elt F))) = sfx0 ++ (sfx1) := rfl

/-- The device's buffer contents before the later operations' first window. -/
def val0 (V0 : Valuation τ sig (Elt F)) : Valuation τ sig (Elt F) := V0
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_v40_1 (V0 : Valuation τ sig (Elt F)) : val0 V0 (no_index (Proc.devRef .tc main_v40_1)) = V0 (Proc.devRef .tc main_v40_1) := rfl
theorem val0_main_v32 (V0 : Valuation τ sig (Elt F)) : val0 V0 (no_index (Proc.devRef .tc main_v32)) = V0 (Proc.devRef .tc main_v32) := rfl
theorem val0_main_cst (V0 : Valuation τ sig (Elt F)) : val0 V0 (no_index (Proc.devRef .tc main_cst)) = V0 (Proc.devRef .tc main_cst) := rfl
theorem val0_main_v40_0 (V0 : Valuation τ sig (Elt F)) : val0 V0 (no_index (Proc.devRef .tc main_v40_0)) = V0 (Proc.devRef .tc main_v40_0) := rfl

/-- The device's buffer contents after the later operations' first 1 window. -/
def val1 (V0 : Valuation τ sig (Elt F)) : Valuation τ sig (Elt F) := after sfx0 (val0 V0)
/-- The buffers that window `sfx0`'s operations write. -/
abbrev sfx0_W : List (Ref sig .tc) := [main_v41, main_v42, main_v43, main_v44, main_v45, main_v46, main_v47, main_v48, main_v49, main_v50, main_v51, main_v52, main_v53, main_v54, main_v55, main_v56, main_v57, main_v58, main_v59, main_v60, main_v61, main_v62, main_v63, main_v64, main_cst_12, main_v65, main_v66, main_cst_13, main_v67, main_v68, main_cst_14, main_v69, main_v70, main_v71, main_v72, main_v73, main_v74, main_v75, main_v76, main_v77, main_v78, main_v79, main_v80, main_v81, main_v82, main_v83, main_v84, main_v85, main_v86, main_v87, main_v88, main_v89, main_v90, main_cst_15, main_v91, main_v92, main_cst_16, main_v93, main_v94, main_cst_17]
set_option maxRecDepth 8192 in
theorem sfx0_writes : (sfx0 : List (HloOp τ sig (Elt F))).Forall fun op => op.writes ⊆ (sfx0_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `sfx0` does not write keeps its contents through it. -/
theorem val1_keep (V0 : Valuation τ sig (Elt F)) (r : Ref sig .tc) (h : r ∉ sfx0_W) :
    val1 V0 (Proc.devRef .tc r) = val0 V0 (Proc.devRef .tc r) :=
  after_of_writes_sub sfx0 _ sfx0_writes h
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_v32 (V0 : Valuation τ sig (Elt F)) : val1 V0 (no_index (Proc.devRef .tc main_v32)) = V0 (Proc.devRef .tc main_v32) :=
  (val1_keep V0 main_v32 (by decide)).trans (val0_main_v32 V0)
theorem val1_main_v40_0 (V0 : Valuation τ sig (Elt F)) : val1 V0 (no_index (Proc.devRef .tc main_v40_0)) = V0 (Proc.devRef .tc main_v40_0) :=
  (val1_keep V0 main_v40_0 (by decide)).trans (val0_main_v40_0 V0)
set_option maxRecDepth 8192 in
set_option maxHeartbeats 4000000 in
theorem val1_main_v51 (V0 : Valuation τ sig (Elt F)) : val1 V0 (no_index (Proc.devRef .tc main_v51)) = res_main_v51 V0 := by
  unfold val1
  simp only [sfx0]
  after_results_simp
  simp only [val0_main_arg3, val0_main_v32, val0_main_v40_1] <;> rfl
set_option maxRecDepth 8192 in
set_option maxHeartbeats 4000000 in
theorem val1_main_v53 (V0 : Valuation τ sig (Elt F)) : val1 V0 (no_index (Proc.devRef .tc main_v53)) = shapeCast _ (extractStridedSlice S2x128x1280 ![0, 0, 7680] (res_main_v47 V0) slices_S2x128x8960_S2x128x1280_0_0_7680) shapeCasts_S2x128x1280_S2x128x8x160 := by
  unfold val1
  simp only [sfx0]
  after_results_simp
  simp only [val0_main_arg3, val0_main_v32, val0_main_v40_1] <;> rfl
set_option maxRecDepth 8192 in
set_option maxHeartbeats 4000000 in
theorem val1_main_v61 (V0 : Valuation τ sig (Elt F)) : val1 V0 (no_index (Proc.devRef .tc main_v61)) = res_main_v61 V0 := by
  unfold val1
  simp only [sfx0]
  after_results_simp
  simp only [val0_main_cst, val0_main_arg6] <;> rfl
set_option maxRecDepth 8192 in
set_option maxHeartbeats 4000000 in
theorem val1_main_v63 (V0 : Valuation τ sig (Elt F)) : val1 V0 (no_index (Proc.devRef .tc main_v63)) = res_main_v63 V0 := by
  unfold val1
  simp only [sfx0]
  after_results_simp
  simp only [val0_main_cst, val0_main_arg6] <;> rfl
set_option maxRecDepth 8192 in
set_option maxHeartbeats 4000000 in
theorem val1_main_v89 (V0 : Valuation τ sig (Elt F)) : val1 V0 (no_index (Proc.devRef .tc main_v89)) = concatenate S2x128x40x160 3 [⟨S2x128x40x80, (subf (mulf (res_main_v77 V0) (broadcastInDim S2x128x40x80 ![0, 1, 2, 3] bcast_S2x128x1x80_S2x128x40x80_0_1_2_3 (res_main_v61 V0))) (mulf (res_main_v78 V0) (broadcastInDim S2x128x40x80 ![0, 1, 2, 3] bcast_S2x128x1x80_S2x128x40x80_0_1_2_3 (res_main_v63 V0))))⟩, ⟨S2x128x40x80, (addf (mulf (res_main_v78 V0) (broadcastInDim S2x128x40x80 ![0, 1, 2, 3] bcast_S2x128x1x80_S2x128x40x80_0_1_2_3 (res_main_v61 V0))) (mulf (res_main_v77 V0) (broadcastInDim S2x128x40x80 ![0, 1, 2, 3] bcast_S2x128x1x80_S2x128x40x80_0_1_2_3 (res_main_v63 V0))))⟩] concatenates_S2x128x40x80_S2x128x40x80_S2x128x40x160_d3 := by
  unfold val1
  simp only [sfx0]
  after_results_simp
  simp only [val0_main_cst, val0_main_arg6, val0_main_arg4, val0_main_arg3, val0_main_v32, val0_main_v40_1] <;> rfl
set_option maxRecDepth 8192 in
set_option maxHeartbeats 4000000 in
theorem val1_main_v94 (V0 : Valuation τ sig (Elt F)) : val1 V0 (no_index (Proc.devRef .tc main_v94)) = Host.divf (broadcastInDim S2x128x8x1 ![0, 1, 2] bcast_S2x128x8_S2x128x8x1_0_1_2 (Host.reduceAdd (mulf (res_main_v51 V0) (res_main_v51 V0)) (constant S_ .f32 0x00000000#32) reducesTo_S2x128x8x160_S2x128x8_d3 h_S_)) (broadcastInDim S2x128x8x1 ![] bcast_S_S2x128x8x1 (constant S_ .f32 0x43200000#32)) := by
  unfold val1
  simp only [sfx0]
  after_results_simp
  simp only [val0_main_arg3, val0_main_v32, val0_main_v40_1] <;> rfl
set_option maxRecDepth 8192 in
set_option maxHeartbeats 4000000 in
theorem val1_main_cst_17 (V0 : Valuation τ sig (Elt F)) : val1 V0 (no_index (Proc.devRef .tc main_cst_17)) = constant S_ .f32 0x358637BD#32 := by
  unfold val1
  simp only [sfx0]
  after_results_simp
  all_goals rfl

/-- The device's buffer contents after the later operations' first 2 windows. -/
def val2 (V0 : Valuation τ sig (Elt F)) : Valuation τ sig (Elt F) := after sfx1 (val1 V0)
/-- The buffers that window `sfx1`'s operations write. -/
abbrev sfx1_W : List (Ref sig .tc) := [main_v95, main_v96, main_v97, main_v98, main_v99, main_v100, main_v101, main_v102, main_v103, main_v104, main_v105, main_v106, main_v107, main_v108, main_v109, main_v110, main_v111, main_v112, main_v113, main_v114, main_v115, main_v116, main_v117, main_v118, main_v119]
set_option maxRecDepth 8192 in
theorem sfx1_writes : (sfx1 : List (HloOp τ sig (Elt F))).Forall fun op => op.writes ⊆ (sfx1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `sfx1` does not write keeps its contents through it. -/
theorem val2_keep (V0 : Valuation τ sig (Elt F)) (r : Ref sig .tc) (h : r ∉ sfx1_W) :
    val2 V0 (Proc.devRef .tc r) = val1 V0 (Proc.devRef .tc r) :=
  after_of_writes_sub sfx1 _ sfx1_writes h
theorem val2_main_v32 (V0 : Valuation τ sig (Elt F)) : val2 V0 (no_index (Proc.devRef .tc main_v32)) = V0 (Proc.devRef .tc main_v32) :=
  (val2_keep V0 main_v32 (by decide)).trans (val1_main_v32 V0)
set_option maxRecDepth 8192 in
set_option maxHeartbeats 4000000 in
theorem val2_main_v116 (V0 : Valuation τ sig (Elt F)) : val2 V0 (no_index (Proc.devRef .tc main_v116)) = rQ V0 := by
  unfold val2
  simp only [sfx1]
  after_results_simp
  simp only [val1_main_v89] <;> rfl
set_option maxRecDepth 8192 in
set_option maxHeartbeats 4000000 in
theorem val2_main_v117 (V0 : Valuation τ sig (Elt F)) : val2 V0 (no_index (Proc.devRef .tc main_v117)) = rK V0 := by
  unfold val2
  simp only [sfx1]
  after_results_simp
  simp only [val1_main_v63, val1_main_arg5, val1_main_cst_17, val1_main_v94, val1_main_v51, val1_main_v61] <;> rfl
set_option maxRecDepth 8192 in
set_option maxHeartbeats 4000000 in
theorem val2_main_v118 (V0 : Valuation τ sig (Elt F)) : val2 V0 (no_index (Proc.devRef .tc main_v118)) = rW V0 := by
  unfold val2
  simp only [sfx1]
  after_results_simp
  simp only [val1_main_v53] <;> rfl
set_option maxRecDepth 8192 in
set_option maxHeartbeats 4000000 in
theorem val2_main_v119 (V0 : Valuation τ sig (Elt F)) : val2 V0 (no_index (Proc.devRef .tc main_v119)) = shapeCast _ (V0 (Proc.devRef .tc main_v40_0)) shapeCasts_S256x5120_S2x128x5120 := by
  unfold val2
  simp only [sfx1]
  after_results_simp
  simp only [val1_main_v40_0] <;> rfl

set_option maxRecDepth 8192 in
/-- The later operations from any contents `V0` leave the contents after their last window. -/
theorem after_sfx (V0 : Valuation τ sig (Elt F)) : after (List.flatten [Gen.hostOps1]) V0 = val2 V0 := by
  simp only [List.flatten_cons, List.flatten_nil, List.append_nil, hostOps1_sfx_cut, after_append]
  rfl

/-- Result `main_v116` after the later operations from the region's exit contents. -/
theorem fin_main_v116 (c : Dev nD) :
    Pipeline.afterTail₀ cfgs (Gen.dats m) 0 (Gen.V0 m) [Gen.hostOps1] c main_v116 = rQ (exitV m c) :=
  (congrFun (after_sfx (exitV m c)) (Proc.devRef .tc main_v116)).trans (val2_main_v116 (exitV m c))

/-- Result `main_v117` after the later operations from the region's exit contents. -/
theorem fin_main_v117 (c : Dev nD) :
    Pipeline.afterTail₀ cfgs (Gen.dats m) 0 (Gen.V0 m) [Gen.hostOps1] c main_v117 = rK (exitV m c) :=
  (congrFun (after_sfx (exitV m c)) (Proc.devRef .tc main_v117)).trans (val2_main_v117 (exitV m c))

/-- Result `main_v118` after the later operations from the region's exit contents. -/
theorem fin_main_v118 (c : Dev nD) :
    Pipeline.afterTail₀ cfgs (Gen.dats m) 0 (Gen.V0 m) [Gen.hostOps1] c main_v118 = rW (exitV m c) :=
  (congrFun (after_sfx (exitV m c)) (Proc.devRef .tc main_v118)).trans (val2_main_v118 (exitV m c))

/-- Result `main_v119` after the later operations from the region's exit contents. -/
theorem fin_main_v119 (c : Dev nD) :
    Pipeline.afterTail₀ cfgs (Gen.dats m) 0 (Gen.V0 m) [Gen.hostOps1] c main_v119 = shapeCast _ ((exitV m c) (Proc.devRef .tc main_v40_0)) shapeCasts_S256x5120_S2x128x5120 :=
  (congrFun (after_sfx (exitV m c)) (Proc.devRef .tc main_v119)).trans (val2_main_v119 (exitV m c))

/-- Result `main_v32` after the later operations from the region's exit contents. -/
theorem fin_main_v32 (c : Dev nD) :
    Pipeline.afterTail₀ cfgs (Gen.dats m) 0 (Gen.V0 m) [Gen.hostOps1] c main_v32 = rS (m ((c.tc : Thread nD τ).loc main_arg0)) (m ((c.tc : Thread nD τ).loc main_arg1)) :=
  ((congrFun (after_sfx (exitV m c)) (Proc.devRef .tc main_v32)).trans (val2_main_v32 (exitV m c))).trans (exit_main_v32 m c)

/-- On every device, for any float values, from any memory with zero counters: every weakly fair execution of
    @main terminates with each result at the later operations' term over named buffers read at the region's exit
    contents (the `exit_` lemmas turn those reads into arguments and outputs), and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v116) = rQ (exitV m c)
      ∧ r.2.mem ((c.tc : Thread nD τ).loc main_v117) = rK (exitV m c)
      ∧ r.2.mem ((c.tc : Thread nD τ).loc main_v118) = rW (exitV m c)
      ∧ r.2.mem ((c.tc : Thread nD τ).loc main_v119) = shapeCast _ ((exitV m c) (Proc.devRef .tc main_v40_0)) shapeCasts_S256x5120_S2x128x5120
      ∧ r.2.mem ((c.tc : Thread nD τ).loc main_v32) = rS (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v116 (Pipeline.mem_restRefs_of main_v116 (by decide) (by decide))).trans (fin_main_v116 m c),
      ((h c).2 main_v117 (Pipeline.mem_restRefs_of main_v117 (by decide) (by decide))).trans (fin_main_v117 m c),
      ((h c).2 main_v118 (Pipeline.mem_restRefs_of main_v118 (by decide) (by decide))).trans (fin_main_v118 m c),
      ((h c).2 main_v119 (Pipeline.mem_restRefs_of main_v119 (by decide) (by decide))).trans (fin_main_v119 m c),
      ((h c).2 main_v32 (Pipeline.mem_restRefs_of main_v32 (by decide) (by decide))).trans (fin_main_v32 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).1 1).trans (((Gen.dats m 0 c).arrAt_in 1 rfl _).trans ((Gen.A_eq m c 1).trans (Gen.V_main_arg2 m c))),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c),
      ((h c).2 main_arg5 (Pipeline.mem_restRefs_of main_arg5 (by decide) (by decide))).trans (Gen.W_main_arg5 m (Gen.dats m) c),
      ((h c).2 main_arg6 (Pipeline.mem_restRefs_of main_arg6 (by decide) (by decide))).trans (Gen.W_main_arg6 m (Gen.dats m) c)⟩) (Gen.run_main m ρ)

end Cert.ReferenceIdeal.Value

end
-- ==== Proof.RefRead.lean ====
module

public import proofs.«01_k».proof.Proof.RefRun
public import Idealize.ShloMosaic.Lib.Pointwise

/-! # The reference's terms read at an index -/

@[expose] public section

set_option maxRecDepth 16384

noncomputable section

namespace Cert.ReferenceIdeal.Value

open Cert.ReferenceIdeal Cert.ReferenceIdeal.Gen
open Idealize.ShloMosaic Idealize.ShloMosaic.TcCoe Idealize.SL.Sem

theorem rN_gen (x : FVec Ideal S2x128x5120 .bf16) (w : FVec Ideal S5120 .f32) (b : Fin 2) (i : Fin 128) (d : Fin 5120) :
    (mulf (mulf (extf .f32 x bitsLt_bf16_f32) (broadcastInDim S2x128x5120 ![0, 1, 2] bcast_S2x128x1_S2x128x5120_0_1_2 (Host.rsqrt (addf (Host.divf (broadcastInDim S2x128x1 ![0, 1] bcast_S2x128_S2x128x1_0_1 (Host.reduceAdd (mulf (extf .f32 x bitsLt_bf16_f32) (extf .f32 x bitsLt_bf16_f32)) (constant (F := Ideal) S_ .f32 0x00000000#32) reducesTo_S2x128x5120_S2x128_d2 h_S_)) (broadcastInDim S2x128x1 ![] bcast_S_S2x128x1 (constant (F := Ideal) S_ .f32 0x45A00000#32))) (broadcastInDim S2x128x1 ![] bcast_S_S2x128x1 (constant (F := Ideal) S_ .f32 0x3727C5AC#32)))))) (broadcastInDim S2x128x5120 ![0, 1, 2] bcast_S1x1x5120_S2x128x5120_0_1_2 (broadcastInDim S1x1x5120 ![2] bcast_S5120_S1x1x5120_2 w))) (ix3 b i d) = x (ix3 b i d) * Ideal.rsqrt (Ideal.div (∑ k : Fin 5120, x (ix3 b i k) * x (ix3 b i k)) (Ideal.ofBits .f32 0x45A00000#32) + Ideal.ofBits .f32 0x3727C5AC#32) * w (ix1 d) := by
  pointwise []

theorem rV_gen (n : FVec Ideal S2x128x5120 .f32) (b : Fin 2) (i : Fin 128) :
    (mulf (Host.reduce FloatOps.maximumf (Host.absf n) (constant (F := Ideal) S_ .f32 0xFF800000#32) reducesTo_S2x128x5120_S2x128_d2 h_S_) (broadcastInDim S2x128 ![] bcast_S_S2x128 (constant (F := Ideal) S_ .f32 0x3B124925#32))) (ix2 b i) = Finset.fold max (Ideal.ofBits .f32 0xFF800000#32) (fun k => FloatOps.absf (n (ix3 b i k))) Finset.univ * Ideal.ofBits .f32 0x3B124925#32 := by
  pointwise []

theorem rE_gen (v : FVec Ideal S2x128 .f32) (b : Fin 2) (i : Fin 128) :
    (select (andi (cmpf .oge v (broadcastInDim S2x128 ![] bcast_S_S2x128 (constant (F := Ideal) S_ .f32 0x00800000#32))) (cmpf .ole v (broadcastInDim S2x128 ![] bcast_S_S2x128 (constant (F := Ideal) S_ .f32 0x7F7FFFFF#32)))) (addf (Host.floor (Host.divf (Host.log v) (broadcastInDim S2x128 ![] bcast_S_S2x128 (Host.log (constant (F := Ideal) S_ .f32 0x40000000#32))))) (broadcastInDim S2x128 ![] bcast_S_S2x128 (constant (F := Ideal) S_ .f32 0x3F800000#32))) (broadcastInDim S2x128 ![] bcast_S_S2x128 (constant (F := Ideal) S_ .f32 0x00000000#32))) (ix2 b i) = (Scalar.select
      (IntOp.andi (BitVec.ofBool (decide (Ideal.ofBits FTy.f32 8388608#32 ≤ v (ix2 b i))))
        (BitVec.ofBool (decide (v (ix2 b i) ≤ Ideal.ofBits FTy.f32 2139095039#32))))
      (Ideal.liftRound Int.floor (Ideal.div (Ideal.log (v (ix2 b i))) (Ideal.log (Ideal.ofBits FTy.f32 1073741824#32))) + 1) 0 : EReal) := by
  pointwise []

theorem rS_gen (e : FVec Ideal S2x128 .f32) (b : Fin 2) (i : Fin 128) :
    (Host.powf (broadcastInDim S2x128 ![] bcast_S_S2x128 (constant (F := Ideal) S_ .f32 0x40000000#32)) e) (ix2 b i) = Ideal.pow (Ideal.ofBits .f32 0x40000000#32) (e (ix2 b i)) := by
  pointwise []

theorem rT_gen (n : FVec Ideal S2x128x5120 .f32) (e : FVec Ideal S2x128 .f32) (r : Fin 256) (d : Fin 5120) :
    (shapeCast S256x5120 (mulf n (broadcastInDim S2x128x5120 ![0, 1, 2] bcast_S2x128x1_S2x128x5120_0_1_2 (broadcastInDim S2x128x1 ![0, 1] bcast_S2x128_S2x128x1_0_1 (Host.powf (broadcastInDim S2x128 ![] bcast_S_S2x128 (constant (F := Ideal) S_ .f32 0x40000000#32)) (Host.negf e))))) shapeCasts_S2x128x5120_S256x5120) (ix2 r d) = n (ix3 ⟨r.val / 128, by omega⟩ ⟨r.val % 128, by omega⟩ d) * Ideal.pow (Ideal.ofBits .f32 0x40000000#32) (-e (ix2 ⟨r.val / 128, by omega⟩ ⟨r.val % 128, by omega⟩)) := by
  pointwise []

theorem res_main_v47_gen (a : FVec Ideal S256x8960 .f32) (e : FVec Ideal S2x128 .f32) (s : FVec Ideal S8960 .f32) (b : Fin 2) (i : Fin 128) (d : Fin 8960) :
    (mulf (mulf (shapeCast S2x128x8960 a shapeCasts_S256x8960_S2x128x8960) (broadcastInDim S2x128x8960 ![0, 1, 2] bcast_S2x128x1_S2x128x8960_0_1_2 (broadcastInDim S2x128x1 ![0, 1] bcast_S2x128_S2x128x1_0_1 e))) (broadcastInDim S2x128x8960 ![0, 1, 2] bcast_S1x1x8960_S2x128x8960_0_1_2 (broadcastInDim S1x1x8960 ![2] bcast_S8960_S1x1x8960_2 s))) (ix3 b i d) = a (ix2 ⟨b.val * 128 + i.val, by omega⟩ d) * e (ix2 b i) * s (ix1 d) := by
  pointwise []

theorem res_main_v49_gen (y : FVec Ideal S2x128x8960 .f32) (b : Fin 2) (i : Fin 128) (h : Fin 40) (d : Fin 160) :
    (shapeCast S2x128x40x160 (extractStridedSlice S2x128x6400 ![0, 0, 0] y slices_S2x128x8960_S2x128x6400_0_0_0) shapeCasts_S2x128x6400_S2x128x40x160) (ix4 b i h d) = y (ix3 b i ⟨h.val * 160 + d.val, by omega⟩) := by
  pointwise []

theorem res_main_v51_gen (y : FVec Ideal S2x128x8960 .f32) (b : Fin 2) (i : Fin 128) (h : Fin 8) (d : Fin 160) :
    (shapeCast S2x128x8x160 (extractStridedSlice S2x128x1280 ![0, 0, 6400] y slices_S2x128x8960_S2x128x1280_0_0_6400) shapeCasts_S2x128x1280_S2x128x8x160) (ix4 b i h d) = y (ix3 b i ⟨6400 + (h.val * 160 + d.val), by omega⟩) := by
  pointwise []

theorem rW_gen (y : FVec Ideal S2x128x8960 .f32) (b : Fin 2) (i : Fin 128) (h : Fin 8) (d : Fin 160) :
    (truncf .bf16 (shapeCast S2x128x8x160 (extractStridedSlice S2x128x1280 ![0, 0, 7680] y slices_S2x128x8960_S2x128x1280_0_0_7680) shapeCasts_S2x128x1280_S2x128x8x160) bitsLt_bf16_f32) (ix4 b i h d) = y (ix3 b i ⟨7680 + (h.val * 160 + d.val), by omega⟩) := by
  pointwise []

theorem res_main_v59_gen (p : IVec S2x128 32) (f : FVec Ideal S80 .f32) (b : Fin 2) (i : Fin 128) (d : Fin 80) :
    (mulf (broadcastInDim S2x128x80 ![0, 1, 2] bcast_S2x128x1_S2x128x80_0_1_2 (broadcastInDim S2x128x1 ![0, 1] bcast_S2x128_S2x128x1_0_1 (sitofp .f32 p))) (broadcastInDim S2x128x80 ![0, 1, 2] bcast_S1x1x80_S2x128x80_0_1_2 (broadcastInDim S1x1x80 ![2] bcast_S80_S1x1x80_2 f))) (ix3 b i d) = FloatOps.sitofp .f32 (p (ix2 b i)) * f (ix1 d) := by
  pointwise []

theorem res_main_v76_gen (y : FVec Ideal S2x128x40x160 .f32) (g : FVec Ideal S160 .f32) (b : Fin 2) (i : Fin 128) (h : Fin 40) (d : Fin 160) :
    (mulf (mulf y (broadcastInDim S2x128x40x160 ![0, 1, 2, 3] bcast_S2x128x40x1_S2x128x40x160_0_1_2_3 (Host.rsqrt (addf (Host.divf (broadcastInDim S2x128x40x1 ![0, 1, 2] bcast_S2x128x40_S2x128x40x1_0_1_2 (Host.reduceAdd (mulf y y) (constant (F := Ideal) S_ .f32 0x00000000#32) reducesTo_S2x128x40x160_S2x128x40_d3 h_S_)) (broadcastInDim S2x128x40x1 ![] bcast_S_S2x128x40x1 (constant (F := Ideal) S_ .f32 0x43200000#32))) (broadcastInDim S2x128x40x1 ![] bcast_S_S2x128x40x1 (constant (F := Ideal) S_ .f32 0x358637BD#32)))))) (broadcastInDim S2x128x40x160 ![0, 1, 2, 3] bcast_S1x1x1x160_S2x128x40x160_0_1_2_3 (broadcastInDim S1x1x1x160 ![3] bcast_S160_S1x1x1x160_3 g))) (ix4 b i h d) = y (ix4 b i h d) * Ideal.rsqrt (Ideal.div (∑ k : Fin 160, y (ix4 b i h k) * y (ix4 b i h k)) (Ideal.ofBits .f32 0x43200000#32) + Ideal.ofBits .f32 0x358637BD#32) * g (ix1 d) := by
  pointwise []

theorem res_main_v102_gen (y : FVec Ideal S2x128x8x160 .f32) (g : FVec Ideal S160 .f32) (b : Fin 2) (i : Fin 128) (h : Fin 8) (d : Fin 160) :
    (mulf (mulf y (broadcastInDim S2x128x8x160 ![0, 1, 2, 3] bcast_S2x128x8x1_S2x128x8x160_0_1_2_3 (Host.rsqrt (addf (Host.divf (broadcastInDim S2x128x8x1 ![0, 1, 2] bcast_S2x128x8_S2x128x8x1_0_1_2 (Host.reduceAdd (mulf y y) (constant (F := Ideal) S_ .f32 0x00000000#32) reducesTo_S2x128x8x160_S2x128x8_d3 h_S_)) (broadcastInDim S2x128x8x1 ![] bcast_S_S2x128x8x1 (constant (F := Ideal) S_ .f32 0x43200000#32))) (broadcastInDim S2x128x8x1 ![] bcast_S_S2x128x8x1 (constant (F := Ideal) S_ .f32 0x358637BD#32)))))) (broadcastInDim S2x128x8x160 ![0, 1, 2, 3] bcast_S1x1x1x160_S2x128x8x160_0_1_2_3 (broadcastInDim S1x1x1x160 ![3] bcast_S160_S1x1x1x160_3 g))) (ix4 b i h d) = y (ix4 b i h d) * Ideal.rsqrt (Ideal.div (∑ k : Fin 160, y (ix4 b i h k) * y (ix4 b i h k)) (Ideal.ofBits .f32 0x43200000#32) + Ideal.ofBits .f32 0x358637BD#32) * g (ix1 d) := by
  pointwise []

theorem rQ_gen (y : FVec Ideal S2x128x40x160 .f32) (a : FVec Ideal S2x128x80 .f32) (b : Fin 2) (i : Fin 128) (h : Fin 40) (d : Fin 160) :
    (truncf .bf16 (concatenate S2x128x40x160 3 [⟨S2x128x40x80, (subf (mulf (extractStridedSlice S2x128x40x80 ![0, 0, 0, 0] y slices_S2x128x40x160_S2x128x40x80_0_0_0_0) (broadcastInDim S2x128x40x80 ![0, 1, 2, 3] bcast_S2x128x1x80_S2x128x40x80_0_1_2_3 (broadcastInDim S2x128x1x80 ![0, 1, 3] bcast_S2x128x80_S2x128x1x80_0_1_3 (Host.cos a)))) (mulf (extractStridedSlice S2x128x40x80 ![0, 0, 0, 80] y slices_S2x128x40x160_S2x128x40x80_0_0_0_80) (broadcastInDim S2x128x40x80 ![0, 1, 2, 3] bcast_S2x128x1x80_S2x128x40x80_0_1_2_3 (broadcastInDim S2x128x1x80 ![0, 1, 3] bcast_S2x128x80_S2x128x1x80_0_1_3 (Host.sin a)))))⟩, ⟨S2x128x40x80, (addf (mulf (extractStridedSlice S2x128x40x80 ![0, 0, 0, 80] y slices_S2x128x40x160_S2x128x40x80_0_0_0_80) (broadcastInDim S2x128x40x80 ![0, 1, 2, 3] bcast_S2x128x1x80_S2x128x40x80_0_1_2_3 (broadcastInDim S2x128x1x80 ![0, 1, 3] bcast_S2x128x80_S2x128x1x80_0_1_3 (Host.cos a)))) (mulf (extractStridedSlice S2x128x40x80 ![0, 0, 0, 0] y slices_S2x128x40x160_S2x128x40x80_0_0_0_0) (broadcastInDim S2x128x40x80 ![0, 1, 2, 3] bcast_S2x128x1x80_S2x128x40x80_0_1_2_3 (broadcastInDim S2x128x1x80 ![0, 1, 3] bcast_S2x128x80_S2x128x1x80_0_1_3 (Host.sin a)))))⟩] concatenates_S2x128x40x80_S2x128x40x80_S2x128x40x160_d3) bitsLt_bf16_f32) (ix4 b i h d) = (if h' : d.val < 80 then
      y (ix4 b i h d) * Ideal.cos (a (ix3 b i ⟨d.val, h'⟩)) - y (ix4 b i h ⟨80 + d.val, by omega⟩) * Ideal.sin (a (ix3 b i ⟨d.val, h'⟩))
    else
      y (ix4 b i h ⟨80 + (d.val - 80), by omega⟩) * Ideal.cos (a (ix3 b i ⟨d.val - 80, by omega⟩)) + y (ix4 b i h ⟨d.val - 80, by omega⟩) * Ideal.sin (a (ix3 b i ⟨d.val - 80, by omega⟩)) : EReal) := by
  pointwise []

theorem rK_gen (y : FVec Ideal S2x128x8x160 .f32) (a : FVec Ideal S2x128x80 .f32) (b : Fin 2) (i : Fin 128) (h : Fin 8) (d : Fin 160) :
    (truncf .bf16 (concatenate S2x128x8x160 3 [⟨S2x128x8x80, (subf (mulf (extractStridedSlice S2x128x8x80 ![0, 0, 0, 0] y slices_S2x128x8x160_S2x128x8x80_0_0_0_0) (broadcastInDim S2x128x8x80 ![0, 1, 2, 3] bcast_S2x128x1x80_S2x128x8x80_0_1_2_3 (broadcastInDim S2x128x1x80 ![0, 1, 3] bcast_S2x128x80_S2x128x1x80_0_1_3 (Host.cos a)))) (mulf (extractStridedSlice S2x128x8x80 ![0, 0, 0, 80] y slices_S2x128x8x160_S2x128x8x80_0_0_0_80) (broadcastInDim S2x128x8x80 ![0, 1, 2, 3] bcast_S2x128x1x80_S2x128x8x80_0_1_2_3 (broadcastInDim S2x128x1x80 ![0, 1, 3] bcast_S2x128x80_S2x128x1x80_0_1_3 (Host.sin a)))))⟩, ⟨S2x128x8x80, (addf (mulf (extractStridedSlice S2x128x8x80 ![0, 0, 0, 80] y slices_S2x128x8x160_S2x128x8x80_0_0_0_80) (broadcastInDim S2x128x8x80 ![0, 1, 2, 3] bcast_S2x128x1x80_S2x128x8x80_0_1_2_3 (broadcastInDim S2x128x1x80 ![0, 1, 3] bcast_S2x128x80_S2x128x1x80_0_1_3 (Host.cos a)))) (mulf (extractStridedSlice S2x128x8x80 ![0, 0, 0, 0] y slices_S2x128x8x160_S2x128x8x80_0_0_0_0) (broadcastInDim S2x128x8x80 ![0, 1, 2, 3] bcast_S2x128x1x80_S2x128x8x80_0_1_2_3 (broadcastInDim S2x128x1x80 ![0, 1, 3] bcast_S2x128x80_S2x128x1x80_0_1_3 (Host.sin a)))))⟩] concatenates_S2x128x8x80_S2x128x8x80_S2x128x8x160_d3) bitsLt_bf16_f32) (ix4 b i h d) = (if h' : d.val < 80 then
      y (ix4 b i h d) * Ideal.cos (a (ix3 b i ⟨d.val, h'⟩)) - y (ix4 b i h ⟨80 + d.val, by omega⟩) * Ideal.sin (a (ix3 b i ⟨d.val, h'⟩))
    else
      y (ix4 b i h ⟨80 + (d.val - 80), by omega⟩) * Ideal.cos (a (ix3 b i ⟨d.val - 80, by omega⟩)) + y (ix4 b i h ⟨d.val - 80, by omega⟩) * Ideal.sin (a (ix3 b i ⟨d.val - 80, by omega⟩)) : EReal) := by
  pointwise []

end Cert.ReferenceIdeal.Value

end
-- ==== Proof.RefValue.lean ====
module

public import proofs.«01_k».proof.Proof.RefRead
public import proofs.«01_k».proof.Proof.Spec
public import Idealize.ShloMosaic.Lib.Pipeline.ValueKit

/-! # The reference's results as functions of its arguments -/

@[expose] public section

set_option maxRecDepth 16384

noncomputable section

namespace Cert.ReferenceIdeal.Value

open Cert.ReferenceIdeal Cert.ReferenceIdeal.Gen
open Idealize.ShloMosaic Idealize.ShloMosaic.TcCoe Idealize.SL.Sem

section
variable {F : FTy → Type} [FloatOps F] (m : (l : Loc nD τ sig) → Buf (Elt F) l) (c : Dev nD)
theorem iblk0 : iblk m c 0 t0_0 = Gen.V0 m c (Proc.devRef .tc main_v39) := by
  have hz0 : (fun a => (win0_0.index t0_0) a * main_v39.ty.shape.size a) = fun _ => 0 := funext fun a => by fin_cases a <;> decide
  have hr0 := fun f => Memref.read_access_unit_zero (Elt F) main_v39 hz0 (fun a => by fin_cases a <;> decide) f
  unfold iblk
  exact hr0 _
theorem iblk1 : iblk m c 1 t0_0 = m ((c.tc : Thread nD τ).loc main_arg2) := by
  have hz0 : (fun a => (win0_1.index t0_0) a * main_arg2.ty.shape.size a) = fun _ => 0 := funext fun a => by fin_cases a <;> decide
  have hr0 := fun f => Memref.read_access_unit_zero (Elt F) main_arg2 hz0 (fun a => by fin_cases a <;> decide) f
  unfold iblk
  exact (hr0 _).trans (V_main_arg2 m c)
theorem reg0 : reg_main_v40_0 m c = k0_pay1 (Gen.V0 m c (Proc.devRef .tc main_v39)) := by
  unfold reg_main_v40_0
  refine (Gen.dats m 0 c).arrAt_eq_of_after_last 2 t0_0 (by decide +kernel) _ fun j => ?_
  blk_simp
  rw [after0_2]
  frame_out
  rw [iblk0]
theorem reg1 : reg_main_v40_1 m c = k0_pay2 (Gen.V0 m c (Proc.devRef .tc main_v39)) (m ((c.tc : Thread nD τ).loc main_arg2)) := by
  unfold reg_main_v40_1
  refine (Gen.dats m 0 c).arrAt_eq_of_after_last 3 t0_0 (by decide +kernel) _ fun j => ?_
  blk_simp
  rw [after0_3]
  frame_out
  rw [iblk0]
  exact congrArg (fun z => k0_pay2 _ z j) (iblk1 m c)

end

theorem pay1_at (v : FVec Ideal S256x5120 .f32) (r : Fin 256) (d : Fin 5120) :
    (k0_pay1 (F := Ideal) v (ix2 r d) : EReal) = min (Ideal.ofBits .f32 0x43E00000#32) (max (Ideal.ofBits .f32 0xC3E00000#32) (v (ix2 r d))) := by
  pointwise [k0_pay1]
theorem pay2_at (v : FVec Ideal S256x5120 .f32) (w : FVec Ideal S5120x8960 .fp8e4m3) (r : Fin 256) (o : Fin 8960) :
    (k0_pay2 (F := Ideal) v w (ix2 r o) : EReal) = ∑ k, k0_pay1 (F := Ideal) v (ix2 r k) * w (ix2 k o) := by
  pointwise [k0_pay2]
theorem v119_gen (v : FVec Ideal S256x5120 .fp8e4m3) (b : Fin 2) (i : Fin 128) (d : Fin 5120) :
    (shapeCast S2x128x5120 v shapeCasts_S256x5120_S2x128x5120 (ix3 b i d) : EReal) = v (ix2 ⟨b.val * 128 + i.val, by omega⟩ d) := by
  pointwise []

open Cert.Proof.Spec

section
variable (x : FVec Ideal S2x128x5120 .bf16) (w : FVec Ideal S5120 .f32) (b : Fin 2) (i : Fin 128)

theorem rN_at (d : Fin 5120) : (rN (F := Ideal) x w (ix3 b i d) : EReal) = nrm (fun k => x (ix3 b i k)) (fun k => w (ix1 k)) d := by
  unfold rN
  refine (rN_gen x w b i d).trans ?_
  rw [div_5120]
  rfl
theorem rV_at : (rV (F := Ideal) x w (ix2 b i) : EReal) = mag (nrm (fun k => x (ix3 b i k)) (fun k => w (ix1 k))) := by
  unfold rV
  refine (rV_gen _ b i).trans ?_
  unfold mag
  simp only [rN_at]
  rfl
theorem rE_at : (rE (F := Ideal) x w (ix2 b i) : EReal) = expo (mag (nrm (fun k => x (ix3 b i k)) (fun k => w (ix1 k)))) := by
  unfold rE
  refine (rE_gen _ b i).trans ?_
  rw [select_and, rV_at]
  rfl
theorem rS_at : (rS (F := Ideal) x w (ix2 b i) : EReal) = scale (fun k => x (ix3 b i k)) (fun k => w (ix1 k)) := by
  unfold rS
  refine (rS_gen _ b i).trans ?_
  rw [rE_at]
  rfl
theorem rT_at (r : Fin 256) (hr : r.val = b.val * 128 + i.val) (d : Fin 5120) :
    (k0_pay1 (F := Ideal) (rT (F := Ideal) x w) (ix2 r d) : EReal) = code (fun k => x (ix3 b i k)) (fun k => w (ix1 k)) d := by
  refine (pay1_at _ r d).trans ?_
  unfold rT
  rw [show _ = _ from rT_gen (rN (F := Ideal) x w) (rE (F := Ideal) x w) r d]
  have hb : (⟨r.val / 128, by omega⟩ : Fin 2) = b := Fin.ext (by show r.val / 128 = b.val; omega)
  have hi : (⟨r.val % 128, by omega⟩ : Fin 128) = i := Fin.ext (by show r.val % 128 = i.val; omega)
  rw [hb, hi, rN_at, rE_at]
  rfl
end

section
variable (m : (l : Loc nD τ sig) → Buf (Elt Ideal) l) (c : Dev nD)

/-- The arguments as the reference is handed them. -/
def args : Args where
  x b i k := (m ((c.tc : Thread nD τ).loc main_arg0) : FVec Ideal S2x128x5120 .bf16) (ix3 b i k)
  nw k := (m ((c.tc : Thread nD τ).loc main_arg1) : FVec Ideal S5120 .f32) (ix1 k)
  w k o := (m ((c.tc : Thread nD τ).loc main_arg2) : FVec Ideal S5120x8960 .fp8e4m3) (ix2 k o)
  ws o := (m ((c.tc : Thread nD τ).loc main_arg3) : FVec Ideal S8960 .f32) (ix1 o)
  qg k := (m ((c.tc : Thread nD τ).loc main_arg4) : FVec Ideal S160 .f32) (ix1 k)
  kg k := (m ((c.tc : Thread nD τ).loc main_arg5) : FVec Ideal S160 .f32) (ix1 k)
  ang b i k := FloatOps.sitofp (F := Ideal) .f32 ((m ((c.tc : Thread nD τ).loc main_arg6) : IVec S2x128 32) (ix2 b i)) * FloatOps.ofBits (F := Ideal) .f32 (lit0 (S80.rowMajor (ix1 k)))

theorem codes_at (r : Fin 256) (b : Fin 2) (i : Fin 128) (hr : r.val = b.val * 128 + i.val) (d : Fin 5120) :
    ((exitV m c (Proc.devRef .tc main_v40_0) : FVec Ideal S256x5120 .fp8e4m3) (ix2 r d) : EReal) = (args m c).c b i d := by
  rw [exit_main_v40_0, reg0, entry_main_v39]
  exact rT_at _ _ b i r hr d
theorem v47_at (b : Fin 2) (i : Fin 128) (o : Fin 8960) :
    ((res_main_v47 (exitV m c) : FVec Ideal S2x128x8960 .f32) (ix3 b i o) : EReal) = (args m c).P b i o := by
  unfold res_main_v47
  rw [exit_main_v40_1, exit_main_v32, exit_main_arg3, reg1, entry_main_v39]
  refine (res_main_v47_gen _ _ _ b i o).trans ?_
  rw [pay2_at, rS_at]
  simp only [fun d => rT_at (m ((c.tc : Thread nD τ).loc main_arg0)) (m ((c.tc : Thread nD τ).loc main_arg1)) b i (⟨b.val * 128 + i.val, by omega⟩ : Fin 256) rfl d]
  rfl
theorem v59_at (b : Fin 2) (i : Fin 128) (d : Fin 80) :
    ((res_main_v59 (exitV m c) : FVec Ideal S2x128x80 .f32) (ix3 b i d) : EReal) = (args m c).ang b i d := by
  unfold res_main_v59
  rw [exit_main_arg6, exit_main_cst]
  exact res_main_v59_gen _ _ b i d
theorem v49_at (b : Fin 2) (i : Fin 128) (h : Fin 40) (d : Fin 160) :
    ((res_main_v49 (exitV m c) : FVec Ideal S2x128x40x160 .f32) (ix4 b i h d) : EReal) = (args m c).P b i ⟨h.val * 160 + d.val, by omega⟩ := by
  unfold res_main_v49
  exact (res_main_v49_gen _ b i h d).trans (v47_at m c b i _)
theorem v51_at (b : Fin 2) (i : Fin 128) (h : Fin 8) (d : Fin 160) :
    ((res_main_v51 (exitV m c) : FVec Ideal S2x128x8x160 .f32) (ix4 b i h d) : EReal) = (args m c).P b i ⟨6400 + (h.val * 160 + d.val), by omega⟩ := by
  unfold res_main_v51
  exact (res_main_v51_gen _ b i h d).trans (v47_at m c b i _)
theorem v76_at (b : Fin 2) (i : Fin 128) (h : Fin 40) (d : Fin 160) :
    ((res_main_v76 (exitV m c) : FVec Ideal S2x128x40x160 .f32) (ix4 b i h d) : EReal) = hn (fun k => (args m c).P b i ⟨h.val * 160 + k.val, by omega⟩) (args m c).qg d := by
  unfold res_main_v76
  rw [exit_main_arg4]
  refine (res_main_v76_gen _ _ b i h d).trans ?_
  rw [div_160]
  simp only [v49_at]
  rfl
theorem v102_at (b : Fin 2) (i : Fin 128) (h : Fin 8) (d : Fin 160) :
    ((res_main_v102 (exitV m c) : FVec Ideal S2x128x8x160 .f32) (ix4 b i h d) : EReal) = hn (fun k => (args m c).P b i ⟨6400 + (h.val * 160 + k.val), by omega⟩) (args m c).kg d := by
  unfold res_main_v102
  rw [exit_main_arg5]
  refine (res_main_v102_gen _ _ b i h d).trans ?_
  rw [div_160]
  simp only [v51_at]
  rfl
theorem q_at (b : Fin 2) (i : Fin 128) (h : Fin 40) (d : Fin 160) :
    (rQ (exitV m c) (ix4 b i h d) : EReal) = (args m c).q b i h d := by
  unfold rQ res_main_v77 res_main_v78 res_main_v61 res_main_v63
  refine (rQ_gen _ _ b i h d).trans ?_
  simp only [v76_at, v59_at]
  unfold Args.q rot
  by_cases hd : d.val < 80
  · rw [dif_pos hd, dif_pos hd]
  · rw [dif_neg hd, dif_neg hd, show (⟨80 + (d.val - 80), by omega⟩ : Fin 160) = d from Fin.ext (by show 80 + (d.val - 80) = d.val; omega)]
theorem k_at (b : Fin 2) (i : Fin 128) (h : Fin 8) (d : Fin 160) :
    (rK (exitV m c) (ix4 b i h d) : EReal) = (args m c).k b i h d := by
  unfold rK res_main_v103 res_main_v104 res_main_v61 res_main_v63
  refine (rK_gen _ _ b i h d).trans ?_
  simp only [v102_at, v59_at]
  unfold Args.k rot
  by_cases hd : d.val < 80
  · rw [dif_pos hd, dif_pos hd]
  · rw [dif_neg hd, dif_neg hd, show (⟨80 + (d.val - 80), by omega⟩ : Fin 160) = d from Fin.ext (by show 80 + (d.val - 80) = d.val; omega)]
theorem w_at (b : Fin 2) (i : Fin 128) (h : Fin 8) (d : Fin 160) :
    (rW (exitV m c) (ix4 b i h d) : EReal) = (args m c).v b i h d := by
  unfold rW
  exact (rW_gen _ b i h d).trans (v47_at m c b i _)
theorem c_at (b : Fin 2) (i : Fin 128) (d : Fin 5120) :
    (shapeCast S2x128x5120 (exitV m c (Proc.devRef .tc main_v40_0) : FVec Ideal S256x5120 .fp8e4m3) shapeCasts_S256x5120_S2x128x5120 (ix3 b i d) : EReal) = (args m c).c b i d :=
  (v119_gen _ b i d).trans (codes_at m c _ b i rfl d)
theorem s_at (b : Fin 2) (i : Fin 128) :
    (rS (F := Ideal) (m ((c.tc : Thread nD τ).loc main_arg0)) (m ((c.tc : Thread nD τ).loc main_arg1)) (ix2 b i) : EReal) = (args m c).s b i := rS_at _ _ b i
end

end Cert.ReferenceIdeal.Value

end
-- ==== Proof.Algebra.lean ====
module

public import proofs.«01_k».proof.Defs
public import proofs.«01_k».proof.Proof.Gen.ReferenceIdeal.Frame
public import proofs.«01_k».proof.Proof.Angles
public import proofs.«01_k».proof.Proof.KernelFinal
public import proofs.«01_k».proof.Proof.RefValue

/-! # The kernel and the reference compute the same five results -/

@[expose] public section

set_option maxRecDepth 16384

noncomputable section

namespace Cert.Proof.Algebra

open Idealize.ShloMosaic Idealize.ShloMosaic.TcCoe Idealize.SL.Sem

variable (m : (l : Loc Cert.KernelIdeal.nD Cert.KernelIdeal.τ Cert.KernelIdeal.sig) → Buf (Elt Ideal) l) (m' : (l : Loc Cert.ReferenceIdeal.nD Cert.ReferenceIdeal.τ Cert.ReferenceIdeal.sig) → Buf (Elt Ideal) l) (c : Dev Cert.KernelIdeal.nD)

/-- The two memories hold the same arguments. -/
def Agree : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

theorem freq_eq (k : Fin 80) (i : Fin 128) :
    Cert.ReferenceIdeal.lit0 (Cert.ReferenceIdeal.S80.rowMajor (ix1 k)) = Cert.KernelIdeal.lit0 (Cert.KernelIdeal.S80x128.rowMajor (ix2 k i)) := by
  have h : Cert.KernelIdeal.S80x128.rowMajor (ix2 k i) = (⟨k.val * 128 + i.val, by omega⟩ : Fin 10240) := Fin.ext (Shape.rowMajor_val_two _)
  have h' : Cert.ReferenceIdeal.S80.rowMajor (ix1 k) = (k : Fin 80) := Fin.ext (Shape.rowMajor_val_one _)
  exact (congrArg Cert.ReferenceIdeal.lit0 h').trans ((Angles.table k i).symm.trans (congrArg Cert.KernelIdeal.lit0 h).symm)

variable {m m'} in
theorem args_eq (h : Agree m m' c) : Cert.ReferenceIdeal.Value.args m' c = KernelIdeal.args m c :=
  Spec.Args.ext (funext fun b => funext fun i => funext fun k => congrFun h.1 (ix3 b i k)) (funext fun k => congrFun h.2.1 (ix1 k))
    (funext fun k => funext fun o => congrFun h.2.2.1 (ix2 k o)) (funext fun o => congrFun h.2.2.2.1 (ix1 o)) (funext fun k => congrFun h.2.2.2.2.1 (ix1 k))
    (funext fun k => congrFun h.2.2.2.2.2.1 (ix1 k))
    (funext fun b => funext fun i => funext fun k => congrArg₂ (fun p f => FloatOps.sitofp (F := Ideal) .f32 p * FloatOps.ofBits (F := Ideal) .f32 f) (congrFun h.2.2.2.2.2.2 (ix2 b i)) (freq_eq k i))

variable {m m'}

theorem q_eq (h : Agree m m' c) : Cert.ReferenceIdeal.Value.rQ (Cert.ReferenceIdeal.Value.exitV m' c) = KernelIdeal.final m c Cert.KernelIdeal.main_v5 := funext fun j => by
  rw [eq_ix4 j]
  exact (Cert.ReferenceIdeal.Value.q_at m' c _ _ _ _).trans ((congrArg (fun A => Spec.Args.q A _ _ _ _) (args_eq c h)).trans (KernelIdeal.q_at m c _ _ _ _).symm)
theorem k_eq (h : Agree m m' c) : Cert.ReferenceIdeal.Value.rK (Cert.ReferenceIdeal.Value.exitV m' c) = KernelIdeal.final m c Cert.KernelIdeal.main_v6 := funext fun j => by
  rw [eq_ix4 j]
  exact (Cert.ReferenceIdeal.Value.k_at m' c _ _ _ _).trans ((congrArg (fun A => Spec.Args.k A _ _ _ _) (args_eq c h)).trans (KernelIdeal.k_at m c _ _ _ _).symm)
theorem v_eq (h : Agree m m' c) : Cert.ReferenceIdeal.Value.rW (Cert.ReferenceIdeal.Value.exitV m' c) = KernelIdeal.final m c Cert.KernelIdeal.main_v7 := funext fun j => by
  rw [eq_ix4 j]
  exact (Cert.ReferenceIdeal.Value.w_at m' c _ _ _ _).trans ((congrArg (fun A => Spec.Args.v A _ _ _ _) (args_eq c h)).trans (KernelIdeal.v_at m c _ _ _ _).symm)
theorem c_eq (h : Agree m m' c) : shapeCast Cert.ReferenceIdeal.S2x128x5120 (Cert.ReferenceIdeal.Value.exitV m' c (Proc.devRef .tc Cert.ReferenceIdeal.main_v40_0) : FVec Ideal Cert.ReferenceIdeal.S256x5120 .fp8e4m3) Cert.ReferenceIdeal.Gen.shapeCasts_S256x5120_S2x128x5120
    = KernelIdeal.final m c Cert.KernelIdeal.main_v8 := funext fun j => by
  rw [eq_ix3 j]
  exact (Cert.ReferenceIdeal.Value.c_at m' c _ _ _).trans ((congrArg (fun A => Spec.Args.c A _ _ _) (args_eq c h)).trans (KernelIdeal.c_at m c _ _ _).symm)
theorem s_eq (h : Agree m m' c) : Cert.ReferenceIdeal.Value.rS (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
    = KernelIdeal.final m c Cert.KernelIdeal.main_v4_4 := funext fun j => by
  rw [eq_ix2 j]
  exact (Cert.ReferenceIdeal.Value.s_at m' c _ _).trans ((congrArg (fun A => Spec.Args.s A _ _) (args_eq c h)).trans (KernelIdeal.s_at m c _ _).symm)

theorem algebraic : Cert.algebraic_KernelIdeal_ReferenceIdeal (hKernelIdeal := Cert.KernelIdeal.Gen.facts) (hReferenceIdeal := Cert.ReferenceIdeal.Gen.facts) := by
  intro m g m' g' _ h
  refine ⟨fun c => KernelIdeal.final m c Cert.KernelIdeal.main_v5, fun c => KernelIdeal.final m c Cert.KernelIdeal.main_v6, fun c => KernelIdeal.final m c Cert.KernelIdeal.main_v7,
    fun c => KernelIdeal.final m c Cert.KernelIdeal.main_v8, fun c => KernelIdeal.final m c Cert.KernelIdeal.main_v4_4, ?_, ?_⟩
  · exact (θ_run Cert.KernelIdeal.defs _ _).mono (fun r hr c => ⟨hr.1 c Cert.KernelIdeal.main_v5 (by decide), hr.1 c Cert.KernelIdeal.main_v6 (by decide), hr.1 c Cert.KernelIdeal.main_v7 (by decide),
      hr.1 c Cert.KernelIdeal.main_v8 (by decide), hr.1 c Cert.KernelIdeal.main_v4_4 (by decide), (hr.1 c Cert.KernelIdeal.main_arg0 (by decide)).trans (KernelIdeal.final_arg0 m c), (hr.1 c Cert.KernelIdeal.main_arg1 (by decide)).trans (KernelIdeal.final_arg1 m c), (hr.1 c Cert.KernelIdeal.main_arg2 (by decide)).trans (KernelIdeal.final_arg2 m c), (hr.1 c Cert.KernelIdeal.main_arg3 (by decide)).trans (KernelIdeal.final_arg3 m c), (hr.1 c Cert.KernelIdeal.main_arg4 (by decide)).trans (KernelIdeal.final_arg4 m c), (hr.1 c Cert.KernelIdeal.main_arg5 (by decide)).trans (KernelIdeal.final_arg5 m c), (hr.1 c Cert.KernelIdeal.main_arg6 (by decide)).trans (KernelIdeal.final_arg6 m c)⟩) (KernelIdeal.run_main m g)
  · exact (θ_run Cert.ReferenceIdeal.defs _ _).mono (fun r hr c => ⟨(hr c).1.trans (q_eq c (h c)), (hr c).2.1.trans (k_eq c (h c)), (hr c).2.2.1.trans (v_eq c (h c)),
      (hr c).2.2.2.1.trans (c_eq c (h c)), (hr c).2.2.2.2.1.trans (s_eq c (h c)), (hr c).2.2.2.2.2⟩) (Cert.ReferenceIdeal.Value.run m' g')

end Cert.Proof.Algebra

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Frame
public import proofs.«01_k».proof.Proof.KernelIdealLaunch
public import proofs.«01_k».proof.Proof.Algebra
public import Idealize.ShloMosaic.Adequacy
public import Idealize.ShloMosaic.Init

@[expose] public section

noncomputable section

namespace Cert.Proof

open Idealize.ShloMosaic Idealize.SL.Sem

/-- A named constant over the kernel's own floats is the float that the kernel holds there. -/
abbrev namedBits : Named Bits where
  named _ _ {_} bits := bits

/-- The kernel's frame. With the named constants read as the kernel's own floats, the ideal program, whose frame holds over any floats, is the kernel. -/
theorem frame_kernel : Cert.quiescent_Kernel (hKernel := Cert.Kernel.Gen.facts) := fun m ρ _ =>
  letI := namedBits
  KernelIdeal.frame (F := Bits) m ρ

theorem frame_ideal : Cert.quiescent_KernelIdeal (hKernelIdeal := Cert.KernelIdeal.Gen.facts) := fun m ρ _ => KernelIdeal.frame m ρ
theorem frame_reference : Cert.quiescent_ReferenceIdeal (hReferenceIdeal := Cert.ReferenceIdeal.Gen.facts) := fun m ρ _ => Cert.ReferenceIdeal.Gen.frame m ρ
theorem preserves : Cert.preserves_Kernel_KernelIdeal :=
  ⟨IdealRules.named_const.statement Cert.KernelIdeal.κ "inv_d" .f32 0x394CCCCD#32 ((1 / 5120 : ℝ) : EReal) rfl,
    IdealRules.named_const.statement Cert.KernelIdeal.κ "inv_hd" .f32 0x3BCCCCCD#32 ((1 / 160 : ℝ) : EReal) rfl⟩

theorem claim : Cert.Claim :=
  ⟨Cert.Kernel.Gen.facts, Cert.KernelIdeal.Gen.facts, Cert.ReferenceIdeal.Gen.facts, frame_kernel, frame_ideal, frame_reference, preserves, Algebra.algebraic⟩

end Cert.Proof

end
